-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2 = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v91)) (v2 : (c : Dev Cert.KernelIdeal.nD) → Buf (Elt Ideal) ((c.tc : Thread Cert.KernelIdeal.nD Cert.KernelIdeal.τ).loc Cert.KernelIdeal.main_v93)) (v3 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_v93) = v2 c
          ∧ r.2.mem ((c.tc : Thread Cert.KernelIdeal.nD Cert.KernelIdeal.τ).loc Cert.KernelIdeal.main_v98) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_v19) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite10 : Cert.Pre_finite10.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S2x16x2048x64 : Shape := ⟨4, ![2, 16, 2048, 64]⟩
abbrev S2x16x2048 : Shape := ⟨3, ![2, 16, 2048]⟩
abbrev S_ : Shape := ⟨0, ![]⟩

class Facts : Prop where
  bcast_S_S2x16x2048x64 : S_.BroadcastsInDim S2x16x2048x64 (![] : Fin 0 → Fin S2x16x2048x64.rank)
  bcast_S_S2x16x2048 : S_.BroadcastsInDim S2x16x2048 (![] : Fin 0 → Fin S2x16x2048.rank)

variable [Facts]

def fn {F : FTy → Type} [FloatOps F] (main_arg0 : FVec F S2x16x2048x64 .f32) (main_arg1 : FVec F S2x16x2048x64 .f32) (main_arg2 : FVec F S2x16x2048x64 .f32) (main_arg3 : FVec F S2x16x2048 .f32) (main_arg4 : FVec F S2x16x2048x64 .f32) : IVec S2x16x2048x64 1 × IVec S2x16x2048x64 1 × IVec S2x16x2048x64 1 × IVec S2x16x2048 1 × IVec S2x16x2048x64 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_v3 : FVec F S2x16x2048x64 .f32 := Host.absf main_arg1
  let main_cst_0 : FVec F S_ .f32 := constant S_ .f32 0x7F800000#32
  let main_v4 : FVec F S2x16x2048x64 .f32 := broadcastInDim S2x16x2048x64 ![] bcast_S_S2x16x2048x64 main_cst_0
  let main_v5 : IVec S2x16x2048x64 1 := cmpf .olt main_v3 main_v4
  let main_v6 : FVec F S2x16x2048x64 .f32 := Host.absf main_arg2
  let main_cst_1 : FVec F S_ .f32 := constant S_ .f32 0x7F800000#32
  let main_v7 : FVec F S2x16x2048x64 .f32 := broadcastInDim S2x16x2048x64 ![] bcast_S_S2x16x2048x64 main_cst_1
  let main_v8 : IVec S2x16x2048x64 1 := cmpf .olt main_v6 main_v7
  let main_v9 : FVec F S2x16x2048 .f32 := Host.absf main_arg3
  let main_cst_2 : FVec F S_ .f32 := constant S_ .f32 0x7F800000#32
  let main_v10 : FVec F S2x16x2048 .f32 := broadcastInDim S2x16x2048 ![] bcast_S_S2x16x2048 main_cst_2
  let main_v11 : IVec S2x16x2048 1 := cmpf .olt main_v9 main_v10
  let main_v12 : FVec F S2x16x2048x64 .f32 := Host.absf main_arg4
  let main_cst_3 : FVec F S_ .f32 := constant S_ .f32 0x7F800000#32
  let main_v13 : FVec F S2x16x2048x64 .f32 := broadcastInDim S2x16x2048x64 ![] bcast_S_S2x16x2048x64 main_cst_3
  let main_v14 : IVec S2x16x2048x64 1 := cmpf .olt main_v12 main_v13
  (main_v2, main_v5, main_v8, main_v11, main_v14)
-- ==== Pre_finite10.lean ====
abbrev S8x4096x128 : Shape := ⟨3, ![8, 4096, 128]⟩
abbrev S4096x7680 : Shape := ⟨2, ![4096, 7680]⟩
abbrev S1x128 : Shape := ⟨2, ![1, 128]⟩
abbrev S_ : Shape := ⟨0, ![]⟩

class Facts : Prop where
  bcast_S_S8x4096x128 : S_.BroadcastsInDim S8x4096x128 (![] : Fin 0 → Fin S8x4096x128.rank)

variable [Facts]

def fn {F : FTy → Type} [FloatOps F] (main_arg0 : FVec F S8x4096x128 .f32) (main_arg1 : FVec F S4096x7680 .f32) (main_arg2 : FVec F S1x128 .f32) : IVec S8x4096x128 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  main_v2
-- ==== Kernel.lean ====
abbrev S2x16x2048x64 : Shape := ⟨4, ![2, 16, 2048, 64]⟩
abbrev S2x16x2048 : Shape := ⟨3, ![2, 16, 2048]⟩
abbrev S2x16x2048x2048 : Shape := ⟨4, ![2, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x2048x1 : Shape := ⟨4, ![2, 16, 2048, 1]⟩
abbrev S2x16x1x2048 : Shape := ⟨4, ![2, 16, 1, 2048]⟩
abbrev S2x16x2048x3 : Shape := ⟨4, ![2, 16, 2048, 3]⟩
abbrev S2x16x2048x55 : Shape := ⟨4, ![2, 16, 2048, 55]⟩
abbrev S2x16x2048x128 : Shape := ⟨4, ![2, 16, 2048, 128]⟩
abbrev S2x16x2048x60 : Shape := ⟨4, ![2, 16, 2048, 60]⟩
abbrev S1x8x2048x128 : Shape := ⟨4, ![1, 8, 2048, 128]⟩
abbrev S1x8x512x128 : Shape := ⟨4, ![1, 8, 512, 128]⟩
abbrev S8x512x128 : Shape := ⟨3, ![8, 512, 128]⟩
abbrev S1x1x512x128 : Shape := ⟨4, ![1, 1, 512, 128]⟩
abbrev S512x128 : Shape := ⟨2, ![512, 128]⟩
abbrev S512x512 : Shape := ⟨2, ![512, 512]⟩
abbrev S1x512x128 : Shape := ⟨3, ![1, 512, 128]⟩

abbrev nBuf : Space → Nat
  | .hbm => 122
  | .vmem => 15
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048, .f32⟩
  | .hbm, ⟨4, _⟩ => ⟨S2x16x2048x64, .f32⟩
  | .hbm, ⟨5, _⟩ => ⟨S2x16x2048x2048, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2048, .i32⟩
  | .hbm, ⟨10, _⟩ => ⟨S1x2048, .i32⟩
  | .hbm, ⟨11, _⟩ => ⟨S2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2x16x2048x1, .f32⟩
  | .hbm, ⟨17, _⟩ => ⟨S2x16x1x2048, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S_, .f32⟩
  | .hbm, ⟨24, _⟩ => ⟨S2x16x2048x2048, .i1⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S2x16x2048x1, .f32⟩
  | .hbm, ⟨36, _⟩ => ⟨S2x16x2048x1, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x64, .f32⟩
  | .hbm, ⟨41, _⟩ => ⟨S2x16x2048x64, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S_, .f32⟩
  | .hbm, ⟨46, _⟩ => ⟨S2x16x2048x3, .f32⟩
  | .hbm, ⟨47, _⟩ => ⟨S2x16x2048x1, .f32⟩
  | .hbm, ⟨48, _⟩ => ⟨S_, .f32⟩
  | .hbm, ⟨49, _⟩ => ⟨S2x16x2048x64, .f32⟩
  | .hbm, ⟨50, _⟩ => ⟨S2x16x2048x64, .f32⟩
  | .hbm, ⟨51, _⟩ => ⟨S2x16x2048x1, .bf16⟩
  | .hbm, ⟨52, _⟩ => ⟨S2x16x2048x1, .f32⟩
  | .hbm, ⟨53, _⟩ => ⟨S2x16x2048x1, .f32⟩
  | .hbm, ⟨54, _⟩ => ⟨S2x16x2048x1, .bf16⟩
  | .hbm, ⟨55, _⟩ => ⟨S2x16x2048x1, .f32⟩
  | .hbm, ⟨56, _⟩ => ⟨S2x16x2048x1, .f32⟩
  | .hbm, ⟨57, _⟩ => ⟨S2x16x2048x1, .bf16⟩
  | .hbm, ⟨58, _⟩ => ⟨S2x16x2048x1, .f32⟩
  | .hbm, ⟨59, _⟩ => ⟨S2x16x2048x1, .f32⟩
  | .hbm, ⟨60, _⟩ => ⟨S2x16x2048x1, .bf16⟩
  | .hbm, ⟨61, _⟩ => ⟨S2x16x2048x1, .f32⟩
  | .hbm, ⟨62, _⟩ => ⟨S2x16x2048x1, .f32⟩
  | .hbm, ⟨63, _⟩ => ⟨S2x16x2048x1, .bf16⟩
  | .hbm, ⟨64, _⟩ => ⟨S2x16x2048x1, .f32⟩
  | .hbm, ⟨65, _⟩ => ⟨S2x16x2048x1, .f32⟩
  | .hbm, ⟨66, _⟩ => ⟨S2x16x2048x1, .bf16⟩
  | .hbm, ⟨67, _⟩ => ⟨S2x16x2048x1, .f32⟩
  | .hbm, ⟨68, _⟩ => ⟨S_, .f32⟩
  | .hbm, ⟨69, _⟩ => ⟨S2x16x2048x55, .f32⟩
  | .hbm, ⟨70, _⟩ => ⟨S2x16x2048x128, .f32⟩
  | .hbm, ⟨71, _⟩ => ⟨S2x16x2048x128, .bf16⟩
  | .hbm, ⟨72, _⟩ => ⟨S2x16x2048x1, .bf16⟩
  | .hbm, ⟨73, _⟩ => ⟨S2x16x2048x1, .f32⟩
  | .hbm, ⟨74, _⟩ => ⟨S2x16x2048x1, .f32⟩
  | .hbm, ⟨75, _⟩ => ⟨S2x16x2048x1, .bf16⟩
  | .hbm, ⟨76, _⟩ => ⟨S2x16x2048x1, .f32⟩
  | .hbm, ⟨77, _⟩ => ⟨S2x16x2048x1, .f32⟩
  | .hbm, ⟨78, _⟩ => ⟨S2x16x2048x1, .bf16⟩
  | .hbm, ⟨79, _⟩ => ⟨S2x16x2048x1, .f32⟩
  | .hbm, ⟨80, _⟩ => ⟨S2x16x2048x1, .f32⟩
  | .hbm, ⟨81, _⟩ => ⟨S2x16x2048x1, .f32⟩
  | .hbm, ⟨82, _⟩ => ⟨S2x16x2048x1, .f32⟩
  | .hbm, ⟨83, _⟩ => ⟨S_, .f32⟩
  | .hbm, ⟨84, _⟩ => ⟨S2x16x2048x55, .f32⟩
  | .hbm, ⟨85, _⟩ => ⟨S2x16x2048x128, .f32⟩
  | .hbm, ⟨86, _⟩ => ⟨S2x16x2048x128, .bf16⟩
  | .hbm, ⟨87, _⟩ => ⟨S2x16x2048x1, .f32⟩
  | .hbm, ⟨88, _⟩ => ⟨S_, .f32⟩
  | .hbm, ⟨89, _⟩ => ⟨S2x16x2048x60, .f32⟩
  | .hbm, ⟨90, _⟩ => ⟨S2x16x2048x128, .f32⟩
  | .hbm, ⟨91, _⟩ => ⟨S2x16x2048x128, .bf16⟩
  | .hbm, ⟨92, _⟩ => ⟨S_, .f32⟩
  | .hbm, ⟨93, _⟩ => ⟨S2x16x2048x1, .f32⟩
  | .hbm, ⟨94, _⟩ => ⟨S2x16x2048x1, .f32⟩
  | .hbm, ⟨95, _⟩ => ⟨S2x16x2048x1, .bf16⟩
  | .hbm, ⟨96, _⟩ => ⟨S2x16x2048x1, .f32⟩
  | .hbm, ⟨97, _⟩ => ⟨S2x16x2048x1, .f32⟩
  | .hbm, ⟨98, _⟩ => ⟨S2x16x2048x1, .bf16⟩
  | .hbm, ⟨99, _⟩ => ⟨S2x16x2048x1, .f32⟩
  | .hbm, ⟨100, _⟩ => ⟨S2x16x2048x1, .f32⟩
  | .hbm, ⟨101, _⟩ => ⟨S2x16x2048x1, .bf16⟩
  | .hbm, ⟨102, _⟩ => ⟨S2x16x2048x1, .f32⟩
  | .hbm, ⟨103, _⟩ => ⟨S_, .f32⟩
  | .hbm, ⟨104, _⟩ => ⟨S2x16x2048x60, .f32⟩
  | .hbm, ⟨105, _⟩ => ⟨S2x16x2048x128, .f32⟩
  | .hbm, ⟨106, _⟩ => ⟨S2x16x2048x128, .bf16⟩
  | .hbm, ⟨107, _⟩ => ⟨S2x16x2048x128, .f32⟩
  | .hbm, ⟨108, _⟩ => ⟨S2x16x2048x128, .f32⟩
  | .hbm, ⟨109, _⟩ => ⟨S2x16x2048x128, .bf16⟩
  | .hbm, ⟨110, _⟩ => ⟨S2x16x2048x64, .f32⟩
  | .hbm, ⟨111, _⟩ => ⟨S_, .f32⟩
  | .hbm, ⟨112, _⟩ => ⟨S2x16x2048x64, .f32⟩
  | .hbm, ⟨113, _⟩ => ⟨S2x16x2048x64, .f32⟩
  | .hbm, ⟨114, _⟩ => ⟨S2x16x2048x64, .f32⟩
  | .hbm, ⟨115, _⟩ => ⟨S2x16x2048x64, .bf16⟩
  | .hbm, ⟨116, _⟩ => ⟨S2x16x2048x64, .f32⟩
  | .hbm, ⟨117, _⟩ => ⟨S2x16x2048x1, .f32⟩
  | .hbm, ⟨118, _⟩ => ⟨S2x16x2048, .f32⟩
  | .hbm, ⟨119, _⟩ => ⟨S2x16x2048x1, .f32⟩
  | .hbm, ⟨120, _⟩ => ⟨S2x16x2048, .f32⟩
  | .hbm, ⟨121, _⟩ => ⟨S2x16x2048, .f32⟩
  | .local _ .vmem, ⟨0, _⟩ => ⟨S1x8x2048x128, .bf16⟩
  | .local _ .vmem, ⟨1, _⟩ => ⟨S1x8x2048x128, .bf16⟩
  | .local _ .vmem, ⟨2, _⟩ => ⟨S1x8x512x128, .bf16⟩
  | .local _ .vmem, ⟨3, _⟩ => ⟨S1x8x512x128, .bf16⟩
  | .local _ .vmem, ⟨4, _⟩ => ⟨S1x8x512x128, .bf16⟩
  | .local _ .vmem, ⟨5, _⟩ => ⟨S1x8x512x128, .bf16⟩
  | .local _ .vmem, ⟨6, _⟩ => ⟨S1x8x2048x128, .bf16⟩
  | .local _ .vmem, ⟨7, _⟩ => ⟨S1x8x2048x128, .bf16⟩
  | .local _ .vmem, ⟨8, _⟩ => ⟨S1x8x2048x128, .f32⟩
  | .local _ .vmem, ⟨9, _⟩ => ⟨S1x8x2048x128, .f32⟩
  | .local _ .vmem, ⟨10, _⟩ => ⟨S1x8x512x128, .f32⟩
  | .local _ .vmem, ⟨11, _⟩ => ⟨S1x8x512x128, .f32⟩
  | .local _ .vmem, ⟨12, _⟩ => ⟨S1x8x512x128, .bf16⟩
  | .local _ .vmem, ⟨13, _⟩ => ⟨S1x8x512x128, .bf16⟩
  | .local _ .vmem, ⟨14, _⟩ => ⟨S8x512x128, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_9 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_10 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87_0 : Ref sig .tc := ⟨.hbm, 107, rfl⟩
abbrev main_v87_1 : Ref sig .tc := ⟨.hbm, 108, rfl⟩
abbrev main_v87_2 : Ref sig .tc := ⟨.hbm, 109, rfl⟩
abbrev main_v88 : Ref sig .tc := ⟨.hbm, 110, rfl⟩
abbrev main_cst_11 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 4], ![false, false, false]⟩

def k0_mult1 (i : grid0.Coords) : BitVec 32 :=
  let arg2 : BitVec 32 := BitVec.ofNat 32 (i 2).val
  let c512_i32 : BitVec 32 := 512#32
  let v9 : BitVec 32 := Scalar.muli arg2 c512_i32
  v9
def k0_off1 (i : grid0.Coords) : Fin 4 → Nat :=
  let c0_12 : Index := 0#32
  let c0_13 : Index := 0#32
  let arg2 : BitVec 32 := BitVec.ofNat 32 (i 2).val
  let c512_i32 : BitVec 32 := 512#32
  let v9 : BitVec 32 := Scalar.muli arg2 c512_i32
  let v10 : BitVec 32 := v9
  let v13 : Index := Scalar.indexCast v10
  let c0_14 : Index := 0#32
  ![0, 0, v13.toNat, 0]
def k0_off2 (i : grid0.Coords) : Fin 4 → Nat :=
  let c0_51 : Index := 0#32
  let c1_52 : Index := 1#32
  let arg2 : BitVec 32 := BitVec.ofNat 32 (i 2).val
  let c512_i32 : BitVec 32 := 512#32
  let v9 : BitVec 32 := Scalar.muli arg2 c512_i32
  let v10 : BitVec 32 := v9
  let v57 : Index := Scalar.indexCast v10
  let c0_53 : Index := 0#32
  ![0, 1, v57.toNat, 0]
def k0_off3 (i : grid0.Coords) : Fin 4 → Nat :=
  let c0_90 : Index := 0#32
  let c2_91 : Index := 2#32
  let arg2 : BitVec 32 := BitVec.ofNat 32 (i 2).val
  let c512_i32 : BitVec 32 := 512#32
  let v9 : BitVec 32 := Scalar.muli arg2 c512_i32
  let v10 : BitVec 32 := v9
  let v101 : Index := Scalar.indexCast v10
  let c0_92 : Index := 0#32
  ![0, 2, v101.toNat, 0]
def k0_off4 (i : grid0.Coords) : Fin 4 → Nat :=
  let c0_129 : Index := 0#32
  let c3_130 : Index := 3#32
  let arg2 : BitVec 32 := BitVec.ofNat 32 (i 2).val
  let c512_i32 : BitVec 32 := 512#32
  let v9 : BitVec 32 := Scalar.muli arg2 c512_i32
  let v10 : BitVec 32 := v9
  let v145 : Index := Scalar.indexCast v10
  let c0_131 : Index := 0#32
  ![0, 3, v145.toNat, 0]
def k0_off5 (i : grid0.Coords) : Fin 4 → Nat :=
  let c0_168 : Index := 0#32
  let c4_169 : Index := 4#32
  let arg2 : BitVec 32 := BitVec.ofNat 32 (i 2).val
  let c512_i32 : BitVec 32 := 512#32
  let v9 : BitVec 32 := Scalar.muli arg2 c512_i32
  let v10 : BitVec 32 := v9
  let v189 : Index := Scalar.indexCast v10
  let c0_170 : Index := 0#32
  ![0, 4, v189.toNat, 0]
def k0_off6 (i : grid0.Coords) : Fin 4 → Nat :=
  let c0_207 : Index := 0#32
  let c5_208 : Index := 5#32
  let arg2 : BitVec 32 := BitVec.ofNat 32 (i 2).val
  let c512_i32 : BitVec 32 := 512#32
  let v9 : BitVec 32 := Scalar.muli arg2 c512_i32
  let v10 : BitVec 32 := v9
  let v233 : Index := Scalar.indexCast v10
  let c0_209 : Index := 0#32
  ![0, 5, v233.toNat, 0]
def k0_off7 (i : grid0.Coords) : Fin 4 → Nat :=
  let c0_246 : Index := 0#32
  let c6_247 : Index := 6#32
  let arg2 : BitVec 32 := BitVec.ofNat 32 (i 2).val
  let c512_i32 : BitVec 32 := 512#32
  let v9 : BitVec 32 := Scalar.muli arg2 c512_i32
  let v10 : BitVec 32 := v9
  let v277 : Index := Scalar.indexCast v10
  let c0_248 : Index := 0#32
  ![0, 6, v277.toNat, 0]
def k0_off8 (i : grid0.Coords) : Fin 4 → Nat :=
  let c0_285 : Index := 0#32
  let c7_286 : Index := 7#32
  let arg2 : BitVec 32 := BitVec.ofNat 32 (i 2).val
  let c512_i32 : BitVec 32 := 512#32
  let v9 : BitVec 32 := Scalar.muli arg2 c512_i32
  let v10 : BitVec 32 := v9
  let v321 : Index := Scalar.indexCast v10
  let c0_287 : Index := 0#32
  ![0, 7, v321.toNat, 0]
@[reducible] def k0_t1_loop (i : grid0.Coords) : Scf.Loop 32 :=
  let arg2 : BitVec 32 := BitVec.ofNat 32 (i 2).val
  let c1_i32 : BitVec 32 := 1#32
  let v363 : BitVec 32 := Scalar.addi arg2 c1_i32
  let c4_i32 : BitVec 32 := 4#32
  let v364 : BitVec 32 := Scalar.subi c4_i32 v363
  let c1_i32_322 : BitVec 32 := 1#32
  let v366 : BitVec 32 := Scalar.divsi v364 c1_i32_322
  let v367 : BitVec 32 := Scalar.muli v366 c1_i32_322
  let v368 : BitVec 32 := Scalar.addi v363 v367
  let c1_i32_323 : BitVec 32 := 1#32
  ⟨v363, v368, c1_i32_323⟩
def k0_mult2 (i : grid0.Coords) (k0_t1 : Fin (k0_t1_loop i).trips) : BitVec 32 :=
  let arg2 : BitVec 32 := BitVec.ofNat 32 (i 2).val
  let c1_i32 : BitVec 32 := 1#32
  let v363 : BitVec 32 := Scalar.addi arg2 c1_i32
  let c1_i32_323 : BitVec 32 := 1#32
  let arg11 : BitVec 32 := Scf.iv v363 c1_i32_323 k0_t1
  let c512_i32_332 : BitVec 32 := 512#32
  let v374 : BitVec 32 := Scalar.muli arg11 c512_i32_332
  v374
def k0_off9 (i : grid0.Coords) (k0_t1 : Fin (k0_t1_loop i).trips) : Fin 4 → Nat :=
  let c0_337 : Index := 0#32
  let c0_338 : Index := 0#32
  let arg2 : BitVec 32 := BitVec.ofNat 32 (i 2).val
  let c1_i32 : BitVec 32 := 1#32
  let v363 : BitVec 32 := Scalar.addi arg2 c1_i32
  let c1_i32_323 : BitVec 32 := 1#32
  let arg11 : BitVec 32 := Scf.iv v363 c1_i32_323 k0_t1
  let c512_i32_332 : BitVec 32 := 512#32
  let v374 : BitVec 32 := Scalar.muli arg11 c512_i32_332
  let v375 : BitVec 32 := v374
  let v378 : Index := Scalar.indexCast v375
  let c0_339 : Index := 0#32
  ![0, 0, v378.toNat, 0]
def k0_off10 (i : grid0.Coords) (k0_t1 : Fin (k0_t1_loop i).trips) : Fin 4 → Nat :=
  let c0_376 : Index := 0#32
  let c1_377 : Index := 1#32
  let arg2 : BitVec 32 := BitVec.ofNat 32 (i 2).val
  let c1_i32 : BitVec 32 := 1#32
  let v363 : BitVec 32 := Scalar.addi arg2 c1_i32
  let c1_i32_323 : BitVec 32 := 1#32
  let arg11 : BitVec 32 := Scf.iv v363 c1_i32_323 k0_t1
  let c512_i32_332 : BitVec 32 := 512#32
  let v374 : BitVec 32 := Scalar.muli arg11 c512_i32_332
  let v375 : BitVec 32 := v374
  let v417 : Index := Scalar.indexCast v375
  let c0_378 : Index := 0#32
  ![0, 1, v417.toNat, 0]
def k0_off11 (i : grid0.Coords) (k0_t1 : Fin (k0_t1_loop i).trips) : Fin 4 → Nat :=
  let c0_415 : Index := 0#32
  let c2_416 : Index := 2#32
  let arg2 : BitVec 32 := BitVec.ofNat 32 (i 2).val
  let c1_i32 : BitVec 32 := 1#32
  let v363 : BitVec 32 := Scalar.addi arg2 c1_i32
  let c1_i32_323 : BitVec 32 := 1#32
  let arg11 : BitVec 32 := Scf.iv v363 c1_i32_323 k0_t1
  let c512_i32_332 : BitVec 32 := 512#32
  let v374 : BitVec 32 := Scalar.muli arg11 c512_i32_332
  let v375 : BitVec 32 := v374
  let v456 : Index := Scalar.indexCast v375
  let c0_417 : Index := 0#32
  ![0, 2, v456.toNat, 0]
def k0_off12 (i : grid0.Coords) (k0_t1 : Fin (k0_t1_loop i).trips) : Fin 4 → Nat :=
  let c0_454 : Index := 0#32
  let c3_455 : Index := 3#32
  let arg2 : BitVec 32 := BitVec.ofNat 32 (i 2).val
  let c1_i32 : BitVec 32 := 1#32
  let v363 : BitVec 32 := Scalar.addi arg2 c1_i32
  let c1_i32_323 : BitVec 32 := 1#32
  let arg11 : BitVec 32 := Scf.iv v363 c1_i32_323 k0_t1
  let c512_i32_332 : BitVec 32 := 512#32
  let v374 : BitVec 32 := Scalar.muli arg11 c512_i32_332
  let v375 : BitVec 32 := v374
  let v495 : Index := Scalar.indexCast v375
  let c0_456 : Index := 0#32
  ![0, 3, v495.toNat, 0]
def k0_off13 (i : grid0.Coords) (k0_t1 : Fin (k0_t1_loop i).trips) : Fin 4 → Nat :=
  let c0_493 : Index := 0#32
  let c4_494 : Index := 4#32
  let arg2 : BitVec 32 := BitVec.ofNat 32 (i 2).val
  let c1_i32 : BitVec 32 := 1#32
  let v363 : BitVec 32 := Scalar.addi arg2 c1_i32
  let c1_i32_323 : BitVec 32 := 1#32
  let arg11 : BitVec 32 := Scf.iv v363 c1_i32_323 k0_t1
  let c512_i32_332 : BitVec 32 := 512#32
  let v374 : BitVec 32 := Scalar.muli arg11 c512_i32_332
  let v375 : BitVec 32 := v374
  let v534 : Index := Scalar.indexCast v375
  let c0_495 : Index := 0#32
  ![0, 4, v534.toNat, 0]
def k0_off14 (i : grid0.Coords) (k0_t1 : Fin (k0_t1_loop i).trips) : Fin 4 → Nat :=
  let c0_532 : Index := 0#32
  let c5_533 : Index := 5#32
  let arg2 : BitVec 32 := BitVec.ofNat 32 (i 2).val
  let c1_i32 : BitVec 32 := 1#32
  let v363 : BitVec 32 := Scalar.addi arg2 c1_i32
  let c1_i32_323 : BitVec 32 := 1#32
  let arg11 : BitVec 32 := Scf.iv v363 c1_i32_323 k0_t1
  let c512_i32_332 : BitVec 32 := 512#32
  let v374 : BitVec 32 := Scalar.muli arg11 c512_i32_332
  let v375 : BitVec 32 := v374
  let v573 : Index := Scalar.indexCast v375
  let c0_534 : Index := 0#32
  ![0, 5, v573.toNat, 0]
def k0_off15 (i : grid0.Coords) (k0_t1 : Fin (k0_t1_loop i).trips) : Fin 4 → Nat :=
  let c0_571 : Index := 0#32
  let c6_572 : Index := 6#32
  let arg2 : BitVec 32 := BitVec.ofNat 32 (i 2).val
  let c1_i32 : BitVec 32 := 1#32
  let v363 : BitVec 32 := Scalar.addi arg2 c1_i32
  let c1_i32_323 : BitVec 32 := 1#32
  let arg11 : BitVec 32 := Scf.iv v363 c1_i32_323 k0_t1
  let c512_i32_332 : BitVec 32 := 512#32
  let v374 : BitVec 32 := Scalar.muli arg11 c512_i32_332
  let v375 : BitVec 32 := v374
  let v612 : Index := Scalar.indexCast v375
  let c0_573 : Index := 0#32
  ![0, 6, v612.toNat, 0]
def k0_off16 (i : grid0.Coords) (k0_t1 : Fin (k0_t1_loop i).trips) : Fin 4 → Nat :=
  let c0_610 : Index := 0#32
  let c7_611 : Index := 7#32
  let arg2 : BitVec 32 := BitVec.ofNat 32 (i 2).val
  let c1_i32 : BitVec 32 := 1#32
  let v363 : BitVec 32 := Scalar.addi arg2 c1_i32
  let c1_i32_323 : BitVec 32 := 1#32
  let arg11 : BitVec 32 := Scf.iv v363 c1_i32_323 k0_t1
  let c512_i32_332 : BitVec 32 := 512#32
  let v374 : BitVec 32 := Scalar.muli arg11 c512_i32_332
  let v375 : BitVec 32 := v374
  let v651 : Index := Scalar.indexCast v375
  let c0_612 : Index := 0#32
  ![0, 7, v651.toNat, 0]
@[reducible] def k0_t2_loop (i : grid0.Coords) : Scf.Loop 32 :=
  let arg2 : BitVec 32 := BitVec.ofNat 32 (i 2).val
  let c1_i32 : BitVec 32 := 1#32
  let v363 : BitVec 32 := Scalar.addi arg2 c1_i32
  let c4_i32 : BitVec 32 := 4#32
  let v364 : BitVec 32 := Scalar.subi c4_i32 v363
  let c1_i32_322 : BitVec 32 := 1#32
  let v366 : BitVec 32 := Scalar.divsi v364 c1_i32_322
  let v367 : BitVec 32 := Scalar.muli v366 c1_i32_322
  let v368 : BitVec 32 := Scalar.addi v363 v367
  let v365 : BitVec 32 := Scalar.addi v363 v364
  let c1_i32_324 : BitVec 32 := 1#32
  ⟨v368, v365, c1_i32_324⟩
def k0_mult3 (i : grid0.Coords) (k0_t2 : Fin (k0_t2_loop i).trips) : BitVec 32 :=
  let arg2 : BitVec 32 := BitVec.ofNat 32 (i 2).val
  let c1_i32 : BitVec 32 := 1#32
  let v363 : BitVec 32 := Scalar.addi arg2 c1_i32
  let c4_i32 : BitVec 32 := 4#32
  let v364 : BitVec 32 := Scalar.subi c4_i32 v363
  let c1_i32_322 : BitVec 32 := 1#32
  let v366 : BitVec 32 := Scalar.divsi v364 c1_i32_322
  let v367 : BitVec 32 := Scalar.muli v366 c1_i32_322
  let v368 : BitVec 32 := Scalar.addi v363 v367
  let c1_i32_324 : BitVec 32 := 1#32
  let arg11 : BitVec 32 := Scf.iv v368 c1_i32_324 k0_t2
  let c512_i32_332 : BitVec 32 := 512#32
  let v374 : BitVec 32 := Scalar.muli arg11 c512_i32_332
  v374
def k0_off17 (i : grid0.Coords) (k0_t2 : Fin (k0_t2_loop i).trips) : Fin 4 → Nat :=
  let c0_337 : Index := 0#32
  let c0_338 : Index := 0#32
  let arg2 : BitVec 32 := BitVec.ofNat 32 (i 2).val
  let c1_i32 : BitVec 32 := 1#32
  let v363 : BitVec 32 := Scalar.addi arg2 c1_i32
  let c4_i32 : BitVec 32 := 4#32
  let v364 : BitVec 32 := Scalar.subi c4_i32 v363
  let c1_i32_322 : BitVec 32 := 1#32
  let v366 : BitVec 32 := Scalar.divsi v364 c1_i32_322
  let v367 : BitVec 32 := Scalar.muli v366 c1_i32_322
  let v368 : BitVec 32 := Scalar.addi v363 v367
  let c1_i32_324 : BitVec 32 := 1#32
  let arg11 : BitVec 32 := Scf.iv v368 c1_i32_324 k0_t2
  let c512_i32_332 : BitVec 32 := 512#32
  let v374 : BitVec 32 := Scalar.muli arg11 c512_i32_332
  let v375 : BitVec 32 := v374
  let v378 : Index := Scalar.indexCast v375
  let c0_339 : Index := 0#32
  ![0, 0, v378.toNat, 0]
def k0_off18 (i : grid0.Coords) (k0_t2 : Fin (k0_t2_loop i).trips) : Fin 4 → Nat :=
  let c0_376 : Index := 0#32
  let c1_377 : Index := 1#32
  let arg2 : BitVec 32 := BitVec.ofNat 32 (i 2).val
  let c1_i32 : BitVec 32 := 1#32
  let v363 : BitVec 32 := Scalar.addi arg2 c1_i32
  let c4_i32 : BitVec 32 := 4#32
  let v364 : BitVec 32 := Scalar.subi c4_i32 v363
  let c1_i32_322 : BitVec 32 := 1#32
  let v366 : BitVec 32 := Scalar.divsi v364 c1_i32_322
  let v367 : BitVec 32 := Scalar.muli v366 c1_i32_322
  let v368 : BitVec 32 := Scalar.addi v363 v367
  let c1_i32_324 : BitVec 32 := 1#32
  let arg11 : BitVec 32 := Scf.iv v368 c1_i32_324 k0_t2
  let c512_i32_332 : BitVec 32 := 512#32
  let v374 : BitVec 32 := Scalar.muli arg11 c512_i32_332
  let v375 : BitVec 32 := v374
  let v417 : Index := Scalar.indexCast v375
  let c0_378 : Index := 0#32
  ![0, 1, v417.toNat, 0]
def k0_off19 (i : grid0.Coords) (k0_t2 : Fin (k0_t2_loop i).trips) : Fin 4 → Nat :=
  let c0_415 : Index := 0#32
  let c2_416 : Index := 2#32
  let arg2 : BitVec 32 := BitVec.ofNat 32 (i 2).val
  let c1_i32 : BitVec 32 := 1#32
  let v363 : BitVec 32 := Scalar.addi arg2 c1_i32
  let c4_i32 : BitVec 32 := 4#32
  let v364 : BitVec 32 := Scalar.subi c4_i32 v363
  let c1_i32_322 : BitVec 32 := 1#32
  let v366 : BitVec 32 := Scalar.divsi v364 c1_i32_322
  let v367 : BitVec 32 := Scalar.muli v366 c1_i32_322
  let v368 : BitVec 32 := Scalar.addi v363 v367
  let c1_i32_324 : BitVec 32 := 1#32
  let arg11 : BitVec 32 := Scf.iv v368 c1_i32_324 k0_t2
  let c512_i32_332 : BitVec 32 := 512#32
  let v374 : BitVec 32 := Scalar.muli arg11 c512_i32_332
  let v375 : BitVec 32 := v374
  let v456 : Index := Scalar.indexCast v375
  let c0_417 : Index := 0#32
  ![0, 2, v456.toNat, 0]
def k0_off20 (i : grid0.Coords) (k0_t2 : Fin (k0_t2_loop i).trips) : Fin 4 → Nat :=
  let c0_454 : Index := 0#32
  let c3_455 : Index := 3#32
  let arg2 : BitVec 32 := BitVec.ofNat 32 (i 2).val
  let c1_i32 : BitVec 32 := 1#32
  let v363 : BitVec 32 := Scalar.addi arg2 c1_i32
  let c4_i32 : BitVec 32 := 4#32
  let v364 : BitVec 32 := Scalar.subi c4_i32 v363
  let c1_i32_322 : BitVec 32 := 1#32
  let v366 : BitVec 32 := Scalar.divsi v364 c1_i32_322
  let v367 : BitVec 32 := Scalar.muli v366 c1_i32_322
  let v368 : BitVec 32 := Scalar.addi v363 v367
  let c1_i32_324 : BitVec 32 := 1#32
  let arg11 : BitVec 32 := Scf.iv v368 c1_i32_324 k0_t2
  let c512_i32_332 : BitVec 32 := 512#32
  let v374 : BitVec 32 := Scalar.muli arg11 c512_i32_332
  let v375 : BitVec 32 := v374
  let v495 : Index := Scalar.indexCast v375
  let c0_456 : Index := 0#32
  ![0, 3, v495.toNat, 0]
def k0_off21 (i : grid0.Coords) (k0_t2 : Fin (k0_t2_loop i).trips) : Fin 4 → Nat :=
  let c0_493 : Index := 0#32
  let c4_494 : Index := 4#32
  let arg2 : BitVec 32 := BitVec.ofNat 32 (i 2).val
  let c1_i32 : BitVec 32 := 1#32
  let v363 : BitVec 32 := Scalar.addi arg2 c1_i32
  let c4_i32 : BitVec 32 := 4#32
  let v364 : BitVec 32 := Scalar.subi c4_i32 v363
  let c1_i32_322 : BitVec 32 := 1#32
  let v366 : BitVec 32 := Scalar.divsi v364 c1_i32_322
  let v367 : BitVec 32 := Scalar.muli v366 c1_i32_322
  let v368 : BitVec 32 := Scalar.addi v363 v367
  let c1_i32_324 : BitVec 32 := 1#32
  let arg11 : BitVec 32 := Scf.iv v368 c1_i32_324 k0_t2
  let c512_i32_332 : BitVec 32 := 512#32
  let v374 : BitVec 32 := Scalar.muli arg11 c512_i32_332
  let v375 : BitVec 32 := v374
  let v534 : Index := Scalar.indexCast v375
  let c0_495 : Index := 0#32
  ![0, 4, v534.toNat, 0]
def k0_off22 (i : grid0.Coords) (k0_t2 : Fin (k0_t2_loop i).trips) : Fin 4 → Nat :=
  let c0_532 : Index := 0#32
  let c5_533 : Index := 5#32
  let arg2 : BitVec 32 := BitVec.ofNat 32 (i 2).val
  let c1_i32 : BitVec 32 := 1#32
  let v363 : BitVec 32 := Scalar.addi arg2 c1_i32
  let c4_i32 : BitVec 32 := 4#32
  let v364 : BitVec 32 := Scalar.subi c4_i32 v363
  let c1_i32_322 : BitVec 32 := 1#32
  let v366 : BitVec 32 := Scalar.divsi v364 c1_i32_322
  let v367 : BitVec 32 := Scalar.muli v366 c1_i32_322
  let v368 : BitVec 32 := Scalar.addi v363 v367
  let c1_i32_324 : BitVec 32 := 1#32
  let arg11 : BitVec 32 := Scf.iv v368 c1_i32_324 k0_t2
  let c512_i32_332 : BitVec 32 := 512#32
  let v374 : BitVec 32 := Scalar.muli arg11 c512_i32_332
  let v375 : BitVec 32 := v374
  let v573 : Index := Scalar.indexCast v375
  let c0_534 : Index := 0#32
  ![0, 5, v573.toNat, 0]
def k0_off23 (i : grid0.Coords) (k0_t2 : Fin (k0_t2_loop i).trips) : Fin 4 → Nat :=
  let c0_571 : Index := 0#32
  let c6_572 : Index := 6#32
  let arg2 : BitVec 32 := BitVec.ofNat 32 (i 2).val
  let c1_i32 : BitVec 32 := 1#32
  let v363 : BitVec 32 := Scalar.addi arg2 c1_i32
  let c4_i32 : BitVec 32 := 4#32
  let v364 : BitVec 32 := Scalar.subi c4_i32 v363
  let c1_i32_322 : BitVec 32 := 1#32
  let v366 : BitVec 32 := Scalar.divsi v364 c1_i32_322
  let v367 : BitVec 32 := Scalar.muli v366 c1_i32_322
  let v368 : BitVec 32 := Scalar.addi v363 v367
  let c1_i32_324 : BitVec 32 := 1#32
  let arg11 : BitVec 32 := Scf.iv v368 c1_i32_324 k0_t2
  let c512_i32_332 : BitVec 32 := 512#32
  let v374 : BitVec 32 := Scalar.muli arg11 c512_i32_332
  let v375 : BitVec 32 := v374
  let v612 : Index := Scalar.indexCast v375
  let c0_573 : Index := 0#32
  ![0, 6, v612.toNat, 0]
def k0_off24 (i : grid0.Coords) (k0_t2 : Fin (k0_t2_loop i).trips) : Fin 4 → Nat :=
  let c0_610 : Index := 0#32
  let c7_611 : Index := 7#32
  let arg2 : BitVec 32 := BitVec.ofNat 32 (i 2).val
  let c1_i32 : BitVec 32 := 1#32
  let v363 : BitVec 32 := Scalar.addi arg2 c1_i32
  let c4_i32 : BitVec 32 := 4#32
  let v364 : BitVec 32 := Scalar.subi c4_i32 v363
  let c1_i32_322 : BitVec 32 := 1#32
  let v366 : BitVec 32 := Scalar.divsi v364 c1_i32_322
  let v367 : BitVec 32 := Scalar.muli v366 c1_i32_322
  let v368 : BitVec 32 := Scalar.addi v363 v367
  let c1_i32_324 : BitVec 32 := 1#32
  let arg11 : BitVec 32 := Scf.iv v368 c1_i32_324 k0_t2
  let c512_i32_332 : BitVec 32 := 512#32
  let v374 : BitVec 32 := Scalar.muli arg11 c512_i32_332
  let v375 : BitVec 32 := v374
  let v651 : Index := Scalar.indexCast v375
  let c0_612 : Index := 0#32
  ![0, 7, v651.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x8x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x16x2048x64 : Shape := ⟨4, ![2, 16, 2048, 64]⟩
abbrev S2x16x2048 : Shape := ⟨3, ![2, 16, 2048]⟩
abbrev S2x16x2048x2048 : Shape := ⟨4, ![2, 16, 2048, 2048]⟩
abbrev S_ : Shape := ⟨0, ![]⟩
abbrev S2x16x2048x1 : Shape := ⟨4, ![2, 16, 2048, 1]⟩
abbrev S2x16x1x2048 : Shape := ⟨4, ![2, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x64x2048 : Shape := ⟨4, ![2, 16, 64, 2048]⟩

abbrev nBuf : Space → Nat
  | .hbm => 105
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048, .f32⟩
  | .hbm, ⟨4, _⟩ => ⟨S2x16x2048x64, .f32⟩
  | .hbm, ⟨5, _⟩ => ⟨S2x16x2048x2048, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x1, .f32⟩
  | .hbm, ⟨10, _⟩ => ⟨S2x16x1x2048, .f32⟩
  | .hbm, ⟨11, _⟩ => ⟨S2x16x2048x2048, .f32⟩
  | .hbm, ⟨12, _⟩ => ⟨S2x16x2048x2048, .f32⟩
  | .hbm, ⟨13, _⟩ => ⟨S2x16x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2x16x2048x2048, .f32⟩
  | .hbm, ⟨22, _⟩ => ⟨S_, .f32⟩
  | .hbm, ⟨23, _⟩ => ⟨S_, .f32⟩
  | .hbm, ⟨24, _⟩ => ⟨S2x16x2048x2048, .i1⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S2x16x2048x1, .f32⟩
  | .hbm, ⟨32, _⟩ => ⟨S2x16x2048x2048, .f32⟩
  | .hbm, ⟨33, _⟩ => ⟨S2x16x2048x2048, .i1⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S_, .f32⟩
  | .hbm, ⟨38, _⟩ => ⟨S2x16x2048, .f32⟩
  | .hbm, ⟨39, _⟩ => ⟨S2x16x2048, .f32⟩
  | .hbm, ⟨40, _⟩ => ⟨S_, .f32⟩
  | .hbm, ⟨41, _⟩ => ⟨S2x16x2048, .f32⟩
  | .hbm, ⟨42, _⟩ => ⟨S2x16x2048, .i1⟩
  | .hbm, ⟨43, _⟩ => ⟨S_, .f32⟩
  | .hbm, ⟨44, _⟩ => ⟨S2x16x2048, .f32⟩
  | .hbm, ⟨45, _⟩ => ⟨S2x16x2048, .i1⟩
  | .hbm, ⟨46, _⟩ => ⟨S_, .f32⟩
  | .hbm, ⟨47, _⟩ => ⟨S2x16x2048, .f32⟩
  | .hbm, ⟨48, _⟩ => ⟨S_, .f32⟩
  | .hbm, ⟨49, _⟩ => ⟨S2x16x2048, .f32⟩
  | .hbm, ⟨50, _⟩ => ⟨S_, .f32⟩
  | .hbm, ⟨51, _⟩ => ⟨S2x16x2048, .f32⟩
  | .hbm, ⟨52, _⟩ => ⟨S2x16x2048, .f32⟩
  | .hbm, ⟨53, _⟩ => ⟨S2x16x2048, .f32⟩
  | .hbm, ⟨54, _⟩ => ⟨S2x16x2048x1, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S_, .f32⟩
  | .hbm, ⟨59, _⟩ => ⟨S2x16x2048, .f32⟩
  | .hbm, ⟨60, _⟩ => ⟨S2x16x2048x1, .f32⟩
  | .hbm, ⟨61, _⟩ => ⟨S2x16x2048x2048, .f32⟩
  | .hbm, ⟨62, _⟩ => ⟨S2x16x2048x2048, .f32⟩
  | .hbm, ⟨63, _⟩ => ⟨S2x16x2048x1, .f32⟩
  | .hbm, ⟨64, _⟩ => ⟨S_, .f32⟩
  | .hbm, ⟨65, _⟩ => ⟨S2x16x2048x1, .f32⟩
  | .hbm, ⟨66, _⟩ => ⟨S2x16x2048x1, .f32⟩
  | .hbm, ⟨67, _⟩ => ⟨S2x16x2048x64, .f32⟩
  | .hbm, ⟨68, _⟩ => ⟨S2x16x64x2048, .f32⟩
  | .hbm, ⟨69, _⟩ => ⟨S2x16x2048x64, .f32⟩
  | .hbm, ⟨70, _⟩ => ⟨S2x16x2048x2048, .f32⟩
  | .hbm, ⟨71, _⟩ => ⟨S2x16x2048x2048, .f32⟩
  | .hbm, ⟨72, _⟩ => ⟨S2x16x2048x2048, .f32⟩
  | .hbm, ⟨73, _⟩ => ⟨S2x16x2048x2048, .f32⟩
  | .hbm, ⟨74, _⟩ => ⟨S_, .f32⟩
  | .hbm, ⟨75, _⟩ => ⟨S2x16x2048, .f32⟩
  | .hbm, ⟨76, _⟩ => ⟨S2x16x2048x1, .f32⟩
  | .hbm, ⟨77, _⟩ => ⟨S2x16x2048x1, .f32⟩
  | .hbm, ⟨78, _⟩ => ⟨S2x16x2048x2048, .f32⟩
  | .hbm, ⟨79, _⟩ => ⟨S2x16x2048x2048, .f32⟩
  | .hbm, ⟨80, _⟩ => ⟨S_, .f32⟩
  | .hbm, ⟨81, _⟩ => ⟨S2x16x2048, .f32⟩
  | .hbm, ⟨82, _⟩ => ⟨S2x16x2048x2048, .f32⟩
  | .hbm, ⟨83, _⟩ => ⟨S2x16x2048x2048, .f32⟩
  | .hbm, ⟨84, _⟩ => ⟨S2x16x2048x2048, .f32⟩
  | .hbm, ⟨85, _⟩ => ⟨S_, .f32⟩
  | .hbm, ⟨86, _⟩ => ⟨S2x16x2048x2048, .f32⟩
  | .hbm, ⟨87, _⟩ => ⟨S2x16x2048x2048, .f32⟩
  | .hbm, ⟨88, _⟩ => ⟨S_, .f32⟩
  | .hbm, ⟨89, _⟩ => ⟨S2x16x2048, .f32⟩
  | .hbm, ⟨90, _⟩ => ⟨S2x16x2048x1, .f32⟩
  | .hbm, ⟨91, _⟩ => ⟨S2x16x2048x2048, .f32⟩
  | .hbm, ⟨92, _⟩ => ⟨S_, .f32⟩
  | .hbm, ⟨93, _⟩ => ⟨S2x16x2048, .f32⟩
  | .hbm, ⟨94, _⟩ => ⟨S2x16x1x2048, .f32⟩
  | .hbm, ⟨95, _⟩ => ⟨S_, .f32⟩
  | .hbm, ⟨96, _⟩ => ⟨S2x16x2048, .f32⟩
  | .hbm, ⟨97, _⟩ => ⟨S_, .f32⟩
  | .hbm, ⟨98, _⟩ => ⟨S2x16x2048, .f32⟩
  | .hbm, ⟨99, _⟩ => ⟨S2x16x2048, .f32⟩
  | .hbm, ⟨100, _⟩ => ⟨S_, .f32⟩
  | .hbm, ⟨101, _⟩ => ⟨S2x16x2048x2048, .f32⟩
  | .hbm, ⟨102, _⟩ => ⟨S2x16x2048x2048, .f32⟩
  | .hbm, ⟨103, _⟩ => ⟨S2x16x2048x64, .f32⟩
  | .hbm, ⟨104, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]
-- ==== Kernel2.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S7680x1024 : Shape := ⟨2, ![7680, 1024]⟩
abbrev S4096x7680 : Shape := ⟨2, ![4096, 7680]⟩
abbrev S1024x1024 : Shape := ⟨2, ![1024, 1024]⟩
abbrev S2560x1024 : Shape := ⟨2, ![2560, 1024]⟩
abbrev S1024x2560 : Shape := ⟨2, ![1024, 2560]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S7680x1024, .bf16⟩
  | .hbm, ⟨3, _⟩ => ⟨S4096x7680, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S2560x1024, .bf16⟩
  | .local _ .vmem, ⟨5, _⟩ => ⟨S1024x2560, .f32⟩
  | .local _ .vmem, ⟨6, _⟩ => ⟨S1024x2560, .f32⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2560x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S4096x1024 : Shape := ⟨2, ![4096, 1024]⟩
abbrev S1x1024 : Shape := ⟨2, ![1, 1024]⟩
abbrev S7680x1024 : Shape := ⟨2, ![7680, 1024]⟩
abbrev S_ : Shape := ⟨0, ![]⟩
abbrev S4096 : Shape := ⟨1, ![4096]⟩
abbrev S4096x1 : Shape := ⟨2, ![4096, 1]⟩
abbrev S4096x7680 : Shape := ⟨2, ![4096, 7680]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S7680x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S7680x1024, .f32⟩
  | .hbm, ⟨19, _⟩ => ⟨S4096x7680, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S31x256 : Shape := ⟨2, ![31, 256]⟩

abbrev nBuf : Space → Nat
  | .hbm => 7
  | .vmem => 7
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S31x256, .f32⟩
  | .hbm, ⟨5, _⟩ => ⟨S31x256, .f32⟩
  | .hbm, ⟨6, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | _, _ => ⟨S31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S31x256 : Shape := ⟨2, ![31, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S_, .f32⟩
  | .hbm, ⟨5, _⟩ => ⟨S31x256, .f32⟩
  | .hbm, ⟨6, _⟩ => ⟨S31x256, .f32⟩
  | .hbm, ⟨7, _⟩ => ⟨S_, .f32⟩
  | .hbm, ⟨8, _⟩ => ⟨S31x256, .f32⟩
  | .hbm, ⟨9, _⟩ => ⟨S31x256, .f32⟩
  | .hbm, ⟨10, _⟩ => ⟨S31x256, .f32⟩
  | .hbm, ⟨11, _⟩ => ⟨S_, .f32⟩
  | .hbm, ⟨12, _⟩ => ⟨S31x256, .f32⟩
  | .hbm, ⟨13, _⟩ => ⟨S31x256, .f32⟩
  | .hbm, ⟨14, _⟩ => ⟨S31x256, .f32⟩
  | .hbm, ⟨15, _⟩ => ⟨S_, .f32⟩
  | .hbm, ⟨16, _⟩ => ⟨S31x256, .f32⟩
  | .hbm, ⟨17, _⟩ => ⟨S31x256, .f32⟩
  | .hbm, ⟨18, _⟩ => ⟨S31x256, .f32⟩
  | .hbm, ⟨19, _⟩ => ⟨S_, .f32⟩
  | .hbm, ⟨20, _⟩ => ⟨S31x256, .f32⟩
  | .hbm, ⟨21, _⟩ => ⟨S31x256, .f32⟩
  | .hbm, ⟨22, _⟩ => ⟨S_, .f32⟩
  | .hbm, ⟨23, _⟩ => ⟨S31x256, .f32⟩
  | .hbm, ⟨24, _⟩ => ⟨S31x256, .f32⟩
  | .hbm, ⟨25, _⟩ => ⟨S31x256, .f32⟩
  | .hbm, ⟨26, _⟩ => ⟨S_, .f32⟩
  | .hbm, ⟨27, _⟩ => ⟨S31x256, .f32⟩
  | .hbm, ⟨28, _⟩ => ⟨S31x256, .f32⟩
  | .hbm, ⟨29, _⟩ => ⟨S31x256, .f32⟩
  | .hbm, ⟨30, _⟩ => ⟨S_, .f32⟩
  | .hbm, ⟨31, _⟩ => ⟨S31x256, .f32⟩
  | .hbm, ⟨32, _⟩ => ⟨S31x256, .f32⟩
  | .hbm, ⟨33, _⟩ => ⟨S31x256, .f32⟩
  | .hbm, ⟨34, _⟩ => ⟨S_, .f32⟩
  | .hbm, ⟨35, _⟩ => ⟨S31x256, .f32⟩
  | .hbm, ⟨36, _⟩ => ⟨S31x256, .f32⟩
  | _, _ => ⟨S31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S7x1024 : Shape := ⟨2, ![7, 1024]⟩

abbrev nBuf : Space → Nat
  | .hbm => 7
  | .vmem => 7
  | .smem => 0
  | _ => 0

abbrev bufTy : (tb : Table) → Fin (tcTables nBuf tb) → BufTy
  | .hbm, ⟨0, _⟩ => ⟨S7x1024, .f32⟩
  | .hbm, ⟨1, _⟩ => ⟨S7x1024, .f32⟩
  | .hbm, ⟨2, _⟩ => ⟨S7x1024, .f32⟩
  | .hbm, ⟨3, _⟩ => ⟨S7x1024, .f32⟩
  | .hbm, ⟨4, _⟩ => ⟨S7x1024, .f32⟩
  | .hbm, ⟨5, _⟩ => ⟨S7x1024, .f32⟩
  | .hbm, ⟨6, _⟩ => ⟨S7x1024, .f32⟩
  | .local _ .vmem, ⟨0, _⟩ => ⟨S7x1024, .f32⟩
  | .local _ .vmem, ⟨1, _⟩ => ⟨S7x1024, .f32⟩
  | .local _ .vmem, ⟨2, _⟩ => ⟨S7x1024, .f32⟩
  | .local _ .vmem, ⟨3, _⟩ => ⟨S7x1024, .f32⟩
  | .local _ .vmem, ⟨4, _⟩ => ⟨S7x1024, .f32⟩
  | .local _ .vmem, ⟨5, _⟩ => ⟨S7x1024, .f32⟩
  | .local _ .vmem, ⟨6, _⟩ => ⟨S7x1024, .f32⟩
  | _, _ => ⟨S7x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S7x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S7x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S7x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S7x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S7x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S7x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference7Ideal.lean ====
abbrev S7x1024 : Shape := ⟨2, ![7, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S7x1024, .f32⟩
  | .hbm, ⟨1, _⟩ => ⟨S7x1024, .f32⟩
  | .hbm, ⟨2, _⟩ => ⟨S7x1024, .f32⟩
  | .hbm, ⟨3, _⟩ => ⟨S7x1024, .f32⟩
  | .hbm, ⟨4, _⟩ => ⟨S_, .f32⟩
  | .hbm, ⟨5, _⟩ => ⟨S7x1024, .f32⟩
  | .hbm, ⟨6, _⟩ => ⟨S7x1024, .f32⟩
  | .hbm, ⟨7, _⟩ => ⟨S_, .f32⟩
  | .hbm, ⟨8, _⟩ => ⟨S7x1024, .f32⟩
  | .hbm, ⟨9, _⟩ => ⟨S7x1024, .f32⟩
  | .hbm, ⟨10, _⟩ => ⟨S7x1024, .f32⟩
  | .hbm, ⟨11, _⟩ => ⟨S_, .f32⟩
  | .hbm, ⟨12, _⟩ => ⟨S7x1024, .f32⟩
  | .hbm, ⟨13, _⟩ => ⟨S7x1024, .f32⟩
  | .hbm, ⟨14, _⟩ => ⟨S7x1024, .f32⟩
  | .hbm, ⟨15, _⟩ => ⟨S_, .f32⟩
  | .hbm, ⟨16, _⟩ => ⟨S7x1024, .f32⟩
  | .hbm, ⟨17, _⟩ => ⟨S7x1024, .f32⟩
  | .hbm, ⟨18, _⟩ => ⟨S7x1024, .f32⟩
  | .hbm, ⟨19, _⟩ => ⟨S_, .f32⟩
  | .hbm, ⟨20, _⟩ => ⟨S7x1024, .f32⟩
  | .hbm, ⟨21, _⟩ => ⟨S7x1024, .f32⟩
  | .hbm, ⟨22, _⟩ => ⟨S_, .f32⟩
  | .hbm, ⟨23, _⟩ => ⟨S7x1024, .f32⟩
  | .hbm, ⟨24, _⟩ => ⟨S7x1024, .f32⟩
  | .hbm, ⟨25, _⟩ => ⟨S7x1024, .f32⟩
  | .hbm, ⟨26, _⟩ => ⟨S_, .f32⟩
  | .hbm, ⟨27, _⟩ => ⟨S7x1024, .f32⟩
  | .hbm, ⟨28, _⟩ => ⟨S7x1024, .f32⟩
  | .hbm, ⟨29, _⟩ => ⟨S7x1024, .f32⟩
  | .hbm, ⟨30, _⟩ => ⟨S_, .f32⟩
  | .hbm, ⟨31, _⟩ => ⟨S7x1024, .f32⟩
  | .hbm, ⟨32, _⟩ => ⟨S7x1024, .f32⟩
  | .hbm, ⟨33, _⟩ => ⟨S7x1024, .f32⟩
  | .hbm, ⟨34, _⟩ => ⟨S_, .f32⟩
  | .hbm, ⟨35, _⟩ => ⟨S7x1024, .f32⟩
  | .hbm, ⟨36, _⟩ => ⟨S7x1024, .f32⟩
  | _, _ => ⟨S7x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S1796x1024 : Shape := ⟨2, ![1796, 1024]⟩
abbrev S1796x512 : Shape := ⟨2, ![1796, 512]⟩
abbrev S1796x256 : Shape := ⟨2, ![1796, 256]⟩

abbrev nBuf : Space → Nat
  | .hbm => 9
  | .vmem => 18
  | .smem => 0
  | _ => 0

abbrev bufTy : (tb : Table) → Fin (tcTables nBuf tb) → BufTy
  | .hbm, ⟨0, _⟩ => ⟨S1796x1024, .f32⟩
  | .hbm, ⟨1, _⟩ => ⟨S1796x512, .f32⟩
  | .hbm, ⟨2, _⟩ => ⟨S1796x512, .f32⟩
  | .hbm, ⟨3, _⟩ => ⟨S1796x1024, .f32⟩
  | .hbm, ⟨4, _⟩ => ⟨S1796x1024, .f32⟩
  | .hbm, ⟨5, _⟩ => ⟨S1796x1024, .f32⟩
  | .hbm, ⟨6, _⟩ => ⟨S1796x1024, .f32⟩
  | .hbm, ⟨7, _⟩ => ⟨S1796x1024, .f32⟩
  | .hbm, ⟨8, _⟩ => ⟨S1796x1024, .f32⟩
  | .local _ .vmem, ⟨0, _⟩ => ⟨S1796x256, .f32⟩
  | .local _ .vmem, ⟨1, _⟩ => ⟨S1796x256, .f32⟩
  | .local _ .vmem, ⟨2, _⟩ => ⟨S1796x256, .f32⟩
  | .local _ .vmem, ⟨3, _⟩ => ⟨S1796x256, .f32⟩
  | .local _ .vmem, ⟨4, _⟩ => ⟨S1796x256, .f32⟩
  | .local _ .vmem, ⟨5, _⟩ => ⟨S1796x256, .f32⟩
  | .local _ .vmem, ⟨6, _⟩ => ⟨S1796x256, .f32⟩
  | .local _ .vmem, ⟨7, _⟩ => ⟨S1796x256, .f32⟩
  | .local _ .vmem, ⟨8, _⟩ => ⟨S1796x256, .f32⟩
  | .local _ .vmem, ⟨9, _⟩ => ⟨S1796x256, .f32⟩
  | .local _ .vmem, ⟨10, _⟩ => ⟨S1796x256, .f32⟩
  | .local _ .vmem, ⟨11, _⟩ => ⟨S1796x256, .f32⟩
  | .local _ .vmem, ⟨12, _⟩ => ⟨S1796x256, .f32⟩
  | .local _ .vmem, ⟨13, _⟩ => ⟨S1796x256, .f32⟩
  | .local _ .vmem, ⟨14, _⟩ => ⟨S1796x256, .f32⟩
  | .local _ .vmem, ⟨15, _⟩ => ⟨S1796x256, .f32⟩
  | .local _ .vmem, ⟨16, _⟩ => ⟨S1796x256, .f32⟩
  | .local _ .vmem, ⟨17, _⟩ => ⟨S1796x256, .f32⟩
  | _, _ => ⟨S1796x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1796x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1796x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1796x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1796x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1796x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1796x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1796x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1796x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1796x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S1796x1024 : Shape := ⟨2, ![1796, 1024]⟩
abbrev S1796x512 : Shape := ⟨2, ![1796, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1796x1024, .f32⟩
  | .hbm, ⟨1, _⟩ => ⟨S1796x512, .f32⟩
  | .hbm, ⟨2, _⟩ => ⟨S1796x512, .f32⟩
  | .hbm, ⟨3, _⟩ => ⟨S1796x1024, .f32⟩
  | .hbm, ⟨4, _⟩ => ⟨S1796x1024, .f32⟩
  | .hbm, ⟨5, _⟩ => ⟨S1796x1024, .f32⟩
  | .hbm, ⟨6, _⟩ => ⟨S_, .f32⟩
  | .hbm, ⟨7, _⟩ => ⟨S1796x1024, .f32⟩
  | .hbm, ⟨8, _⟩ => ⟨S1796x1024, .f32⟩
  | .hbm, ⟨9, _⟩ => ⟨S_, .f32⟩
  | .hbm, ⟨10, _⟩ => ⟨S1796x1024, .f32⟩
  | .hbm, ⟨11, _⟩ => ⟨S1796x1024, .f32⟩
  | .hbm, ⟨12, _⟩ => ⟨S1796x1024, .f32⟩
  | .hbm, ⟨13, _⟩ => ⟨S_, .f32⟩
  | .hbm, ⟨14, _⟩ => ⟨S1796x1024, .f32⟩
  | .hbm, ⟨15, _⟩ => ⟨S1796x1024, .f32⟩
  | .hbm, ⟨16, _⟩ => ⟨S1796x1024, .f32⟩
  | .hbm, ⟨17, _⟩ => ⟨S_, .f32⟩
  | .hbm, ⟨18, _⟩ => ⟨S1796x1024, .f32⟩
  | .hbm, ⟨19, _⟩ => ⟨S1796x1024, .f32⟩
  | .hbm, ⟨20, _⟩ => ⟨S1796x1024, .f32⟩
  | .hbm, ⟨21, _⟩ => ⟨S_, .f32⟩
  | .hbm, ⟨22, _⟩ => ⟨S1796x1024, .f32⟩
  | .hbm, ⟨23, _⟩ => ⟨S1796x1024, .f32⟩
  | .hbm, ⟨24, _⟩ => ⟨S_, .f32⟩
  | .hbm, ⟨25, _⟩ => ⟨S1796x1024, .f32⟩
  | .hbm, ⟨26, _⟩ => ⟨S1796x1024, .f32⟩
  | .hbm, ⟨27, _⟩ => ⟨S1796x1024, .f32⟩
  | .hbm, ⟨28, _⟩ => ⟨S_, .f32⟩
  | .hbm, ⟨29, _⟩ => ⟨S1796x1024, .f32⟩
  | .hbm, ⟨30, _⟩ => ⟨S1796x1024, .f32⟩
  | .hbm, ⟨31, _⟩ => ⟨S1796x1024, .f32⟩
  | .hbm, ⟨32, _⟩ => ⟨S_, .f32⟩
  | .hbm, ⟨33, _⟩ => ⟨S1796x1024, .f32⟩
  | .hbm, ⟨34, _⟩ => ⟨S1796x1024, .f32⟩
  | .hbm, ⟨35, _⟩ => ⟨S1796x1024, .f32⟩
  | .hbm, ⟨36, _⟩ => ⟨S_, .f32⟩
  | .hbm, ⟨37, _⟩ => ⟨S1796x1024, .f32⟩
  | .hbm, ⟨38, _⟩ => ⟨S1796x1024, .f32⟩
  | _, _ => ⟨S1796x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel9.lean ====
abbrev S512x1024 : Shape := ⟨2, ![512, 1024]⟩
abbrev S512x512 : Shape := ⟨2, ![512, 512]⟩
abbrev S512x256 : Shape := ⟨2, ![512, 256]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S512x1024 : Shape := ⟨2, ![512, 1024]⟩
abbrev S512x512 : Shape := ⟨2, ![512, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S8x4096x128 : Shape := ⟨3, ![8, 4096, 128]⟩
abbrev S4096x7680 : Shape := ⟨2, ![4096, 7680]⟩
abbrev S1x128 : Shape := ⟨2, ![1, 128]⟩
abbrev S4096x512 : Shape := ⟨2, ![4096, 512]⟩
abbrev S8x128 : Shape := ⟨2, ![8, 128]⟩
abbrev S8x512x128 : Shape := ⟨3, ![8, 512, 128]⟩
abbrev S512x128 : Shape := ⟨2, ![512, 128]⟩
abbrev S512x512 : Shape := ⟨2, ![512, 512]⟩
abbrev S1x512x128 : Shape := ⟨3, ![1, 512, 128]⟩
abbrev S128 : Shape := ⟨1, ![128]⟩

abbrev nBuf : Space → Nat
  | .hbm => 5
  | .vmem => 9
  | .smem => 0
  | _ => 0

abbrev bufTy : (tb : Table) → Fin (tcTables nBuf tb) → BufTy
  | .hbm, ⟨0, _⟩ => ⟨S8x4096x128, .f32⟩
  | .hbm, ⟨1, _⟩ => ⟨S4096x7680, .f32⟩
  | .hbm, ⟨2, _⟩ => ⟨S1x128, .f32⟩
  | .hbm, ⟨3, _⟩ => ⟨S4096x512, .bf16⟩
  | .hbm, ⟨4, _⟩ => ⟨S8x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S8x128, .f32⟩
  | .local _ .vmem, ⟨8, _⟩ => ⟨S1x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c56_i32 : BitVec 32 := 56#32
  let c0_i32 : BitVec 32 := 0#32
  ![v2.toNat, c56_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference10Ideal.lean ====
abbrev S8x4096x128 : Shape := ⟨3, ![8, 4096, 128]⟩
abbrev S4096x7680 : Shape := ⟨2, ![4096, 7680]⟩
abbrev S1x128 : Shape := ⟨2, ![1, 128]⟩
abbrev S4096x128 : Shape := ⟨2, ![4096, 128]⟩
abbrev S2x2048x128 : Shape := ⟨3, ![2, 2048, 128]⟩
abbrev S_ : Shape := ⟨0, ![]⟩
abbrev S128 : Shape := ⟨1, ![128]⟩
abbrev S1x1x128 : Shape := ⟨3, ![1, 1, 128]⟩
abbrev S4096x512 : Shape := ⟨2, ![4096, 512]⟩
abbrev S8x128 : Shape := ⟨2, ![8, 128]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S4096x7680, .f32⟩
  | .hbm, ⟨2, _⟩ => ⟨S1x128, .f32⟩
  | .hbm, ⟨3, _⟩ => ⟨S4096x128, .f32⟩
  | .hbm, ⟨4, _⟩ => ⟨S2x2048x128, .f32⟩
  | .hbm, ⟨5, _⟩ => ⟨S_, .f32⟩
  | .hbm, ⟨6, _⟩ => ⟨S4096x128, .f32⟩
  | .hbm, ⟨7, _⟩ => ⟨S2x2048x128, .f32⟩
  | .hbm, ⟨8, _⟩ => ⟨S128, .f32⟩
  | .hbm, ⟨9, _⟩ => ⟨S1x1x128, .f32⟩
  | .hbm, ⟨10, _⟩ => ⟨S2x2048x128, .f32⟩
  | .hbm, ⟨11, _⟩ => ⟨S2x2048x128, .f32⟩
  | .hbm, ⟨12, _⟩ => ⟨S2x2048x128, .f32⟩
  | .hbm, ⟨13, _⟩ => ⟨S_, .f32⟩
  | .hbm, ⟨14, _⟩ => ⟨S2x2048x128, .f32⟩
  | .hbm, ⟨15, _⟩ => ⟨S2x2048x128, .f32⟩
  | .hbm, ⟨16, _⟩ => ⟨S2x2048x128, .f32⟩
  | .hbm, ⟨17, _⟩ => ⟨S2x2048x128, .f32⟩
  | .hbm, ⟨18, _⟩ => ⟨S2x2048x128, .i1⟩
  | .hbm, ⟨19, _⟩ => ⟨S2x2048x128, .f32⟩
  | .hbm, ⟨20, _⟩ => ⟨S2x2048x128, .f32⟩
  | .hbm, ⟨21, _⟩ => ⟨S2x2048x128, .f32⟩
  | .hbm, ⟨22, _⟩ => ⟨S2x2048x128, .f32⟩
  | .hbm, ⟨23, _⟩ => ⟨S2x2048x128, .f32⟩
  | .hbm, ⟨24, _⟩ => ⟨S2x2048x128, .f32⟩
  | .hbm, ⟨25, _⟩ => ⟨S2x2048x128, .f32⟩
  | .hbm, ⟨26, _⟩ => ⟨S2x2048x128, .f32⟩
  | .hbm, ⟨27, _⟩ => ⟨S_, .f32⟩
  | .hbm, ⟨28, _⟩ => ⟨S2x2048x128, .f32⟩
  | .hbm, ⟨29, _⟩ => ⟨S2x2048x128, .i1⟩
  | .hbm, ⟨30, _⟩ => ⟨S_, .f32⟩
  | .hbm, ⟨31, _⟩ => ⟨S2x2048x128, .f32⟩
  | .hbm, ⟨32, _⟩ => ⟨S2x2048x128, .f32⟩
  | .hbm, ⟨33, _⟩ => ⟨S_, .f32⟩
  | .hbm, ⟨34, _⟩ => ⟨S2x2048x128, .f32⟩
  | .hbm, ⟨35, _⟩ => ⟨S2x2048x128, .i1⟩
  | .hbm, ⟨36, _⟩ => ⟨S_, .f32⟩
  | .hbm, ⟨37, _⟩ => ⟨S2x2048x128, .f32⟩
  | .hbm, ⟨38, _⟩ => ⟨S2x2048x128, .f32⟩
  | .hbm, ⟨39, _⟩ => ⟨S2x2048x128, .f32⟩
  | .hbm, ⟨40, _⟩ => ⟨S2x2048x128, .f32⟩
  | .hbm, ⟨41, _⟩ => ⟨S_, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x2048x128, .f32⟩
  | .hbm, ⟨49, _⟩ => ⟨S2x2048x128, .i1⟩
  | .hbm, ⟨50, _⟩ => ⟨S_, .f32⟩
  | .hbm, ⟨51, _⟩ => ⟨S2x2048x128, .f32⟩
  | .hbm, ⟨52, _⟩ => ⟨S2x2048x128, .f32⟩
  | .hbm, ⟨53, _⟩ => ⟨S2x2048x128, .f32⟩
  | .hbm, ⟨54, _⟩ => ⟨S2x2048x128, .f32⟩
  | .hbm, ⟨55, _⟩ => ⟨S2x2048x128, .f32⟩
  | .hbm, ⟨56, _⟩ => ⟨S_, .f32⟩
  | .hbm, ⟨57, _⟩ => ⟨S2x2048x128, .f32⟩
  | .hbm, ⟨58, _⟩ => ⟨S2x2048x128, .f32⟩
  | .hbm, ⟨59, _⟩ => ⟨S2x2048x128, .f32⟩
  | .hbm, ⟨60, _⟩ => ⟨S_, .f32⟩
  | .hbm, ⟨61, _⟩ => ⟨S_, .f32⟩
  | .hbm, ⟨62, _⟩ => ⟨S2x2048x128, .f32⟩
  | .hbm, ⟨63, _⟩ => ⟨S_, .f32⟩
  | .hbm, ⟨64, _⟩ => ⟨S_, .f32⟩
  | .hbm, ⟨65, _⟩ => ⟨S2x2048x128, .f32⟩
  | .hbm, ⟨66, _⟩ => ⟨S2x2048x128, .f32⟩
  | .hbm, ⟨67, _⟩ => ⟨S2x2048x128, .f32⟩
  | .hbm, ⟨68, _⟩ => ⟨S2x2048x128, .f32⟩
  | .hbm, ⟨69, _⟩ => ⟨S_, .f32⟩
  | .hbm, ⟨70, _⟩ => ⟨S128, .f32⟩
  | .hbm, ⟨71, _⟩ => ⟨S1x1x128, .f32⟩
  | .hbm, ⟨72, _⟩ => ⟨S_, .f32⟩
  | .hbm, ⟨73, _⟩ => ⟨S128, .f32⟩
  | .hbm, ⟨74, _⟩ => ⟨S4096x128, .f32⟩
  | .hbm, ⟨75, _⟩ => ⟨S_, .i32⟩
  | .hbm, ⟨76, _⟩ => ⟨S_, .f32⟩
  | .hbm, ⟨77, _⟩ => ⟨S4096x512, .f32⟩
  | .hbm, ⟨78, _⟩ => ⟨S4096x512, .bf16⟩
  | .hbm, ⟨79, _⟩ => ⟨S1x128, .f32⟩
  | .hbm, ⟨80, _⟩ => ⟨S_, .i32⟩
  | .hbm, ⟨81, _⟩ => ⟨S_, .f32⟩
  | .hbm, ⟨82, _⟩ => ⟨S8x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1_0 : Ref sig .tc := ⟨.hbm, 26, rfl⟩
abbrev main_call0_call0_cst_0 : Ref sig .tc := ⟨.hbm, 27, rfl⟩
abbrev main_call0_call0_v13 : Ref sig .tc := ⟨.hbm, 28, rfl⟩
abbrev main_call0_call0_v14 : Ref sig .tc := ⟨.hbm, 29, rfl⟩
abbrev main_call0_call0_cst_1 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_cst_2 : Ref sig .tc := ⟨.hbm, 33, rfl⟩
abbrev main_call0_call0_v17 : Ref sig .tc := ⟨.hbm, 34, rfl⟩
abbrev main_call0_call0_v18 : Ref sig .tc := ⟨.hbm, 35, rfl⟩
abbrev main_call0_call0_cst_3 : Ref sig .tc := ⟨.hbm, 36, rfl⟩
abbrev main_call0_call0_v19 : Ref sig .tc := ⟨.hbm, 37, rfl⟩
abbrev main_call0_call0_v20 : Ref sig .tc := ⟨.hbm, 38, rfl⟩
abbrev main_call0_call0_v21 : Ref sig .tc := ⟨.hbm, 39, rfl⟩
abbrev main_v8_1 : Ref sig .tc := ⟨.hbm, 40, rfl⟩
abbrev main_call0_call0_cst_4 : Ref sig .tc := ⟨.hbm, 41, rfl⟩
abbrev main_call0_call0_cst_5 : Ref sig .tc := ⟨.hbm, 42, rfl⟩
abbrev main_call0_call0_v23 : Ref sig .tc := ⟨.hbm, 43, rfl⟩
abbrev main_call0_call0_cst_6 : Ref sig .tc := ⟨.hbm, 44, rfl⟩
abbrev main_call0_call0_cst_7 : Ref sig .tc := ⟨.hbm, 45, rfl⟩
abbrev main_call0_call0_v24 : Ref sig .tc := ⟨.hbm, 46, rfl⟩
abbrev main_call0_call0_cst_8 : Ref sig .tc := ⟨.hbm, 47, rfl⟩
abbrev main_call0_call0_v25 : Ref sig .tc := ⟨.hbm, 48, rfl⟩
abbrev main_call0_call0_v26 : Ref sig .tc := ⟨.hbm, 49, rfl⟩
abbrev main_call0_call0_cst_9 : Ref sig .tc := ⟨.hbm, 50, rfl⟩
abbrev main_call0_call0_v27 : Ref sig .tc := ⟨.hbm, 51, rfl⟩
abbrev main_call0_call0_v28 : Ref sig .tc := ⟨.hbm, 52, rfl⟩
abbrev main_call0_call0_v29 : Ref sig .tc := ⟨.hbm, 53, rfl⟩
abbrev main_call0_call0_v30 : Ref sig .tc := ⟨.hbm, 54, rfl⟩
abbrev main_call0_call0_v31 : Ref sig .tc := ⟨.hbm, 55, rfl⟩
abbrev main_call0_call0_cst_10 : Ref sig .tc := ⟨.hbm, 56, rfl⟩
abbrev main_call0_call0_v32 : Ref sig .tc := ⟨.hbm, 57, rfl⟩
abbrev main_v8_2 : Ref sig .tc := ⟨.hbm, 58, rfl⟩
abbrev main_v8_0 : Ref sig .tc := ⟨.hbm, 59, rfl⟩
abbrev main_call1_call0_cst : Ref sig .tc := ⟨.hbm, 60, rfl⟩
abbrev main_call1_call0_v0 : Ref sig .tc := ⟨.hbm, 61, rfl⟩
abbrev main_v9 : Ref sig .tc := ⟨.hbm, 62, rfl⟩
abbrev main_call2_call0_cst : Ref sig .tc := ⟨.hbm, 63, rfl⟩
abbrev main_call2_call0_v0 : Ref sig .tc := ⟨.hbm, 64, rfl⟩
abbrev main_v10 : Ref sig .tc := ⟨.hbm, 65, rfl⟩
abbrev main_call3_v0 : Ref sig .tc := ⟨.hbm, 66, rfl⟩
abbrev main_call3_v1 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩
abbrev main_cst_1 : Ref sig .tc := ⟨.hbm, 72, rfl⟩
abbrev main_v14 : Ref sig .tc := ⟨.hbm, 73, rfl⟩
abbrev main_v15 : Ref sig .tc := ⟨.hbm, 74, rfl⟩
abbrev main_c : Ref sig .tc := ⟨.hbm, 75, rfl⟩
abbrev main_call4_v0 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_c_2 : Ref sig .tc := ⟨.hbm, 80, rfl⟩
abbrev main_call5_v0 : Ref sig .tc := ⟨.hbm, 81, rfl⟩
abbrev main_v19 : Ref sig .tc := ⟨.hbm, 82, rfl⟩

abbrev nD : Nat := 1
abbrev τ : Topo := Topo.v7x

variable {F : FTy → Type} [FloatOps F]
-- ==== Kernel11.lean ====
abbrev S1796x512 : Shape := ⟨2, ![1796, 512]⟩
abbrev S3x1796x512 : Shape := ⟨3, ![3, 1796, 512]⟩
abbrev S1796x256 : Shape := ⟨2, ![1796, 256]⟩
abbrev S3x1796x256 : Shape := ⟨3, ![3, 1796, 256]⟩
abbrev S1x1796x256 : Shape := ⟨3, ![1, 1796, 256]⟩

abbrev nBuf : Space → Nat
  | .hbm => 3
  | .vmem => 6
  | .smem => 0
  | _ => 0

abbrev bufTy : (tb : Table) → Fin (tcTables nBuf tb) → BufTy
  | .hbm, ⟨0, _⟩ => ⟨S1796x512, .bf16⟩
  | .hbm, ⟨1, _⟩ => ⟨S3x1796x512, .bf16⟩
  | .hbm, ⟨2, _⟩ => ⟨S1796x512, .f32⟩
  | .local _ .vmem, ⟨0, _⟩ => ⟨S1796x256, .bf16⟩
  | .local _ .vmem, ⟨1, _⟩ => ⟨S1796x256, .bf16⟩
  | .local _ .vmem, ⟨2, _⟩ => ⟨S3x1796x256, .bf16⟩
  | .local _ .vmem, ⟨3, _⟩ => ⟨S3x1796x256, .bf16⟩
  | .local _ .vmem, ⟨4, _⟩ => ⟨S1796x256, .f32⟩
  | .local _ .vmem, ⟨5, _⟩ => ⟨S1796x256, .f32⟩
  | _, _ => ⟨S1796x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1796x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1796x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1796x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S1796x512 : Shape := ⟨2, ![1796, 512]⟩
abbrev S3x1796x512 : Shape := ⟨3, ![3, 1796, 512]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1796x512, .bf16⟩
  | .hbm, ⟨1, _⟩ => ⟨S3x1796x512, .bf16⟩
  | .hbm, ⟨2, _⟩ => ⟨S1796x512, .f32⟩
  | .hbm, ⟨3, _⟩ => ⟨S3x1796x512, .f32⟩
  | .hbm, ⟨4, _⟩ => ⟨S_, .f32⟩
  | .hbm, ⟨5, _⟩ => ⟨S1796x512, .f32⟩
  | .hbm, ⟨6, _⟩ => ⟨S1796x512, .f32⟩
  | _, _ => ⟨S1796x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S512x512 : Shape := ⟨2, ![512, 512]⟩
abbrev S3x512x512 : Shape := ⟨3, ![3, 512, 512]⟩
abbrev S256x512 : Shape := ⟨2, ![256, 512]⟩
abbrev S3x256x512 : Shape := ⟨3, ![3, 256, 512]⟩
abbrev S1x256x512 : Shape := ⟨3, ![1, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x512, .bf16⟩
  | .hbm, ⟨1, _⟩ => ⟨S3x512x512, .bf16⟩
  | .hbm, ⟨2, _⟩ => ⟨S512x512, .f32⟩
  | .local _ .vmem, ⟨0, _⟩ => ⟨S256x512, .bf16⟩
  | .local _ .vmem, ⟨1, _⟩ => ⟨S256x512, .bf16⟩
  | .local _ .vmem, ⟨2, _⟩ => ⟨S3x256x512, .bf16⟩
  | .local _ .vmem, ⟨3, _⟩ => ⟨S3x256x512, .bf16⟩
  | .local _ .vmem, ⟨4, _⟩ => ⟨S256x512, .f32⟩
  | .local _ .vmem, ⟨5, _⟩ => ⟨S256x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S512x512 : Shape := ⟨2, ![512, 512]⟩
abbrev S3x512x512 : Shape := ⟨3, ![3, 512, 512]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S3x512x512, .bf16⟩
  | .hbm, ⟨2, _⟩ => ⟨S512x512, .f32⟩
  | .hbm, ⟨3, _⟩ => ⟨S3x512x512, .f32⟩
  | .hbm, ⟨4, _⟩ => ⟨S_, .f32⟩
  | .hbm, ⟨5, _⟩ => ⟨S512x512, .f32⟩
  | .hbm, ⟨6, _⟩ => ⟨S512x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8x40x1024 : Shape := ⟨3, ![8, 40, 1024]⟩
abbrev S40x1024 : Shape := ⟨2, ![40, 1024]⟩
abbrev S1x40x1024 : Shape := ⟨3, ![1, 40, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .local _ .vmem, ⟨0, _⟩ => ⟨S8x40x1024, .f32⟩
  | .local _ .vmem, ⟨1, _⟩ => ⟨S40x1024, .f32⟩
  | _, _ => ⟨S8x40x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference13Ideal.lean ====
abbrev S8x40x1024 : Shape := ⟨3, ![8, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S_, .f32⟩
  | .hbm, ⟨2, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S4096x7680 : Shape := ⟨2, ![4096, 7680]⟩
abbrev S1x128 : Shape := ⟨2, ![1, 128]⟩
abbrev S4096x128 : Shape := ⟨2, ![4096, 128]⟩
abbrev S512x128 : Shape := ⟨2, ![512, 128]⟩
abbrev S512x512 : Shape := ⟨2, ![512, 512]⟩
abbrev S128 : Shape := ⟨1, ![128]⟩

abbrev nBuf : Space → Nat
  | .hbm => 3
  | .vmem => 6
  | .smem => 0
  | _ => 0

abbrev bufTy : (tb : Table) → Fin (tcTables nBuf tb) → BufTy
  | .hbm, ⟨0, _⟩ => ⟨S4096x7680, .f32⟩
  | .hbm, ⟨1, _⟩ => ⟨S1x128, .f32⟩
  | .hbm, ⟨2, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S1x128, .f32⟩
  | _, _ => ⟨S4096x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c56_i32 : BitVec 32 := 56#32
  let c0_i32 : BitVec 32 := 0#32
  ![v1.toNat, c56_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x7680 : Shape := ⟨2, ![4096, 7680]⟩
abbrev S1x128 : Shape := ⟨2, ![1, 128]⟩
abbrev S4096x16 : Shape := ⟨2, ![4096, 16]⟩
abbrev S2x2048x16 : Shape := ⟨3, ![2, 2048, 16]⟩
abbrev S1x16 : Shape := ⟨2, ![1, 16]⟩
abbrev S16 : Shape := ⟨1, ![16]⟩
abbrev S1x1x16 : Shape := ⟨3, ![1, 1, 16]⟩
abbrev S_ : Shape := ⟨0, ![]⟩
abbrev S4096x128 : Shape := ⟨2, ![4096, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x7680, .f32⟩
  | .hbm, ⟨1, _⟩ => ⟨S1x128, .f32⟩
  | .hbm, ⟨2, _⟩ => ⟨S4096x16, .f32⟩
  | .hbm, ⟨3, _⟩ => ⟨S2x2048x16, .f32⟩
  | .hbm, ⟨4, _⟩ => ⟨S1x16, .f32⟩
  | .hbm, ⟨5, _⟩ => ⟨S16, .f32⟩
  | .hbm, ⟨6, _⟩ => ⟨S1x1x16, .f32⟩
  | .hbm, ⟨7, _⟩ => ⟨S2x2048x16, .f32⟩
  | .hbm, ⟨8, _⟩ => ⟨S2x2048x16, .f32⟩
  | .hbm, ⟨9, _⟩ => ⟨S2x2048x16, .f32⟩
  | .hbm, ⟨10, _⟩ => ⟨S_, .f32⟩
  | .hbm, ⟨11, _⟩ => ⟨S2x2048x16, .f32⟩
  | .hbm, ⟨12, _⟩ => ⟨S2x2048x16, .f32⟩
  | .hbm, ⟨13, _⟩ => ⟨S2x2048x16, .f32⟩
  | .hbm, ⟨14, _⟩ => ⟨S2x2048x16, .f32⟩
  | .hbm, ⟨15, _⟩ => ⟨S2x2048x16, .i1⟩
  | .hbm, ⟨16, _⟩ => ⟨S2x2048x16, .f32⟩
  | .hbm, ⟨17, _⟩ => ⟨S2x2048x16, .f32⟩
  | .hbm, ⟨18, _⟩ => ⟨S2x2048x16, .f32⟩
  | .hbm, ⟨19, _⟩ => ⟨S2x2048x16, .f32⟩
  | .hbm, ⟨20, _⟩ => ⟨S2x2048x16, .f32⟩
  | .hbm, ⟨21, _⟩ => ⟨S2x2048x16, .f32⟩
  | .hbm, ⟨22, _⟩ => ⟨S2x2048x16, .f32⟩
  | .hbm, ⟨23, _⟩ => ⟨S2x2048x16, .f32⟩
  | .hbm, ⟨24, _⟩ => ⟨S2x2048x16, .f32⟩
  | .hbm, ⟨25, _⟩ => ⟨S_, .f32⟩
  | .hbm, ⟨26, _⟩ => ⟨S_, .f32⟩
  | .hbm, ⟨27, _⟩ => ⟨S2x2048x16, .f32⟩
  | .hbm, ⟨28, _⟩ => ⟨S4096x16, .f32⟩
  | .hbm, ⟨29, _⟩ => ⟨S_, .i32⟩
  | .hbm, ⟨30, _⟩ => ⟨S_, .f32⟩
  | .hbm, ⟨31, _⟩ => ⟨S4096x128, .f32⟩
  | _, _ => ⟨S4096x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v7 : Ref sig .tc := ⟨.hbm, 24, rfl⟩
abbrev main_call1_call0_cst : Ref sig .tc := ⟨.hbm, 25, rfl⟩
abbrev main_call1_call0_v0 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_call2_v0 : Ref sig .tc := ⟨.hbm, 30, rfl⟩
abbrev main_v10 : Ref sig .tc := ⟨.hbm, 31, rfl⟩

abbrev nD : Nat := 1
abbrev τ : Topo := Topo.v7x

variable {F : FTy → Type} [FloatOps F]
-- ==== Proof.Heads.lean ====
/- Hand-written. One head's step of the attention gradient, as a program of its own over any head, and what it leaves:
   the eight heads of a tile are the same step at eight places, so its run is made once. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow
public import Idealize.ShloMosaic.Lib.LoopRemainder

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A tile of keys or queries of one head: 512 rows of 128 lanes. -/
abbrev Tile (F : FTy → Type) := Vec F S1x1x512x128 .bf16

/-- One head's step: the weights `pf k q` of the tile, then the three accumulations. -/
def head (pf : Tile F → Tile F → FVec F S512x512 .f32) (arg3 : Memref sig .tc .vmem S1x8x2048x128 .bf16) (arg4 : Memref sig .tc .vmem S1x8x512x128 .bf16) (arg5 : Memref sig .tc .vmem S1x8x512x128 .bf16) (arg6 : Memref sig .tc .vmem S1x8x2048x128 .bf16) (arg7 : Memref sig .tc .vmem S1x8x2048x128 .f32) (arg8 : Memref sig .tc .vmem S1x8x512x128 .f32) (arg10 : Memref sig .tc .vmem S8x512x128 .f32)
    (oq : Fin 4 → ℕ) (hq : ∀ a, oq a + S1x1x512x128.size a ≤ S1x8x2048x128.size a)
    (ok : Fin 4 → ℕ) (hk : ∀ a, ok a + S1x1x512x128.size a ≤ S1x8x512x128.size a)
    (oa : Fin 3 → ℕ) (ha : ∀ a, oa a + S1x512x128.size a ≤ S8x512x128.size a) :
    Prog (TpuEff nD τ sig (Elt F) Λ₀ .tc) PUnit := do
  let vk : Vec F S1x1x512x128 .bf16 ← Prog.lift (.load arg4 (Rect.unit (s := S1x8x512x128) ok S1x1x512x128.size hk).toLoadRect (View.loadsAt_vmem h_S1x1x512x128))
  let vq : Vec F S1x1x512x128 .bf16 ← Prog.lift (.load arg3 (Rect.unit (s := S1x8x2048x128) oq S1x1x512x128.size hq).toLoadRect (View.loadsAt_vmem h_S1x1x512x128))
  let vd : Vec F S1x1x512x128 .bf16 ← Prog.lift (.load arg6 (Rect.unit (s := S1x8x2048x128) oq S1x1x512x128.size hq).toLoadRect (View.loadsAt_vmem h_S1x1x512x128))
  let vv : Vec F S1x1x512x128 .bf16 ← Prog.lift (.load arg5 (Rect.unit (s := S1x8x512x128) ok S1x1x512x128.size hk).toLoadRect (View.loadsAt_vmem h_S1x1x512x128))
  let a0 : Vec F S1x512x128 .f32 ← Prog.lift (.load arg10 (Rect.unit (s := S8x512x128) oa S1x512x128.size ha).toLoadRect (View.loadsAt_vmem h_S1x512x128))
  let a1 : Vec F S1x512x128 .f32 ← Prog.lift (.load arg10 (Rect.unit (s := S8x512x128) oa S1x512x128.size ha).toLoadRect (View.loadsAt_vmem h_S1x512x128))
  Prog.lift (.store arg10 (Rect.unit (s := S8x512x128) oa S1x512x128.size ha) (k0_pay151 (k0_pay148 vd) (pf vk vq) a0) Finset.univ (View.stores_vmem_bits_univ h_S1x512x128 rfl) (.inl rfl))
  let b0 : Vec F S1x1x512x128 .f32 ← Prog.lift (.load arg8 (Rect.unit (s := S1x8x512x128) ok S1x1x512x128.size hk).toLoadRect (View.loadsAt_vmem h_S1x1x512x128))
  let b1 : Vec F S1x1x512x128 .f32 ← Prog.lift (.load arg8 (Rect.unit (s := S1x8x512x128) ok S1x1x512x128.size hk).toLoadRect (View.loadsAt_vmem h_S1x1x512x128))
  Prog.lift (.store arg8 (Rect.unit (s := S1x8x512x128) ok S1x1x512x128.size hk) (k0_pay152 (k0_pay147 vq) (k0_pay148 vd) (pf vk vq) vv b0) Finset.univ (View.stores_vmem_bits_univ h_S1x1x512x128 rfl) (.inl rfl))
  let c0 : Vec F S1x1x512x128 .f32 ← Prog.lift (.load arg7 (Rect.unit (s := S1x8x2048x128) oq S1x1x512x128.size hq).toLoadRect (View.loadsAt_vmem h_S1x1x512x128))
  let c1 : Vec F S1x1x512x128 .f32 ← Prog.lift (.load arg7 (Rect.unit (s := S1x8x2048x128) oq S1x1x512x128.size hq).toLoadRect (View.loadsAt_vmem h_S1x1x512x128))
  Prog.lift (.store arg7 (Rect.unit (s := S1x8x2048x128) oq S1x1x512x128.size hq) (k0_pay153 (k0_pay146 vk) (k0_pay148 vd) (pf vk vq) vv c0) Finset.univ (View.stores_vmem_bits_univ h_S1x1x512x128 rfl) (.inl rfl))

/-- The buffers a tile step touches, the four operands at `x0 … x3` and the three accumulators at `dq`, `dk`, `dv`. -/
abbrev Held (c : Dev nD) (arg3 : Memref sig .tc .vmem S1x8x2048x128 .bf16) (arg4 : Memref sig .tc .vmem S1x8x512x128 .bf16) (arg5 : Memref sig .tc .vmem S1x8x512x128 .bf16) (arg6 : Memref sig .tc .vmem S1x8x2048x128 .bf16) (arg7 : Memref sig .tc .vmem S1x8x2048x128 .f32) (arg8 : Memref sig .tc .vmem S1x8x512x128 .f32) (arg10 : Memref sig .tc .vmem S8x512x128 .f32) (x0 : Vec F S1x8x2048x128 .bf16) (x1 x2 : Vec F S1x8x512x128 .bf16) (x3 : Vec F S1x8x2048x128 .bf16)
    (dq : Vec F S1x8x2048x128 .f32) (dk : Vec F S1x8x512x128 .f32) (dv : Vec F S8x512x128 .f32) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3
    ∗ owns (c : Thread nD τ) arg7 fullShare dq ∗ owns (c : Thread nD τ) arg8 fullShare dk ∗ owns (c : Thread nD τ) arg10 fullShare dv)

set_option maxHeartbeats 1000000 in
/-- One head's step leaves the operands as they were and each accumulator with its own block replaced. -/
theorem wp_head (c : Dev nD) (pf : Tile F → Tile F → FVec F S512x512 .f32) (arg3 : Memref sig .tc .vmem S1x8x2048x128 .bf16) (arg4 : Memref sig .tc .vmem S1x8x512x128 .bf16) (arg5 : Memref sig .tc .vmem S1x8x512x128 .bf16) (arg6 : Memref sig .tc .vmem S1x8x2048x128 .bf16) (arg7 : Memref sig .tc .vmem S1x8x2048x128 .f32) (arg8 : Memref sig .tc .vmem S1x8x512x128 .f32) (arg10 : Memref sig .tc .vmem S8x512x128 .f32)
    (oq : Fin 4 → ℕ) (hq : ∀ a, oq a + S1x1x512x128.size a ≤ S1x8x2048x128.size a)
    (ok : Fin 4 → ℕ) (hk : ∀ a, ok a + S1x1x512x128.size a ≤ S1x8x512x128.size a)
    (oa : Fin 3 → ℕ) (ha : ∀ a, oa a + S1x512x128.size a ≤ S8x512x128.size a)
    (x0 : Vec F S1x8x2048x128 .bf16) (x1 x2 : Vec F S1x8x512x128 .bf16) (x3 : Vec F S1x8x2048x128 .bf16)
    (dq : Vec F S1x8x2048x128 .f32) (dk : Vec F S1x8x512x128 .f32) (dv : Vec F S8x512x128 .f32) (E : Set ℕ) :
    Held c arg3 arg4 arg5 arg6 arg7 arg8 arg10 x0 x1 x2 x3 dq dk dv
      ⊢ wp frame (wpE (defs₀ (F := F)) Variants.none c none) E (head pf arg3 arg4 arg5 arg6 arg7 arg8 arg10 oq hq ok hk oa ha)
        (fun _ => Held c arg3 arg4 arg5 arg6 arg7 arg8 arg10 x0 x1 x2 x3
          (VecWindow.put dq oq S1x1x512x128.size (k0_pay153 (k0_pay146 (VecWindow.window x1 ok _ hk)) (k0_pay148 (VecWindow.window x3 oq _ hq)) (pf (VecWindow.window x1 ok _ hk) (VecWindow.window x0 oq _ hq)) (VecWindow.window x2 ok _ hk) (VecWindow.window dq oq _ hq)))
          (VecWindow.put dk ok S1x1x512x128.size (k0_pay152 (k0_pay147 (VecWindow.window x0 oq _ hq)) (k0_pay148 (VecWindow.window x3 oq _ hq)) (pf (VecWindow.window x1 ok _ hk) (VecWindow.window x0 oq _ hq)) (VecWindow.window x2 ok _ hk) (VecWindow.window dk ok _ hk)))
          (VecWindow.put dv oa S1x512x128.size (k0_pay151 (k0_pay148 (VecWindow.window x3 oq _ hq)) (pf (VecWindow.window x1 ok _ hk) (VecWindow.window x0 oq _ hq)) (VecWindow.window dv oa _ ha)))) := by
  unfold head Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩
  subst hf0 hf1 hf2 hf3 hf4 hf5 hf6
  sl_exec
  sl_step
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]
  · iexists _; isplitr; swap; · iexact H4
    ipureintro
    exact View.read_writes_cons_put _ _ _ _ _ rfl
  isplitl [H5]
  · iexists _; isplitr; swap; · iexact H5
    ipureintro
    exact View.read_writes_cons_put _ _ _ _ _ rfl
  · iexists _; isplitr; swap; · iexact H6
    ipureintro
    exact View.read_writes_cons_put _ _ _ _ _ rfl

end Cert.AttnBwd

end
-- ==== Proof.Tile.lean ====
/- Hand-written. A tile of 512 rows of queries against the block of keys: the eight heads' steps in order, and the whole
   body of the kernel at a grid point as fills, the diagonal tile, the loop over the tiles below it, and the last cast. -/
module

public import proofs.«01_k».proof.Proof.Heads

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Head `e`'s rows from `r` on lie inside a block of 2048 rows. -/
theorem rows_inb (e : Fin 8) (r : ℕ) (hr : r + 512 ≤ 2048) :
    ∀ a, (![0, e.val, r, 0] : Fin 4 → ℕ) a + S1x1x512x128.size a ≤ S1x8x2048x128.size a := by
  have := e.isLt
  intro a; match a with
  | 0 => exact Nat.le_refl 1
  | 1 => show e.val + 1 ≤ 8; omega
  | 2 => exact hr
  | 3 => exact Nat.le_refl 128

/-- Head `e`'s rows of a block of 512 rows lie inside it. -/
theorem keys_inb (e : Fin 8) :
    ∀ a, (![0, e.val, 0, 0] : Fin 4 → ℕ) a + S1x1x512x128.size a ≤ S1x8x512x128.size a := by
  have := e.isLt
  intro a; match a with
  | 0 => exact Nat.le_refl 1
  | 1 => show e.val + 1 ≤ 8; omega
  | 2 => exact Nat.le_refl 512
  | 3 => exact Nat.le_refl 128

/-- Head `e`'s rows of the scratch lie inside it. -/
theorem acc_inb (e : Fin 8) :
    ∀ a, (![e.val, 0, 0] : Fin 3 → ℕ) a + S1x512x128.size a ≤ S8x512x128.size a := by
  have := e.isLt
  intro a; match a with
  | 0 => show e.val + 1 ≤ 8; omega
  | 1 => exact Nat.le_refl 512
  | 2 => exact Nat.le_refl 128

/-- The three accumulators. -/
structure Acc (F : FTy → Type) where
  dq : Vec F S1x8x2048x128 .f32
  dk : Vec F S1x8x512x128 .f32
  dv : Vec F S8x512x128 .f32

/-- What head `e`'s step at the rows from `r` on makes of the accumulators. -/
def stepAt (pf : Tile F → Tile F → FVec F S512x512 .f32) (x0 : Vec F S1x8x2048x128 .bf16) (x1 x2 : Vec F S1x8x512x128 .bf16) (x3 : Vec F S1x8x2048x128 .bf16)
    (r : ℕ) (hr : r + 512 ≤ 2048) (e : Fin 8) (s : Acc F) : Acc F where
  dq := VecWindow.put s.dq ![0, e.val, r, 0] S1x1x512x128.size (k0_pay153 (k0_pay146 (VecWindow.window x1 ![0, e.val, 0, 0] _ (keys_inb e))) (k0_pay148 (VecWindow.window x3 ![0, e.val, r, 0] _ (rows_inb e r hr))) (pf (VecWindow.window x1 ![0, e.val, 0, 0] _ (keys_inb e)) (VecWindow.window x0 ![0, e.val, r, 0] _ (rows_inb e r hr))) (VecWindow.window x2 ![0, e.val, 0, 0] _ (keys_inb e)) (VecWindow.window s.dq ![0, e.val, r, 0] _ (rows_inb e r hr)))
  dk := VecWindow.put s.dk ![0, e.val, 0, 0] S1x1x512x128.size (k0_pay152 (k0_pay147 (VecWindow.window x0 ![0, e.val, r, 0] _ (rows_inb e r hr))) (k0_pay148 (VecWindow.window x3 ![0, e.val, r, 0] _ (rows_inb e r hr))) (pf (VecWindow.window x1 ![0, e.val, 0, 0] _ (keys_inb e)) (VecWindow.window x0 ![0, e.val, r, 0] _ (rows_inb e r hr))) (VecWindow.window x2 ![0, e.val, 0, 0] _ (keys_inb e)) (VecWindow.window s.dk ![0, e.val, 0, 0] _ (keys_inb e)))
  dv := VecWindow.put s.dv ![e.val, 0, 0] S1x512x128.size (k0_pay151 (k0_pay148 (VecWindow.window x3 ![0, e.val, r, 0] _ (rows_inb e r hr))) (pf (VecWindow.window x1 ![0, e.val, 0, 0] _ (keys_inb e)) (VecWindow.window x0 ![0, e.val, r, 0] _ (rows_inb e r hr))) (VecWindow.window s.dv ![e.val, 0, 0] _ (acc_inb e)))

/-- What the tile at the rows from `r` on makes of the accumulators: the eight heads' steps. -/
def tileAt (pf : Tile F → Tile F → FVec F S512x512 .f32) (x0 : Vec F S1x8x2048x128 .bf16) (x1 x2 : Vec F S1x8x512x128 .bf16) (x3 : Vec F S1x8x2048x128 .bf16)
    (r : ℕ) (hr : r + 512 ≤ 2048) (s : Acc F) : Acc F :=
  stepAt pf x0 x1 x2 x3 r hr 7 (stepAt pf x0 x1 x2 x3 r hr 6 (stepAt pf x0 x1 x2 x3 r hr 5 (stepAt pf x0 x1 x2 x3 r hr 4
    (stepAt pf x0 x1 x2 x3 r hr 3 (stepAt pf x0 x1 x2 x3 r hr 2 (stepAt pf x0 x1 x2 x3 r hr 1 (stepAt pf x0 x1 x2 x3 r hr 0 s)))))))

/-- Head `e`'s step at the rows from `r` on, as a program. -/
abbrev headAt (pf : Tile F → Tile F → FVec F S512x512 .f32) (arg3 : Memref sig .tc .vmem S1x8x2048x128 .bf16) (arg4 : Memref sig .tc .vmem S1x8x512x128 .bf16) (arg5 : Memref sig .tc .vmem S1x8x512x128 .bf16) (arg6 : Memref sig .tc .vmem S1x8x2048x128 .bf16) (arg7 : Memref sig .tc .vmem S1x8x2048x128 .f32) (arg8 : Memref sig .tc .vmem S1x8x512x128 .f32) (arg10 : Memref sig .tc .vmem S8x512x128 .f32)
    (r : ℕ) (hr : r + 512 ≤ 2048) (e : Fin 8) : Prog (TpuEff nD τ sig (Elt F) Λ₀ .tc) PUnit :=
  head pf arg3 arg4 arg5 arg6 arg7 arg8 arg10 ![0, e.val, r, 0] (rows_inb e r hr) ![0, e.val, 0, 0] (keys_inb e) ![e.val, 0, 0] (acc_inb e)

/-- The tile's program. -/
def tile (pf : Tile F → Tile F → FVec F S512x512 .f32) (arg3 : Memref sig .tc .vmem S1x8x2048x128 .bf16) (arg4 : Memref sig .tc .vmem S1x8x512x128 .bf16) (arg5 : Memref sig .tc .vmem S1x8x512x128 .bf16) (arg6 : Memref sig .tc .vmem S1x8x2048x128 .bf16) (arg7 : Memref sig .tc .vmem S1x8x2048x128 .f32) (arg8 : Memref sig .tc .vmem S1x8x512x128 .f32) (arg10 : Memref sig .tc .vmem S8x512x128 .f32)
    (r : ℕ) (hr : r + 512 ≤ 2048) : Prog (TpuEff nD τ sig (Elt F) Λ₀ .tc) PUnit := do
  headAt pf arg3 arg4 arg5 arg6 arg7 arg8 arg10 r hr 0
  headAt pf arg3 arg4 arg5 arg6 arg7 arg8 arg10 r hr 1
  headAt pf arg3 arg4 arg5 arg6 arg7 arg8 arg10 r hr 2
  headAt pf arg3 arg4 arg5 arg6 arg7 arg8 arg10 r hr 3
  headAt pf arg3 arg4 arg5 arg6 arg7 arg8 arg10 r hr 4
  headAt pf arg3 arg4 arg5 arg6 arg7 arg8 arg10 r hr 5
  headAt pf arg3 arg4 arg5 arg6 arg7 arg8 arg10 r hr 6
  headAt pf arg3 arg4 arg5 arg6 arg7 arg8 arg10 r hr 7

/-- The buffers with the accumulators as one value. -/
abbrev HeldAcc (c : Dev nD) (arg3 : Memref sig .tc .vmem S1x8x2048x128 .bf16) (arg4 : Memref sig .tc .vmem S1x8x512x128 .bf16) (arg5 : Memref sig .tc .vmem S1x8x512x128 .bf16) (arg6 : Memref sig .tc .vmem S1x8x2048x128 .bf16) (arg7 : Memref sig .tc .vmem S1x8x2048x128 .f32) (arg8 : Memref sig .tc .vmem S1x8x512x128 .f32) (arg10 : Memref sig .tc .vmem S8x512x128 .f32) (x0 : Vec F S1x8x2048x128 .bf16) (x1 x2 : Vec F S1x8x512x128 .bf16) (x3 : Vec F S1x8x2048x128 .bf16)
    (s : Acc F) : sProp 𝕄 :=
  Held c arg3 arg4 arg5 arg6 arg7 arg8 arg10 x0 x1 x2 x3 s.dq s.dk s.dv

/-- Two programs one after the other. -/
theorem wp_seq (c : Dev nD) (E : Set ℕ) {R R' : sProp 𝕄} {β : Type} {Q : β → sProp 𝕄}
    {p : Prog (TpuEff nD τ sig (Elt F) Λ₀ .tc) PUnit} {k : Prog (TpuEff nD τ sig (Elt F) Λ₀ .tc) β}
    (h1 : R ⊢ wp frame (wpE (defs₀ (F := F)) Variants.none c none) E p (fun _ => R'))
    (h2 : R' ⊢ wp frame (wpE (defs₀ (F := F)) Variants.none c none) E k Q) :
    R ⊢ wp frame (wpE (defs₀ (F := F)) Variants.none c none) E (p >>= fun _ => k) Q := by
  rw [wp_bind]
  exact h1.trans (wp_mono _ _ _ fun _ => h2)

/-- Head `e`'s step makes `stepAt` of the accumulators. -/
theorem wp_headAt (c : Dev nD) (pf : Tile F → Tile F → FVec F S512x512 .f32) (arg3 : Memref sig .tc .vmem S1x8x2048x128 .bf16) (arg4 : Memref sig .tc .vmem S1x8x512x128 .bf16) (arg5 : Memref sig .tc .vmem S1x8x512x128 .bf16) (arg6 : Memref sig .tc .vmem S1x8x2048x128 .bf16) (arg7 : Memref sig .tc .vmem S1x8x2048x128 .f32) (arg8 : Memref sig .tc .vmem S1x8x512x128 .f32) (arg10 : Memref sig .tc .vmem S8x512x128 .f32)
    (x0 : Vec F S1x8x2048x128 .bf16) (x1 x2 : Vec F S1x8x512x128 .bf16) (x3 : Vec F S1x8x2048x128 .bf16)
    (r : ℕ) (hr : r + 512 ≤ 2048) (e : Fin 8) (s : Acc F) (E : Set ℕ) :
    HeldAcc c arg3 arg4 arg5 arg6 arg7 arg8 arg10 x0 x1 x2 x3 s
      ⊢ wp frame (wpE (defs₀ (F := F)) Variants.none c none) E (headAt pf arg3 arg4 arg5 arg6 arg7 arg8 arg10 r hr e)
        (fun _ => HeldAcc c arg3 arg4 arg5 arg6 arg7 arg8 arg10 x0 x1 x2 x3 (stepAt pf x0 x1 x2 x3 r hr e s)) :=
  wp_head c pf arg3 arg4 arg5 arg6 arg7 arg8 arg10 ![0, e.val, r, 0] (rows_inb e r hr) ![0, e.val, 0, 0] (keys_inb e) ![e.val, 0, 0] (acc_inb e) x0 x1 x2 x3 s.dq s.dk s.dv E

/-- A tile's program makes `tileAt` of the accumulators. -/
theorem wp_tile (c : Dev nD) (pf : Tile F → Tile F → FVec F S512x512 .f32) (arg3 : Memref sig .tc .vmem S1x8x2048x128 .bf16) (arg4 : Memref sig .tc .vmem S1x8x512x128 .bf16) (arg5 : Memref sig .tc .vmem S1x8x512x128 .bf16) (arg6 : Memref sig .tc .vmem S1x8x2048x128 .bf16) (arg7 : Memref sig .tc .vmem S1x8x2048x128 .f32) (arg8 : Memref sig .tc .vmem S1x8x512x128 .f32) (arg10 : Memref sig .tc .vmem S8x512x128 .f32)
    (x0 : Vec F S1x8x2048x128 .bf16) (x1 x2 : Vec F S1x8x512x128 .bf16) (x3 : Vec F S1x8x2048x128 .bf16)
    (r : ℕ) (hr : r + 512 ≤ 2048) (s : Acc F) (E : Set ℕ) :
    HeldAcc c arg3 arg4 arg5 arg6 arg7 arg8 arg10 x0 x1 x2 x3 s
      ⊢ wp frame (wpE (defs₀ (F := F)) Variants.none c none) E (tile pf arg3 arg4 arg5 arg6 arg7 arg8 arg10 r hr)
        (fun _ => HeldAcc c arg3 arg4 arg5 arg6 arg7 arg8 arg10 x0 x1 x2 x3 (tileAt pf x0 x1 x2 x3 r hr s)) :=
  wp_seq c E (wp_headAt c pf arg3 arg4 arg5 arg6 arg7 arg8 arg10 x0 x1 x2 x3 r hr 0 _ E) <|
  wp_seq c E (wp_headAt c pf arg3 arg4 arg5 arg6 arg7 arg8 arg10 x0 x1 x2 x3 r hr 1 _ E) <|
  wp_seq c E (wp_headAt c pf arg3 arg4 arg5 arg6 arg7 arg8 arg10 x0 x1 x2 x3 r hr 2 _ E) <|
  wp_seq c E (wp_headAt c pf arg3 arg4 arg5 arg6 arg7 arg8 arg10 x0 x1 x2 x3 r hr 3 _ E) <|
  wp_seq c E (wp_headAt c pf arg3 arg4 arg5 arg6 arg7 arg8 arg10 x0 x1 x2 x3 r hr 4 _ E) <|
  wp_seq c E (wp_headAt c pf arg3 arg4 arg5 arg6 arg7 arg8 arg10 x0 x1 x2 x3 r hr 5 _ E) <|
  wp_seq c E (wp_headAt c pf arg3 arg4 arg5 arg6 arg7 arg8 arg10 x0 x1 x2 x3 r hr 6 _ E) <|
  wp_headAt c pf arg3 arg4 arg5 arg6 arg7 arg8 arg10 x0 x1 x2 x3 r hr 7 _ E

/-- The first row of a tile, as the kernel computes it from the tile's number. -/
abbrev row (b : BitVec 32) : ℕ := (Scalar.indexCast (Scalar.muli b 512#32)).toNat

/-- The diagonal tile's number at a grid point. -/
abbrev diag (i : grid0.Coords) : BitVec 32 := BitVec.ofNat 32 (i 2).val

/-- The number of the loop's tile at trip `k`. -/
abbrev below (i : grid0.Coords) (k : Fin (k0_t1_loop i).trips) : BitVec 32 := Scf.iv (Scalar.addi (diag i) 1#32) 1#32 k

theorem row_diag (i : grid0.Coords) : row (diag i) + 512 ≤ 2048 := k0_off1_inb i 2

theorem row_below (i : grid0.Coords) (k : Fin (k0_t1_loop i).trips) : row (below i k) + 512 ≤ 2048 := k0_off9_inb i k 2

/-- A trip of the loop is a tile. -/
theorem trip_eq (i : grid0.Coords) (arg3 : Memref sig .tc .vmem S1x8x2048x128 .bf16) (harg3 : arg3.IsWhole) (arg4 : Memref sig .tc .vmem S1x8x512x128 .bf16) (harg4 : arg4.IsWhole) (arg5 : Memref sig .tc .vmem S1x8x512x128 .bf16) (harg5 : arg5.IsWhole) (arg6 : Memref sig .tc .vmem S1x8x2048x128 .bf16) (harg6 : arg6.IsWhole) (arg7 : Memref sig .tc .vmem S1x8x2048x128 .f32) (harg7 : arg7.IsWhole) (arg8 : Memref sig .tc .vmem S1x8x512x128 .f32) (harg8 : arg8.IsWhole) (arg9 : Memref sig .tc .vmem S1x8x512x128 .bf16) (harg9 : arg9.IsWhole) (arg10 : Memref sig .tc .vmem S8x512x128 .f32) (harg10 : arg10.IsWhole) (v363 : BitVec 32) (k : Fin (k0_t1_loop i).trips) (u : Unit) :
    k0_t1_body (F := F) i arg3 harg3 arg4 harg4 arg5 harg5 arg6 harg6 arg7 harg7 arg8 harg8 arg9 harg9 arg10 harg10 v363 k u = tile k0_pay8 arg3 arg4 arg5 arg6 arg7 arg8 arg10 (row (below i k)) (row_below i k) := rfl

/-- The fills at the start of a grid point: the sums of the queries' gradients at the first block of keys alone, the
    keys' and the values' always. -/
def fills (i : grid0.Coords) (arg7 : Memref sig .tc .vmem S1x8x2048x128 .f32) (arg8 : Memref sig .tc .vmem S1x8x512x128 .f32) (arg10 : Memref sig .tc .vmem S8x512x128 .f32) :
    Prog (TpuEff nD τ sig (Elt F) Λ₀ .tc) PUnit := do
  if Scalar.cmpi .ne (Scalar.extui (Scalar.cmpi .eq (diag i) 0#32) : BitVec 32) 0#32 = 1#1 then do
    let z : Vec F S1x8x2048x128 .f32 ← Prog.lift (.load arg7 (Rect.unit (s := S1x8x2048x128) ![0, 0, 0, 0] S1x8x2048x128.size inb_S1x8x2048x128_S1x8x2048x128_0_0_0_0).toLoadRect (View.loadsAt_vmem h_S1x8x2048x128))
    Prog.lift (.store arg7 (Rect.unit (s := S1x8x2048x128) ![0, 0, 0, 0] S1x8x2048x128.size inb_S1x8x2048x128_S1x8x2048x128_0_0_0_0) (k0_pay143 (F := F)) Finset.univ (View.stores_vmem_bits_univ h_S1x8x2048x128 rfl) (.inl rfl))
    pure ⟨⟩
  else do
    pure ⟨⟩
  let v4 : Vec F S1x8x512x128 .f32 ← Prog.lift (.load arg8 (Rect.unit (s := S1x8x512x128) ![0, 0, 0, 0] S1x8x512x128.size inb_S1x8x512x128_S1x8x512x128_0_0_0_0).toLoadRect (View.loadsAt_vmem h_S1x8x512x128))
  Prog.lift (.store arg8 (Rect.unit (s := S1x8x512x128) ![0, 0, 0, 0] S1x8x512x128.size inb_S1x8x512x128_S1x8x512x128_0_0_0_0) (k0_pay144 (F := F)) Finset.univ (View.stores_vmem_bits_univ h_S1x8x512x128 rfl) (.inl rfl))
  let v6 : Vec F S8x512x128 .f32 ← Prog.lift (.load arg10 (Rect.unit (s := S8x512x128) ![0, 0, 0] S8x512x128.size inb_S8x512x128_S8x512x128_0_0_0).toLoadRect (View.loadsAt_vmem h_S8x512x128))
  Prog.lift (.store arg10 (Rect.unit (s := S8x512x128) ![0, 0, 0] S8x512x128.size inb_S8x512x128_S8x512x128_0_0_0) (k0_pay145 (F := F)) Finset.univ (View.stores_vmem_bits_univ h_S8x512x128 rfl) (.inl rfl))

/-- The last cast: the values' sums into the output block. -/
def last (arg9 : Memref sig .tc .vmem S1x8x512x128 .bf16) (harg9 : arg9.IsWhole) (arg10 : Memref sig .tc .vmem S8x512x128 .f32) :
    Prog (TpuEff nD τ sig (Elt F) Λ₀ .tc) PUnit := do
  let v369 : Vec F S8x512x128 .f32 ← Prog.lift (.load arg10 (Rect.unit (s := S8x512x128) ![0, 0, 0] S8x512x128.size inb_S8x512x128_S8x512x128_0_0_0).toLoadRect (View.loadsAt_vmem h_S8x512x128))
  let v371 : Vec F S1x8x512x128 .bf16 ← Prog.lift (.load arg9 (Rect.unit (s := S1x8x512x128) ![0, 0, 0, 0] S1x8x512x128.size inb_S1x8x512x128_S1x8x512x128_0_0_0_0).toLoadRect (View.loadsAt_vmem h_S1x8x512x128))
  Prog.lift (.store arg9 (Rect.unit (s := S1x8x512x128) ![0, 0, 0, 0] S1x8x512x128.size inb_S1x8x512x128_S1x8x512x128_0_0_0_0) (k0_pay4 v369) Finset.univ (View.stores_vmem h_S1x8x512x128 (harg9.storeExact_slice rfl _ packedbf16_S1x8x512x128_S1x8x512x128_0_0_0_0) (fun _ => rfl)) (.inl rfl))

/-- The whole body at a grid point. -/
def whole (i : grid0.Coords) (arg3 : Memref sig .tc .vmem S1x8x2048x128 .bf16) (harg3 : arg3.IsWhole) (arg4 : Memref sig .tc .vmem S1x8x512x128 .bf16) (harg4 : arg4.IsWhole) (arg5 : Memref sig .tc .vmem S1x8x512x128 .bf16) (harg5 : arg5.IsWhole) (arg6 : Memref sig .tc .vmem S1x8x2048x128 .bf16) (harg6 : arg6.IsWhole) (arg7 : Memref sig .tc .vmem S1x8x2048x128 .f32) (harg7 : arg7.IsWhole) (arg8 : Memref sig .tc .vmem S1x8x512x128 .f32) (harg8 : arg8.IsWhole) (arg9 : Memref sig .tc .vmem S1x8x512x128 .bf16) (harg9 : arg9.IsWhole) (arg10 : Memref sig .tc .vmem S8x512x128 .f32) (harg10 : arg10.IsWhole) : Prog (TpuEff nD τ sig (Elt F) Λ₀ .tc) PUnit := do
  fills i arg7 arg8 arg10
  tile k0_pay149 arg3 arg4 arg5 arg6 arg7 arg8 arg10 (row (diag i)) (row_diag i)
  Scf.Loop.for (k0_t1_loop i) (k0_t1_ok i) ⟨⟩ (k0_t1_body i arg3 harg3 arg4 harg4 arg5 harg5 arg6 harg6 arg7 harg7 arg8 harg8 arg9 harg9 arg10 harg10 (Scalar.addi (diag i) 1#32))
  Scf.Loop.for (k0_t2_loop i) (k0_t2_ok i) ⟨⟩ (k0_t2_body i arg3 harg3 arg4 harg4 arg5 harg5 arg6 harg6 arg7 harg7 arg8 harg8 arg9 harg9 arg10 harg10 (Scalar.addi (Scalar.addi (diag i) 1#32) (Scalar.muli (Scalar.divsi (Scalar.subi 4#32 (Scalar.addi (diag i) 1#32)) 1#32) 1#32)))
  last arg9 harg9 arg10

/-- The printed body is that program. -/
theorem body_eq (i : grid0.Coords) (arg3 : Memref sig .tc .vmem S1x8x2048x128 .bf16) (harg3 : arg3.IsWhole) (arg4 : Memref sig .tc .vmem S1x8x512x128 .bf16) (harg4 : arg4.IsWhole) (arg5 : Memref sig .tc .vmem S1x8x512x128 .bf16) (harg5 : arg5.IsWhole) (arg6 : Memref sig .tc .vmem S1x8x2048x128 .bf16) (harg6 : arg6.IsWhole) (arg7 : Memref sig .tc .vmem S1x8x2048x128 .f32) (harg7 : arg7.IsWhole) (arg8 : Memref sig .tc .vmem S1x8x512x128 .f32) (harg8 : arg8.IsWhole) (arg9 : Memref sig .tc .vmem S1x8x512x128 .bf16) (harg9 : arg9.IsWhole) (arg10 : Memref sig .tc .vmem S8x512x128 .f32) (harg10 : arg10.IsWhole) :
    cc0_attn_bwd (F := F) i arg3 harg3 arg4 harg4 arg5 harg5 arg6 harg6 arg7 harg7 arg8 harg8 arg9 harg9 arg10 harg10 = whole i arg3 harg3 arg4 harg4 arg5 harg5 arg6 harg6 arg7 harg7 arg8 harg8 arg9 harg9 arg10 harg10 := by
  rw [cc0_attn_bwd_eq_skeleton]
  unfold cc0_attn_bwd_skel whole fills
  rw [k0_part23_eq_skeleton]
  unfold k0_part23_skel
  by_cases h : Scalar.cmpi .ne (Scalar.extui (Scalar.cmpi .eq (diag i) 0#32) : BitVec 32) 0#32 = 1#1
  · simp only [dif_pos h, if_pos h]
    rfl
  · simp only [dif_neg h, if_neg h]
    rfl

end Cert.AttnBwd

end
-- ==== Proof.Body.lean ====
/- Hand-written. What the kernel's body leaves at a grid point: the diagonal tile and the tiles below it folded into the
   accumulators, and the values' sums cast into the output block. -/
module

public import proofs.«01_k».proof.Proof.Tile

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point's condition: the block of keys is the first one. -/
abbrev isFirst (i : grid0.Coords) : Prop := Scalar.cmpi .ne (Scalar.extui (Scalar.cmpi .eq (diag i) 0#32) : BitVec 32) 0#32 = 1#1

/-- The accumulators after the fills. -/
def filled (i : grid0.Coords) (dq : Vec F S1x8x2048x128 .f32) : Acc F := ⟨if isFirst i then k0_pay143 else dq, k0_pay144, k0_pay145⟩

/-- The accumulators after `n` trips of the loop. -/
def loopAt (i : grid0.Coords) (x0 : Vec F S1x8x2048x128 .bf16) (x1 x2 : Vec F S1x8x512x128 .bf16) (x3 : Vec F S1x8x2048x128 .bf16) (s : Acc F) : ℕ → Acc F
  | 0 => s
  | n + 1 => if h : n < (k0_t1_loop i).trips then tileAt k0_pay8 x0 x1 x2 x3 (row (below i ⟨n, h⟩)) (row_below i ⟨n, h⟩) (loopAt i x0 x1 x2 x3 s n) else loopAt i x0 x1 x2 x3 s n

/-- The accumulators a grid point leaves, of the queries' sums `dq` it finds. -/
def pointAt (i : grid0.Coords) (x0 : Vec F S1x8x2048x128 .bf16) (x1 x2 : Vec F S1x8x512x128 .bf16) (x3 : Vec F S1x8x2048x128 .bf16) (dq : Vec F S1x8x2048x128 .f32) : Acc F :=
  loopAt i x0 x1 x2 x3 (tileAt k0_pay149 x0 x1 x2 x3 (row (diag i)) (row_diag i) (filled i dq)) (k0_t1_loop i).trips

/-- Two programs one after the other, a resource beside the first. -/
theorem wp_seq_beside (c : Dev nD) (E : Set ℕ) {R R' X : sProp 𝕄} {β : Type} {Q : β → sProp 𝕄}
    {p : Prog (TpuEff nD τ sig (Elt F) Λ₀ .tc) PUnit} {k : Prog (TpuEff nD τ sig (Elt F) Λ₀ .tc) β}
    (h1 : R ⊢ wp frame (wpE (defs₀ (F := F)) Variants.none c none) E p (fun _ => R'))
    (h2 : iprop(R' ∗ X) ⊢ wp frame (wpE (defs₀ (F := F)) Variants.none c none) E k Q) :
    iprop(R ∗ X) ⊢ wp frame (wpE (defs₀ (F := F)) Variants.none c none) E (p >>= fun _ => k) Q := by
  iintro ⟨HR, HX⟩
  iapply (exec_cut _ _ _ h1) $$ HR
  iintro %r HR
  iapply h2
  isplitl [HR] <;> iassumption

set_option maxHeartbeats 1000000 in
/-- The fills leave the operands as they were. -/
theorem wp_fills (c : Dev nD) (i : grid0.Coords) (arg3 : Memref sig .tc .vmem S1x8x2048x128 .bf16) (arg4 : Memref sig .tc .vmem S1x8x512x128 .bf16) (arg5 : Memref sig .tc .vmem S1x8x512x128 .bf16) (arg6 : Memref sig .tc .vmem S1x8x2048x128 .bf16) (arg7 : Memref sig .tc .vmem S1x8x2048x128 .f32) (arg8 : Memref sig .tc .vmem S1x8x512x128 .f32) (arg10 : Memref sig .tc .vmem S8x512x128 .f32)
    (x0 : Vec F S1x8x2048x128 .bf16) (x1 x2 : Vec F S1x8x512x128 .bf16) (x3 : Vec F S1x8x2048x128 .bf16)
    (dq : Vec F S1x8x2048x128 .f32) (dk : Vec F S1x8x512x128 .f32) (dv : Vec F S8x512x128 .f32) (E : Set ℕ) :
    Held c arg3 arg4 arg5 arg6 arg7 arg8 arg10 x0 x1 x2 x3 dq dk dv
      ⊢ wp frame (wpE (defs₀ (F := F)) Variants.none c none) E (fills (F := F) i arg7 arg8 arg10)
        (fun _ => HeldAcc c arg3 arg4 arg5 arg6 arg7 arg8 arg10 x0 x1 x2 x3 (filled i dq)) := by
  unfold fills HeldAcc Held filled owns
  by_cases h : isFirst i
  · simp only [if_pos h]
    iintro ⟨H0, H1, H2, H3, ⟨%f4, %hf4, H4⟩, ⟨%f5, %hf5, H5⟩, ⟨%f6, %hf6, H6⟩⟩
    sl_exec
    sl_step
    iframe
    isplitl [H4]
    · iexists _; isplitr; swap; · iexact H4
      ipureintro
      exact View.read_writes_full _ _ _ _ _
    isplitl [H5]
    · iexists _; isplitr; swap; · iexact H5
      ipureintro
      exact View.read_writes_full _ _ _ _ _
    · iexists _; isplitr; swap; · iexact H6
      ipureintro
      exact View.read_writes_full _ _ _ _ _
  · simp only [if_neg h]
    iintro ⟨H0, H1, H2, H3, H4, ⟨%f5, %hf5, H5⟩, ⟨%f6, %hf6, H6⟩⟩
    sl_exec
    sl_step
    iframe
    isplitl [H5]
    · iexists _; isplitr; swap; · iexact H5
      ipureintro
      exact View.read_writes_full _ _ _ _ _
    · iexists _; isplitr; swap; · iexact H6
      ipureintro
      exact View.read_writes_full _ _ _ _ _

set_option maxHeartbeats 1000000 in
/-- The last cast fills the output block, whatever it held. -/
theorem wp_last (c : Dev nD) (arg9 : Memref sig .tc .vmem S1x8x512x128 .bf16) (harg9 : arg9.IsWhole) (arg10 : Memref sig .tc .vmem S8x512x128 .f32)
    (x9 : Vec F S1x8x512x128 .bf16) (x : Vec F S8x512x128 .f32) (E : Set ℕ) :
    (iprop(owns (c : Thread nD τ) arg10 fullShare x ∗ owns (c : Thread nD τ) arg9 fullShare x9) : sProp 𝕄)
      ⊢ wp frame (wpE (defs₀ (F := F)) Variants.none c none) E (last (F := F) arg9 harg9 arg10)
        (fun _ => iprop(owns (c : Thread nD τ) arg10 fullShare x ∗ owns (c : Thread nD τ) arg9 fullShare (k0_pay4 x))) := by
  unfold last owns
  iintro ⟨⟨%f6, %hf6, H6⟩, ⟨%f9, %hf9, H9⟩⟩
  subst hf6
  sl_exec
  sl_step
  isplitl [H6]
  · iexists _; isplitr; swap; · iexact H6
    ipureintro; rfl
  · iexists _; isplitr; swap; · iexact H9
    ipureintro
    rw [View.read_writes_full, View.readAt_full]

/-- The loop folds its tiles into the accumulators. -/
theorem wp_loop (c : Dev nD) (i : grid0.Coords) (arg3 : Memref sig .tc .vmem S1x8x2048x128 .bf16) (harg3 : arg3.IsWhole) (arg4 : Memref sig .tc .vmem S1x8x512x128 .bf16) (harg4 : arg4.IsWhole) (arg5 : Memref sig .tc .vmem S1x8x512x128 .bf16) (harg5 : arg5.IsWhole) (arg6 : Memref sig .tc .vmem S1x8x2048x128 .bf16) (harg6 : arg6.IsWhole) (arg7 : Memref sig .tc .vmem S1x8x2048x128 .f32) (harg7 : arg7.IsWhole) (arg8 : Memref sig .tc .vmem S1x8x512x128 .f32) (harg8 : arg8.IsWhole) (arg9 : Memref sig .tc .vmem S1x8x512x128 .bf16) (harg9 : arg9.IsWhole) (arg10 : Memref sig .tc .vmem S8x512x128 .f32) (harg10 : arg10.IsWhole)
    (x0 : Vec F S1x8x2048x128 .bf16) (x1 x2 : Vec F S1x8x512x128 .bf16) (x3 : Vec F S1x8x2048x128 .bf16)
    (s : Acc F) (v363 : BitVec 32) (E : Set ℕ) :
    HeldAcc c arg3 arg4 arg5 arg6 arg7 arg8 arg10 x0 x1 x2 x3 s
      ⊢ wp frame (wpE (defs₀ (F := F)) Variants.none c none) E (Scf.Loop.for (k0_t1_loop i) (k0_t1_ok i) ⟨⟩ (k0_t1_body i arg3 harg3 arg4 harg4 arg5 harg5 arg6 harg6 arg7 harg7 arg8 harg8 arg9 harg9 arg10 harg10 v363))
        (fun _ => HeldAcc c arg3 arg4 arg5 arg6 arg7 arg8 arg10 x0 x1 x2 x3 (loopAt i x0 x1 x2 x3 s (k0_t1_loop i).trips)) := by
  have hbody : ∀ (k : Fin (Scf.trips (k0_t1_loop i).lb (k0_t1_loop i).ub (k0_t1_loop i).st)) (u : PUnit),
      HeldAcc c arg3 arg4 arg5 arg6 arg7 arg8 arg10 x0 x1 x2 x3 (loopAt i x0 x1 x2 x3 s k.val)
      ⊢ wp frame (wpE (defs₀ (F := F)) Variants.none c none) E (k0_t1_body i arg3 harg3 arg4 harg4 arg5 harg5 arg6 harg6 arg7 harg7 arg8 harg8 arg9 harg9 arg10 harg10 v363 k u)
        (fun _ => HeldAcc c arg3 arg4 arg5 arg6 arg7 arg8 arg10 x0 x1 x2 x3 (loopAt i x0 x1 x2 x3 s (k.val + 1))) := fun k u => by
    rw [trip_eq]
    have e : loopAt i x0 x1 x2 x3 s (k.val + 1) = tileAt k0_pay8 x0 x1 x2 x3 (row (below i k)) (row_below i k) (loopAt i x0 x1 x2 x3 s k.val) := by
      show (if h : k.val < (k0_t1_loop i).trips then _ else _) = _
      rw [dif_pos k.isLt]
    rw [e]
    exact wp_tile c k0_pay8 arg3 arg4 arg5 arg6 arg7 arg8 arg10 x0 x1 x2 x3 _ _ _ E
  iintro H
  iapply (Scf.wp_for _ _ _ _ _ _ _ _ _ (fun n _ => HeldAcc c arg3 arg4 arg5 arg6 arg7 arg8 arg10 x0 x1 x2 x3 (loopAt i x0 x1 x2 x3 s n)) hbody)
  isplitl [H]
  · iexact H
  · iintro %u H
    iexact H

/-- The body leaves the operands as they were, the accumulators at `pointAt`, and the output block at the cast of the
    values' sums. -/
theorem wp_body (c : Dev nD) (i : grid0.Coords) (arg3 : Memref sig .tc .vmem S1x8x2048x128 .bf16) (harg3 : arg3.IsWhole) (arg4 : Memref sig .tc .vmem S1x8x512x128 .bf16) (harg4 : arg4.IsWhole) (arg5 : Memref sig .tc .vmem S1x8x512x128 .bf16) (harg5 : arg5.IsWhole) (arg6 : Memref sig .tc .vmem S1x8x2048x128 .bf16) (harg6 : arg6.IsWhole) (arg7 : Memref sig .tc .vmem S1x8x2048x128 .f32) (harg7 : arg7.IsWhole) (arg8 : Memref sig .tc .vmem S1x8x512x128 .f32) (harg8 : arg8.IsWhole) (arg9 : Memref sig .tc .vmem S1x8x512x128 .bf16) (harg9 : arg9.IsWhole) (arg10 : Memref sig .tc .vmem S8x512x128 .f32) (harg10 : arg10.IsWhole)
    (x0 : Vec F S1x8x2048x128 .bf16) (x1 x2 : Vec F S1x8x512x128 .bf16) (x3 : Vec F S1x8x2048x128 .bf16)
    (dq : Vec F S1x8x2048x128 .f32) (dk : Vec F S1x8x512x128 .f32) (dv : Vec F S8x512x128 .f32) (x9 : Vec F S1x8x512x128 .bf16) (E : Set ℕ) :
    iprop(Held c arg3 arg4 arg5 arg6 arg7 arg8 arg10 x0 x1 x2 x3 dq dk dv ∗ owns (c : Thread nD τ) arg9 fullShare x9)
      ⊢ wp frame (wpE (defs₀ (F := F)) Variants.none c none) E (cc0_attn_bwd (F := F) i arg3 harg3 arg4 harg4 arg5 harg5 arg6 harg6 arg7 harg7 arg8 harg8 arg9 harg9 arg10 harg10)
        (fun _ => iprop(HeldAcc c arg3 arg4 arg5 arg6 arg7 arg8 arg10 x0 x1 x2 x3 (pointAt i x0 x1 x2 x3 dq) ∗ owns (c : Thread nD τ) arg9 fullShare (k0_pay4 (pointAt i x0 x1 x2 x3 dq).dv))) := by
  rw [body_eq]
  unfold whole
  refine wp_seq_beside c E (wp_fills c i arg3 arg4 arg5 arg6 arg7 arg8 arg10 x0 x1 x2 x3 dq dk dv E) ?_
  refine wp_seq_beside c E (wp_tile c k0_pay149 arg3 arg4 arg5 arg6 arg7 arg8 arg10 x0 x1 x2 x3 _ _ _ E) ?_
  refine wp_seq_beside c E (wp_loop c i arg3 harg3 arg4 harg4 arg5 harg5 arg6 harg6 arg7 harg7 arg8 harg8 arg9 harg9 arg10 harg10 x0 x1 x2 x3 _ _ E) ?_
  have hrem := Scf.for_rem_eq (E := TpuEff nD τ sig (Elt F) Λ₀ .tc) (Scalar.addi (diag i) 1#32) (Scalar.subi 4#32 (Scalar.addi (diag i) 1#32)) (k0_t2_ok i) (⟨⟩ : PUnit)
    (k0_t2_body (F := F) i arg3 harg3 arg4 harg4 arg5 harg5 arg6 harg6 arg7 harg7 arg8 harg8 arg9 harg9 arg10 harg10 (Scalar.addi (Scalar.addi (diag i) 1#32) (Scalar.muli (Scalar.divsi (Scalar.subi 4#32 (Scalar.addi (diag i) 1#32)) 1#32) 1#32)))
  refine (show _ ⊢ wp frame (wpE (defs₀ (F := F)) Variants.none c none) E (Prog.ret (⟨⟩ : PUnit) >>= fun _ => last arg9 harg9 arg10) _ from ?_).trans (Eq.subst (motive := fun P => _ ⊢ wp frame (wpE (defs₀ (F := F)) Variants.none c none) E (P >>= fun _ => last arg9 harg9 arg10) _) hrem.symm .rfl)
  show _ ⊢ wp frame (wpE (defs₀ (F := F)) Variants.none c none) E (last arg9 harg9 arg10) _
  iintro ⟨⟨H0, H1, H2, H3, H4, H5, H6⟩, H9⟩
  iapply (exec_cut_last _ _ _ (wp_last c arg9 harg9 arg10 x9 _ E)) $$ [H6 H9]
  · isplitl [H6] <;> iassumption
  iintro %r ⟨H6, H9⟩
  isplitr [H9]; swap; · iexact H9
  isplitl [H0]; · iexact H0
  isplitl [H1]; · iexact H1
  isplitl [H2]; · iexact H2
  isplitl [H3]; · iexact H3
  isplitl [H4]; · iexact H4
  isplitl [H5]; · iexact H5
  iexact H6

end Cert.AttnBwd

end
-- ==== Proof.Run.lean ====
/- Hand-written. The run of the whole program at any values: what the kernel leaves at each grid point, named, and every
   execution ending at those contents with every semaphore at zero. -/
module

public import proofs.«01_k».proof.Proof.Body
public import Idealize.ShloMosaic.Lib.Claim

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulators the grid point numbered `n` leaves: the queries' sums go on from the point before. -/
def accAt (c : Dev nD) : (n : ℕ) → n < cfg0.N → Acc F
  | 0, h => pointAt (grid0.coords ⟨0, h⟩) (iblk m c 0 ⟨0, h⟩) (iblk m c 1 ⟨0, h⟩) (iblk m c 2 ⟨0, h⟩) (iblk m c 3 ⟨0, h⟩) k0_pay143
  | n + 1, h => pointAt (grid0.coords ⟨n + 1, h⟩) (iblk m c 0 ⟨n + 1, h⟩) (iblk m c 1 ⟨n + 1, h⟩) (iblk m c 2 ⟨n + 1, h⟩) (iblk m c 3 ⟨n + 1, h⟩)
      (accAt c n (Nat.lt_of_succ_lt h)).dq

/-- The block of keys is the first one at the points ≡ 0 (mod 4). -/
theorem isFirst_iff (t : Fin cfg0.N) : isFirst (grid0.coords t) ↔ t.val % 4 = 0 := by
  have h : ∀ t : Fin 16, isFirst (grid0.coords ⟨t.val, t.isLt.trans_eq N_0.symm⟩) ↔ t.val % 4 = 0 := by decide
  exact h ⟨t.val, t.isLt.trans_eq N_0⟩

/-- At the first block of keys the queries' sums found do not matter. -/
theorem pointAt_first (i : grid0.Coords) (hi : isFirst i) (x0 : Vec F S1x8x2048x128 .bf16) (x1 x2 : Vec F S1x8x512x128 .bf16) (x3 : Vec F S1x8x2048x128 .bf16)
    (d d' : Vec F S1x8x2048x128 .f32) : pointAt i x0 x1 x2 x3 d = pointAt i x0 x1 x2 x3 d' := by
  unfold pointAt filled
  rw [if_pos hi, if_pos hi]

/-- At the first block of keys a point's accumulators are those of zero sums. -/
theorem accAt_first (c : Dev nD) (t : Fin cfg0.N) (ht : t.val % 4 = 0) (d : Vec F S1x8x2048x128 .f32) :
    accAt m c t.val t.isLt = pointAt (grid0.coords t) (iblk m c 0 t) (iblk m c 1 t) (iblk m c 2 t) (iblk m c 3 t) d := by
  obtain ⟨n, hn⟩ := t
  match n, hn with
  | 0, h => exact pointAt_first _ ((isFirst_iff ⟨0, h⟩).mpr ht) _ _ _ _ _ _
  | n + 1, h => exact pointAt_first _ ((isFirst_iff ⟨n + 1, h⟩).mpr ht) _ _ _ _ _ _

/-- At a later block of keys a point goes on from the point before. -/
theorem accAt_next (c : Dev nD) (t : Fin cfg0.N) (ht : t.val ≠ 0) :
    accAt m c t.val t.isLt = pointAt (grid0.coords t) (iblk m c 0 t) (iblk m c 1 t) (iblk m c 2 t) (iblk m c 3 t)
      (accAt m c (t.val - 1) (Nat.lt_of_le_of_lt (Nat.sub_le _ _) t.isLt)).dq := by
  obtain ⟨n, hn⟩ := t
  match n, hn, ht with
  | n + 1, h, _ => rfl

/-- The proof data on core `c`: the operands' buffers keep their blocks, the outputs' hold the accumulators. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accAt m c t.val t.isLt).dq
    | ⟨5, _⟩ => (accAt m c t.val t.isLt).dk
    | ⟨6, _⟩ => k0_pay4 (accAt m c t.val t.isLt).dv
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (accAt m c t.val t.isLt).dq := by dsimp only [dats]
theorem after_5 (c : Dev nD) (t : Fin cfg0.N) : (dats m 0 c).after 5 t = (accAt m c t.val t.isLt).dk := by dsimp only [dats]
theorem after_6 (c : Dev nD) (t : Fin cfg0.N) : (dats m 0 c).after 6 t = k0_pay4 (accAt m c t.val t.isLt).dv := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The queries' sums a later block of keys finds are those the point before left. -/
theorem before_4 (c : Dev nD) (t : Fin cfg0.N) (ht : ¬ t.val % 4 = 0) (d) :
    (dats m 0 c).before 4 t d = (accAt m c (t.val - 1) (Nat.lt_of_le_of_lt (Nat.sub_le _ _) t.isLt)).dq := by
  have h0 : t.val ≠ 0 := fun h => ht (by rw [h])
  rw [(dats m 0 c).before_out_kept 4 rfl t h0 (Bool.eq_false_iff.mpr fun h => by
    have := (flush0_4 ⟨t.val - 1, Nat.lt_of_le_of_lt (Nat.sub_le _ _) t.isLt⟩).mp h
    simp only at this
    omega) (fun _ => rfl) (fun _ _ => rfl) d, after_4]

/-- What any found sums come to, as `accAt` says. -/
theorem pointAt_before (c : Dev nD) (t : Fin cfg0.N) (d) :
    pointAt (grid0.coords t) (iblk m c 0 t) (iblk m c 1 t) (iblk m c 2 t) (iblk m c 3 t) ((dats m 0 c).before 4 t d) = accAt m c t.val t.isLt := by
  by_cases ht : t.val % 4 = 0
  · exact (accAt_first m c t ht _).symm
  · rw [before_4 m c t ht d]
    exact (accAt_next m c t fun h => ht (by rw [h])).symm

/-- The scratch as a memref. -/
abbrev scratch : Memref sig .tc .vmem S8x512x128 .f32 := Memref.whole cc0_scratch0

/-- The invariant: the scratch at some contents and the generator register. -/
theorem PhiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any point, by its one run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA_eq]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3]
  iapply (exec_cut_last _ _ _ (wp_body c (grid0.coords t) _ _ _ _ _ _ _ _ _ _ _ _ _ _ _ _ (iblk m c 0 t) (iblk m c 1 t) (iblk m c 2 t) (iblk m c 3 t)
    ((dats m 0 c).before 4 t d4) ((dats m 0 c).before 5 t d5) ds ((dats m 0 c).before 6 t d6) Set.univ)) $$ [H0 H1 H2 H3 H4 H5 HS H6]
  · isplitr [H6]; swap; · iexact H6
    isplitl [H0]; · iexact H0
    isplitl [H1]; · iexact H1
    isplitl [H2]; · iexact H2
    isplitl [H3]; · iexact H3
    isplitl [H4]; · iexact H4
    isplitl [H5]; · iexact H5
    iexact HS
  rw [pointAt_before m c t d4]
  iintro %r ⟨⟨H0, H1, H2, H3, H4, H5, HS⟩, H6⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution ends with the pipeline's arrays and the later host lines' buffers at the contents named,
    and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.AttnBwd

end
-- ==== Proof.Same.lean ====
/- Hand-written. The kernel's program and its idealization's are the same text: the same buffers, the same body, the same
   host lines, so one run serves both. -/
module

public import proofs.«01_k».proof.Defs
public import proofs.«01_k».proof.Proof.Run
public import proofs.«01_k».proof.Proof.Gen.Kernel

@[expose] public section

set_option maxRecDepth 65536

noncomputable section

namespace Cert.AttnBwd

open Idealize.ShloMosaic Idealize.SL.Sem

/-- The two programs declare the same buffers. -/
theorem sig_same : Cert.Kernel.sig = Cert.KernelIdeal.sig := rfl
/-- They run on the same threads. -/
theorem threads_same : Cert.Kernel.τ = Cert.KernelIdeal.τ := rfl

variable {F : FTy → Type} [FloatOps F]

/-- The two bodies are the same program. -/
theorem body_same :
    letI := Cert.Kernel.Gen.facts;
    @Cert.Kernel.cc0_attn_bwd F _ _ = @Cert.KernelIdeal.cc0_attn_bwd F _ Cert.KernelIdeal.Gen.facts := rfl

set_option backward.isDefEq.respectTransparency.types false in
set_option maxHeartbeats 2000000 in
/-- The two tables of bodies are the same. -/
theorem defs0_same :
    letI := Cert.Kernel.Gen.facts;
    @Cert.Kernel.defs₀ F _ _ = @Cert.KernelIdeal.defs₀ F _ Cert.KernelIdeal.Gen.facts := by
  unfold Cert.Kernel.defs₀ Cert.KernelIdeal.defs₀
  refine congrArg Defs.onTc ?_
  funext l x
  match l, x with
  | 0, (t, s) => exact congrFun (congrFun (congrFun (congrFun (congrFun (congrFun (congrFun (congrFun (congrFun (congrFun (congrFun (congrFun (congrFun (congrFun (congrFun (congrFun (congrFun body_same _) _) _) _) _) _) _) _) _) _) _) _) _) _) _) _) _

set_option backward.isDefEq.respectTransparency.types false in
set_option maxHeartbeats 2000000 in
/-- The two tables with their pipelines are the same. -/
theorem defs_same :
    letI := Cert.Kernel.Gen.facts;
    @Cert.Kernel.defs F _ _ = @Cert.KernelIdeal.defs F _ Cert.KernelIdeal.Gen.facts := by
  unfold Cert.Kernel.defs Cert.KernelIdeal.defs
  exact congrArg (Pipeline.defs (@Cert.KernelIdeal.pcfgs F Cert.KernelIdeal.Gen.facts)) defs0_same

set_option backward.isDefEq.respectTransparency.types false in
set_option maxHeartbeats 4000000 in
/-- The host lines up to the sixtieth are the same. -/
theorem part0_same :
    letI := Cert.Kernel.Gen.facts;
    @Cert.Kernel.main_part0 F _ _ = @Cert.KernelIdeal.main_part0 F _ Cert.KernelIdeal.Gen.facts := rfl

set_option backward.isDefEq.respectTransparency.types false in
set_option maxHeartbeats 4000000 in
/-- The host lines from there on, the call among them, are the same. -/
theorem part1_same :
    letI := Cert.Kernel.Gen.facts;
    @Cert.Kernel.main_part1 F _ _ = @Cert.KernelIdeal.main_part1 F _ Cert.KernelIdeal.Gen.facts := rfl

end Cert.AttnBwd

end
-- ==== Proof.Frames.lean ====
/- Hand-written. The frames: the kernel's and its idealization's from the one run, the reference's from its own run. -/
module

public import proofs.«01_k».proof.Defs
public import proofs.«01_k».proof.Proof.Same
public import proofs.«01_k».proof.Proof.Gen.Kernel
public import proofs.«01_k».proof.Proof.Gen.ReferenceIdeal.Run
public import Idealize.ShloMosaic.Lib.Quiescent

@[expose] public section

set_option maxRecDepth 16384

noncomputable section

namespace Cert.AttnBwd

open Idealize.ShloMosaic Idealize.SL.Sem

/-- The side conditions of the precondition. -/
theorem finite_facts : Cert.Pre_finite.Facts where
  bcast_S_S2x16x2048x64 := by decide
  bcast_S_S2x16x2048 := by decide

set_option backward.isDefEq.respectTransparency.types false in
set_option maxHeartbeats 4000000 in
/-- The two programs are the same. -/
theorem main_same {F : FTy → Type} [FloatOps F] :
    letI := Cert.Kernel.Gen.facts;
    @Cert.Kernel.main F _ _ = @Cert.KernelIdeal.main F _ Cert.KernelIdeal.Gen.facts := by
  unfold Cert.Kernel.main Cert.KernelIdeal.main
  funext d
  exact congrArg₂ (fun (a b : Prog _ PUnit) => a >>= fun _ => b) (congrFun part0_same d) (congrFun part1_same d)

set_option backward.isDefEq.respectTransparency.types false in
set_option maxHeartbeats 4000000 in
/-- The kernel on machine words leaves its arguments unchanged and ends with every semaphore at zero. -/
theorem frame_kernel :
    letI := Cert.Kernel.Gen.facts; letI := finite_facts; Cert.quiescent_Kernel := by
  intro m ρ _
  rw [defs_same, main_same]
  exact frame_any (F := Bits) m ρ

/-- The idealized kernel likewise. -/
theorem frame_kernelIdeal :
    letI := Cert.KernelIdeal.Gen.facts; letI := finite_facts; Cert.quiescent_KernelIdeal := fun m ρ _ =>
  frame_any (F := Ideal) m ρ

/-- The reference likewise. -/
theorem frame_referenceIdeal :
    letI := Cert.ReferenceIdeal.Gen.facts; letI := finite_facts; Cert.quiescent_ReferenceIdeal := fun m ρ _ =>
  θ_run_and
    ((θ_run Cert.ReferenceIdeal.defs _ _).mono (fun _ h c => ⟨(h c).2.2.2.2.1, (h c).2.2.2.2.2.1, (h c).2.2.2.2.2.2.1, (h c).2.2.2.2.2.2.2.1, (h c).2.2.2.2.2.2.2.2⟩)
      (Cert.ReferenceIdeal.Value.run (F := Ideal) m ρ))
    ((θ_run Cert.ReferenceIdeal.defs _ _).mono (fun r _ => sem_eq_zero_of_no_sems rfl r.2) (Cert.ReferenceIdeal.Value.run (F := Ideal) m ρ))

end Cert.AttnBwd

end
-- ==== Proof.Payloads.lean ====
/- Hand-written. What the kernel's arithmetic comes to at an index, over the extended reals: the weights of a tile, and
   the three products a head's step adds to the accumulators. -/
module

public import proofs.«01_k».proof.Proof.Body
public import Idealize.ShloMosaic.Lib.Pointwise
public import Idealize.ShloMosaic.Lib.WordCmp

@[expose] public section

set_option maxRecDepth 16384

noncomputable section

namespace Cert.AttnBwd

open Cert.KernelIdeal Cert.KernelIdeal.Gen
open Idealize.ShloMosaic Idealize.ShloMosaic.TcCoe Idealize.ShloMosaic.Tactic

/-- Over the reals a tile's elements are extended reals. -/
abbrev TileI := Tile Ideal

/-- The unmasked weights: the exponential of the products of the queries' rows with the keys'. -/
theorem weights_apply (vk vq : TileI) (y x : Fin 512) :
    k0_pay8 (F := Ideal) vk vq (ix2 y x) = Ideal.exp (∑ l : Fin 128, (vq (ix4 0 0 y l) : EReal) * (vk (ix4 0 0 x l) : EReal)) := by
  pointwise [k0_pay8, k0_pay5, k0_pay6]

/-- The masked weights: zero where the key is after the query. -/
theorem masked_apply (vk vq : TileI) (y x : Fin 512) :
    k0_pay149 (F := Ideal) vk vq (ix2 y x) = if x.val ≤ y.val then Ideal.exp (∑ l : Fin 128, (vq (ix4 0 0 y l) : EReal) * (vk (ix4 0 0 x l) : EReal)) else (0 : EReal) := by
  pointwise [k0_pay149, k0_pay146, k0_pay147]
  rw [WordCmp.cmpi_sge_ofNat (by have := y.isLt; norm_num; omega) (by have := x.isLt; norm_num; omega)]
  unfold Scalar.select
  by_cases h : x.val ≤ y.val <;> simp [h]

/-- The gradient of the weights' logarithms, less what the rows' sums take. -/
theorem ds_apply (vd : TileI) (p : FVec Ideal S512x512 .f32) (vv : TileI) (y x : Fin 512) :
    k0_pay150 (F := Ideal) (k0_pay148 vd) p vv (ix2 y x) = (p (ix2 y x) : EReal) * ∑ l : Fin 128, (vd (ix4 0 0 y l) : EReal) * (vv (ix4 0 0 x l) : EReal) := by
  pointwise [k0_pay150, k0_pay148]

/-- The values' sums: the weights' columns times the outputs' gradients. -/
theorem dv_apply (vd : TileI) (p : FVec Ideal S512x512 .f32) (acc : FVec Ideal S1x512x128 .f32) (x : Fin 512) (d : Fin 128) :
    k0_pay151 (F := Ideal) (k0_pay148 vd) p acc (ix3 0 x d) = (acc (ix3 0 x d) : EReal) + ∑ y : Fin 512, (p (ix2 y x) : EReal) * (vd (ix4 0 0 y d) : EReal) := by
  pointwise [k0_pay151, k0_pay148]

/-- The keys' sums. -/
theorem dk_apply (vq vd : TileI) (p : FVec Ideal S512x512 .f32) (vv : TileI) (acc : FVec Ideal S1x1x512x128 .f32) (x : Fin 512) (d : Fin 128) :
    k0_pay152 (F := Ideal) (k0_pay147 vq) (k0_pay148 vd) p vv acc (ix4 0 0 x d) = (acc (ix4 0 0 x d) : EReal) + ∑ y : Fin 512, ((p (ix2 y x) : EReal) * ∑ l : Fin 128, (vd (ix4 0 0 y l) : EReal) * (vv (ix4 0 0 x l) : EReal)) * (vq (ix4 0 0 y d) : EReal) := by
  pointwise [k0_pay152, k0_pay147]
  simp only [ds_apply]

/-- The queries' sums. -/
theorem dq_apply (vk vd : TileI) (p : FVec Ideal S512x512 .f32) (vv : TileI) (acc : FVec Ideal S1x1x512x128 .f32) (y : Fin 512) (d : Fin 128) :
    k0_pay153 (F := Ideal) (k0_pay146 vk) (k0_pay148 vd) p vv acc (ix4 0 0 y d) = (acc (ix4 0 0 y d) : EReal) + ∑ x : Fin 512, ((p (ix2 y x) : EReal) * ∑ l : Fin 128, (vd (ix4 0 0 y l) : EReal) * (vv (ix4 0 0 x l) : EReal)) * (vk (ix4 0 0 x d) : EReal) := by
  pointwise [k0_pay153, k0_pay146]
  simp only [ds_apply]

end Cert.AttnBwd

end
-- ==== Proof.Steps.lean ====
/- Hand-written. The accumulators after a head's step, a tile and a grid point, at an index, over the extended reals: sums
   over the rows of a block, a query's row weighed against a key's only where the key is not after it. -/
module

public import proofs.«01_k».proof.Proof.Payloads

@[expose] public section

set_option maxRecDepth 16384

noncomputable section

namespace Cert.AttnBwd

open Cert.KernelIdeal Cert.KernelIdeal.Gen
open Idealize.ShloMosaic Idealize.ShloMosaic.TcCoe Idealize.ShloMosaic.Tactic

/-- A window of a block of 2048 rows, at an index. -/
theorem rows_window {α : Type} (x : S1x8x2048x128.Idx → α) (e : Fin 8) (r : ℕ) (hr : r + 512 ≤ 2048) (y : Fin 512) (d : Fin 128) :
    VecWindow.window x ![0, e.val, r, 0] S1x1x512x128.size (rows_inb e r hr) (ix4 0 0 y d) = x (ix4 0 e ⟨r + y.val, by have := y.isLt; omega⟩ d) := by
  unfold VecWindow.window
  congr 1
  funext a
  match a with
  | 0 => rfl
  | 1 => exact Fin.ext (by simp [Rect.unit, Rect.emb, ix4])
  | 2 => exact Fin.ext (by simp [Rect.unit, Rect.emb, ix4])
  | 3 => exact Fin.ext (by simp [Rect.unit, Rect.emb, ix4])

/-- A window of a block of 512 rows, at an index. -/
theorem keys_window {α : Type} (x : S1x8x512x128.Idx → α) (e : Fin 8) (y : Fin 512) (d : Fin 128) :
    VecWindow.window x ![0, e.val, 0, 0] S1x1x512x128.size (keys_inb e) (ix4 0 0 y d) = x (ix4 0 e y d) := by
  unfold VecWindow.window
  congr 1
  funext a
  match a with
  | 0 => rfl
  | 1 => exact Fin.ext (by simp [Rect.unit, Rect.emb, ix4])
  | 2 => exact Fin.ext (by simp [Rect.unit, Rect.emb, ix4])
  | 3 => exact Fin.ext (by simp [Rect.unit, Rect.emb, ix4])

/-- A window of the scratch, at an index. -/
theorem acc_window {α : Type} (x : S8x512x128.Idx → α) (e : Fin 8) (y : Fin 512) (d : Fin 128) :
    VecWindow.window x ![e.val, 0, 0] S1x512x128.size (acc_inb e) (ix3 0 y d) = x (ix3 e y d) := by
  unfold VecWindow.window
  congr 1
  funext a
  match a with
  | 0 => exact Fin.ext (by simp [Rect.unit, Rect.emb, ix3])
  | 1 => exact Fin.ext (by simp [Rect.unit, Rect.emb, ix3])
  | 2 => exact Fin.ext (by simp [Rect.unit, Rect.emb, ix3])

/-- A block of 2048 rows with a head's 512 rows replaced, at an index. -/
theorem rows_put {α : Type} (x : S1x8x2048x128.Idx → α) (w : S1x1x512x128.Idx → α) (e : Fin 8) (r : ℕ) (hr : r + 512 ≤ 2048) (e' : Fin 8) (Y : Fin 2048) (d : Fin 128) :
    VecWindow.put x ![0, e.val, r, 0] S1x1x512x128.size w (ix4 0 e' Y d)
      = if h : e' = e ∧ r ≤ Y.val ∧ Y.val < r + 512 then w (ix4 0 0 ⟨Y.val - r, by omega⟩ d) else x (ix4 0 e' Y d) := by
  unfold VecWindow.put
  by_cases h : e' = e ∧ r ≤ Y.val ∧ Y.val < r + 512
  · obtain ⟨rfl, h1, h2⟩ := h
    have hin : ∀ a, (![0, e'.val, r, 0] : Fin 4 → ℕ) a ≤ (ix4 0 e' Y d : S1x8x2048x128.Idx) a ∧ ((ix4 0 e' Y d : S1x8x2048x128.Idx) a).val < (![0, e'.val, r, 0] : Fin 4 → ℕ) a + S1x1x512x128.size a := by
      intro a
      match a with
      | 0 => exact ⟨Nat.le_refl 0, Nat.zero_lt_one⟩
      | 1 => exact ⟨Nat.le_refl _, Nat.lt_succ_self _⟩
      | 2 => exact ⟨h1, h2⟩
      | 3 => exact ⟨Nat.zero_le _, by have := d.isLt; show d.val < 0 + 128; omega⟩
    rw [dif_pos hin, dif_pos (show e' = e' ∧ r ≤ Y.val ∧ Y.val < r + 512 from ⟨rfl, h1, h2⟩)]
    · congr 1
      funext a
      match a with
      | 0 => rfl
      | 1 => exact Fin.ext (by simp [Rect.unitLocal, ix4])
      | 2 => exact Fin.ext (by simp [Rect.unitLocal, ix4])
      | 3 => exact Fin.ext (by simp [Rect.unitLocal, ix4])
  · rw [dif_neg (c := e' = e ∧ r ≤ Y.val ∧ Y.val < r + 512) h, dif_neg ?_]
    intro hn
    have h1 := hn 1
    have h2 := hn 2
    have h1' : e.val ≤ e'.val ∧ e'.val < e.val + 1 := h1
    have h2' : r ≤ Y.val ∧ Y.val < r + 512 := h2
    exact h ⟨Fin.ext (by omega), h2'⟩

/-- A block of 512 rows with a head's rows replaced, at an index. -/
theorem keys_put {α : Type} (x : S1x8x512x128.Idx → α) (w : S1x1x512x128.Idx → α) (e : Fin 8) (e' : Fin 8) (y : Fin 512) (d : Fin 128) :
    VecWindow.put x ![0, e.val, 0, 0] S1x1x512x128.size w (ix4 0 e' y d)
      = if e' = e then w (ix4 0 0 y d) else x (ix4 0 e' y d) := by
  unfold VecWindow.put
  by_cases h : e' = e
  · subst h
    rw [if_pos rfl, dif_pos ?_]
    · congr 1
      funext a
      match a with
      | 0 => rfl
      | 1 => exact Fin.ext (by simp [Rect.unitLocal, ix4])
      | 2 => exact Fin.ext (by simp [Rect.unitLocal, ix4])
      | 3 => exact Fin.ext (by simp [Rect.unitLocal, ix4])
    · intro a
      match a with
      | 0 => exact ⟨Nat.le_refl 0, Nat.zero_lt_one⟩
      | 1 => exact ⟨Nat.le_refl _, Nat.lt_succ_self _⟩
      | 2 => exact ⟨Nat.zero_le _, by have := y.isLt; show y.val < 0 + 512; omega⟩
      | 3 => exact ⟨Nat.zero_le _, by have := d.isLt; show d.val < 0 + 128; omega⟩
  · rw [if_neg h, dif_neg ?_]
    intro hn
    have h1' : e.val ≤ e'.val ∧ e'.val < e.val + 1 := hn 1
    exact h (Fin.ext (by omega))

/-- The scratch with a head's rows replaced, at an index. -/
theorem acc_put {α : Type} (x : S8x512x128.Idx → α) (w : S1x512x128.Idx → α) (e : Fin 8) (e' : Fin 8) (y : Fin 512) (d : Fin 128) :
    VecWindow.put x ![e.val, 0, 0] S1x512x128.size w (ix3 e' y d)
      = if e' = e then w (ix3 0 y d) else x (ix3 e' y d) := by
  unfold VecWindow.put
  by_cases h : e' = e
  · subst h
    rw [if_pos rfl, dif_pos ?_]
    · congr 1
      funext a
      match a with
      | 0 => exact Fin.ext (by simp [Rect.unitLocal, ix3])
      | 1 => exact Fin.ext (by simp [Rect.unitLocal, ix3])
      | 2 => exact Fin.ext (by simp [Rect.unitLocal, ix3])
    · intro a
      match a with
      | 0 => exact ⟨Nat.le_refl _, Nat.lt_succ_self _⟩
      | 1 => exact ⟨Nat.zero_le _, by have := y.isLt; show y.val < 0 + 512; omega⟩
      | 2 => exact ⟨Nat.zero_le _, by have := d.isLt; show d.val < 0 + 128; omega⟩
  · rw [if_neg h, dif_neg ?_]
    intro hn
    have h1' : e.val ≤ e'.val ∧ e'.val < e.val + 1 := hn 0
    exact h (Fin.ext (by omega))

variable (x0 : Vec Ideal S1x8x2048x128 .bf16) (x1 x2 : Vec Ideal S1x8x512x128 .bf16) (x3 : Vec Ideal S1x8x2048x128 .bf16)

/-- The weight of a query's row against a key's: the block of keys is number `j`. -/
def wt (j : ℕ) (e : Fin 8) (Y : Fin 2048) (x : Fin 512) : EReal :=
  if 512 * j + x.val ≤ Y.val then Ideal.exp (∑ l : Fin 128, (x0 (ix4 0 e Y l) : EReal) * (x1 (ix4 0 e x l) : EReal)) else 0

/-- The gradient of the weight's logarithm. -/
def gr (j : ℕ) (e : Fin 8) (Y : Fin 2048) (x : Fin 512) : EReal :=
  wt x0 x1 j e Y x * ∑ l : Fin 128, (x3 (ix4 0 e Y l) : EReal) * (x2 (ix4 0 e x l) : EReal)

/-- What a tile's rows put into the keys' sums. -/
def dkOf (j : ℕ) (e : Fin 8) (x : Fin 512) (d : Fin 128) (N : ℕ) : EReal :=
  if h : N < 2048 then gr x0 x1 x2 x3 j e ⟨N, h⟩ x * (x0 (ix4 0 e ⟨N, h⟩ d) : EReal) else 0

/-- What a tile's rows put into the values' sums. -/
def dvOf (j : ℕ) (e : Fin 8) (x : Fin 512) (d : Fin 128) (N : ℕ) : EReal :=
  if h : N < 2048 then wt x0 x1 j e ⟨N, h⟩ x * (x3 (ix4 0 e ⟨N, h⟩ d) : EReal) else 0

/-- What a block of keys puts into the queries' sums. -/
def dqOf (j : ℕ) (e : Fin 8) (Y : Fin 2048) (d : Fin 128) : EReal :=
  ∑ x : Fin 512, gr x0 x1 x2 x3 j e Y x * (x1 (ix4 0 e x d) : EReal)

/-- The weights `pf` gives at the rows from `r` on are those of the block of keys number `j`. -/
def Weighs (pf : TileI → TileI → FVec Ideal S512x512 .f32) (j r : ℕ) (hr : r + 512 ≤ 2048) : Prop :=
  ∀ (e : Fin 8) (y x : Fin 512), pf (VecWindow.window x1 ![0, e.val, 0, 0] _ (keys_inb e)) (VecWindow.window x0 ![0, e.val, r, 0] _ (rows_inb e r hr)) (ix2 y x)
    = wt x0 x1 j e ⟨r + y.val, by have := y.isLt; omega⟩ x

theorem weighs_diag (j : ℕ) (r : ℕ) (hr : r + 512 ≤ 2048) (hj : r = 512 * j) : Weighs x0 x1 k0_pay149 j r hr := by
  intro e y x
  rw [masked_apply]
  unfold wt
  have hs : ∑ l : Fin 128, (VecWindow.window x0 ![0, e.val, r, 0] _ (rows_inb e r hr) (ix4 0 0 y l) : EReal) * (VecWindow.window x1 ![0, e.val, 0, 0] _ (keys_inb e) (ix4 0 0 x l) : EReal)
      = ∑ l : Fin 128, (x0 (ix4 0 e ⟨r + y.val, by have := y.isLt; omega⟩ l) : EReal) * (x1 (ix4 0 e x l) : EReal) :=
    Finset.sum_congr rfl fun l _ => congrArg₂ (· * ·) (rows_window x0 e r hr y l) (keys_window x1 e x l)
  rw [hs]
  subst hj
  by_cases h : x.val ≤ y.val
  · rw [if_pos h, if_pos (by show 512 * j + x.val ≤ 512 * j + y.val; omega)]
  · rw [if_neg h, if_neg (by show ¬ 512 * j + x.val ≤ 512 * j + y.val; omega)]

theorem weighs_below (j : ℕ) (r : ℕ) (hr : r + 512 ≤ 2048) (hj : 512 * j + 512 ≤ r) : Weighs x0 x1 k0_pay8 j r hr := by
  intro e y x
  rw [weights_apply]
  unfold wt
  have hs : ∑ l : Fin 128, (VecWindow.window x0 ![0, e.val, r, 0] _ (rows_inb e r hr) (ix4 0 0 y l) : EReal) * (VecWindow.window x1 ![0, e.val, 0, 0] _ (keys_inb e) (ix4 0 0 x l) : EReal)
      = ∑ l : Fin 128, (x0 (ix4 0 e ⟨r + y.val, by have := y.isLt; omega⟩ l) : EReal) * (x1 (ix4 0 e x l) : EReal) :=
    Finset.sum_congr rfl fun l _ => congrArg₂ (· * ·) (rows_window x0 e r hr y l) (keys_window x1 e x l)
  rw [hs]
  rw [if_pos (by have := x.isLt; show 512 * j + x.val ≤ r + y.val; omega)]

section step
variable (pf : TileI → TileI → FVec Ideal S512x512 .f32) (j r : ℕ) (hr : r + 512 ≤ 2048) (H : Weighs x0 x1 pf j r hr)
include H

/-- A head's step adds to its own rows of the queries' sums. -/
theorem step_dq (e : Fin 8) (s : Acc Ideal) (e' : Fin 8) (Y : Fin 2048) (d : Fin 128) :
    (stepAt pf x0 x1 x2 x3 r hr e s).dq (ix4 0 e' Y d)
      = (s.dq (ix4 0 e' Y d) : EReal) + if e' = e ∧ r ≤ Y.val ∧ Y.val < r + 512 then dqOf x0 x1 x2 x3 j e' Y d else 0 := by
  unfold stepAt
  simp only
  rw [rows_put _ _ e r hr]
  by_cases h : e' = e ∧ r ≤ Y.val ∧ Y.val < r + 512
  · rw [dif_pos h, if_pos h, dq_apply]
    obtain ⟨rfl, h1, h2⟩ := h
    have hY : (⟨r + (Y.val - r), by omega⟩ : Fin 2048) = Y := Fin.ext (by simp only; omega)
    have hw : ∀ (x : Vec Ideal S1x8x2048x128 .bf16) (l : Fin 128), VecWindow.window x ![0, e'.val, r, 0] S1x1x512x128.size (rows_inb e' r hr) (ix4 0 0 ⟨Y.val - r, by omega⟩ l) = x (ix4 0 e' Y l) :=
      fun x l => (rows_window x e' r hr _ l).trans (by rw [hY])
    refine congrArg₂ (· + ·) ((rows_window s.dq e' r hr _ d).trans (by rw [hY])) ?_
    unfold dqOf gr
    refine Finset.sum_congr rfl fun x _ => congrArg₂ (· * ·) (congrArg₂ (· * ·) ((H e' _ x).trans (by rw [hY])) ?_) (keys_window x1 e' x d)
    exact Finset.sum_congr rfl fun l _ => congrArg₂ (· * ·) (hw x3 l) (keys_window x2 e' x l)
  · rw [dif_neg h, if_neg h, add_zero]

/-- A head's step adds to its own rows of the keys' sums. -/
theorem step_dk (e : Fin 8) (s : Acc Ideal) (e' : Fin 8) (x : Fin 512) (d : Fin 128) :
    (stepAt pf x0 x1 x2 x3 r hr e s).dk (ix4 0 e' x d)
      = (s.dk (ix4 0 e' x d) : EReal) + if e' = e then ∑ N ∈ Finset.range 512, dkOf x0 x1 x2 x3 j e' x d (r + N) else 0 := by
  unfold stepAt
  simp only
  rw [keys_put]
  by_cases h : e' = e
  · rw [if_pos h, if_pos h, dk_apply]
    subst h
    rw [Finset.sum_range (fun N => dkOf x0 x1 x2 x3 j e' x d (r + N))]
    refine congrArg₂ (· + ·) (keys_window s.dk e' x d) (Finset.sum_congr rfl fun y _ => ?_)
    unfold dkOf gr
    rw [dif_pos (show r + y.val < 2048 by have := y.isLt; omega)]
    refine congrArg₂ (· * ·) (congrArg₂ (· * ·) (H e' y x) ?_) (rows_window x0 e' r hr y d)
    exact Finset.sum_congr rfl fun l _ => congrArg₂ (· * ·) (rows_window x3 e' r hr y l) (keys_window x2 e' x l)
  · rw [if_neg h, if_neg h, add_zero]

/-- A head's step adds to its own rows of the values' sums. -/
theorem step_dv (e : Fin 8) (s : Acc Ideal) (e' : Fin 8) (x : Fin 512) (d : Fin 128) :
    (stepAt pf x0 x1 x2 x3 r hr e s).dv (ix3 e' x d)
      = (s.dv (ix3 e' x d) : EReal) + if e' = e then ∑ N ∈ Finset.range 512, dvOf x0 x1 x3 j e' x d (r + N) else 0 := by
  unfold stepAt
  simp only
  rw [acc_put]
  by_cases h : e' = e
  · rw [if_pos h, if_pos h, dv_apply]
    subst h
    rw [Finset.sum_range (fun N => dvOf x0 x1 x3 j e' x d (r + N))]
    refine congrArg₂ (· + ·) (acc_window s.dv e' x d) (Finset.sum_congr rfl fun y _ => ?_)
    unfold dvOf
    rw [dif_pos (show r + y.val < 2048 by have := y.isLt; omega)]
    exact congrArg₂ (· * ·) (H e' y x) (rows_window x3 e' r hr y d)
  · rw [if_neg h, if_neg h, add_zero]

/-- A tile adds to its rows of the queries' sums, of every head. -/
theorem tile_dq (s : Acc Ideal) (e : Fin 8) (Y : Fin 2048) (d : Fin 128) :
    (tileAt pf x0 x1 x2 x3 r hr s).dq (ix4 0 e Y d)
      = (s.dq (ix4 0 e Y d) : EReal) + if r ≤ Y.val ∧ Y.val < r + 512 then dqOf x0 x1 x2 x3 j e Y d else 0 := by
  unfold tileAt
  simp only [step_dq x0 x1 x2 x3 pf j r hr H]
  fin_cases e <;> simp

/-- A tile adds to the keys' sums, of every head. -/
theorem tile_dk (s : Acc Ideal) (e : Fin 8) (x : Fin 512) (d : Fin 128) :
    (tileAt pf x0 x1 x2 x3 r hr s).dk (ix4 0 e x d)
      = (s.dk (ix4 0 e x d) : EReal) + ∑ N ∈ Finset.range 512, dkOf x0 x1 x2 x3 j e x d (r + N) := by
  unfold tileAt
  simp only [step_dk x0 x1 x2 x3 pf j r hr H]
  fin_cases e <;> simp

/-- A tile adds to the values' sums, of every head. -/
theorem tile_dv (s : Acc Ideal) (e : Fin 8) (x : Fin 512) (d : Fin 128) :
    (tileAt pf x0 x1 x2 x3 r hr s).dv (ix3 e x d)
      = (s.dv (ix3 e x d) : EReal) + ∑ N ∈ Finset.range 512, dvOf x0 x1 x3 j e x d (r + N) := by
  unfold tileAt
  simp only [step_dv x0 x1 x2 x3 pf j r hr H]
  fin_cases e <;> simp

end step

end Cert.AttnBwd

end
-- ==== Proof.Points.lean ====
/- Hand-written. The accumulators a grid point leaves, at an index, over the extended reals: sums over all 2048 rows, the
   rows before the point's block of keys weighing nothing. -/
module

public import proofs.«01_k».proof.Proof.Steps
public import proofs.«01_k».proof.Proof.Run

@[expose] public section

set_option maxRecDepth 16384

noncomputable section

namespace Cert.AttnBwd

open Cert.KernelIdeal Cert.KernelIdeal.Gen
open Idealize.ShloMosaic Idealize.ShloMosaic.TcCoe Idealize.ShloMosaic.Tactic

/-- The loop makes as many trips as there are tiles below the diagonal one. -/
theorem trips_eq (i : grid0.Coords) : (k0_t1_loop i).trips = 3 - (i 2).val := by
  have h : ∀ v : Fin 4, Scf.trips (Scalar.addi (BitVec.ofNat 32 v.val) 1#32) (Scalar.addi (Scalar.addi (BitVec.ofNat 32 v.val) 1#32) (Scalar.muli (Scalar.divsi (Scalar.subi 4#32 (Scalar.addi (BitVec.ofNat 32 v.val) 1#32)) 1#32) 1#32)) 1#32 = 3 - v.val := by decide
  exact h (i 2)

/-- The diagonal tile's first row. -/
theorem row_diag_eq (i : grid0.Coords) : row (diag i) = 512 * (i 2).val := by
  have h : ∀ v : Fin 4, row (BitVec.ofNat 32 v.val) = 512 * v.val := by decide
  exact h (i 2)

/-- The first row of the loop's tile at a trip. -/
theorem row_below_eq (i : grid0.Coords) (k : Fin (k0_t1_loop i).trips) : row (below i k) = 512 * ((i 2).val + 1 + k.val) := by
  have h : ∀ v k : Fin 4, row (Scf.iv (Scalar.addi (BitVec.ofNat 32 v.val) 1#32) 1#32 k.val) = 512 * (v.val + 1 + k.val) := by decide
  have hk := Nat.lt_of_lt_of_eq k.isLt (trips_eq i)
  exact h (i 2) ⟨k.val, by omega⟩

variable (x0 : Vec Ideal S1x8x2048x128 .bf16) (x1 x2 : Vec Ideal S1x8x512x128 .bf16) (x3 : Vec Ideal S1x8x2048x128 .bf16)

/-- The weight of a query's row before the block of keys is zero. -/
theorem wt_before (j : ℕ) (e : Fin 8) (Y : Fin 2048) (x : Fin 512) (h : Y.val < 512 * j) : wt x0 x1 j e Y x = 0 := by
  unfold wt
  rw [if_neg (by omega)]

theorem gr_before (j : ℕ) (e : Fin 8) (Y : Fin 2048) (x : Fin 512) (h : Y.val < 512 * j) : gr x0 x1 x2 x3 j e Y x = 0 := by
  unfold gr
  rw [wt_before x0 x1 j e Y x h, zero_mul]

theorem dqOf_before (j : ℕ) (e : Fin 8) (Y : Fin 2048) (d : Fin 128) (h : Y.val < 512 * j) : dqOf x0 x1 x2 x3 j e Y d = 0 := by
  unfold dqOf
  exact Finset.sum_eq_zero fun x _ => by rw [gr_before x0 x1 x2 x3 j e Y x h, zero_mul]

theorem dkOf_before (j : ℕ) (e : Fin 8) (x : Fin 512) (d : Fin 128) (N : ℕ) (h : N < 512 * j) : dkOf x0 x1 x2 x3 j e x d N = 0 := by
  unfold dkOf
  split
  · rw [gr_before x0 x1 x2 x3 j e _ x h, zero_mul]
  · rfl

theorem dvOf_before (j : ℕ) (e : Fin 8) (x : Fin 512) (d : Fin 128) (N : ℕ) (h : N < 512 * j) : dvOf x0 x1 x3 j e x d N = 0 := by
  unfold dvOf
  split
  · rw [wt_before x0 x1 j e _ x h, zero_mul]
  · rfl

/-- The loop's tiles add to their rows of the queries' sums. -/
theorem loop_dq (i : grid0.Coords) (s : Acc Ideal) (e : Fin 8) (Y : Fin 2048) (d : Fin 128) : ∀ n, n ≤ (k0_t1_loop i).trips →
    ((loopAt i x0 x1 x2 x3 s n).dq (ix4 0 e Y d) : EReal)
      = (s.dq (ix4 0 e Y d) : EReal) + if 512 * ((i 2).val + 1) ≤ Y.val ∧ Y.val < 512 * ((i 2).val + 1 + n) then dqOf x0 x1 x2 x3 (i 2).val e Y d else 0 := by
  intro n
  induction n with
  | zero => intro _; rw [if_neg (by omega), add_zero]; rfl
  | succ n ih =>
    intro hn
    have hlt : n < (k0_t1_loop i).trips := hn
    show (dite (n < (k0_t1_loop i).trips) _ _ : Acc Ideal).dq _ = _
    rw [dif_pos hlt, tile_dq x0 x1 x2 x3 k0_pay8 (i 2).val _ _ (weighs_below x0 x1 _ _ _ (by rw [row_below_eq]; simp only; omega)), ih (Nat.le_of_lt hlt),
      row_below_eq, add_assoc]
    refine congrArg _ ?_
    simp only
    by_cases h1 : 512 * ((i 2).val + 1) ≤ Y.val ∧ Y.val < 512 * ((i 2).val + 1 + n)
    · rw [if_pos h1, if_neg (by omega), if_pos (by omega), add_zero]
    · rw [if_neg h1, zero_add]
      by_cases h2 : 512 * ((i 2).val + 1 + n) ≤ Y.val ∧ Y.val < 512 * ((i 2).val + 1 + n) + 512
      · rw [if_pos h2, if_pos (by omega)]
      · rw [if_neg h2, if_neg (by omega)]

/-- The loop's tiles add to the keys' sums. -/
theorem loop_dk (i : grid0.Coords) (s : Acc Ideal) (e : Fin 8) (x : Fin 512) (d : Fin 128) : ∀ n, n ≤ (k0_t1_loop i).trips →
    ((loopAt i x0 x1 x2 x3 s n).dk (ix4 0 e x d) : EReal)
      = (s.dk (ix4 0 e x d) : EReal) + ∑ N ∈ Finset.range (512 * n), dkOf x0 x1 x2 x3 (i 2).val e x d (512 * ((i 2).val + 1) + N) := by
  intro n
  induction n with
  | zero => intro _; simp; rfl
  | succ n ih =>
    intro hn
    have hlt : n < (k0_t1_loop i).trips := hn
    show (dite (n < (k0_t1_loop i).trips) _ _ : Acc Ideal).dk _ = _
    rw [dif_pos hlt, tile_dk x0 x1 x2 x3 k0_pay8 (i 2).val _ _ (weighs_below x0 x1 _ _ _ (by rw [row_below_eq]; simp only; omega)), ih (Nat.le_of_lt hlt),
      row_below_eq, add_assoc, show 512 * (n + 1) = 512 * n + 512 from rfl, Finset.sum_range_add]
    refine congrArg _ (congrArg _ (Finset.sum_congr rfl fun N _ => congrArg _ ?_))
    simp only
    omega

/-- The loop's tiles add to the values' sums. -/
theorem loop_dv (i : grid0.Coords) (s : Acc Ideal) (e : Fin 8) (x : Fin 512) (d : Fin 128) : ∀ n, n ≤ (k0_t1_loop i).trips →
    ((loopAt i x0 x1 x2 x3 s n).dv (ix3 e x d) : EReal)
      = (s.dv (ix3 e x d) : EReal) + ∑ N ∈ Finset.range (512 * n), dvOf x0 x1 x3 (i 2).val e x d (512 * ((i 2).val + 1) + N) := by
  intro n
  induction n with
  | zero => intro _; simp; rfl
  | succ n ih =>
    intro hn
    have hlt : n < (k0_t1_loop i).trips := hn
    show (dite (n < (k0_t1_loop i).trips) _ _ : Acc Ideal).dv _ = _
    rw [dif_pos hlt, tile_dv x0 x1 x2 x3 k0_pay8 (i 2).val _ _ (weighs_below x0 x1 _ _ _ (by rw [row_below_eq]; simp only; omega)), ih (Nat.le_of_lt hlt),
      row_below_eq, add_assoc, show 512 * (n + 1) = 512 * n + 512 from rfl, Finset.sum_range_add]
    refine congrArg _ (congrArg _ (Finset.sum_congr rfl fun N _ => congrArg _ ?_))
    simp only
    omega

/-- The rows before a block of keys, its own and those below it are all 2048 rows. -/
theorem all_rows (f : ℕ → EReal) (j : ℕ) (hj : j < 4) (h0 : ∀ N, N < 512 * j → f N = 0) :
    ∑ N ∈ Finset.range 512, f (512 * j + N) + ∑ N ∈ Finset.range (512 * (3 - j)), f (512 * (j + 1) + N) = ∑ N ∈ Finset.range 2048, f N := by
  have hs : 2048 = 512 * j + (512 + 512 * (3 - j)) := by omega
  rw [hs, Finset.sum_range_add, Finset.sum_range_add, Finset.sum_eq_zero fun N hN => h0 N (Finset.mem_range.mp hN), zero_add]
  refine congrArg _ (Finset.sum_congr rfl fun N _ => congrArg _ ?_)
  omega

/-- The queries' sums a grid point leaves: those it goes on from, and the block of keys' part. -/
theorem point_dq (i : grid0.Coords) (dq : Vec Ideal S1x8x2048x128 .f32) (e : Fin 8) (Y : Fin 2048) (d : Fin 128) :
    ((pointAt i x0 x1 x2 x3 dq).dq (ix4 0 e Y d) : EReal)
      = (if isFirst i then (0 : EReal) else dq (ix4 0 e Y d)) + dqOf x0 x1 x2 x3 (i 2).val e Y d := by
  unfold pointAt
  rw [loop_dq _ _ _ _ _ _ _ _ _ _ le_rfl, tile_dq x0 x1 x2 x3 k0_pay149 (i 2).val _ _ (weighs_diag x0 x1 _ _ _ (row_diag_eq i)), row_diag_eq, trips_eq, add_assoc]
  have hi : (i 2).val < 4 := (i 2).isLt
  refine congrArg₂ (· + ·) ?_ ?_
  · unfold filled
    simp only
    split
    · pointwise [k0_pay143]
    · rfl
  · by_cases h : Y.val < 512 * (i 2).val
    · rw [if_neg (by omega), if_neg (by omega), dqOf_before _ _ _ _ _ _ _ _ h, add_zero]
    · by_cases h2 : Y.val < 512 * (i 2).val + 512
      · rw [if_pos (by omega), if_neg (by omega), add_zero]
      · have := Y.isLt
        rw [if_neg (by omega), if_pos (by omega), zero_add]

/-- The keys' sums a grid point leaves. -/
theorem point_dk (i : grid0.Coords) (dq : Vec Ideal S1x8x2048x128 .f32) (e : Fin 8) (x : Fin 512) (d : Fin 128) :
    ((pointAt i x0 x1 x2 x3 dq).dk (ix4 0 e x d) : EReal)
      = ∑ Y : Fin 2048, gr x0 x1 x2 x3 (i 2).val e Y x * (x0 (ix4 0 e Y d) : EReal) := by
  unfold pointAt
  rw [loop_dk _ _ _ _ _ _ _ _ _ _ le_rfl, tile_dk x0 x1 x2 x3 k0_pay149 (i 2).val _ _ (weighs_diag x0 x1 _ _ _ (row_diag_eq i)), row_diag_eq, trips_eq, add_assoc,
    all_rows _ _ (i 2).isLt fun N => dkOf_before x0 x1 x2 x3 _ e x d N, Finset.sum_range]
  have hz : ((filled i dq).dk (ix4 0 e x d) : EReal) = 0 := by
    unfold filled
    pointwise [k0_pay144]
  rw [hz, zero_add]
  refine Finset.sum_congr rfl fun Y _ => ?_
  unfold dkOf
  rw [dif_pos Y.isLt]

/-- The values' sums a grid point leaves. -/
theorem point_dv (i : grid0.Coords) (dq : Vec Ideal S1x8x2048x128 .f32) (e : Fin 8) (x : Fin 512) (d : Fin 128) :
    ((pointAt i x0 x1 x2 x3 dq).dv (ix3 e x d) : EReal)
      = ∑ Y : Fin 2048, wt x0 x1 (i 2).val e Y x * (x3 (ix4 0 e Y d) : EReal) := by
  unfold pointAt
  rw [loop_dv _ _ _ _ _ _ _ _ _ _ le_rfl, tile_dv x0 x1 x2 x3 k0_pay149 (i 2).val _ _ (weighs_diag x0 x1 _ _ _ (row_diag_eq i)), row_diag_eq, trips_eq, add_assoc,
    all_rows _ _ (i 2).isLt fun N => dvOf_before x0 x1 x3 _ e x d N, Finset.sum_range]
  have hz : ((filled i dq).dv (ix3 e x d) : EReal) = 0 := by
    unfold filled
    pointwise [k0_pay145]
  rw [hz, zero_add]
  refine Finset.sum_congr rfl fun Y _ => ?_
  unfold dvOf
  rw [dif_pos Y.isLt]

end Cert.AttnBwd

end
-- ==== Proof.Blocks.lean ====
/- Hand-written. The blocks of the call's four operands at a grid point, as the whole arrays at an index. -/
module

public import proofs.«01_k».proof.Proof.Points
public import Idealize.ShloMosaic.Lib.Pipeline.ValueKit

@[expose] public section

set_option maxRecDepth 16384

noncomputable section

namespace Cert.AttnBwd

open Cert.KernelIdeal Cert.KernelIdeal.Gen
open Idealize.ShloMosaic Idealize.ShloMosaic.TcCoe Idealize.ShloMosaic.Tactic Idealize.ShloMosaic.Pipeline
open Idealize.SL.Sem

section arrays
variable (A0 A1 A2 A3 : S2x16x2048x128.Idx → EReal)

/-- The weight of a query's row against a key's, zero where the key is after the query. -/
def wtA (b : Fin 2) (h : Fin 16) (Y X : Fin 2048) : EReal :=
  if X.val ≤ Y.val then Ideal.exp (∑ l : Fin 128, A0 (ix4 b h Y l) * A1 (ix4 b h X l)) else 0

/-- The gradient of the weight's logarithm. -/
def grA (b : Fin 2) (h : Fin 16) (Y X : Fin 2048) : EReal :=
  wtA A0 A1 b h Y X * ∑ l : Fin 128, A3 (ix4 b h Y l) * A2 (ix4 b h X l)

/-- The queries' gradient, over the padded lanes. -/
def dqA (b : Fin 2) (h : Fin 16) (Y : Fin 2048) (d : Fin 128) : EReal := ∑ X : Fin 2048, grA A0 A1 A2 A3 b h Y X * A1 (ix4 b h X d)

/-- The keys' gradient, over the padded lanes. -/
def dkA (b : Fin 2) (h : Fin 16) (X : Fin 2048) (d : Fin 128) : EReal := ∑ Y : Fin 2048, grA A0 A1 A2 A3 b h Y X * A0 (ix4 b h Y d)

/-- The values' gradient, over the padded lanes. -/
def dvA (b : Fin 2) (h : Fin 16) (X : Fin 2048) (d : Fin 128) : EReal := ∑ Y : Fin 2048, wtA A0 A1 b h Y X * A3 (ix4 b h Y d)

end arrays

/-- The batch of a grid point. -/
def bOf (n : ℕ) (hn : n < 16) : Fin 2 := ⟨n / 8, by omega⟩
/-- The head of a grid point's eight. -/
def hOf (n : ℕ) (e : Fin 8) : Fin 16 := ⟨8 * (n / 4 % 2) + e.val, by have := e.isLt; omega⟩
/-- The key of a grid point's 512. -/
def xOf (n : ℕ) (x : Fin 512) : Fin 2048 := ⟨512 * (n % 4) + x.val, by have := x.isLt; omega⟩

theorem lt16 (t : Fin cfg0.N) : t.val < 16 := t.isLt.trans_eq N_0

theorem coord2 (t : Fin cfg0.N) : (grid0.coords t 2).val = t.val % 4 :=
  (by decide +kernel : ∀ t : Fin grid0.N, (grid0.coords t 2).val = t.val % 4) t

theorem index_0 (t : Fin cfg0.N) : win0_0.index t = ![t.val / 8, t.val / 4 % 2, 0, 0] :=
  (by decide +kernel : ∀ t : Fin grid0.N, win0_0.index t = ![t.val / 8, t.val / 4 % 2, 0, 0]) t
theorem index_1 (t : Fin cfg0.N) : win0_1.index t = ![t.val / 8, t.val / 4 % 2, t.val % 4, 0] :=
  (by decide +kernel : ∀ t : Fin grid0.N, win0_1.index t = ![t.val / 8, t.val / 4 % 2, t.val % 4, 0]) t
theorem index_2 (t : Fin cfg0.N) : win0_2.index t = ![t.val / 8, t.val / 4 % 2, t.val % 4, 0] :=
  (by decide +kernel : ∀ t : Fin grid0.N, win0_2.index t = ![t.val / 8, t.val / 4 % 2, t.val % 4, 0]) t
theorem index_3 (t : Fin cfg0.N) : win0_3.index t = ![t.val / 8, t.val / 4 % 2, 0, 0] :=
  (by decide +kernel : ∀ t : Fin grid0.N, win0_3.index t = ![t.val / 8, t.val / 4 % 2, 0, 0]) t
theorem index_4 (t : Fin cfg0.N) : win0_4.index t = ![t.val / 8, t.val / 4 % 2, 0, 0] :=
  (by decide +kernel : ∀ t : Fin grid0.N, win0_4.index t = ![t.val / 8, t.val / 4 % 2, 0, 0]) t
theorem index_5 (t : Fin cfg0.N) : win0_5.index t = ![t.val / 8, t.val / 4 % 2, t.val % 4, 0] :=
  (by decide +kernel : ∀ t : Fin grid0.N, win0_5.index t = ![t.val / 8, t.val / 4 % 2, t.val % 4, 0]) t
theorem index_6 (t : Fin cfg0.N) : win0_6.index t = ![t.val / 8, t.val / 4 % 2, t.val % 4, 0] :=
  (by decide +kernel : ∀ t : Fin grid0.N, win0_6.index t = ![t.val / 8, t.val / 4 % 2, t.val % 4, 0]) t

variable (m : (ℓ : Loc nD τ sig) → Buf (Elt Ideal) ℓ) (c : Dev nD)

/-- The call's four operands as the call finds them. -/
abbrev opQ : S2x16x2048x128.Idx → EReal := V m c main_v55
abbrev opK : S2x16x2048x128.Idx → EReal := V m c main_v69
abbrev opV : S2x16x2048x128.Idx → EReal := V m c main_v73
abbrev opD : S2x16x2048x128.Idx → EReal := V m c main_v86

theorem blk_0 (t : Fin cfg0.N) (e : Fin 8) (Y : Fin 2048) (l : Fin 128) :
    (iblk m c 0 t (ix4 0 e Y l) : EReal) = opQ m c (ix4 (bOf t.val (lt16 t)) (hOf t.val e) Y l) := by
  blk_simp [iblk, index_0]
  refine congrArg (opQ m c) ?_
  blk_ext [index_0, bOf, hOf]

theorem blk_1 (t : Fin cfg0.N) (e : Fin 8) (x : Fin 512) (l : Fin 128) :
    (iblk m c 1 t (ix4 0 e x l) : EReal) = opK m c (ix4 (bOf t.val (lt16 t)) (hOf t.val e) (xOf t.val x) l) := by
  blk_simp [iblk, index_1]
  refine congrArg (opK m c) ?_
  blk_ext [index_1, bOf, hOf, xOf]

theorem blk_2 (t : Fin cfg0.N) (e : Fin 8) (x : Fin 512) (l : Fin 128) :
    (iblk m c 2 t (ix4 0 e x l) : EReal) = opV m c (ix4 (bOf t.val (lt16 t)) (hOf t.val e) (xOf t.val x) l) := by
  blk_simp [iblk, index_2]
  refine congrArg (opV m c) ?_
  blk_ext [index_2, bOf, hOf, xOf]

theorem blk_3 (t : Fin cfg0.N) (e : Fin 8) (Y : Fin 2048) (l : Fin 128) :
    (iblk m c 3 t (ix4 0 e Y l) : EReal) = opD m c (ix4 (bOf t.val (lt16 t)) (hOf t.val e) Y l) := by
  blk_simp [iblk, index_3]
  refine congrArg (opD m c) ?_
  blk_ext [index_3, bOf, hOf]

end Cert.AttnBwd

end
-- ==== Proof.Arrays.lean ====
/- Hand-written. The call's three results as whole arrays, over the extended reals: each is a sum over all 2048 rows, the
   grid's blocks put together. -/
module

public import proofs.«01_k».proof.Proof.Blocks

@[expose] public section

set_option maxRecDepth 16384

noncomputable section

namespace Cert.AttnBwd

open Cert.KernelIdeal Cert.KernelIdeal.Gen
open Idealize.ShloMosaic Idealize.ShloMosaic.TcCoe Idealize.ShloMosaic.Tactic Idealize.ShloMosaic.Pipeline
open Idealize.SL.Sem

variable (m : (ℓ : Loc nD τ sig) → Buf (Elt Ideal) ℓ) (c : Dev nD)

/-- The operands' blocks at a grid point. -/
abbrev bQ (t : Fin cfg0.N) : Vec Ideal S1x8x2048x128 .bf16 := iblk m c 0 t
abbrev bK (t : Fin cfg0.N) : Vec Ideal S1x8x512x128 .bf16 := iblk m c 1 t
abbrev bV (t : Fin cfg0.N) : Vec Ideal S1x8x512x128 .bf16 := iblk m c 2 t
abbrev bD (t : Fin cfg0.N) : Vec Ideal S1x8x2048x128 .bf16 := iblk m c 3 t

/-- A grid point's weights are the whole arrays'. -/
theorem wt_eq (t : Fin cfg0.N) (e : Fin 8) (Y : Fin 2048) (x : Fin 512) :
    wt (bQ m c t) (bK m c t) (grid0.coords t 2).val e Y x
      = wtA (opQ m c) (opK m c) (bOf t.val (lt16 t)) (hOf t.val e) Y (xOf t.val x) := by
  unfold wt wtA
  have hs : ∑ l : Fin 128, (bQ m c t (ix4 0 e Y l) : EReal) * (bK m c t (ix4 0 e x l) : EReal)
      = ∑ l : Fin 128, opQ m c (ix4 (bOf t.val (lt16 t)) (hOf t.val e) Y l) * opK m c (ix4 (bOf t.val (lt16 t)) (hOf t.val e) (xOf t.val x) l) :=
    Finset.sum_congr rfl fun l _ => congrArg₂ (· * ·) (blk_0 m c t e Y l) (blk_1 m c t e x l)
  rw [hs, coord2]
  rfl

/-- A grid point's gradients of the weights' logarithms are the whole arrays'. -/
theorem gr_eq (t : Fin cfg0.N) (e : Fin 8) (Y : Fin 2048) (x : Fin 512) :
    gr (bQ m c t) (bK m c t) (bV m c t) (bD m c t) (grid0.coords t 2).val e Y x
      = grA (opQ m c) (opK m c) (opV m c) (opD m c) (bOf t.val (lt16 t)) (hOf t.val e) Y (xOf t.val x) := by
  unfold gr grA
  exact congrArg₂ (· * ·) (wt_eq m c t e Y x) (Finset.sum_congr rfl fun l _ => congrArg₂ (· * ·) (blk_3 m c t e Y l) (blk_2 m c t e x l))

/-- What key number `N` puts into a query's sum. -/
def dqTerm (b : Fin 2) (h : Fin 16) (Y : Fin 2048) (d : Fin 128) (N : ℕ) : EReal :=
  if hN : N < 2048 then grA (opQ m c) (opK m c) (opV m c) (opD m c) b h Y ⟨N, hN⟩ * opK m c (ix4 b h ⟨N, hN⟩ d) else 0

theorem dqOf_eq (t : Fin cfg0.N) (e : Fin 8) (Y : Fin 2048) (d : Fin 128) :
    dqOf (bQ m c t) (bK m c t) (bV m c t) (bD m c t) (grid0.coords t 2).val e Y d
      = ∑ N ∈ Finset.range 512, dqTerm m c (bOf t.val (lt16 t)) (hOf t.val e) Y d (512 * (t.val % 4) + N) := by
  unfold dqOf
  rw [Finset.sum_range (fun N => dqTerm m c (bOf t.val (lt16 t)) (hOf t.val e) Y d (512 * (t.val % 4) + N))]
  refine Finset.sum_congr rfl fun x _ => ?_
  unfold dqTerm
  rw [dif_pos (show 512 * (t.val % 4) + x.val < 2048 by have := x.isLt; omega)]
  exact congrArg₂ (· * ·) (gr_eq m c t e Y x) (blk_1 m c t e x d)

theorem acc_point (t : Fin cfg0.N) : accAt m c t.val t.isLt
    = pointAt (grid0.coords t) (bQ m c t) (bK m c t) (bV m c t) (bD m c t)
      (if h : t.val = 0 then (k0_pay143 : FVec Ideal S1x8x2048x128 .f32) else (accAt m c (t.val - 1) (Nat.lt_of_le_of_lt (Nat.sub_le _ _) t.isLt)).dq) := by
  by_cases h : t.val = 0
  · rw [dif_pos h]
    exact accAt_first m c t (by rw [h]) _
  · rw [dif_neg h]
    exact accAt_next m c t h

/-- The queries' sums after a grid point are over the keys up to the point's block. -/
theorem acc_dq (e : Fin 8) (Y : Fin 2048) (d : Fin 128) : ∀ (n : ℕ) (hn : n < cfg0.N),
    ((accAt m c n hn).dq (ix4 0 e Y d) : EReal)
      = ∑ N ∈ Finset.range (512 * (n % 4 + 1)), dqTerm m c (bOf n (lt16 ⟨n, hn⟩)) (hOf n e) Y d N := by
  intro n
  induction n with
  | zero =>
    intro hn
    have ha := acc_point m c ⟨0, hn⟩
    simp only at ha
    rw [ha, point_dq, if_pos ((isFirst_iff ⟨0, hn⟩).mpr rfl), zero_add, dqOf_eq]
    refine Finset.sum_congr rfl fun N _ => congrArg _ ?_
    simp only
    omega
  | succ n ih =>
    intro hn
    have hn16 : n + 1 < 16 := lt16 ⟨n + 1, hn⟩
    have ha := acc_point m c ⟨n + 1, hn⟩
    simp only at ha
    rw [ha, point_dq, dqOf_eq]
    by_cases hf : (n + 1) % 4 = 0
    · rw [if_pos ((isFirst_iff ⟨n + 1, hn⟩).mpr hf), zero_add]
      simp only [hf]
      refine Finset.sum_congr rfl fun N _ => congrArg _ ?_
      omega
    · rw [if_neg (fun h => hf ((isFirst_iff ⟨n + 1, hn⟩).mp h)), dif_neg (Nat.succ_ne_zero n)]
      have hprev := ih (Nat.lt_of_succ_lt hn)
      have hb : bOf n (lt16 ⟨n, Nat.lt_of_succ_lt hn⟩) = bOf (n + 1) (lt16 ⟨n + 1, hn⟩) := Fin.ext (by show n / 8 = (n + 1) / 8; omega)
      have hh : hOf n e = hOf (n + 1) e := Fin.ext (by show 8 * (n / 4 % 2) + e.val = 8 * ((n + 1) / 4 % 2) + e.val; omega)
      rw [hb, hh] at hprev
      have hs : 512 * ((n + 1) % 4 + 1) = 512 * (n % 4 + 1) + 512 := by omega
      rw [hs, Finset.sum_range_add]
      refine congrArg₂ (· + ·) hprev (Finset.sum_congr rfl fun N _ => congrArg _ ?_)
      simp only
      omega

/-- The queries' gradient's array after the call. -/
theorem final_dq : (dats m 0 c).arrAt 4 cfg0.N = fun i : S2x16x2048x128.Idx => dqA (opQ m c) (opK m c) (opV m c) (opD m c) (i 0) (i 1) (i 2) (i 3) := by
  refine (dats m 0 c).arrAt_eq_of_covers 4 _ (by decide +kernel) fun t hf y => ?_
  have ht : t.val % 4 = 3 := (flush0_4 t).mp hf
  blk_simp
  rw [after_4]
  idx_vars y
  obtain rfl : y0 = 0 := Subsingleton.elim _ _
  have he : (win0_4.blk t).view.emb (ix4 0 y1 y2 y3) = (ix4 (bOf t.val (lt16 t)) (hOf t.val y1) y2 y3 : S2x16x2048x128.Idx) := by
    blk_ext [index_4, bOf, hOf]
  refine (acc_dq m c y1 y2 y3 t.val t.isLt).trans (Eq.trans ?_ (congrArg (fun i : S2x16x2048x128.Idx => dqA (opQ m c) (opK m c) (opV m c) (opD m c) (i 0) (i 1) (i 2) (i 3)) he).symm)
  rw [ht, Finset.sum_range]
  refine Finset.sum_congr rfl fun X _ => ?_
  unfold dqTerm
  rw [dif_pos X.isLt]
  rfl

/-- The keys' gradient's array after the call. -/
theorem final_dk : (dats m 0 c).arrAt 5 cfg0.N = fun i : S2x16x2048x128.Idx => dkA (opQ m c) (opK m c) (opV m c) (opD m c) (i 0) (i 1) (i 2) (i 3) := by
  refine (dats m 0 c).arrAt_eq_of_covers 5 _ (by decide +kernel) fun t hf y => ?_
  blk_simp
  rw [after_5]
  idx_vars y
  obtain rfl : y0 = 0 := Subsingleton.elim _ _
  have he : (win0_5.blk t).view.emb (ix4 0 y1 y2 y3) = (ix4 (bOf t.val (lt16 t)) (hOf t.val y1) (xOf t.val y2) y3 : S2x16x2048x128.Idx) := by
    blk_ext [index_5, bOf, hOf, xOf]
  refine Eq.trans ?_ (congrArg (fun i : S2x16x2048x128.Idx => dkA (opQ m c) (opK m c) (opV m c) (opD m c) (i 0) (i 1) (i 2) (i 3)) he).symm
  rw [acc_point]
  refine (point_dk _ _ _ _ _ _ y1 y2 y3).trans (Finset.sum_congr rfl fun Y _ => ?_)
  exact congrArg₂ (· * ·) (gr_eq m c t y1 Y y2) (blk_0 m c t y1 Y y3)

/-- The values' gradient's array after the call. -/
theorem final_dv : (dats m 0 c).arrAt 6 cfg0.N = fun i : S2x16x2048x128.Idx => dvA (opQ m c) (opK m c) (opD m c) (i 0) (i 1) (i 2) (i 3) := by
  refine (dats m 0 c).arrAt_eq_of_covers 6 _ (by decide +kernel) fun t hf y => ?_
  blk_simp
  rw [after_6]
  idx_vars y
  obtain rfl : y0 = 0 := Subsingleton.elim _ _
  have he : (win0_6.blk t).view.emb (ix4 0 y1 y2 y3) = (ix4 (bOf t.val (lt16 t)) (hOf t.val y1) (xOf t.val y2) y3 : S2x16x2048x128.Idx) := by
    blk_ext [index_6, bOf, hOf, xOf]
  refine Eq.trans ?_ (congrArg (fun i : S2x16x2048x128.Idx => dvA (opQ m c) (opK m c) (opD m c) (i 0) (i 1) (i 2) (i 3)) he).symm
  rw [acc_point]
  have hp : ∀ v : Vec Ideal S8x512x128 .f32, (k0_pay4 v (ix4 0 y1 y2 y3) : EReal) = v (ix3 y1 y2 y3) := by
    intro v
    pointwise [k0_pay4]
  refine (hp _).trans ((point_dv _ _ _ _ _ _ y1 y2 y3).trans (Finset.sum_congr rfl fun Y _ => ?_))
  exact congrArg₂ (· * ·) (wt_eq m c t y1 Y y2) (blk_3 m c t y1 Y y3)

end Cert.AttnBwd

end
-- ==== Proof.Reals.lean ====
/- Hand-written. The forgetting attention of one head and its gradient over the real numbers, and how the extended reals
of the two programs come down to them. Queries, keys, values and the incoming gradient are rows of 64 numbers; `c` is
the running sum of the log forget gates. -/
module

public import Idealize.ShloMosaic.Lib.Pointwise
public import Idealize.ShloMosaic.Lib.IdealHost
public import Idealize.ShloMosaic.Lib.WordCmp

@[expose] public section
set_option maxRecDepth 100000

namespace Cert.AttnBwd

open Idealize.ShloMosaic

/-- A table of rows. -/
abbrev Rows : Type := Fin 2048 → Fin 64 → ℝ
/-- One number per row. -/
abbrev Line : Type := Fin 2048 → ℝ

variable (q k v g : Rows) (c : Line)

/-- The logit of query `Y` at key `X`: the scaled product plus the decay between the two positions. -/
noncomputable def lg (Y X : Fin 2048) : ℝ := (∑ d, q Y d * k X d) * (1 / 8) + (c Y - c X)
/-- The largest logit of query `Y` among the keys it sees. -/
noncomputable def top (Y : Fin 2048) : ℝ :=
  (Finset.univ.fold max (⊥ : EReal) fun X : Fin 2048 => if X ≤ Y then (lg q k c Y X : EReal) else ⊥).toReal
/-- The shifted exponential of a logit, zero at the keys the query does not see. -/
noncomputable def ex (Y X : Fin 2048) : ℝ := if X ≤ Y then Real.exp (lg q k c Y X - top q k c Y) else 0
/-- The row sum of the shifted exponentials. -/
noncomputable def tot (Y : Fin 2048) : ℝ := ∑ X, ex q k c Y X
/-- The row's log-sum. -/
noncomputable def lse (Y : Fin 2048) : ℝ := top q k c Y + Real.log (tot q k c Y)
/-- The attention weight. -/
noncomputable def pr (Y X : Fin 2048) : ℝ := ex q k c Y X / tot q k c Y
/-- The incoming gradient of query `Y` along the value `X`. -/
noncomputable def dp (Y X : Fin 2048) : ℝ := ∑ d, g Y d * v X d
/-- The incoming gradient of query `Y` along its output. -/
noncomputable def dl (Y : Fin 2048) : ℝ := ∑ d, g Y d * ∑ X, pr q k c Y X * v X d
/-- The gradient of a logit. -/
noncomputable def gd (Y X : Fin 2048) : ℝ := pr q k c Y X * (dp v g Y X - dl q k v g c Y)
/-- The gradient of the queries. -/
noncomputable def gradQ (Y : Fin 2048) (d : Fin 64) : ℝ := (∑ X, gd q k v g c Y X * k X d) * (1 / 8)
/-- The gradient of the keys. -/
noncomputable def gradK (X : Fin 2048) (d : Fin 64) : ℝ := ∑ Y, gd q k v g c Y X * (q Y d * (1 / 8))
/-- The gradient of the values. -/
noncomputable def gradV (X : Fin 2048) (d : Fin 64) : ℝ := ∑ Y, pr q k c Y X * g Y d
/-- The gradient of the decays: what a position receives as a query less what it receives as a key. -/
noncomputable def gradC (X : Fin 2048) : ℝ := (∑ Z, gd q k v g c X Z) - ∑ Y, gd q k v g c Y X

/-- A sum of reals read in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The word of one eighth. -/
theorem ofBits_eighth : Ideal.ofBits .f32 0x3E000000#32 = ((1 / 8 : ℝ) : EReal) := by
  simp [Ideal.ofBits, Ideal.ieee, -EReal.coe_mul]; norm_num
/-- The word of minus infinity. -/
theorem ofBits_bot : Ideal.ofBits .f32 0xFF800000#32 = ⊥ := by
  simp [Ideal.ofBits, Ideal.ieee]
/-- The word of infinity. -/
theorem ofBits_top : Ideal.ofBits .f32 0x7F800000#32 = ⊤ := by
  simp [Ideal.ofBits, Ideal.ieee]

/-- The largest logit of a row, as the programs find it, is a real. -/
theorem fold_eq (Y : Fin 2048) :
    (Finset.univ.fold max (⊥ : EReal) fun X : Fin 2048 => if X ≤ Y then (lg q k c Y X : EReal) else ⊥)
      = (top q k c Y : EReal) := by
  refine (EReal.coe_toReal (ne_of_lt ((Finset.fold_max_lt _).2 ⟨bot_lt_top, fun X _ => ?_⟩))
    (ne_of_gt ((Finset.lt_fold_max _).2 (Or.inr ⟨Y, Finset.mem_univ _, ?_⟩)))).symm
  · split
    · exact EReal.coe_lt_top _
    · exact bot_lt_top
  · rw [if_pos (le_refl Y)]
    exact EReal.bot_lt_coe _

theorem ex_nonneg (Y X : Fin 2048) : 0 ≤ ex q k c Y X := by
  unfold ex
  split
  · exact (Real.exp_pos _).le
  · exact le_refl _
theorem ex_self (Y : Fin 2048) : 0 < ex q k c Y Y := by
  unfold ex
  rw [if_pos (le_refl Y)]
  exact Real.exp_pos _
theorem tot_pos (Y : Fin 2048) : 0 < tot q k c Y :=
  Finset.sum_pos' (fun X _ => ex_nonneg q k c Y X) ⟨Y, Finset.mem_univ _, ex_self q k c Y⟩

/-- The exponential of a logit less the row's log-sum is the attention weight. -/
theorem exp_lse (Y X : Fin 2048) (h : X ≤ Y) :
    Real.exp (lg q k c Y X - lse q k c Y) = pr q k c Y X := by
  rw [lse, ← sub_sub, Real.exp_sub, Real.exp_log (tot_pos q k c Y), pr, ex, if_pos h]
theorem pr_above (Y X : Fin 2048) (h : ¬ X ≤ Y) : pr q k c Y X = 0 := by
  rw [pr, ex, if_neg h, zero_div]
theorem gd_above (Y X : Fin 2048) (h : ¬ X ≤ Y) : gd q k v g c Y X = 0 := by
  rw [gd, pr_above q k c Y X h, zero_mul]

/-- The gradient along the output is the weighted sum of the gradients along the values. -/
theorem dl_eq (Y : Fin 2048) : dl q k v g c Y = ∑ X, pr q k c Y X * dp v g Y X := by
  unfold dl dp
  simp only [Finset.mul_sum]
  rw [Finset.sum_comm]
  exact Finset.sum_congr rfl fun X _ => Finset.sum_congr rfl fun d _ => by ring

/-- The gradient of a logit as the quotient rule gives it, before the row sum is divided out. -/
theorem gd_eq (Y X : Fin 2048) :
    (dp v g Y X * (1 / tot q k c Y)
      + -(∑ Z, dp v g Y Z * (1 * (1 / (tot q k c Y * tot q k c Y))) * ex q k c Y Z)) * ex q k c Y X = gd q k v g c Y X := by
  have h := (tot_pos q k c Y).ne'
  have e : (∑ Z, dp v g Y Z * (1 * (1 / (tot q k c Y * tot q k c Y))) * ex q k c Y Z)
      = dl q k v g c Y * (1 / tot q k c Y) := by
    rw [dl_eq, Finset.sum_mul]
    refine Finset.sum_congr rfl fun Z _ => ?_
    unfold pr
    field_simp
  rw [e]
  unfold gd pr
  field_simp
  ring

/-! ## The programs' expressions, as reals -/

variable (Y X : Fin 2048)

/-- The logit as the programs write it: minus infinity at the keys the query does not see. -/
theorem logit_val (S : Shape) (i : S.Idx) :
    Scalar.select (IntOp.cmpi CmpIPredicate.sle (BitVec.ofNat 32 X.val) (BitVec.ofNat 32 Y.val))
        ((∑ d, (q Y d : EReal) * (k X d : EReal)) * Ideal.ofBits FTy.f32 0x3E000000#32 + ((c Y : EReal) - (c X : EReal)))
        (id (constant (F := Ideal) S FTy.f32 0xFF800000#32) i)
      = if X ≤ Y then (lg q k c Y X : EReal) else ⊥ := by
  rw [WordCmp.cmpi_sle_ofNat (by have := X.isLt; norm_num; omega) (by have := Y.isLt; norm_num; omega)]
  unfold Scalar.select
  by_cases h : X ≤ Y
  · rw [if_pos h]
    simp only [show X.val ≤ Y.val from h, decide_true, ofBits_eighth, ← EReal.coe_mul, coe_sum, ← EReal.coe_sub, ← EReal.coe_add]
    rfl
  · rw [if_neg h]
    simp only [show ¬ X.val ≤ Y.val from h, decide_false]
    exact ofBits_bot

/-- The shifted exponential as the programs write it. -/
theorem exp_val : Ideal.exp ((if X ≤ Y then (lg q k c Y X : EReal) else ⊥) - (top q k c Y : EReal)) = (ex q k c Y X : EReal) := by
  unfold ex
  split
  · rw [← EReal.coe_sub, Ideal.exp_coe]
  · rw [EReal.bot_sub, Ideal.exp_bot, EReal.coe_zero]

/-- The row sum as the programs write it. -/
theorem sum_val : ∑ X, (ex q k c Y X : EReal) = (tot q k c Y : EReal) := coe_sum _ _

/-- The weight as the programs write it. -/
theorem div_val : Ideal.div (ex q k c Y X : EReal) (tot q k c Y : EReal) = (pr q k c Y X : EReal) := by
  rw [Ideal.div_coe (tot_pos q k c Y).ne', ← EReal.coe_mul, mul_one_div, pr]

/-- The row's log-sum as the programs write it. -/
theorem log_val : Ideal.log (tot q k c Y : EReal) = (Real.log (tot q k c Y) : EReal) := by
  rw [Ideal.log_coe, if_neg (not_le.2 (tot_pos q k c Y))]

/-- The gradient along the output as the programs write it. -/
theorem dl_val : ∑ d, (g Y d : EReal) * ∑ X, (pr q k c Y X : EReal) * (v X d : EReal) = (dl q k v g c Y : EReal) := by
  simp only [← EReal.coe_mul, coe_sum]
  rfl

/-! ## Rows of 128 lanes: 64 numbers, nine more, zeros -/

/-- A row of 128 lanes: the 64 numbers `r`, the nine numbers `t`, then zeros. -/
def lanes (r : Fin 64 → ℝ) (t : Fin 9 → ℝ) (l : Fin 128) : ℝ :=
  if h : l.val < 64 then r ⟨l.val, h⟩ else if h' : l.val - 64 < 9 then t ⟨l.val - 64, h'⟩ else 0

theorem lanes_lo (r : Fin 64 → ℝ) (t : Fin 9 → ℝ) (l : Fin 128) (h : l.val < 64) : lanes r t l = r ⟨l.val, h⟩ := dif_pos h
theorem lanes_at (r : Fin 64 → ℝ) (t : Fin 9 → ℝ) (l : Fin 128) (i : Fin 9) (h : l.val = 64 + i.val) : lanes r t l = t i := by
  unfold lanes
  rw [dif_neg (by omega), dif_pos (by have := i.isLt; omega)]
  exact congrArg t (Fin.ext (by simp only; omega))
theorem lanes_hi (r : Fin 64 → ℝ) (t : Fin 9 → ℝ) (l : Fin 128) (h : 73 ≤ l.val) : lanes r t l = 0 := by
  unfold lanes
  rw [dif_neg (by omega), dif_neg (by omega)]

/-- The product of two such rows. -/
theorem lanes_mul (r r' : Fin 64 → ℝ) (t t' : Fin 9 → ℝ) :
    ∑ l, lanes r t l * lanes r' t' l = (∑ d, r d * r' d) + ∑ i, t i * t' i := by
  rw [show (∑ l, lanes r t l * lanes r' t' l) = ∑ l : Fin (64 + (9 + 55)), lanes r t l * lanes r' t' l from rfl,
    Fin.sum_univ_add, Fin.sum_univ_add]
  have h0 : ∑ i : Fin 55, lanes r t (Fin.natAdd 64 (Fin.natAdd 9 i)) * lanes r' t' (Fin.natAdd 64 (Fin.natAdd 9 i)) = 0 :=
    Finset.sum_eq_zero fun i _ => by simp [lanes]
  rw [h0, add_zero]
  refine congrArg₂ (· + ·) (Finset.sum_congr rfl fun d _ => ?_) (Finset.sum_congr rfl fun i _ => ?_)
  · simp [lanes, d.isLt]
  · simp [lanes, i.isLt]

end Cert.AttnBwd
-- ==== Proof.Host.lean ====
/- Hand-written. The host lines before the call, over the extended reals, at finite arguments: what the forward pass leaves
(the rows' log-sums, the gradients along the outputs) and the call's four operands, rows of 128 lanes, each of 64 numbers of an
argument and nine lanes that put the decays, the log-sums and the gradients along the outputs into the products. -/
module

public import proofs.«01_k».proof.Proof.Blocks
public import proofs.«01_k».proof.Proof.Reals
public import Idealize.ShloMosaic.Lib.StableHlo.ReadAt

@[expose] public section

set_option maxRecDepth 100000

noncomputable section

namespace Cert.AttnBwd

open Cert.KernelIdeal Cert.KernelIdeal.Gen
open Idealize.ShloMosaic Idealize.ShloMosaic.TcCoe Idealize.ShloMosaic.Tactic

variable (m : (ℓ : Loc nD τ sig) → Buf (Elt Ideal) ℓ) (e : Dev nD)

/-- A row's maximum, read at an index. -/
theorem max_apply (x : FVec Ideal S2x16x2048x2048 .f32) (b : Fin 2) (h : Fin 16) (Y : Fin 2048) :
   Host.reduce (FloatOps.maximumf (F := Ideal) (φ := .f32)) x (constant (F := Ideal) S_ .f32 0xFF800000#32) reducesTo_S2x16x2048x2048_S2x16x2048_d3 h_S_ (ix3 b h Y) = Finset.univ.fold max (⊥:EReal) (fun X : Fin 2048 => (x (ix4 b h Y X) : EReal)) := by
  pointwise
  rw [ofBits_bot]
/-- The logits, minus infinity at the keys a query does not see. -/
def vLogits (x0 x1 : FVec Ideal S2x16x2048x64 .f32) (x3 : FVec Ideal S2x16x2048 .f32) : FVec Ideal S2x16x2048x2048 .f32 :=
  select (broadcastInDim S2x16x2048x2048 ![2, 3] bcast_S2048x2048_S2x16x2048x2048_2_3
      (cmpi CmpIPredicate.sle
        (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (addf
      (mulf (Host.dotGeneral dot_S2x16x2048x64_S2x16x2048x64_S2x16x2048x2048_3_3_2_2_01_01 none x0 x1)
        (broadcastInDim S2x16x2048x2048 ![] bcast_S_S2x16x2048x2048 (constant S_ FTy.f32 0x3E000000#32)))
      (subf
        (broadcastInDim S2x16x2048x2048 ![0, 1, 2, 3] bcast_S2x16x2048x1_S2x16x2048x2048_0_1_2_3 (broadcastInDim S2x16x2048x1 ![0, 1, 2] bcast_S2x16x2048_S2x16x2048x1_0_1_2 x3))
        (broadcastInDim S2x16x2048x2048 ![0, 1, 2, 3] bcast_S2x16x1x2048_S2x16x2048x2048_0_1_2_3 (broadcastInDim S2x16x1x2048 ![0, 1, 3] bcast_S2x16x2048_S2x16x1x2048_0_1_3 x3))))
    (broadcastInDim S2x16x2048x2048 ![] bcast_S_S2x16x2048x2048 (id (constant S_ FTy.f32 0xFF800000#32)))
/-- The rows' largest logits. -/
def vTop (x0 x1 : FVec Ideal S2x16x2048x64 .f32) (x3 : FVec Ideal S2x16x2048 .f32) : FVec Ideal S2x16x2048 .f32 :=
  Host.reduce FloatOps.maximumf (vLogits x0 x1 x3) (constant S_ FTy.f32 0xFF800000#32) reducesTo_S2x16x2048x2048_S2x16x2048_d3 h_S_
/-- The shifted exponentials. -/
def vEx (x0 x1 : FVec Ideal S2x16x2048x64 .f32) (x3 : FVec Ideal S2x16x2048 .f32) : FVec Ideal S2x16x2048x2048 .f32 :=
  Host.exp (subf (vLogits x0 x1 x3) (broadcastInDim S2x16x2048x2048 ![0, 1, 2, 3] bcast_S2x16x2048x1_S2x16x2048x2048_0_1_2_3
    (broadcastInDim S2x16x2048x1 ![0, 1, 2] bcast_S2x16x2048_S2x16x2048x1_0_1_2 (vTop x0 x1 x3))))
/-- The rows' sums. -/
def vTot (x0 x1 : FVec Ideal S2x16x2048x64 .f32) (x3 : FVec Ideal S2x16x2048 .f32) : FVec Ideal S2x16x2048x1 .f32 :=
  broadcastInDim S2x16x2048x1 ![0, 1, 2] bcast_S2x16x2048_S2x16x2048x1_0_1_2
    (Host.reduceAdd (vEx x0 x1 x3) (constant S_ FTy.f32 0#32) reducesTo_S2x16x2048x2048_S2x16x2048_d3 h_S_)
/-- The rows' log-sums, from the largest logits and the rows' sums. -/
def vLse (t : FVec Ideal S2x16x2048 .f32) (s : FVec Ideal S2x16x2048x1 .f32) : FVec Ideal S2x16x2048x1 .f32 :=
  addf (broadcastInDim S2x16x2048x1 ![0, 1, 2] bcast_S2x16x2048_S2x16x2048x1_0_1_2 t) (Host.log s)
/-- The gradients along the outputs. -/
def vDl (x0 x1 x2 x4 : FVec Ideal S2x16x2048x64 .f32) (x3 : FVec Ideal S2x16x2048 .f32) : FVec Ideal S2x16x2048x1 .f32 :=
  broadcastInDim S2x16x2048x1 ![0, 1, 2] bcast_S2x16x2048_S2x16x2048x1_0_1_2
    (Host.reduceAdd (mulf x4 (Host.dotGeneral dot_S2x16x2048x2048_S2x16x2048x64_S2x16x2048x64_3_2_2_3_01_01 none
        (Host.divf (vEx x0 x1 x3) (broadcastInDim S2x16x2048x2048 ![0, 1, 2, 3] bcast_S2x16x2048x1_S2x16x2048x2048_0_1_2_3 (vTot x0 x1 x3))) x2))
      (constant S_ FTy.f32 0#32) reducesTo_S2x16x2048x64_S2x16x2048_d3 h_S_)

/-- A line as a column. -/
def vCol (x3 : FVec Ideal S2x16x2048 .f32) : FVec Ideal S2x16x2048x1 .f32 :=
  broadcastInDim S2x16x2048x1 ![0, 1, 2] bcast_S2x16x2048_S2x16x2048x1_0_1_2 x3
/-- A column rounded to the short format and back. -/
def vHi (x : FVec Ideal S2x16x2048x1 .f32) : FVec Ideal S2x16x2048x1 .f32 := extf FTy.f32 (truncf FTy.bf16 x bitsLt_bf16_f32) bitsLt_bf16_f32
/-- What the rounding leaves. -/
def vRest (x : FVec Ideal S2x16x2048x1 .f32) : FVec Ideal S2x16x2048x1 .f32 := subf x (vHi x)

/-- The argument arrays. -/
abbrev aQ : FVec Ideal S2x16x2048x64 .f32 := m (e, Proc.tc.devRef main_arg0)
abbrev aK : FVec Ideal S2x16x2048x64 .f32 := m (e, Proc.tc.devRef main_arg1)
abbrev aV : FVec Ideal S2x16x2048x64 .f32 := m (e, Proc.tc.devRef main_arg2)
abbrev aC : FVec Ideal S2x16x2048 .f32 := m (e, Proc.tc.devRef main_arg3)
abbrev aG : FVec Ideal S2x16x2048x64 .f32 := m (e, Proc.tc.devRef main_arg4)
/-- What the buffers hold after the first `n` host lines. -/
abbrev cut (n : ℕ) := StableHlo.upto [hostOps0 (F := Ideal), hostOps0_1, hostOps0_2].flatten (fun b => m (e, b)) n

/-! ## The pieces of the operands -/

theorem cut65_v35 : cut m e 65 (Proc.tc.devRef main_v35) = (mulf (aQ m e) (broadcastInDim S2x16x2048x64 ![] bcast_S_S2x16x2048x64 (constant S_ FTy.f32 0x3E000000#32)) : FVec Ideal S2x16x2048x64 .f32) := by
  unfold cut
  after_reads_simp
theorem cut65_v37 : cut m e 65 (Proc.tc.devRef main_v37) = vHi (vCol (aC m e)) := by
  unfold cut
  after_reads_simp
  rfl
theorem cut65_v40 : cut m e 65 (Proc.tc.devRef main_v40) = vHi (vRest (vCol (aC m e))) := by
  unfold cut
  after_reads_simp
  rfl
theorem cut65_v43 : cut m e 65 (Proc.tc.devRef main_v43) = vHi (vRest (vRest (vCol (aC m e)))) := by
  unfold cut
  after_reads_simp
  rfl
theorem cut65_v32 : cut m e 65 (Proc.tc.devRef main_v32) = (broadcastInDim S2x16x2048x3 ![] bcast_S_S2x16x2048x3 (constant S_ FTy.f32 0x3F800000#32) : FVec Ideal S2x16x2048x3 .f32) := by
  unfold cut
  after_reads_simp
theorem cut65_v46 : cut m e 65 (Proc.tc.devRef main_v46) = vHi (Host.negf (vLse (vTop (aQ m e) (aK m e) (aC m e)) (vTot (aQ m e) (aK m e) (aC m e)))) := by
  unfold cut
  after_reads_simp
  rfl
theorem cut65_v49 : cut m e 65 (Proc.tc.devRef main_v49) = vHi (vRest (Host.negf (vLse (vTop (aQ m e) (aK m e) (aC m e)) (vTot (aQ m e) (aK m e) (aC m e))))) := by
  unfold cut
  after_reads_simp
  rfl
theorem cut65_v52 : cut m e 65 (Proc.tc.devRef main_v52) = vHi (vRest (vRest (Host.negf (vLse (vTop (aQ m e) (aK m e) (aC m e)) (vTot (aQ m e) (aK m e) (aC m e)))))) := by
  unfold cut
  after_reads_simp
  rfl
theorem cut65_v53 : cut m e 65 (Proc.tc.devRef main_v53) = (broadcastInDim S2x16x2048x55 ![] bcast_S_S2x16x2048x55 (constant S_ FTy.f32 0#32) : FVec Ideal S2x16x2048x55 .f32) := by
  unfold cut
  after_reads_simp
theorem cut80_arg1 : cut m e 80 (Proc.tc.devRef main_arg1) = aK m e := by
  unfold cut
  after_reads_simp
theorem cut80_v32 : cut m e 80 (Proc.tc.devRef main_v32) = (broadcastInDim S2x16x2048x3 ![] bcast_S_S2x16x2048x3 (constant S_ FTy.f32 0x3F800000#32) : FVec Ideal S2x16x2048x3 .f32) := by
  unfold cut
  after_reads_simp
theorem cut80_v64 : cut m e 80 (Proc.tc.devRef main_v64) = Host.negf (vHi (vCol (aC m e))) := by
  unfold cut
  after_reads_simp
  rfl
theorem cut80_v65 : cut m e 80 (Proc.tc.devRef main_v65) = Host.negf (vHi (vRest (vCol (aC m e)))) := by
  unfold cut
  after_reads_simp
  rfl
theorem cut80_v66 : cut m e 80 (Proc.tc.devRef main_v66) = Host.negf (vHi (vRest (vRest (vCol (aC m e))))) := by
  unfold cut
  after_reads_simp
  rfl
theorem cut80_v67 : cut m e 80 (Proc.tc.devRef main_v67) = (broadcastInDim S2x16x2048x55 ![] bcast_S_S2x16x2048x55 (constant S_ FTy.f32 0#32) : FVec Ideal S2x16x2048x55 .f32) := by
  unfold cut
  after_reads_simp
theorem cut85_arg2 : cut m e 85 (Proc.tc.devRef main_arg2) = aV m e := by
  unfold cut
  after_reads_simp
theorem cut85_v32 : cut m e 85 (Proc.tc.devRef main_v32) = (broadcastInDim S2x16x2048x3 ![] bcast_S_S2x16x2048x3 (constant S_ FTy.f32 0x3F800000#32) : FVec Ideal S2x16x2048x3 .f32) := by
  unfold cut
  after_reads_simp
theorem cut85_v70 : cut m e 85 (Proc.tc.devRef main_v70) = (extractStridedSlice S2x16x2048x1 ![0, 0, 0, 0] (broadcastInDim S2x16x2048x3 ![] bcast_S_S2x16x2048x3 (constant S_ FTy.f32 0x3F800000#32)) slices_S2x16x2048x3_S2x16x2048x1_0_0_0_0 : FVec Ideal S2x16x2048x1 .f32) := by
  unfold cut
  after_reads_simp
theorem cut85_v71 : cut m e 85 (Proc.tc.devRef main_v71) = (broadcastInDim S2x16x2048x60 ![] bcast_S_S2x16x2048x60 (constant S_ FTy.f32 0#32) : FVec Ideal S2x16x2048x60 .f32) := by
  unfold cut
  after_reads_simp
theorem cut100_arg4 : cut m e 100 (Proc.tc.devRef main_arg4) = aG m e := by
  unfold cut
  after_reads_simp
theorem cut100_v74 : cut m e 100 (Proc.tc.devRef main_v74) = (broadcastInDim S2x16x2048x1 ![] bcast_S_S2x16x2048x1 (constant S_ FTy.f32 0#32) : FVec Ideal S2x16x2048x1 .f32) := by
  unfold cut
  after_reads_simp
theorem cut100_v77 : cut m e 100 (Proc.tc.devRef main_v77) = vHi (Host.negf (vDl (aQ m e) (aK m e) (aV m e) (aG m e) (aC m e))) := by
  unfold cut
  after_reads_simp
  rfl
theorem cut100_v80 : cut m e 100 (Proc.tc.devRef main_v80) = vHi (vRest (Host.negf (vDl (aQ m e) (aK m e) (aV m e) (aG m e) (aC m e)))) := by
  unfold cut
  after_reads_simp
  rfl
theorem cut100_v83 : cut m e 100 (Proc.tc.devRef main_v83) = vHi (vRest (vRest (Host.negf (vDl (aQ m e) (aK m e) (aV m e) (aG m e) (aC m e))))) := by
  unfold cut
  after_reads_simp
  rfl
theorem cut100_v84 : cut m e 100 (Proc.tc.devRef main_v84) = (broadcastInDim S2x16x2048x60 ![] bcast_S_S2x16x2048x60 (constant S_ FTy.f32 0#32) : FVec Ideal S2x16x2048x60 .f32) := by
  unfold cut
  after_reads_simp

variable (x0 x1 x2 x4 : FVec Ideal S2x16x2048x64 .f32) (x3 : FVec Ideal S2x16x2048 .f32)
/-- One head's arguments are the real tables. -/
structure Head (b : Fin 2) (h : Fin 16) (q k v g : Rows) (c : Line) : Prop where
  q : ∀ Y d, (x0 (ix4 b h Y d) : EReal) = (q Y d : EReal)
  k : ∀ Y d, (x1 (ix4 b h Y d) : EReal) = (k Y d : EReal)
  v : ∀ Y d, (x2 (ix4 b h Y d) : EReal) = (v Y d : EReal)
  c : ∀ Y, (x3 (ix3 b h Y) : EReal) = (c Y : EReal)
  g : ∀ Y d, (x4 (ix4 b h Y d) : EReal) = (g Y d : EReal)
variable {x0 x1 x2 x3 x4} {b : Fin 2} {h : Fin 16} {q k v g : Rows} {c : Line}

/-- The logits at an index. -/
theorem vLogits_at (H : Head x0 x1 x2 x4 x3 b h q k v g c) (Y X : Fin 2048) :
    (vLogits x0 x1 x3 (ix4 b h Y X) : EReal) = if X ≤ Y then (lg q k c Y X : EReal) else ⊥ := by
  pointwise [vLogits]
  simp only [H.q, H.k, H.c, logit_val]
/-- A row whose elements are the logits has the largest logit for its maximum. -/
theorem max_of (x : FVec Ideal S2x16x2048x2048 .f32) (b : Fin 2) (h : Fin 16) (Y : Fin 2048)
    (hx : ∀ X, (x (ix4 b h Y X) : EReal) = if X ≤ Y then (lg q k c Y X : EReal) else ⊥) :
    Host.reduce (FloatOps.maximumf (F := Ideal) (φ := .f32)) x (constant (F := Ideal) S_ .f32 0xFF800000#32) reducesTo_S2x16x2048x2048_S2x16x2048_d3 h_S_ (ix3 b h Y) = (top q k c Y : EReal) := by
  rw [max_apply]
  exact (Finset.fold_congr fun X _ => hx X).trans (fold_eq q k c Y)
/-- The largest logits are the rows' maxima. -/
theorem vTop_eq (x0 x1 : FVec Ideal S2x16x2048x64 .f32) (x3 : FVec Ideal S2x16x2048 .f32) : vTop x0 x1 x3 = Host.reduce (FloatOps.maximumf (F := Ideal) (φ := .f32)) (vLogits x0 x1 x3) (constant (F := Ideal) S_ .f32 0xFF800000#32) reducesTo_S2x16x2048x2048_S2x16x2048_d3 h_S_ := rfl
/-- The largest logits at an index. -/
theorem vTop_at (H : Head x0 x1 x2 x4 x3 b h q k v g c) (Y : Fin 2048) :
    (vTop x0 x1 x3 (ix3 b h Y) : EReal) = (top q k c Y : EReal) :=
  (congrFun (vTop_eq x0 x1 x3) (ix3 b h Y)).trans (max_of (vLogits x0 x1 x3) b h Y (vLogits_at H Y))
/-- The shifted exponentials at an index. -/
theorem vEx_at (H : Head x0 x1 x2 x4 x3 b h q k v g c) (Y X : Fin 2048) :
    (vEx x0 x1 x3 (ix4 b h Y X) : EReal) = (ex q k c Y X : EReal) := by
  pointwise [vEx]
  simp only [vLogits_at H, vTop_at H, exp_val]
/-- The rows' sums at an index. -/
theorem vTot_at (H : Head x0 x1 x2 x4 x3 b h q k v g c) (Y : Fin 2048) :
    (vTot x0 x1 x3 (ix4 b h Y 0) : EReal) = (tot q k c Y : EReal) := by
  pointwise [vTot]
  simp only [vEx_at H, sum_val]
theorem vLse_of (t : FVec Ideal S2x16x2048 .f32) (s : FVec Ideal S2x16x2048x1 .f32) (Y : Fin 2048)
    (ht : (t (ix3 b h Y) : EReal) = (top q k c Y : EReal)) (hs : (s (ix4 b h Y 0) : EReal) = (tot q k c Y : EReal)) :
    (vLse t s (ix4 b h Y 0) : EReal) = (lse q k c Y : EReal) := by
  pointwise [vLse]
  exact (congrArg₂ (fun a b : EReal => a + Ideal.log b) ht hs).trans (by rw [log_val, ← EReal.coe_add]; rfl)
/-- The rows' log-sums at an index. -/
theorem vLse_at (H : Head x0 x1 x2 x4 x3 b h q k v g c) (Y : Fin 2048) :
    (vLse (vTop x0 x1 x3) (vTot x0 x1 x3) (ix4 b h Y 0) : EReal) = (lse q k c Y : EReal) :=
  vLse_of _ _ Y (vTop_at H Y) (vTot_at H Y)
/-- The gradients along the outputs at an index. -/
theorem vDl_at (H : Head x0 x1 x2 x4 x3 b h q k v g c) (Y : Fin 2048) :
    (vDl x0 x1 x2 x4 x3 (ix4 b h Y 0) : EReal) = (dl q k v g c Y : EReal) := by
  pointwise [vDl]
  simp only [vEx_at H, vTot_at H, div_val, H.v, H.g, dl_val]

/-! ## The pieces at an index -/

theorem vCol_at (H : Head x0 x1 x2 x4 x3 b h q k v g c) (Y : Fin 2048) : (vCol x3 (ix4 b h Y 0) : EReal) = (c Y : EReal) := by
  pointwise [vCol]
  exact H.c Y
theorem neg_at (x : FVec Ideal S2x16x2048x1 .f32) (Y : Fin 2048) (r : ℝ) (hr : (x (ix4 b h Y 0) : EReal) = (r : EReal)) :
    ((Host.negf x : FVec Ideal S2x16x2048x1 .f32) (ix4 b h Y 0) : EReal) = ((-r : ℝ) : EReal) := by
  pointwise
  exact (congrArg (fun t : EReal => -t) hr).trans (EReal.coe_neg r).symm
theorem vHi_at (x : FVec Ideal S2x16x2048x1 .f32) (Y : Fin 2048) (r : ℝ) (hr : (x (ix4 b h Y 0) : EReal) = (r : EReal)) :
    (vHi x (ix4 b h Y 0) : EReal) = (r : EReal) := by
  pointwise [vHi]
  exact hr
theorem vRest_at (x : FVec Ideal S2x16x2048x1 .f32) (Y : Fin 2048) (r : ℝ) (hr : (x (ix4 b h Y 0) : EReal) = (r : EReal)) :
    (vRest x (ix4 b h Y 0) : EReal) = ((0 : ℝ) : EReal) := by
  pointwise [vRest, vHi]
  rw [← sub_self r, EReal.coe_sub]
  exact congrArg₂ (fun s t : EReal => s - t) hr hr

/-- One head's arguments, of the program's memory. -/
abbrev HeadM (b : Fin 2) (h : Fin 16) (q k v g : Rows) (c : Line) : Prop := Head (aQ m e) (aK m e) (aV m e) (aG m e) (aC m e) b h q k v g c

end Cert.AttnBwd

end
-- ==== Proof.Operands.lean ====
/- Hand-written. The call's four operands at an index: rows of 128 lanes. -/
module

public import proofs.«01_k».proof.Proof.Host
public import Idealize.ShloMosaic.Lib.StableHlo.ReadAt

@[expose] public section

set_option maxRecDepth 100000

noncomputable section

namespace Cert.AttnBwd

open Cert.KernelIdeal Cert.KernelIdeal.Gen
open Idealize.ShloMosaic Idealize.ShloMosaic.TcCoe Idealize.ShloMosaic.Tactic

variable {m : (ℓ : Loc nD τ sig) → Buf (Elt Ideal) ℓ} {e : Dev nD}
variable {b : Fin 2} {h : Fin 16} {q k v g : Rows} {c : Line}

/-- A column of a cut, at its one lane. -/
theorem col_at (x y : FVec Ideal S2x16x2048x1 .f32) (he : x = y) (r : ℝ) (Y : Fin 2048) (hy : (y (ix4 b h Y 0) : EReal) = (r : EReal))
    (z : Fin 1) : (x (ix4 b h Y z) : EReal) = (r : EReal) := by
  rw [Subsingleton.elim z 0, he]
  exact hy
theorem ones3_at (x : FVec Ideal S2x16x2048x3 .f32) (he : x = broadcastInDim S2x16x2048x3 ![] bcast_S_S2x16x2048x3 (constant S_ FTy.f32 0x3F800000#32))
    (Y : Fin 2048) (z : Fin 3) : (x (ix4 b h Y z) : EReal) = ((1 : ℝ) : EReal) := by
  rw [he, EReal.coe_one]
  pointwise
theorem zeros55_at (x : FVec Ideal S2x16x2048x55 .f32) (he : x = broadcastInDim S2x16x2048x55 ![] bcast_S_S2x16x2048x55 (constant S_ FTy.f32 0#32))
    (Y : Fin 2048) (z : Fin 55) : (x (ix4 b h Y z) : EReal) = ((0 : ℝ) : EReal) := by
  rw [he, EReal.coe_zero]
  pointwise
theorem zeros60_at (x : FVec Ideal S2x16x2048x60 .f32) (he : x = broadcastInDim S2x16x2048x60 ![] bcast_S_S2x16x2048x60 (constant S_ FTy.f32 0#32))
    (Y : Fin 2048) (z : Fin 60) : (x (ix4 b h Y z) : EReal) = ((0 : ℝ) : EReal) := by
  rw [he, EReal.coe_zero]
  pointwise
theorem zero1_at (Y : Fin 2048) : ((broadcastInDim S2x16x2048x1 ![] bcast_S_S2x16x2048x1 (constant S_ FTy.f32 0#32) : FVec Ideal S2x16x2048x1 .f32) (ix4 b h Y 0) : EReal) = ((0 : ℝ) : EReal) := by
  rw [EReal.coe_zero]
  pointwise
theorem one1_at (Y : Fin 2048) : ((extractStridedSlice S2x16x2048x1 ![0, 0, 0, 0] (broadcastInDim S2x16x2048x3 ![] bcast_S_S2x16x2048x3 (constant S_ FTy.f32 0x3F800000#32)) slices_S2x16x2048x3_S2x16x2048x1_0_0_0_0 : FVec Ideal S2x16x2048x1 .f32) (ix4 b h Y 0) : EReal) = ((1 : ℝ) : EReal) := by
  rw [EReal.coe_one]
  pointwise

/-- The queries' operand. -/
theorem host_q (H : HeadM m e b h q k v g c) (Y : Fin 2048) (l : Fin 128) :
    opQ m e (ix4 b h Y l) = (lanes (fun d => q Y d * (1 / 8)) ![c Y, 0, 0, 1, 1, 1, -lse q k c Y, 0, 0] l : EReal) := by
  show (V m e main_v55 : S2x16x2048x128.Idx → EReal) (ix4 b h Y l) = _
  generalize hr : (lanes _ _ l : EReal) = r
  unfold V
  after_reads_at
  have hl := l.isLt
  by_cases h0 : l.val < 64
  · rw [dif_pos h0, ← hr, lanes_lo _ _ l h0]
    refine (congrFun (cut65_v35 m e) _).trans ?_
    pointwise
    rw [H.q, ofBits_eighth, ← EReal.coe_mul]
  rw [dif_neg h0]
  by_cases h1 : l.val - 64 < 1
  · rw [dif_pos h1, ← hr]
    rw [lanes_at _ _ l 0 (by simp; omega)]
    exact col_at _ _ (cut65_v37 m e) _ Y (vHi_at _ Y _ (vCol_at H Y)) _
  rw [dif_neg h1]
  by_cases h2 : l.val - 64 - 1 < 1
  · rw [dif_pos h2, ← hr]
    rw [lanes_at _ _ l 1 (by simp; omega)]
    exact col_at _ _ (cut65_v40 m e) _ Y (vHi_at _ Y _ (vRest_at _ Y _ (vCol_at H Y))) _
  rw [dif_neg h2]
  by_cases h3 : l.val - 64 - 1 - 1 < 1
  · rw [dif_pos h3, ← hr]
    rw [lanes_at _ _ l 2 (by simp; omega)]
    exact col_at _ _ (cut65_v43 m e) _ Y (vHi_at _ Y _ (vRest_at _ Y _ (vRest_at _ Y _ (vCol_at H Y)))) _
  rw [dif_neg h3]
  by_cases h4 : l.val - 64 - 1 - 1 - 1 < 3
  · rw [dif_pos h4, ← hr]
    refine (ones3_at _ (cut65_v32 m e) Y _).trans (congrArg _ ?_)
    have : l.val = 64 + 3 ∨ l.val = 64 + 4 ∨ l.val = 64 + 5 := by omega
    rcases this with hh | hh | hh
    · rw [lanes_at _ _ l 3 hh]; rfl
    · rw [lanes_at _ _ l 4 hh]; rfl
    · rw [lanes_at _ _ l 5 hh]; rfl
  rw [dif_neg h4]
  by_cases h5 : l.val - 64 - 1 - 1 - 1 - 3 < 1
  · rw [dif_pos h5, ← hr]
    rw [lanes_at _ _ l 6 (by simp; omega)]
    exact col_at _ _ (cut65_v46 m e) _ Y (vHi_at _ Y _ (neg_at _ Y _ (vLse_at H Y))) _
  rw [dif_neg h5]
  by_cases h6 : l.val - 64 - 1 - 1 - 1 - 3 - 1 < 1
  · rw [dif_pos h6, ← hr]
    rw [lanes_at _ _ l 7 (by simp; omega)]
    exact col_at _ _ (cut65_v49 m e) _ Y (vHi_at _ Y _ (vRest_at _ Y _ (neg_at _ Y _ (vLse_at H Y)))) _
  rw [dif_neg h6]
  by_cases h7 : l.val - 64 - 1 - 1 - 1 - 3 - 1 - 1 < 1
  · rw [dif_pos h7, ← hr]
    rw [lanes_at _ _ l 8 (by simp; omega)]
    exact col_at _ _ (cut65_v52 m e) _ Y (vHi_at _ Y _ (vRest_at _ Y _ (vRest_at _ Y _ (neg_at _ Y _ (vLse_at H Y))))) _
  rw [dif_neg h7]
  rw [← hr]
  refine (zeros55_at _ (cut65_v53 m e) Y _).trans (congrArg _ ?_)
  exact (lanes_hi _ _ l (by omega)).symm

/-- The keys' operand. -/
theorem host_k (H : HeadM m e b h q k v g c) (Y : Fin 2048) (l : Fin 128) :
    opK m e (ix4 b h Y l) = (lanes (k Y) ![1, 1, 1, -c Y, -0, -0, 1, 1, 1] l : EReal) := by
  show (V m e main_v69 : S2x16x2048x128.Idx → EReal) (ix4 b h Y l) = _
  generalize hr : (lanes _ _ l : EReal) = r
  unfold V
  after_reads_at
  have hl := l.isLt
  by_cases h0 : l.val < 64
  · rw [dif_pos h0, ← hr, lanes_lo _ _ l h0]
    exact (congrFun (cut80_arg1 m e) _).trans (H.k _ _)
  rw [dif_neg h0]
  by_cases h1 : l.val - 64 < 3
  · rw [dif_pos h1, ← hr]
    refine (ones3_at _ (cut80_v32 m e) Y _).trans (congrArg _ ?_)
    have : l.val = 64 + 0 ∨ l.val = 64 + 1 ∨ l.val = 64 + 2 := by omega
    rcases this with hh | hh | hh
    · rw [lanes_at _ _ l 0 hh]; rfl
    · rw [lanes_at _ _ l 1 hh]; rfl
    · rw [lanes_at _ _ l 2 hh]; rfl
  rw [dif_neg h1]
  by_cases h2 : l.val - 64 - 3 < 1
  · rw [dif_pos h2, ← hr]
    rw [lanes_at _ _ l 3 (by simp; omega)]
    exact col_at _ _ (cut80_v64 m e) _ Y (neg_at _ Y _ (vHi_at _ Y _ (vCol_at H Y))) _
  rw [dif_neg h2]
  by_cases h3 : l.val - 64 - 3 - 1 < 1
  · rw [dif_pos h3, ← hr]
    rw [lanes_at _ _ l 4 (by simp; omega)]
    exact col_at _ _ (cut80_v65 m e) _ Y (neg_at _ Y _ (vHi_at _ Y _ (vRest_at _ Y _ (vCol_at H Y)))) _
  rw [dif_neg h3]
  by_cases h4 : l.val - 64 - 3 - 1 - 1 < 1
  · rw [dif_pos h4, ← hr]
    rw [lanes_at _ _ l 5 (by simp; omega)]
    exact col_at _ _ (cut80_v66 m e) _ Y (neg_at _ Y _ (vHi_at _ Y _ (vRest_at _ Y _ (vRest_at _ Y _ (vCol_at H Y))))) _
  rw [dif_neg h4]
  by_cases h5 : l.val - 64 - 3 - 1 - 1 - 1 < 3
  · rw [dif_pos h5, ← hr]
    refine (ones3_at _ (cut80_v32 m e) Y _).trans (congrArg _ ?_)
    have : l.val = 64 + 6 ∨ l.val = 64 + 7 ∨ l.val = 64 + 8 := by omega
    rcases this with hh | hh | hh
    · rw [lanes_at _ _ l 6 hh]; rfl
    · rw [lanes_at _ _ l 7 hh]; rfl
    · rw [lanes_at _ _ l 8 hh]; rfl
  rw [dif_neg h5]
  rw [← hr]
  refine (zeros55_at _ (cut80_v67 m e) Y _).trans (congrArg _ ?_)
  exact (lanes_hi _ _ l (by omega)).symm

/-- The values' operand. -/
theorem host_v (H : HeadM m e b h q k v g c) (Y : Fin 2048) (l : Fin 128) :
    opV m e (ix4 b h Y l) = (lanes (v Y) ![1, 1, 1, 1, 0, 0, 0, 0, 0] l : EReal) := by
  show (V m e main_v73 : S2x16x2048x128.Idx → EReal) (ix4 b h Y l) = _
  generalize hr : (lanes _ _ l : EReal) = r
  unfold V
  after_reads_at
  have hl := l.isLt
  by_cases h0 : l.val < 64
  · rw [dif_pos h0, ← hr, lanes_lo _ _ l h0]
    exact (congrFun (cut85_arg2 m e) _).trans (H.v _ _)
  rw [dif_neg h0]
  by_cases h1 : l.val - 64 < 3
  · rw [dif_pos h1, ← hr]
    refine (ones3_at _ (cut85_v32 m e) Y _).trans (congrArg _ ?_)
    have : l.val = 64 + 0 ∨ l.val = 64 + 1 ∨ l.val = 64 + 2 := by omega
    rcases this with hh | hh | hh
    · rw [lanes_at _ _ l 0 hh]; rfl
    · rw [lanes_at _ _ l 1 hh]; rfl
    · rw [lanes_at _ _ l 2 hh]; rfl
  rw [dif_neg h1]
  by_cases h2 : l.val - 64 - 3 < 1
  · rw [dif_pos h2, ← hr]
    rw [lanes_at _ _ l 3 (by simp; omega)]
    exact col_at _ _ (cut85_v70 m e) _ Y (one1_at Y) _
  rw [dif_neg h2]
  rw [← hr]
  refine (zeros60_at _ (cut85_v71 m e) Y _).trans (congrArg _ ?_)
  have : l.val = 64 + 4 ∨ l.val = 64 + 5 ∨ l.val = 64 + 6 ∨ l.val = 64 + 7 ∨ l.val = 64 + 8 ∨ 73 ≤ l.val := by omega
  rcases this with hh | hh | hh | hh | hh | hh
  · rw [lanes_at _ _ l 4 hh]; rfl
  · rw [lanes_at _ _ l 5 hh]; rfl
  · rw [lanes_at _ _ l 6 hh]; rfl
  · rw [lanes_at _ _ l 7 hh]; rfl
  · rw [lanes_at _ _ l 8 hh]; rfl
  · exact (lanes_hi _ _ l hh).symm

/-- The incoming gradient's operand. -/
theorem host_g (H : HeadM m e b h q k v g c) (Y : Fin 2048) (l : Fin 128) :
    opD m e (ix4 b h Y l) = (lanes (g Y) ![0, -dl q k v g c Y, 0, 0, 0, 0, 0, 0, 0] l : EReal) := by
  show (V m e main_v86 : S2x16x2048x128.Idx → EReal) (ix4 b h Y l) = _
  generalize hr : (lanes _ _ l : EReal) = r
  unfold V
  after_reads_at
  have hl := l.isLt
  by_cases h0 : l.val < 64
  · rw [dif_pos h0, ← hr, lanes_lo _ _ l h0]
    exact (congrFun (cut100_arg4 m e) _).trans (H.g _ _)
  rw [dif_neg h0]
  by_cases h1 : l.val - 64 < 1
  · rw [dif_pos h1, ← hr]
    rw [lanes_at _ _ l 0 (by simp; omega)]
    exact col_at _ _ (cut100_v74 m e) _ Y (zero1_at Y) _
  rw [dif_neg h1]
  by_cases h2 : l.val - 64 - 1 < 1
  · rw [dif_pos h2, ← hr]
    rw [lanes_at _ _ l 1 (by simp; omega)]
    exact col_at _ _ (cut100_v77 m e) _ Y (vHi_at _ Y _ (neg_at _ Y _ (vDl_at H Y))) _
  rw [dif_neg h2]
  by_cases h3 : l.val - 64 - 1 - 1 < 1
  · rw [dif_pos h3, ← hr]
    rw [lanes_at _ _ l 2 (by simp; omega)]
    exact col_at _ _ (cut100_v80 m e) _ Y (vHi_at _ Y _ (vRest_at _ Y _ (neg_at _ Y _ (vDl_at H Y)))) _
  rw [dif_neg h3]
  by_cases h4 : l.val - 64 - 1 - 1 - 1 < 1
  · rw [dif_pos h4, ← hr]
    rw [lanes_at _ _ l 3 (by simp; omega)]
    exact col_at _ _ (cut100_v83 m e) _ Y (vHi_at _ Y _ (vRest_at _ Y _ (vRest_at _ Y _ (neg_at _ Y _ (vDl_at H Y))))) _
  rw [dif_neg h4]
  rw [← hr]
  refine (zeros60_at _ (cut100_v84 m e) Y _).trans (congrArg _ ?_)
  have : l.val = 64 + 4 ∨ l.val = 64 + 5 ∨ l.val = 64 + 6 ∨ l.val = 64 + 7 ∨ l.val = 64 + 8 ∨ 73 ≤ l.val := by omega
  rcases this with hh | hh | hh | hh | hh | hh
  · rw [lanes_at _ _ l 4 hh]; rfl
  · rw [lanes_at _ _ l 5 hh]; rfl
  · rw [lanes_at _ _ l 6 hh]; rfl
  · rw [lanes_at _ _ l 7 hh]; rfl
  · rw [lanes_at _ _ l 8 hh]; rfl
  · exact (lanes_hi _ _ l hh).symm

end Cert.AttnBwd

end
-- ==== Proof.Results.lean ====
/- Hand-written. The kernel program's four results at an index, over the extended reals at finite arguments: the gradients of
the forgetting attention of one head. -/
module

public import proofs.«01_k».proof.Proof.Arrays
public import proofs.«01_k».proof.Proof.Operands
public import Idealize.ShloMosaic.Lib.StableHlo.ReadAt

@[expose] public section

set_option maxRecDepth 16384

noncomputable section

namespace Cert.AttnBwd

open Cert.KernelIdeal Cert.KernelIdeal.Gen
open Idealize.ShloMosaic Idealize.ShloMosaic.TcCoe Idealize.ShloMosaic.Tactic Idealize.ShloMosaic.Pipeline

variable {m : (ℓ : Loc nD τ sig) → Buf (Elt Ideal) ℓ} {e : Dev nD}
variable {b : Fin 2} {h : Fin 16} {q k v g : Rows} {c : Line}

theorem sum_nine (f : Fin 9 → ℝ) : ∑ i, f i = f 0 + f 1 + f 2 + f 3 + f 4 + f 5 + f 6 + f 7 + f 8 := by
  rw [Fin.sum_univ_castSucc, Fin.sum_univ_eight]
  rfl

/-- The product of a query's row with a key's is the logit less the row's log-sum. -/
theorem score (H : HeadM m e b h q k v g c) (Y X : Fin 2048) :
    ∑ l : Fin 128, opQ m e (ix4 b h Y l) * opK m e (ix4 b h X l) = ((lg q k c Y X - lse q k c Y : ℝ) : EReal) := by
  simp only [host_q H, host_k H, ← EReal.coe_mul, coe_sum]
  refine congrArg _ ?_
  rw [lanes_mul, sum_nine]
  have hq : ∑ d, q Y d * (1 / 8) * k X d = (∑ d, q Y d * k X d) * (1 / 8) := by
    rw [Finset.sum_mul]
    exact Finset.sum_congr rfl fun d _ => by ring
  rw [hq]
  unfold lg
  change (∑ d, q Y d * k X d) * (1 / 8) + (c Y * 1 + 0 * 1 + 0 * 1 + 1 * (-c X) + 1 * (-0) + 1 * (-0) + (-lse q k c Y) * 1 + 0 * 1 + 0 * 1) = _
  ring

/-- The product of an incoming gradient's row with a value's is the gradient along the value less that along the output. -/
theorem slope (H : HeadM m e b h q k v g c) (Y X : Fin 2048) :
    ∑ l : Fin 128, opD m e (ix4 b h Y l) * opV m e (ix4 b h X l) = ((dp v g Y X - dl q k v g c Y : ℝ) : EReal) := by
  simp only [host_g H, host_v H, ← EReal.coe_mul, coe_sum]
  refine congrArg _ ?_
  rw [lanes_mul, sum_nine]
  unfold dp
  change (∑ d, g Y d * v X d) + (0 * 1 + (-dl q k v g c Y) * 1 + 0 * 1 + 0 * 1 + 0 * 0 + 0 * 0 + 0 * 0 + 0 * 0 + 0 * 0) = _
  ring

/-- The kernel's weights are the attention's. -/
theorem wt_real (H : HeadM m e b h q k v g c) (Y X : Fin 2048) : wtA (opQ m e) (opK m e) b h Y X = (pr q k c Y X : EReal) := by
  unfold wtA
  by_cases hX : X ≤ Y
  · rw [if_pos (show X.val ≤ Y.val from hX), score H, Ideal.exp_coe, exp_lse q k c Y X hX]
  · rw [if_neg (show ¬ X.val ≤ Y.val from hX), pr_above q k c Y X hX, EReal.coe_zero]

/-- The kernel's gradients of the weights' logarithms are the logits' gradients. -/
theorem gr_real (H : HeadM m e b h q k v g c) (Y X : Fin 2048) :
    grA (opQ m e) (opK m e) (opV m e) (opD m e) b h Y X = (gd q k v g c Y X : EReal) := by
  unfold grA
  rw [wt_real H, slope H, ← EReal.coe_mul]
  rfl

theorem dq_real (H : HeadM m e b h q k v g c) (Y : Fin 2048) (l : Fin 128) :
    dqA (opQ m e) (opK m e) (opV m e) (opD m e) b h Y l
      = ((∑ X, gd q k v g c Y X * lanes (k X) ![1, 1, 1, -c X, -0, -0, 1, 1, 1] l : ℝ) : EReal) := by
  unfold dqA
  simp only [gr_real H, host_k H, ← EReal.coe_mul, coe_sum]
theorem dk_real (H : HeadM m e b h q k v g c) (X : Fin 2048) (l : Fin 128) :
    dkA (opQ m e) (opK m e) (opV m e) (opD m e) b h X l
      = ((∑ Y, gd q k v g c Y X * lanes (fun d => q Y d * (1 / 8)) ![c Y, 0, 0, 1, 1, 1, -lse q k c Y, 0, 0] l : ℝ) : EReal) := by
  unfold dkA
  simp only [gr_real H, host_q H, ← EReal.coe_mul, coe_sum]
theorem dv_real (H : HeadM m e b h q k v g c) (X : Fin 2048) (l : Fin 128) :
    dvA (opQ m e) (opK m e) (opD m e) b h X l
      = ((∑ Y, pr q k c Y X * lanes (g Y) ![0, -dl q k v g c Y, 0, 0, 0, 0, 0, 0, 0] l : ℝ) : EReal) := by
  unfold dvA
  simp only [wt_real H, host_g H, ← EReal.coe_mul, coe_sum]

/-! ## The host lines after the call -/

/-- The buffers after the whole program. -/
abbrev outs (m : (ℓ : Loc nD τ sig) → Buf (Elt Ideal) ℓ) (e : Dev nD) (r : Ref sig .tc) : Buf (Elt Ideal) ((e.tc : Thread nD τ).loc r) :=
  Pipeline.afterTail₀ cfgs (dats m) 0 (V0 m) [hostOps1] e r
/-- The buffers as the call leaves them. -/
abbrev left (m : (ℓ : Loc nD τ sig) → Buf (Elt Ideal) ℓ) (e : Dev nD) :=
  withArrays (cfgs 0).spec e (V0 m e) (fun w => (dats m 0 e).arrAt w (cfgs 0).N)

theorem arr_dq : left m e (Proc.devRef .tc main_v87_0)
    = (fun i : S2x16x2048x128.Idx => dqA (opQ m e) (opK m e) (opV m e) (opD m e) (i 0) (i 1) (i 2) (i 3)) :=
  (withArrays_arr (cfgs 0).spec launch0.win.arr_inj e (V0 m e) _ 4).trans (final_dq m e)
theorem arr_dk : left m e (Proc.devRef .tc main_v87_1)
    = (fun i : S2x16x2048x128.Idx => dkA (opQ m e) (opK m e) (opV m e) (opD m e) (i 0) (i 1) (i 2) (i 3)) :=
  (withArrays_arr (cfgs 0).spec launch0.win.arr_inj e (V0 m e) _ 5).trans (final_dk m e)
theorem arr_dv : left m e (Proc.devRef .tc main_v87_2)
    = (fun i : S2x16x2048x128.Idx => dvA (opQ m e) (opK m e) (opD m e) (i 0) (i 1) (i 2) (i 3)) :=
  (withArrays_arr (cfgs 0).spec launch0.win.arr_inj e (V0 m e) _ 6).trans (final_dv m e)

/-- A lane of the first 64. -/
abbrev lane (d : Fin 64) : Fin 128 := ⟨d.val, by omega⟩

variable (W : Valuation τ sig (Elt Ideal))
theorem tail_dq (A : FVec Ideal S2x16x2048x128 .f32) (hA : W (Proc.devRef .tc main_v87_0) = A) (Y : Fin 2048) (d : Fin 64) :
    (StableHlo.after hostOps1 W (Proc.devRef .tc main_v90) : S2x16x2048x64.Idx → EReal) (ix4 b h Y d)
      = (A (ix4 b h Y (lane d)) : EReal) * ((1 / 8 : ℝ) : EReal) := by
  after_reads_at
  rw [hA, ofBits_eighth]
theorem tail_dk (A : FVec Ideal S2x16x2048x128 .f32) (hA : W (Proc.devRef .tc main_v87_1) = A) (X : Fin 2048) (d : Fin 64) :
    (StableHlo.after hostOps1 W (Proc.devRef .tc main_v91) : S2x16x2048x64.Idx → EReal) (ix4 b h X d)
      = (A (ix4 b h X (lane d)) : EReal) := by
  after_reads_at
  rw [hA]
theorem tail_dv (A : FVec Ideal S2x16x2048x128 .bf16) (hA : W (Proc.devRef .tc main_v87_2) = A) (X : Fin 2048) (d : Fin 64) :
    (StableHlo.after hostOps1 W (Proc.devRef .tc main_v93) : S2x16x2048x64.Idx → EReal) (ix4 b h X d)
      = (A (ix4 b h X (lane d)) : EReal) := by
  after_reads_at
  rw [hA]
theorem tail_dc (A A' : FVec Ideal S2x16x2048x128 .f32) (hA : W (Proc.devRef .tc main_v87_0) = A) (hA' : W (Proc.devRef .tc main_v87_1) = A') (X : Fin 2048) :
    (StableHlo.after hostOps1 W (Proc.devRef .tc main_v98) : S2x16x2048.Idx → EReal) (ix3 b h X)
      = (A (ix4 b h X 64) : EReal) - (A' (ix4 b h X 67) : EReal) := by
  after_reads_at
  rw [hA, hA']

/-! ## The results -/

theorem dq_at (H : HeadM m e b h q k v g c) (Y : Fin 2048) (d : Fin 64) :
    (outs m e main_v90 : S2x16x2048x64.Idx → EReal) (ix4 b h Y d) = (gradQ q k v g c Y d : EReal) := by
  refine (tail_dq (left m e) _ arr_dq Y d).trans ?_
  refine (congrArg (· * ((1 / 8 : ℝ) : EReal)) (dq_real H Y (lane d))).trans ?_
  rw [← EReal.coe_mul]
  simp only [fun (r : Fin 64 → ℝ) (t : Fin 9 → ℝ) => lanes_lo r t (lane d) d.isLt]
  rfl
theorem dk_at (H : HeadM m e b h q k v g c) (X : Fin 2048) (d : Fin 64) :
    (outs m e main_v91 : S2x16x2048x64.Idx → EReal) (ix4 b h X d) = (gradK q k v g c X d : EReal) := by
  refine (tail_dk (left m e) _ arr_dk X d).trans ?_
  refine (dk_real H X (lane d)).trans ?_
  simp only [fun (r : Fin 64 → ℝ) (t : Fin 9 → ℝ) => lanes_lo r t (lane d) d.isLt]
  rfl
theorem dv_at (H : HeadM m e b h q k v g c) (X : Fin 2048) (d : Fin 64) :
    (outs m e main_v93 : S2x16x2048x64.Idx → EReal) (ix4 b h X d) = (gradV q k g c X d : EReal) := by
  refine (tail_dv (left m e) _ arr_dv X d).trans ?_
  refine (dv_real H X (lane d)).trans ?_
  simp only [fun (r : Fin 64 → ℝ) (t : Fin 9 → ℝ) => lanes_lo r t (lane d) d.isLt]
  rfl
theorem dc_at (H : HeadM m e b h q k v g c) (X : Fin 2048) :
    (outs m e main_v98 : S2x16x2048.Idx → EReal) (ix3 b h X) = (gradC q k v g c X : EReal) := by
  refine (tail_dc (left m e) _ _ arr_dq arr_dk X).trans ?_
  refine (congrArg₂ (· - ·) (dq_real H X 64) (dk_real H X 67)).trans ?_
  rw [← EReal.coe_sub]
  refine congrArg _ ?_
  have h1 : ∀ Z, lanes (k Z) ![1, 1, 1, -c Z, -0, -0, 1, 1, 1] 64 = 1 := fun Z => lanes_at _ _ 64 0 rfl
  have h2 : ∀ Y, lanes (fun d => q Y d * (1 / 8)) ![c Y, 0, 0, 1, 1, 1, -lse q k c Y, 0, 0] 67 = 1 := fun Y => lanes_at _ _ 67 3 rfl
  simp only [h1, h2, mul_one]
  rfl

end Cert.AttnBwd

end
-- ==== Proof.Reference.lean ====
/- Hand-written. The reference's four results at an index, over the extended reals at finite arguments: the gradients of
the forgetting attention of one head. -/
module

public import proofs.«01_k».proof.Proof.Gen.ReferenceIdeal.Read
public import proofs.«01_k».proof.Proof.Host

@[expose] public section

set_option maxRecDepth 16384

noncomputable section

namespace Cert.AttnBwd.Ref

open Cert.ReferenceIdeal Cert.ReferenceIdeal.Gen Cert.ReferenceIdeal.Read
open Idealize.ShloMosaic Idealize.ShloMosaic.TcCoe Idealize.ShloMosaic.Tactic

/-- Over the reals the arrays' elements are extended reals. -/
abbrev A4 := FVec Ideal S2x16x2048x64 .f32
abbrev A3 := FVec Ideal S2x16x2048 .f32
abbrev AW := FVec Ideal S2x16x2048x2048 .f32
abbrev A1 := FVec Ideal S2x16x2048x1 .f32

variable {x0 x1 x2 x4 : A4} {x3 : A3} {b : Fin 2} {h : Fin 16} {q k v g : Rows} {c : Line}

/-- The logits. -/
theorem logit_at (H : Head x0 x1 x2 x4 x3 b h q k v g c) (Y X : Fin 2048) :
    (val_main_v16_0 (F := Ideal) x0 x1 x3 (ix4 b h Y X) : EReal) = if X ≤ Y then (lg q k c Y X : EReal) else ⊥ := by
  pointwise [val_main_v16_0, val_main_v16_1, val_main_call0_v2, val_main_call0_v0, val_main_cst_0, val_main_v15, val_main_v14, val_main_v13, val_main_v12, val_main_v11, val_main_v10, val_main_v9, val_main_v8, val_main_v7, val_main_v6, val_main_v5, val_main_v4, val_main_v3, val_main_v2, val_main_v1, val_main_v0, val_main_cst]
  simp only [H.q, H.k, H.c, logit_val]

/-- Which keys a query sees. -/
theorem seen_at (Y X : Fin 2048) : val_main_v16_1 (F := Ideal) (ix4 b h Y X) = BitVec.ofBool (decide (X.val ≤ Y.val)) := by
  pointwise [val_main_v16_1, val_main_v14, val_main_v13, val_main_v12, val_main_v11, val_main_v10, val_main_v9, val_main_v8]
  exact WordCmp.cmpi_sle_ofNat (by have := X.isLt; norm_num; omega) (by have := Y.isLt; norm_num; omega)

/-- The rows' largest logits, twice. -/
theorem top_eq : val_main_v17 (F := Ideal) x0 x1 x3 = Host.reduce (FloatOps.maximumf (F := Ideal) (φ := .f32)) (val_main_v16_0 (F := Ideal) x0 x1 x3)
    (constant (F := Ideal) S_ .f32 0xFF800000#32) reducesTo_S2x16x2048x2048_S2x16x2048_d3 h_S_ := rfl
theorem top_at (H : Head x0 x1 x2 x4 x3 b h q k v g c) (Y : Fin 2048) :
    (val_main_v17 (F := Ideal) x0 x1 x3 (ix3 b h Y) : EReal) = (top q k c Y : EReal) :=
  (congrFun top_eq (ix3 b h Y)).trans (max_of _ b h Y (logit_at H Y))
theorem floor_of (t : A3) (Y : Fin 2048) : ((maximumf (val_main_v23 (F := Ideal)) t : A3) (ix3 b h Y) : EReal) = max ⊥ (t (ix3 b h Y) : EReal) := by
  pointwise [val_main_v23, val_main_cst_3]
  rw [ofBits_bot]
theorem top24_eq : val_main_v24 (F := Ideal) x0 x1 x3 = (maximumf (val_main_v23 (F := Ideal)) (val_main_v17 (F := Ideal) x0 x1 x3) : A3) := rfl
theorem top24_at (H : Head x0 x1 x2 x4 x3 b h q k v g c) (Y : Fin 2048) :
    (val_main_v24 (F := Ideal) x0 x1 x3 (ix3 b h Y) : EReal) = (top q k c Y : EReal) := by
  rw [top24_eq, floor_of, top_at H]
  exact max_eq_right bot_le

/-- The shifted exponentials. -/
theorem exp_of (l : AW) (t : A3) (Y X : Fin 2048) :
    ((Host.exp (subf l (broadcastInDim S2x16x2048x2048 ![0, 1, 2, 3] bcast_S2x16x2048x1_S2x16x2048x2048_0_1_2_3 (broadcastInDim S2x16x2048x1 ![0, 1, 2] bcast_S2x16x2048_S2x16x2048x1_0_1_2 t))) : AW) (ix4 b h Y X) : EReal)
      = Ideal.exp ((l (ix4 b h Y X) : EReal) - (t (ix3 b h Y) : EReal)) := by
  pointwise
theorem ex_eq : val_main_v37 (F := Ideal) x0 x1 x3 = (Host.exp (subf (val_main_v16_0 (F := Ideal) x0 x1 x3) (broadcastInDim S2x16x2048x2048 ![0, 1, 2, 3] bcast_S2x16x2048x1_S2x16x2048x2048_0_1_2_3 (broadcastInDim S2x16x2048x1 ![0, 1, 2] bcast_S2x16x2048_S2x16x2048x1_0_1_2 (val_main_v24 (F := Ideal) x0 x1 x3)))) : AW) := rfl
theorem ex_at (H : Head x0 x1 x2 x4 x3 b h q k v g c) (Y X : Fin 2048) :
    (val_main_v37 (F := Ideal) x0 x1 x3 (ix4 b h Y X) : EReal) = (ex q k c Y X : EReal) := by
  rw [ex_eq, exp_of, logit_at H, top24_at H, exp_val]

/-- The rows' sums. -/
theorem tot_of (E : AW) (Y : Fin 2048) :
    ((broadcastInDim S2x16x2048x1 ![0, 1, 2] bcast_S2x16x2048_S2x16x2048x1_0_1_2 (Host.reduceAdd E (val_main_cst_9 (F := Ideal)) reducesTo_S2x16x2048x2048_S2x16x2048_d3 h_S_) : A1) (ix4 b h Y 0) : EReal)
      = ∑ X : Fin 2048, (E (ix4 b h Y X) : EReal) := by
  pointwise [val_main_cst_9]
theorem tot_eq : val_main_v39 (F := Ideal) x0 x1 x3 = (broadcastInDim S2x16x2048x1 ![0, 1, 2] bcast_S2x16x2048_S2x16x2048x1_0_1_2 (Host.reduceAdd (val_main_v37 (F := Ideal) x0 x1 x3) (val_main_cst_9 (F := Ideal)) reducesTo_S2x16x2048x2048_S2x16x2048_d3 h_S_) : A1) := rfl
theorem tot_at (H : Head x0 x1 x2 x4 x3 b h q k v g c) (Y : Fin 2048) :
    (val_main_v39 (F := Ideal) x0 x1 x3 (ix4 b h Y 0) : EReal) = (tot q k c Y : EReal) := by
  rw [tot_eq, tot_of]
  simp only [ex_at H, sum_val]

/-- The reciprocal squares of the rows' sums. -/
theorem inv_of (s : A1) (Y : Fin 2048) :
    ((Host.divf (val_main_v43 (F := Ideal)) (mulf s s) : A1) (ix4 b h Y 0) : EReal) = Ideal.div 1 ((s (ix4 b h Y 0) : EReal) * (s (ix4 b h Y 0) : EReal)) := by
  pointwise [val_main_v43, val_main_cst_10]
theorem inv_eq : val_main_v44 (F := Ideal) x0 x1 x3 = (Host.divf (val_main_v43 (F := Ideal)) (mulf (val_main_v39 (F := Ideal) x0 x1 x3) (val_main_v39 (F := Ideal) x0 x1 x3)) : A1) := rfl
theorem inv_at (H : Head x0 x1 x2 x4 x3 b h q k v g c) (Y : Fin 2048) :
    (val_main_v44 (F := Ideal) x0 x1 x3 (ix4 b h Y 0) : EReal) = ((1 * (1 / (tot q k c Y * tot q k c Y)) : ℝ) : EReal) := by
  rw [inv_eq, inv_of, tot_at H, ← EReal.coe_mul, Ideal.div_coe (mul_ne_zero (tot_pos q k c Y).ne' (tot_pos q k c Y).ne'), ← EReal.coe_one, ← EReal.coe_mul]

/-- The gradient of the values. -/
theorem gradV_of (E : AW) (s : A1) (w : A4) (X : Fin 2048) (d : Fin 64) :
    ((transpose S2x16x2048x64 [0, 1, 3, 2] (Host.dotGeneral dot_S2x16x2048x64_S2x16x2048x2048_S2x16x64x2048_2_2_3_3_01_01 none w (Host.divf E (broadcastInDim S2x16x2048x2048 ![0, 1, 2, 3] bcast_S2x16x2048x1_S2x16x2048x2048_0_1_2_3 s) : AW)) transposes_S2x16x64x2048_S2x16x2048x64_0_1_3_2 : A4) (ix4 b h X d) : EReal)
      = ∑ Y : Fin 2048, (w (ix4 b h Y d) : EReal) * Ideal.div (E (ix4 b h Y X) : EReal) (s (ix4 b h Y 0) : EReal) := by
  pointwise
theorem gradV_eq : val_main_v47 (F := Ideal) x0 x1 x3 x4 = (transpose S2x16x2048x64 [0, 1, 3, 2] (Host.dotGeneral dot_S2x16x2048x64_S2x16x2048x2048_S2x16x64x2048_2_2_3_3_01_01 none x4 (Host.divf (val_main_v37 (F := Ideal) x0 x1 x3) (broadcastInDim S2x16x2048x2048 ![0, 1, 2, 3] bcast_S2x16x2048x1_S2x16x2048x2048_0_1_2_3 (val_main_v39 (F := Ideal) x0 x1 x3)) : AW)) transposes_S2x16x64x2048_S2x16x2048x64_0_1_3_2 : A4) := rfl
theorem gradV_at (H : Head x0 x1 x2 x4 x3 b h q k v g c) (X : Fin 2048) (d : Fin 64) :
    (val_main_v47 (F := Ideal) x0 x1 x3 x4 (ix4 b h X d) : EReal) = (gradV q k g c X d : EReal) := by
  rw [gradV_eq, gradV_of]
  simp only [ex_at H, tot_at H, H.g, div_val, ← EReal.coe_mul, coe_sum]
  exact congrArg _ (Finset.sum_congr rfl fun Y _ => mul_comm _ _)

/-- The gradient of the logits. -/
theorem gd_of (E : AW) (s i : A1) (w u : A4) (Y X : Fin 2048) :
    ((select (val_main_v16_1 (F := Ideal))
        (mulf (addf (Host.divf (Host.dotGeneral dot_S2x16x2048x64_S2x16x2048x64_S2x16x2048x2048_3_3_2_2_01_01 none w u) (broadcastInDim S2x16x2048x2048 ![0, 1, 2, 3] bcast_S2x16x2048x1_S2x16x2048x2048_0_1_2_3 s))
          (broadcastInDim S2x16x2048x2048 ![0, 1, 2] bcast_S2x16x2048_S2x16x2048x2048_0_1_2
            (Host.reduceAdd (Host.negf (shapeCast _ (Host.reduceAdd (mulf (mulf (Host.dotGeneral dot_S2x16x2048x64_S2x16x2048x64_S2x16x2048x2048_3_3_2_2_01_01 none w u)
                (broadcastInDim S2x16x2048x2048 ![0, 1, 2, 3] bcast_S2x16x2048x1_S2x16x2048x2048_0_1_2_3 i)) E) (val_main_cst_11 (F := Ideal)) reducesTo_S2x16x2048x2048_S2x16x2048_d3 h_S_) shapeCasts_S2x16x2048_S2x16x2048x1))
              (val_main_cst_12 (F := Ideal)) reducesTo_S2x16x2048x1_S2x16x2048_d3 h_S_))) E)
        (val_main_call1_v0 (F := Ideal)) : AW) (ix4 b h Y X) : EReal)
      = Scalar.select (val_main_v16_1 (F := Ideal) (ix4 b h Y X))
          ((Ideal.div (∑ d : Fin 64, (w (ix4 b h Y d) : EReal) * (u (ix4 b h X d) : EReal)) (s (ix4 b h Y 0) : EReal)
            + ∑ _z : Fin 1, -∑ Z : Fin 2048, (∑ d : Fin 64, (w (ix4 b h Y d) : EReal) * (u (ix4 b h Z d) : EReal)) * (i (ix4 b h Y 0) : EReal) * (E (ix4 b h Y Z) : EReal)) * (E (ix4 b h Y X) : EReal)) (0 : EReal) := by
  pointwise [val_main_cst_11, val_main_cst_12, val_main_call1_v0, val_main_call1_cst]
theorem gd_eq' : val_main_v61 (F := Ideal) x0 x1 x2 x3 x4 = (select (val_main_v16_1 (F := Ideal))
        (mulf (addf (Host.divf (Host.dotGeneral dot_S2x16x2048x64_S2x16x2048x64_S2x16x2048x2048_3_3_2_2_01_01 none x4 x2) (broadcastInDim S2x16x2048x2048 ![0, 1, 2, 3] bcast_S2x16x2048x1_S2x16x2048x2048_0_1_2_3 (val_main_v39 (F := Ideal) x0 x1 x3)))
          (broadcastInDim S2x16x2048x2048 ![0, 1, 2] bcast_S2x16x2048_S2x16x2048x2048_0_1_2
            (Host.reduceAdd (Host.negf (shapeCast _ (Host.reduceAdd (mulf (mulf (Host.dotGeneral dot_S2x16x2048x64_S2x16x2048x64_S2x16x2048x2048_3_3_2_2_01_01 none x4 x2)
                (broadcastInDim S2x16x2048x2048 ![0, 1, 2, 3] bcast_S2x16x2048x1_S2x16x2048x2048_0_1_2_3 (val_main_v44 (F := Ideal) x0 x1 x3))) (val_main_v37 (F := Ideal) x0 x1 x3)) (val_main_cst_11 (F := Ideal)) reducesTo_S2x16x2048x2048_S2x16x2048_d3 h_S_) shapeCasts_S2x16x2048_S2x16x2048x1))
              (val_main_cst_12 (F := Ideal)) reducesTo_S2x16x2048x1_S2x16x2048_d3 h_S_))) (val_main_v37 (F := Ideal) x0 x1 x3))
        (val_main_call1_v0 (F := Ideal)) : AW) := rfl
theorem gd_at (H : Head x0 x1 x2 x4 x3 b h q k v g c) (Y X : Fin 2048) :
    (val_main_v61 (F := Ideal) x0 x1 x2 x3 x4 (ix4 b h Y X) : EReal) = (gd q k v g c Y X : EReal) := by
  rw [gd_eq', gd_of]
  rw [seen_at]
  unfold Scalar.select
  by_cases hX : X ≤ Y
  · simp only [show X.val ≤ Y.val from hX, decide_true, H.g, H.v, tot_at H, inv_at H, ex_at H, ← EReal.coe_mul, coe_sum,
      Ideal.div_coe (tot_pos q k c Y).ne', Finset.univ_unique, Finset.sum_singleton, ← EReal.coe_neg, ← EReal.coe_add]
    rw [if_pos (by decide)]
    exact congrArg _ (gd_eq q k v g c Y X)
  · simp only [show ¬ X.val ≤ Y.val from hX, decide_false]
    rw [gd_above q k v g c Y X hX, EReal.coe_zero]
    rfl

/-- The gradient of the queries. -/
theorem gradQ_of (G : AW) (w : A4) (Y : Fin 2048) (d : Fin 64) :
    ((Host.dotGeneral dot_S2x16x2048x2048_S2x16x2048x64_S2x16x2048x64_3_2_2_3_01_01 none (mulf G (val_main_v70 (F := Ideal))) w : A4) (ix4 b h Y d) : EReal)
      = ∑ X : Fin 2048, (G (ix4 b h Y X) : EReal) * ((1 / 8 : ℝ) : EReal) * (w (ix4 b h X d) : EReal) := by
  pointwise [val_main_v70, val_main_cst_17]
  simp only [ofBits_eighth]
theorem gradQ_eq : val_main_v73 (F := Ideal) x0 x1 x2 x3 x4 = (Host.dotGeneral dot_S2x16x2048x2048_S2x16x2048x64_S2x16x2048x64_3_2_2_3_01_01 none (mulf (val_main_v61 (F := Ideal) x0 x1 x2 x3 x4) (val_main_v70 (F := Ideal)) : AW) x1 : A4) := rfl
theorem gradQ_at (H : Head x0 x1 x2 x4 x3 b h q k v g c) (Y : Fin 2048) (d : Fin 64) :
    (val_main_v73 (F := Ideal) x0 x1 x2 x3 x4 (ix4 b h Y d) : EReal) = (gradQ q k v g c Y d : EReal) := by
  rw [gradQ_eq, gradQ_of]
  simp only [gd_at H, H.k, ← EReal.coe_mul, coe_sum]
  refine congrArg _ ?_
  unfold gradQ
  rw [Finset.sum_mul]
  exact Finset.sum_congr rfl fun X _ => by ring

/-- The gradient of the keys. -/
theorem gradK_of (G : AW) (w : A4) (X : Fin 2048) (d : Fin 64) :
    ((Host.dotGeneral dot_S2x16x2048x2048_S2x16x2048x64_S2x16x2048x64_2_2_3_3_01_01 none (mulf G (val_main_v70 (F := Ideal))) w : A4) (ix4 b h X d) : EReal)
      = ∑ Y : Fin 2048, (G (ix4 b h Y X) : EReal) * ((1 / 8 : ℝ) : EReal) * (w (ix4 b h Y d) : EReal) := by
  pointwise [val_main_v70, val_main_cst_17]
  simp only [ofBits_eighth]
theorem gradK_eq : val_main_v72 (F := Ideal) x0 x1 x2 x3 x4 = (Host.dotGeneral dot_S2x16x2048x2048_S2x16x2048x64_S2x16x2048x64_2_2_3_3_01_01 none (mulf (val_main_v61 (F := Ideal) x0 x1 x2 x3 x4) (val_main_v70 (F := Ideal)) : AW) x0 : A4) := rfl
theorem gradK_at (H : Head x0 x1 x2 x4 x3 b h q k v g c) (X : Fin 2048) (d : Fin 64) :
    (val_main_v72 (F := Ideal) x0 x1 x2 x3 x4 (ix4 b h X d) : EReal) = (gradK q k v g c X d : EReal) := by
  rw [gradK_eq, gradK_of]
  simp only [gd_at H, H.q, ← EReal.coe_mul, coe_sum]
  refine congrArg _ ?_
  unfold gradK
  exact Finset.sum_congr rfl fun Y _ => by ring

/-- The gradient of the decays. -/
theorem gradC_of (G : AW) (X : Fin 2048) :
    ((addf (Host.reduceAdd (shapeCast _ (Host.reduceAdd (Host.negf G) (val_main_cst_14 (F := Ideal)) reducesTo_S2x16x2048x2048_S2x16x2048_d2 h_S_) shapeCasts_S2x16x2048_S2x16x1x2048) (val_main_cst_15 (F := Ideal)) reducesTo_S2x16x1x2048_S2x16x2048_d2 h_S_)
      (Host.reduceAdd (shapeCast _ (Host.reduceAdd G (val_main_cst_13 (F := Ideal)) reducesTo_S2x16x2048x2048_S2x16x2048_d3 h_S_) shapeCasts_S2x16x2048_S2x16x2048x1) (val_main_cst_16 (F := Ideal)) reducesTo_S2x16x2048x1_S2x16x2048_d3 h_S_) : A3) (ix3 b h X) : EReal)
      = (∑ _z : Fin 1, ∑ Y : Fin 2048, -(G (ix4 b h Y X) : EReal)) + ∑ _z : Fin 1, ∑ Z : Fin 2048, (G (ix4 b h X Z) : EReal) := by
  pointwise [val_main_cst_13, val_main_cst_14, val_main_cst_15, val_main_cst_16]
theorem gradC_eq : val_main_v69 (F := Ideal) x0 x1 x2 x3 x4 = (addf (Host.reduceAdd (shapeCast _ (Host.reduceAdd (Host.negf (val_main_v61 (F := Ideal) x0 x1 x2 x3 x4)) (val_main_cst_14 (F := Ideal)) reducesTo_S2x16x2048x2048_S2x16x2048_d2 h_S_) shapeCasts_S2x16x2048_S2x16x1x2048) (val_main_cst_15 (F := Ideal)) reducesTo_S2x16x1x2048_S2x16x2048_d2 h_S_)
      (Host.reduceAdd (shapeCast _ (Host.reduceAdd (val_main_v61 (F := Ideal) x0 x1 x2 x3 x4) (val_main_cst_13 (F := Ideal)) reducesTo_S2x16x2048x2048_S2x16x2048_d3 h_S_) shapeCasts_S2x16x2048_S2x16x2048x1) (val_main_cst_16 (F := Ideal)) reducesTo_S2x16x2048x1_S2x16x2048_d3 h_S_) : A3) := rfl
theorem gradC_at (H : Head x0 x1 x2 x4 x3 b h q k v g c) (X : Fin 2048) :
    (val_main_v69 (F := Ideal) x0 x1 x2 x3 x4 (ix3 b h X) : EReal) = (gradC q k v g c X : EReal) := by
  rw [gradC_eq, gradC_of]
  simp only [gd_at H, ← EReal.coe_neg, coe_sum, Finset.univ_unique, Finset.sum_singleton, ← EReal.coe_add]
  refine congrArg _ ?_
  unfold gradC
  rw [Finset.sum_neg_distrib]
  ring

end Cert.AttnBwd.Ref

end
-- ==== Proof.Algebraic.lean ====
/- Hand-written. At finite arguments the kernel program and the reference end with equal results: the gradients of the
forgetting attention. -/
module

public import proofs.«01_k».proof.Proof.Frames
public import proofs.«01_k».proof.Proof.Results
public import proofs.«01_k».proof.Proof.Reference

@[expose] public section

set_option maxRecDepth 16384

noncomputable section

namespace Cert.AttnBwd

open Cert.KernelIdeal Cert.KernelIdeal.Gen
open Idealize.ShloMosaic Idealize.ShloMosaic.TcCoe Idealize.ShloMosaic.Tactic Idealize.SL.Sem

/-- A number whose absolute value is below `+∞` is real. -/
theorem real_of_abs (x : EReal) (hx : FloatOps.cmpf (F := Ideal) (φ := .f32) .olt (max x (-x)) (Ideal.ofBits .f32 0x7F800000#32) = 1#1) :
    ∃ r : ℝ, x = (r : EReal) := by
  rw [ofBits_top] at hx
  have hlt : max x (-x) < ⊤ := by
    by_contra hn
    have h0 : FloatOps.cmpf (F := Ideal) (φ := .f32) .olt (max x (-x)) (⊤ : EReal) = 0#1 := by
      change BitVec.ofBool (decide (max x (-x) < ⊤)) = 0#1
      rw [decide_eq_false hn]
      rfl
    rw [h0] at hx
    exact absurd hx (by decide)
  induction x using EReal.rec with
  | bot => exact absurd hlt (by simp)
  | coe r => exact ⟨r, rfl⟩
  | top => exact absurd hlt (by simp)

theorem ix4_all {a₀ a₁ a₂ a₃ : ℕ} (i : Shape.Idx ⟨4, ![a₀, a₁, a₂, a₃]⟩) : ∃ b h Y d, i = ix4 b h Y d :=
  ⟨i 0, i 1, i 2, i 3, by funext k; match k with | 0 => rfl | 1 => rfl | 2 => rfl | 3 => rfl⟩
theorem ix3_all {a₀ a₁ a₂ : ℕ} (i : Shape.Idx ⟨3, ![a₀, a₁, a₂]⟩) : ∃ b h Y, i = ix3 b h Y :=
  ⟨i 0, i 1, i 2, by funext k; match k with | 0 => rfl | 1 => rfl | 2 => rfl⟩

variable {m : (ℓ : Loc nD τ sig) → Buf (Elt Ideal) ℓ}

theorem finite4 (x : FVec Ideal S2x16x2048x64 .f32) (hx : (cmpf .olt (Host.absf x) (broadcastInDim S2x16x2048x64 ![] finite_facts.bcast_S_S2x16x2048x64 (constant (F := Ideal) Cert.Pre_finite.S_ .f32 0x7F800000#32)) : IVec S2x16x2048x64 1) = fun _ => 1#1) (i : S2x16x2048x64.Idx) :
    ∃ r : ℝ, (x i : EReal) = (r : EReal) :=
  real_of_abs _ (congrFun hx i)
theorem finite3 (x : FVec Ideal S2x16x2048 .f32) (hx : (cmpf .olt (Host.absf x) (broadcastInDim S2x16x2048 ![] finite_facts.bcast_S_S2x16x2048 (constant (F := Ideal) Cert.Pre_finite.S_ .f32 0x7F800000#32)) : IVec S2x16x2048 1) = fun _ => 1#1) (i : S2x16x2048.Idx) :
    ∃ r : ℝ, (x i : EReal) = (r : EReal) :=
  real_of_abs _ (congrFun hx i)

/-- Finite arguments are tables of reals, head by head. -/
theorem heads_of (hP : letI := finite_facts; Cert.Pre_KernelIdeal m) (e : Dev nD) (b : Fin 2) (h : Fin 16) :
    ∃ (q k v g : Rows) (c : Line), HeadM m e b h q k v g c := by
  obtain ⟨h0, h1, h2, h3, h4⟩ := hP e
  choose q hq using fun (Y : Fin 2048) (d : Fin 64) => finite4 (aQ m e) h0 (ix4 b h Y d)
  choose k hk using fun (Y : Fin 2048) (d : Fin 64) => finite4 (aK m e) h1 (ix4 b h Y d)
  choose v hv using fun (Y : Fin 2048) (d : Fin 64) => finite4 (aV m e) h2 (ix4 b h Y d)
  choose c hc using fun (Y : Fin 2048) => finite3 (aC m e) h3 (ix3 b h Y)
  choose g hg using fun (Y : Fin 2048) (d : Fin 64) => finite4 (aG m e) h4 (ix4 b h Y d)
  exact ⟨q, k, v, g, c, hq, hk, hv, hc, hg⟩

/-- The kernel's results are the reference's, as functions of the arguments. -/
theorem eq_dq (hP : letI := finite_facts; Cert.Pre_KernelIdeal m) (e : Dev nD) :
    (outs m e main_v90 : S2x16x2048x64.Idx → EReal) = Cert.ReferenceIdeal.Read.val_main_v73 (F := Ideal) (aQ m e) (aK m e) (aV m e) (aC m e) (aG m e) := by
  funext i
  obtain ⟨b, h, Y, d, rfl⟩ := ix4_all i
  obtain ⟨q, k, v, g, c, H⟩ := heads_of hP e b h
  exact (dq_at H Y d).trans (Ref.gradQ_at H Y d).symm
theorem eq_dk (hP : letI := finite_facts; Cert.Pre_KernelIdeal m) (e : Dev nD) :
    (outs m e main_v91 : S2x16x2048x64.Idx → EReal) = Cert.ReferenceIdeal.Read.val_main_v72 (F := Ideal) (aQ m e) (aK m e) (aV m e) (aC m e) (aG m e) := by
  funext i
  obtain ⟨b, h, Y, d, rfl⟩ := ix4_all i
  obtain ⟨q, k, v, g, c, H⟩ := heads_of hP e b h
  exact (dk_at H Y d).trans (Ref.gradK_at H Y d).symm
theorem eq_dv (hP : letI := finite_facts; Cert.Pre_KernelIdeal m) (e : Dev nD) :
    (outs m e main_v93 : S2x16x2048x64.Idx → EReal) = Cert.ReferenceIdeal.Read.val_main_v47 (F := Ideal) (aQ m e) (aK m e) (aC m e) (aG m e) := by
  funext i
  obtain ⟨b, h, Y, d, rfl⟩ := ix4_all i
  obtain ⟨q, k, v, g, c, H⟩ := heads_of hP e b h
  exact (dv_at H Y d).trans (Ref.gradV_at H Y d).symm
theorem eq_dc (hP : letI := finite_facts; Cert.Pre_KernelIdeal m) (e : Dev nD) :
    (outs m e main_v98 : S2x16x2048.Idx → EReal) = Cert.ReferenceIdeal.Read.val_main_v69 (F := Ideal) (aQ m e) (aK m e) (aV m e) (aC m e) (aG m e) := by
  funext i
  obtain ⟨b, h, Y, rfl⟩ := ix3_all i
  obtain ⟨q, k, v, g, c, H⟩ := heads_of hP e b h
  exact (dc_at H Y).trans (Ref.gradC_at H Y).symm

/-- From memories agreeing on finite arguments the two programs run and end with equal results, the arguments unchanged. -/
theorem algebraic :
    letI := Cert.KernelIdeal.Gen.facts; letI := Cert.ReferenceIdeal.Gen.facts; letI := finite_facts;
    Cert.algebraic_KernelIdeal_ReferenceIdeal := by
  intro m ρ m' ρ' hP hm
  refine ⟨fun e => outs m e main_v90, fun e => outs m e main_v91, fun e => outs m e main_v93, fun e => outs m e main_v98, ?_, ?_⟩
  · refine (θ_run defs _ _).mono (fun r h e => ?_) (θ_run_and (frame_any m ρ) (run_main m ρ))
    exact ⟨(h.2.1 e).2 main_v90 (Pipeline.mem_restRefs_of main_v90 (by decide) (by decide)),
      (h.2.1 e).2 main_v91 (Pipeline.mem_restRefs_of main_v91 (by decide) (by decide)),
      (h.2.1 e).2 main_v93 (Pipeline.mem_restRefs_of main_v93 (by decide) (by decide)),
      (h.2.1 e).2 main_v98 (Pipeline.mem_restRefs_of main_v98 (by decide) (by decide)), h.1.1 e⟩
  · refine (θ_run Cert.ReferenceIdeal.defs _ _).mono (fun r h e => ?_) (Cert.ReferenceIdeal.Value.run (F := Ideal) m' ρ')
    obtain ⟨a0, a1, a2, a3, a4⟩ := hm e
    refine ⟨(h e).1.trans ?_, (h e).2.1.trans ?_, (h e).2.2.1.trans ?_, (h e).2.2.2.1.trans ?_, (h e).2.2.2.2⟩
    · rw [Cert.ReferenceIdeal.Read.val_main_v73_eq, a0, a1, a2, a3, a4]; exact (eq_dq hP e).symm
    · rw [Cert.ReferenceIdeal.Read.val_main_v72_eq, a0, a1, a2, a3, a4]; exact (eq_dk hP e).symm
    · rw [Cert.ReferenceIdeal.Read.val_main_v47_eq, a0, a1, a3, a4]; exact (eq_dv hP e).symm
    · rw [Cert.ReferenceIdeal.Read.val_main_v69_eq, a0, a1, a2, a3, a4]; exact (eq_dc hP e).symm

end Cert.AttnBwd

end
-- ==== Proof.Sums.lean ====
/- Hand-written. Sums over long axes taken block by block. -/
module

public import Idealize.ShloMosaic.Lib.Pointwise
public import proofs.«01_k».proof.Proof.Gen.Kernel2Ideal.Value

@[expose] public section

noncomputable section

namespace Cert.Sums

/-- A sum over 4096 positions is the sum over four blocks of 1024. -/
theorem four_blocks (f : ℕ → EReal) :
    ∑ s ∈ Finset.range 4, ∑ k : Fin 1024, f (1024 * s + k.val) = ∑ t : Fin 4096, f t.val := by
  rw [Finset.sum_range, ← Fintype.sum_prod_type', ← (finProdFinEquiv (m := 4) (n := 1024)).sum_comp]
  refine Finset.sum_congr rfl fun x _ => congrArg f ?_
  simp only [finProdFinEquiv_apply_val]
  omega

open Idealize.ShloMosaic

/-- An accumulator that is reset at the first of four steps and to which every step adds a block's sum holds the whole
sum over the positions after the fourth. -/
theorem folded {N : ℕ} {Y : Type} (reset : (n : ℕ) → n < N → Y → EReal) (step : (n : ℕ) → n < N → (Y → EReal) → Y → EReal)
    (P : ℕ → Fin 1024 → Y → EReal) (hreset : ∀ n h y, reset n h y = 0 + ∑ k, P n k y)
    (hstep : ∀ n h acc y, step n h acc y = acc y + ∑ k, P n k y) (b r : ℕ) (hr : b = 4 * r) (hb : b + 3 < N) (y : Y)
    (f : ℕ → EReal) (hf : ∀ s < 4, ∀ k : Fin 1024, P (4 * r + s) k y = f (1024 * s + k.val)) :
    Pipeline.accAt reset step b 3 hb y = ∑ t : Fin 4096, f t.val := by
  subst hr
  refine (Pipeline.accAt_add_apply reset step (fun _ => (0 : EReal)) (fun n y => ∑ k, P n k y) (4 * r) 3
    (fun h y => hreset _ h y) (fun n h acc y _ _ => hstep n h acc y) 3 le_rfl hb y).trans ?_
  rw [zero_add, ← four_blocks f]
  exact Finset.sum_congr rfl fun s hs => Finset.sum_congr rfl fun k _ => hf s (Finset.mem_range.mp hs) k

end Cert.Sums

end
-- ==== Proof.Dw2.lean ====
/- Hand-written. The gradient of a projection's weights, 1024 rows: the product of the outputs' gradients with the
inputs, summed block by block over the positions, is the derivative of the projection. -/
module

public import proofs.«01_k».proof.Proof.Gen.Kernel2Ideal.Value
public import proofs.«01_k».proof.Proof.Gen.Kernel2.Frame
public import proofs.«01_k».proof.Proof.Gen.Reference2Ideal.Run
public import proofs.«01_k».proof.Proof.Gen.Reference2Ideal.Read
public import proofs.«01_k».proof.Proof.Sums

@[expose] public section

noncomputable section

namespace Cert.Dw2

open Cert.Kernel2Ideal Cert.Kernel2Ideal.Gen Cert.Kernel2Ideal.Value
open Idealize.ShloMosaic Idealize.ShloMosaic.TcCoe Idealize.ShloMosaic.Tactic Idealize.SL.Sem

variable (m : (ℓ : Loc nD τ sig) → Buf (Elt Ideal) ℓ) (e : Dev nD)

/-- The outputs' gradients and the inputs. -/
abbrev dz : FVec Ideal S4096x1024 .bf16 := m ((e.tc : Thread nD τ).loc main_arg0)
abbrev hh : FVec Ideal S4096x1024 .bf16 := m ((e.tc : Thread nD τ).loc main_arg1)

/-- One step adds the product of the two blocks, and the first one starts from zero. -/
theorem step_at (acc : Vec Ideal S1024x1024 .f32) (x0 : Vec Ideal S1024x1024 .bf16) (x1 : Vec Ideal S1024x1024 .bf16) (i : Fin 1024) (j : Fin 1024) :
    (k0_pay2 acc x0 x1 (ix2 i j) : EReal) = acc (ix2 i j) + ∑ k : Fin 1024, (x0 (ix2 k i) : EReal) * (x1 (ix2 k j) : EReal) := by
  pointwise [k0_pay2]
theorem zero_at (i : Fin 1024) (j : Fin 1024) : (k0_pay1 (F := Ideal) (ix2 i j) : EReal) = 0 := by
  pointwise [k0_pay1]

/-- The blocks' places along the grid. -/
theorem rows0 : ∀ t : Fin cfg0.N, win0_0.index t (0 : Fin 2) = t.val % 4 ∧ win0_0.index t (1 : Fin 2) = t.val / 4 :=
  (by decide +kernel : ∀ t : Fin grid0.N, _)
theorem rows1 : ∀ t : Fin cfg0.N, win0_1.index t (0 : Fin 2) = t.val % 4 ∧ win0_1.index t (1 : Fin 2) = 0 :=
  (by decide +kernel : ∀ t : Fin grid0.N, _)

/-- A number as a position, and as an output's row. -/
abbrev pos (n : ℕ) : Fin 4096 := ⟨n % 4096, Nat.mod_lt _ (by decide)⟩
abbrev col (n : ℕ) : Fin 1024 := ⟨n % 1024, Nat.mod_lt _ (by decide)⟩

/-- The blocks a step reads. -/
theorem blk0 (n : ℕ) (hn : n < cfg0.N) (k : Fin 1024) (i : Fin 1024) :
    (iblk m e 0 ⟨n, hn⟩ : S1024x1024.Idx → EReal) (ix2 k i) = dz m e (ix2 (pos (1024 * (n % 4) + k.val)) (col (1024 * (n / 4) + i.val))) := by
  have hN : cfg0.N = 4 := N_0
  have e0 : _ = n % 4 := (rows0 ⟨n, hn⟩).1
  have e1 : _ = n / 4 := (rows0 ⟨n, hn⟩).2
  have hk := k.isLt
  have hi := i.isLt
  refine congrArg (dz m e) (funext fun a => Fin.ext ?_)
  match a with
  | ⟨0, _⟩ =>
    change win0_0.index ⟨n, hn⟩ (0 : Fin 2) * 1024 + 1 * k.val = (1024 * (n % 4) + k.val) % 4096
    rw [e0]; clear e0 e1; omega
  | ⟨1, _⟩ =>
    change win0_0.index ⟨n, hn⟩ (1 : Fin 2) * 1024 + 1 * i.val = (1024 * (n / 4) + i.val) % 1024
    rw [e1]; clear e0 e1; omega
theorem blk1 (n : ℕ) (hn : n < cfg0.N) (k j : Fin 1024) :
    (iblk m e 1 ⟨n, hn⟩ : S1024x1024.Idx → EReal) (ix2 k j) = hh m e (ix2 (pos (1024 * (n % 4) + k.val)) j) := by
  have hN : cfg0.N = 4 := N_0
  have e0 : _ = n % 4 := (rows1 ⟨n, hn⟩).1
  have e1 : _ = 0 := (rows1 ⟨n, hn⟩).2
  have hk := k.isLt
  refine congrArg (hh m e) (funext fun a => Fin.ext ?_)
  match a with
  | ⟨0, _⟩ =>
    change win0_1.index ⟨n, hn⟩ (0 : Fin 2) * 1024 + 1 * k.val = (1024 * (n % 4) + k.val) % 4096
    rw [e0]; clear e0 e1; omega
  | ⟨1, _⟩ =>
    change win0_1.index ⟨n, hn⟩ (1 : Fin 2) * 1024 + 1 * j.val = j.val
    rw [e1]; clear e0 e1; omega

/-- The product a step adds at an index of its block, position by position. -/
abbrev part (n : ℕ) (k : Fin 1024) (y : S1024x1024.Idx) : EReal :=
  (dz m e (ix2 (pos (1024 * (n % 4) + k.val)) (col (1024 * (n / 4) + (y 0).val))) : EReal)
    * (hh m e (ix2 (pos (1024 * (n % 4) + k.val)) (y 1)) : EReal)
theorem ix2_eta {p q : ℕ} (y : (⟨2, ![p, q]⟩ : Shape).Idx) : ix2 (y 0) (y 1) = y := by
  funext a
  match a with
  | ⟨0, _⟩ => rfl
  | ⟨1, _⟩ => rfl
theorem reset_at (n : ℕ) (hn : n < cfg0.N) (y : S1024x1024.Idx) : (reset2 m e n hn y : EReal) = 0 + ∑ k, part m e n k y := by
  rw [← ix2_eta y]
  refine (step_at _ _ _ _ _).trans ?_
  exact congrArg₂ (· + ·) (zero_at _ _) (Finset.sum_congr rfl fun k _ => congrArg₂ (· * ·) (blk0 m e n hn k _) (blk1 m e n hn k _))
theorem add_at (n : ℕ) (hn : n < cfg0.N) (acc : S1024x1024.Idx → EReal) (y : S1024x1024.Idx) :
    (step2 m e n hn acc y : EReal) = acc y + ∑ k, part m e n k y := by
  rw [← ix2_eta y]
  refine (step_at acc _ _ _ _).trans ?_
  exact congrArg₂ (· + ·) rfl (Finset.sum_congr rfl fun k _ => congrArg₂ (· * ·) (blk0 m e n hn k _) (blk1 m e n hn k _))

/-- The kernel's array at an index is the whole sum over the positions. -/
theorem value (i : Fin 1024) (j : Fin 1024) :
    (G2 m e : S1024x1024.Idx → EReal) (ix2 i j) = ∑ t : Fin 4096, (dz m e (ix2 t i) : EReal) * (hh m e (ix2 t j) : EReal) := by
  have hN : cfg0.N = 4 := N_0
  have hi := i.isLt
  have hj := j.isLt
  have hr : run2Of (ix2 i j) = i.val / 1024 := by
    change 1 * (i.val / 1024 - 0) + 1 * (j.val / 1024 - 0) = i.val / 1024
    omega
  have hl : loc2Of (ix2 i j) = ix2 (⟨i.val % 1024, Nat.mod_lt _ (by decide)⟩ : Fin 1024) j := by
    funext a
    apply Fin.ext
    match a with
    | ⟨0, _⟩ => rfl
    | ⟨1, _⟩ => change j.val % 1024 = j.val; omega
  have hb : 4 * run2Of (ix2 i j) + 3 < cfg0.N := by rw [hr]; omega
  unfold G2
  rw [dif_pos hb, hl]
  refine (Cert.Sums.folded (reset2 m e) (step2 m e) (part m e) (reset_at m e) (add_at m e) _ (i.val / 1024) (by rw [hr]) hb _
    (fun n => (dz m e (ix2 (pos n) i) : EReal) * (hh m e (ix2 (pos n) j) : EReal)) fun s hs k => ?_).trans
    (Finset.sum_congr rfl fun t _ => by rw [show pos t.val = t from Fin.ext (Nat.mod_eq_of_lt t.isLt)])
  have h1 : (4 * (i.val / 1024) + s) % 4 = s := by omega
  have h3 : col (1024 * ((4 * (i.val / 1024) + s) / 4) + i.val % 1024) = i := by
    apply Fin.ext
    change (1024 * ((4 * (i.val / 1024) + s) / 4) + i.val % 1024) % 1024 = i.val
    omega
  unfold part
  rw [h1]
  exact congrArg₂ (· * ·) (congrArg (dz m e) (congrArg₂ ix2 rfl h3)) rfl

/-- The reference at an index is the same sum. -/
theorem ref_at (x0 : FVec Ideal S4096x1024 .bf16) (x1 : FVec Ideal S4096x1024 .bf16) (i : Fin 1024) (j : Fin 1024) :
    (Cert.Reference2Ideal.Read.val_main_v4 (F := Ideal) x1 x0 : S1024x1024.Idx → EReal) (ix2 i j)
      = ∑ t : Fin 4096, (x1 (ix2 t i) : EReal) * (x0 (ix2 t j) : EReal) := by
  pointwise [Cert.Reference2Ideal.Read.val_main_v4, Cert.Reference2Ideal.Read.val_main_v3, Cert.Reference2Ideal.Read.val_main_v1]

/-- The two arrays are equal. -/
theorem value_eq : (G2 m e : S1024x1024.Idx → EReal) = Cert.Reference2Ideal.Read.val_main_v4 (F := Ideal) (dz m e) (hh m e) := by
  funext y
  rw [← ix2_eta y]
  exact (value m e _ _).trans (ref_at _ _ _ _).symm

end Cert.Dw2

end
-- ==== Proof.Dw3.lean ====
/- Hand-written. The gradient of a projection's weights, 2048 rows: the product of the outputs' gradients with the
inputs, summed block by block over the positions, is the derivative of the projection. -/
module

public import proofs.«01_k».proof.Proof.Gen.Kernel3Ideal.Value
public import proofs.«01_k».proof.Proof.Gen.Kernel3.Frame
public import proofs.«01_k».proof.Proof.Gen.Reference3Ideal.Run
public import proofs.«01_k».proof.Proof.Gen.Reference3Ideal.Read
public import proofs.«01_k».proof.Proof.Sums

@[expose] public section

noncomputable section

namespace Cert.Dw3

open Cert.Kernel3Ideal Cert.Kernel3Ideal.Gen Cert.Kernel3Ideal.Value
open Idealize.ShloMosaic Idealize.ShloMosaic.TcCoe Idealize.ShloMosaic.Tactic Idealize.SL.Sem

variable (m : (ℓ : Loc nD τ sig) → Buf (Elt Ideal) ℓ) (e : Dev nD)

/-- The outputs' gradients and the inputs. -/
abbrev dz : FVec Ideal S4096x2048 .bf16 := m ((e.tc : Thread nD τ).loc main_arg0)
abbrev hh : FVec Ideal S4096x1024 .bf16 := m ((e.tc : Thread nD τ).loc main_arg1)

/-- One step adds the product of the two blocks, and the first one starts from zero. -/
theorem step_at (acc : Vec Ideal S1024x1024 .f32) (x0 : Vec Ideal S1024x1024 .bf16) (x1 : Vec Ideal S1024x1024 .bf16) (i : Fin 1024) (j : Fin 1024) :
    (k0_pay2 acc x0 x1 (ix2 i j) : EReal) = acc (ix2 i j) + ∑ k : Fin 1024, (x0 (ix2 k i) : EReal) * (x1 (ix2 k j) : EReal) := by
  pointwise [k0_pay2]
theorem zero_at (i : Fin 1024) (j : Fin 1024) : (k0_pay1 (F := Ideal) (ix2 i j) : EReal) = 0 := by
  pointwise [k0_pay1]

/-- The blocks' places along the grid. -/
theorem rows0 : ∀ t : Fin cfg0.N, win0_0.index t (0 : Fin 2) = t.val % 4 ∧ win0_0.index t (1 : Fin 2) = t.val / 4 :=
  (by decide +kernel : ∀ t : Fin grid0.N, _)
theorem rows1 : ∀ t : Fin cfg0.N, win0_1.index t (0 : Fin 2) = t.val % 4 ∧ win0_1.index t (1 : Fin 2) = 0 :=
  (by decide +kernel : ∀ t : Fin grid0.N, _)

/-- A number as a position, and as an output's row. -/
abbrev pos (n : ℕ) : Fin 4096 := ⟨n % 4096, Nat.mod_lt _ (by decide)⟩
abbrev col (n : ℕ) : Fin 2048 := ⟨n % 2048, Nat.mod_lt _ (by decide)⟩

/-- The blocks a step reads. -/
theorem blk0 (n : ℕ) (hn : n < cfg0.N) (k : Fin 1024) (i : Fin 1024) :
    (iblk m e 0 ⟨n, hn⟩ : S1024x1024.Idx → EReal) (ix2 k i) = dz m e (ix2 (pos (1024 * (n % 4) + k.val)) (col (1024 * (n / 4) + i.val))) := by
  have hN : cfg0.N = 8 := N_0
  have e0 : _ = n % 4 := (rows0 ⟨n, hn⟩).1
  have e1 : _ = n / 4 := (rows0 ⟨n, hn⟩).2
  have hk := k.isLt
  have hi := i.isLt
  refine congrArg (dz m e) (funext fun a => Fin.ext ?_)
  match a with
  | ⟨0, _⟩ =>
    change win0_0.index ⟨n, hn⟩ (0 : Fin 2) * 1024 + 1 * k.val = (1024 * (n % 4) + k.val) % 4096
    rw [e0]; clear e0 e1; omega
  | ⟨1, _⟩ =>
    change win0_0.index ⟨n, hn⟩ (1 : Fin 2) * 1024 + 1 * i.val = (1024 * (n / 4) + i.val) % 2048
    rw [e1]; clear e0 e1; omega
theorem blk1 (n : ℕ) (hn : n < cfg0.N) (k j : Fin 1024) :
    (iblk m e 1 ⟨n, hn⟩ : S1024x1024.Idx → EReal) (ix2 k j) = hh m e (ix2 (pos (1024 * (n % 4) + k.val)) j) := by
  have hN : cfg0.N = 8 := N_0
  have e0 : _ = n % 4 := (rows1 ⟨n, hn⟩).1
  have e1 : _ = 0 := (rows1 ⟨n, hn⟩).2
  have hk := k.isLt
  refine congrArg (hh m e) (funext fun a => Fin.ext ?_)
  match a with
  | ⟨0, _⟩ =>
    change win0_1.index ⟨n, hn⟩ (0 : Fin 2) * 1024 + 1 * k.val = (1024 * (n % 4) + k.val) % 4096
    rw [e0]; clear e0 e1; omega
  | ⟨1, _⟩ =>
    change win0_1.index ⟨n, hn⟩ (1 : Fin 2) * 1024 + 1 * j.val = j.val
    rw [e1]; clear e0 e1; omega

/-- The product a step adds at an index of its block, position by position. -/
abbrev part (n : ℕ) (k : Fin 1024) (y : S1024x1024.Idx) : EReal :=
  (dz m e (ix2 (pos (1024 * (n % 4) + k.val)) (col (1024 * (n / 4) + (y 0).val))) : EReal)
    * (hh m e (ix2 (pos (1024 * (n % 4) + k.val)) (y 1)) : EReal)
theorem ix2_eta {p q : ℕ} (y : (⟨2, ![p, q]⟩ : Shape).Idx) : ix2 (y 0) (y 1) = y := by
  funext a
  match a with
  | ⟨0, _⟩ => rfl
  | ⟨1, _⟩ => rfl
theorem reset_at (n : ℕ) (hn : n < cfg0.N) (y : S1024x1024.Idx) : (reset2 m e n hn y : EReal) = 0 + ∑ k, part m e n k y := by
  rw [← ix2_eta y]
  refine (step_at _ _ _ _ _).trans ?_
  exact congrArg₂ (· + ·) (zero_at _ _) (Finset.sum_congr rfl fun k _ => congrArg₂ (· * ·) (blk0 m e n hn k _) (blk1 m e n hn k _))
theorem add_at (n : ℕ) (hn : n < cfg0.N) (acc : S1024x1024.Idx → EReal) (y : S1024x1024.Idx) :
    (step2 m e n hn acc y : EReal) = acc y + ∑ k, part m e n k y := by
  rw [← ix2_eta y]
  refine (step_at acc _ _ _ _).trans ?_
  exact congrArg₂ (· + ·) rfl (Finset.sum_congr rfl fun k _ => congrArg₂ (· * ·) (blk0 m e n hn k _) (blk1 m e n hn k _))

/-- The kernel's array at an index is the whole sum over the positions. -/
theorem value (i : Fin 2048) (j : Fin 1024) :
    (G2 m e : S2048x1024.Idx → EReal) (ix2 i j) = ∑ t : Fin 4096, (dz m e (ix2 t i) : EReal) * (hh m e (ix2 t j) : EReal) := by
  have hN : cfg0.N = 8 := N_0
  have hi := i.isLt
  have hj := j.isLt
  have hr : run2Of (ix2 i j) = i.val / 1024 := by
    change 1 * (i.val / 1024 - 0) + 1 * (j.val / 1024 - 0) = i.val / 1024
    omega
  have hl : loc2Of (ix2 i j) = ix2 (⟨i.val % 1024, Nat.mod_lt _ (by decide)⟩ : Fin 1024) j := by
    funext a
    apply Fin.ext
    match a with
    | ⟨0, _⟩ => rfl
    | ⟨1, _⟩ => change j.val % 1024 = j.val; omega
  have hb : 4 * run2Of (ix2 i j) + 3 < cfg0.N := by rw [hr]; omega
  unfold G2
  rw [dif_pos hb, hl]
  refine (Cert.Sums.folded (reset2 m e) (step2 m e) (part m e) (reset_at m e) (add_at m e) _ (i.val / 1024) (by rw [hr]) hb _
    (fun n => (dz m e (ix2 (pos n) i) : EReal) * (hh m e (ix2 (pos n) j) : EReal)) fun s hs k => ?_).trans
    (Finset.sum_congr rfl fun t _ => by rw [show pos t.val = t from Fin.ext (Nat.mod_eq_of_lt t.isLt)])
  have h1 : (4 * (i.val / 1024) + s) % 4 = s := by omega
  have h3 : col (1024 * ((4 * (i.val / 1024) + s) / 4) + i.val % 1024) = i := by
    apply Fin.ext
    change (1024 * ((4 * (i.val / 1024) + s) / 4) + i.val % 1024) % 2048 = i.val
    omega
  unfold part
  rw [h1]
  exact congrArg₂ (· * ·) (congrArg (dz m e) (congrArg₂ ix2 rfl h3)) rfl

/-- The reference at an index is the same sum. -/
theorem ref_at (x0 : FVec Ideal S4096x1024 .bf16) (x1 : FVec Ideal S4096x2048 .bf16) (i : Fin 2048) (j : Fin 1024) :
    (Cert.Reference3Ideal.Read.val_main_v4 (F := Ideal) x1 x0 : S2048x1024.Idx → EReal) (ix2 i j)
      = ∑ t : Fin 4096, (x1 (ix2 t i) : EReal) * (x0 (ix2 t j) : EReal) := by
  pointwise [Cert.Reference3Ideal.Read.val_main_v4, Cert.Reference3Ideal.Read.val_main_v3, Cert.Reference3Ideal.Read.val_main_v1]

/-- The two arrays are equal. -/
theorem value_eq : (G2 m e : S2048x1024.Idx → EReal) = Cert.Reference3Ideal.Read.val_main_v4 (F := Ideal) (dz m e) (hh m e) := by
  funext y
  rw [← ix2_eta y]
  exact (value m e _ _).trans (ref_at _ _ _ _).symm

end Cert.Dw3

end
-- ==== Proof.Dw4.lean ====
/- Hand-written. The gradient of a projection's weights, 512 rows: the product of the outputs' gradients with the
inputs, summed block by block over the positions, is the derivative of the projection. -/
module

public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import proofs.«01_k».proof.Proof.Sums

@[expose] public section

noncomputable section

namespace Cert.Dw4

open Cert.Kernel4Ideal Cert.Kernel4Ideal.Gen Cert.Kernel4Ideal.Value
open Idealize.ShloMosaic Idealize.ShloMosaic.TcCoe Idealize.ShloMosaic.Tactic Idealize.SL.Sem

variable (m : (ℓ : Loc nD τ sig) → Buf (Elt Ideal) ℓ) (e : Dev nD)

/-- The outputs' gradients and the inputs. -/
abbrev dz : FVec Ideal S4096x512 .bf16 := m ((e.tc : Thread nD τ).loc main_arg0)
abbrev hh : FVec Ideal S4096x1024 .bf16 := m ((e.tc : Thread nD τ).loc main_arg1)

/-- One step adds the product of the two blocks, and the first one starts from zero. -/
theorem step_at (acc : Vec Ideal S512x1024 .f32) (x0 : Vec Ideal S1024x512 .bf16) (x1 : Vec Ideal S1024x1024 .bf16) (i : Fin 512) (j : Fin 1024) :
    (k0_pay2 acc x0 x1 (ix2 i j) : EReal) = acc (ix2 i j) + ∑ k : Fin 1024, (x0 (ix2 k i) : EReal) * (x1 (ix2 k j) : EReal) := by
  pointwise [k0_pay2]
theorem zero_at (i : Fin 512) (j : Fin 1024) : (k0_pay1 (F := Ideal) (ix2 i j) : EReal) = 0 := by
  pointwise [k0_pay1]

/-- The blocks' places along the grid. -/
theorem rows0 : ∀ t : Fin cfg0.N, win0_0.index t (0 : Fin 2) = t.val % 4 ∧ win0_0.index t (1 : Fin 2) = t.val / 4 :=
  (by decide +kernel : ∀ t : Fin grid0.N, _)
theorem rows1 : ∀ t : Fin cfg0.N, win0_1.index t (0 : Fin 2) = t.val % 4 ∧ win0_1.index t (1 : Fin 2) = 0 :=
  (by decide +kernel : ∀ t : Fin grid0.N, _)

/-- A number as a position, and as an output's row. -/
abbrev pos (n : ℕ) : Fin 4096 := ⟨n % 4096, Nat.mod_lt _ (by decide)⟩
abbrev col (n : ℕ) : Fin 512 := ⟨n % 512, Nat.mod_lt _ (by decide)⟩

/-- The blocks a step reads. -/
theorem blk0 (n : ℕ) (hn : n < cfg0.N) (k : Fin 1024) (i : Fin 512) :
    (iblk m e 0 ⟨n, hn⟩ : S1024x512.Idx → EReal) (ix2 k i) = dz m e (ix2 (pos (1024 * (n % 4) + k.val)) (col (512 * (n / 4) + i.val))) := by
  have hN : cfg0.N = 4 := N_0
  have e0 : _ = n % 4 := (rows0 ⟨n, hn⟩).1
  have e1 : _ = n / 4 := (rows0 ⟨n, hn⟩).2
  have hk := k.isLt
  have hi := i.isLt
  refine congrArg (dz m e) (funext fun a => Fin.ext ?_)
  match a with
  | ⟨0, _⟩ =>
    change win0_0.index ⟨n, hn⟩ (0 : Fin 2) * 1024 + 1 * k.val = (1024 * (n % 4) + k.val) % 4096
    rw [e0]; clear e0 e1; omega
  | ⟨1, _⟩ =>
    change win0_0.index ⟨n, hn⟩ (1 : Fin 2) * 512 + 1 * i.val = (512 * (n / 4) + i.val) % 512
    rw [e1]; clear e0 e1; omega
theorem blk1 (n : ℕ) (hn : n < cfg0.N) (k j : Fin 1024) :
    (iblk m e 1 ⟨n, hn⟩ : S1024x1024.Idx → EReal) (ix2 k j) = hh m e (ix2 (pos (1024 * (n % 4) + k.val)) j) := by
  have hN : cfg0.N = 4 := N_0
  have e0 : _ = n % 4 := (rows1 ⟨n, hn⟩).1
  have e1 : _ = 0 := (rows1 ⟨n, hn⟩).2
  have hk := k.isLt
  refine congrArg (hh m e) (funext fun a => Fin.ext ?_)
  match a with
  | ⟨0, _⟩ =>
    change win0_1.index ⟨n, hn⟩ (0 : Fin 2) * 1024 + 1 * k.val = (1024 * (n % 4) + k.val) % 4096
    rw [e0]; clear e0 e1; omega
  | ⟨1, _⟩ =>
    change win0_1.index ⟨n, hn⟩ (1 : Fin 2) * 1024 + 1 * j.val = j.val
    rw [e1]; clear e0 e1; omega

/-- The product a step adds at an index of its block, position by position. -/
abbrev part (n : ℕ) (k : Fin 1024) (y : S512x1024.Idx) : EReal :=
  (dz m e (ix2 (pos (1024 * (n % 4) + k.val)) (col (512 * (n / 4) + (y 0).val))) : EReal)
    * (hh m e (ix2 (pos (1024 * (n % 4) + k.val)) (y 1)) : EReal)
theorem ix2_eta {p q : ℕ} (y : (⟨2, ![p, q]⟩ : Shape).Idx) : ix2 (y 0) (y 1) = y := by
  funext a
  match a with
  | ⟨0, _⟩ => rfl
  | ⟨1, _⟩ => rfl
theorem reset_at (n : ℕ) (hn : n < cfg0.N) (y : S512x1024.Idx) : (reset2 m e n hn y : EReal) = 0 + ∑ k, part m e n k y := by
  rw [← ix2_eta y]
  refine (step_at _ _ _ _ _).trans ?_
  exact congrArg₂ (· + ·) (zero_at _ _) (Finset.sum_congr rfl fun k _ => congrArg₂ (· * ·) (blk0 m e n hn k _) (blk1 m e n hn k _))
theorem add_at (n : ℕ) (hn : n < cfg0.N) (acc : S512x1024.Idx → EReal) (y : S512x1024.Idx) :
    (step2 m e n hn acc y : EReal) = acc y + ∑ k, part m e n k y := by
  rw [← ix2_eta y]
  refine (step_at acc _ _ _ _).trans ?_
  exact congrArg₂ (· + ·) rfl (Finset.sum_congr rfl fun k _ => congrArg₂ (· * ·) (blk0 m e n hn k _) (blk1 m e n hn k _))

/-- The kernel's array at an index is the whole sum over the positions. -/
theorem value (i : Fin 512) (j : Fin 1024) :
    (G2 m e : S512x1024.Idx → EReal) (ix2 i j) = ∑ t : Fin 4096, (dz m e (ix2 t i) : EReal) * (hh m e (ix2 t j) : EReal) := by
  have hN : cfg0.N = 4 := N_0
  have hi := i.isLt
  have hj := j.isLt
  have hr : run2Of (ix2 i j) = i.val / 512 := by
    change 1 * (i.val / 512 - 0) + 1 * (j.val / 1024 - 0) = i.val / 512
    omega
  have hl : loc2Of (ix2 i j) = ix2 (⟨i.val % 512, Nat.mod_lt _ (by decide)⟩ : Fin 512) j := by
    funext a
    apply Fin.ext
    match a with
    | ⟨0, _⟩ => rfl
    | ⟨1, _⟩ => change j.val % 1024 = j.val; omega
  have hb : 4 * run2Of (ix2 i j) + 3 < cfg0.N := by rw [hr]; omega
  unfold G2
  rw [dif_pos hb, hl]
  refine (Cert.Sums.folded (reset2 m e) (step2 m e) (part m e) (reset_at m e) (add_at m e) _ (i.val / 512) (by rw [hr]) hb _
    (fun n => (dz m e (ix2 (pos n) i) : EReal) * (hh m e (ix2 (pos n) j) : EReal)) fun s hs k => ?_).trans
    (Finset.sum_congr rfl fun t _ => by rw [show pos t.val = t from Fin.ext (Nat.mod_eq_of_lt t.isLt)])
  have h1 : (4 * (i.val / 512) + s) % 4 = s := by omega
  have h3 : col (512 * ((4 * (i.val / 512) + s) / 4) + i.val % 512) = i := by
    apply Fin.ext
    change (512 * ((4 * (i.val / 512) + s) / 4) + i.val % 512) % 512 = i.val
    omega
  unfold part
  rw [h1]
  exact congrArg₂ (· * ·) (congrArg (dz m e) (congrArg₂ ix2 rfl h3)) rfl

/-- The reference at an index is the same sum. -/
theorem ref_at (x0 : FVec Ideal S4096x1024 .bf16) (x1 : FVec Ideal S4096x512 .bf16) (i : Fin 512) (j : Fin 1024) :
    (Cert.Reference4Ideal.Read.val_main_v4 (F := Ideal) x1 x0 : S512x1024.Idx → EReal) (ix2 i j)
      = ∑ t : Fin 4096, (x1 (ix2 t i) : EReal) * (x0 (ix2 t j) : EReal) := by
  pointwise [Cert.Reference4Ideal.Read.val_main_v4, Cert.Reference4Ideal.Read.val_main_v3, Cert.Reference4Ideal.Read.val_main_v1]

/-- The two arrays are equal. -/
theorem value_eq : (G2 m e : S512x1024.Idx → EReal) = Cert.Reference4Ideal.Read.val_main_v4 (F := Ideal) (dz m e) (hh m e) := by
  funext y
  rw [← ix2_eta y]
  exact (value m e _ _).trans (ref_at _ _ _ _).symm

end Cert.Dw4

end
-- ==== Proof.Products.lean ====
/- Hand-written. The claims for the three products that give the projections' weight gradients. -/
module

public import proofs.«01_k».proof.Defs
public import proofs.«01_k».proof.Proof.Dw2
public import proofs.«01_k».proof.Proof.Dw3
public import proofs.«01_k».proof.Proof.Dw4
public import Idealize.ShloMosaic.Lib.Quiescent

@[expose] public section

noncomputable section

namespace Cert.Products

open Idealize.ShloMosaic Idealize.SL.Sem

/-- The product with 1024 rows leaves its arguments unchanged and ends with every semaphore at zero: on machine words,
over the reals, and its reference over the reals. -/
theorem frame_kernel2 : letI := Cert.Kernel2.Gen.facts; Cert.quiescent_Kernel2 := fun m ρ _ => Cert.Kernel2.Gen.frame m ρ
theorem frame_kernel2Ideal : letI := Cert.Kernel2Ideal.Gen.facts; Cert.quiescent_Kernel2Ideal := fun m ρ _ =>
  Cert.Kernel2Ideal.Gen.frame m ρ
theorem frame_reference2Ideal : letI := Cert.Reference2Ideal.Gen.facts; Cert.quiescent_Reference2Ideal := fun m ρ _ =>
  θ_run_and
    ((θ_run Cert.Reference2Ideal.defs _ _).mono (fun _ h c => (h c).2) (Cert.Reference2Ideal.Value.run (F := Ideal) m ρ))
    ((θ_run Cert.Reference2Ideal.defs _ _).mono (fun r _ => sem_eq_zero_of_no_sems rfl r.2) (Cert.Reference2Ideal.Value.run (F := Ideal) m ρ))

/-- From equal arguments the product with 1024 rows and its reference run and end with equal results, the arguments
unchanged. -/
theorem algebraic2 :
    letI := Cert.Kernel2Ideal.Gen.facts; letI := Cert.Reference2Ideal.Gen.facts;
    Cert.algebraic_Kernel2Ideal_Reference2Ideal := by
  intro m ρ m' ρ' _ hm
  refine ⟨fun e => Cert.Kernel2Ideal.Value.G2 m e, Cert.Kernel2Ideal.Value.run m ρ, ?_⟩
  refine (θ_run Cert.Reference2Ideal.defs _ _).mono (fun r h e => ⟨(h e).1.trans ?_, (h e).2⟩) (Cert.Reference2Ideal.Value.run (F := Ideal) m' ρ')
  rw [Cert.Reference2Ideal.Read.val_main_v4_eq, (hm e).1, (hm e).2]
  exact (Cert.Dw2.value_eq m e).symm

/-- The product with 2048 rows leaves its arguments unchanged and ends with every semaphore at zero: on machine words,
over the reals, and its reference over the reals. -/
theorem frame_kernel3 : letI := Cert.Kernel3.Gen.facts; Cert.quiescent_Kernel3 := fun m ρ _ => Cert.Kernel3.Gen.frame m ρ
theorem frame_kernel3Ideal : letI := Cert.Kernel3Ideal.Gen.facts; Cert.quiescent_Kernel3Ideal := fun m ρ _ =>
  Cert.Kernel3Ideal.Gen.frame m ρ
theorem frame_reference3Ideal : letI := Cert.Reference3Ideal.Gen.facts; Cert.quiescent_Reference3Ideal := fun m ρ _ =>
  θ_run_and
    ((θ_run Cert.Reference3Ideal.defs _ _).mono (fun _ h c => (h c).2) (Cert.Reference3Ideal.Value.run (F := Ideal) m ρ))
    ((θ_run Cert.Reference3Ideal.defs _ _).mono (fun r _ => sem_eq_zero_of_no_sems rfl r.2) (Cert.Reference3Ideal.Value.run (F := Ideal) m ρ))

/-- From equal arguments the product with 2048 rows and its reference run and end with equal results, the arguments
unchanged. -/
theorem algebraic3 :
    letI := Cert.Kernel3Ideal.Gen.facts; letI := Cert.Reference3Ideal.Gen.facts;
    Cert.algebraic_Kernel3Ideal_Reference3Ideal := by
  intro m ρ m' ρ' _ hm
  refine ⟨fun e => Cert.Kernel3Ideal.Value.G2 m e, Cert.Kernel3Ideal.Value.run m ρ, ?_⟩
  refine (θ_run Cert.Reference3Ideal.defs _ _).mono (fun r h e => ⟨(h e).1.trans ?_, (h e).2⟩) (Cert.Reference3Ideal.Value.run (F := Ideal) m' ρ')
  rw [Cert.Reference3Ideal.Read.val_main_v4_eq, (hm e).1, (hm e).2]
  exact (Cert.Dw3.value_eq m e).symm

/-- The product with 512 rows leaves its arguments unchanged and ends with every semaphore at zero: on machine words,
over the reals, and its reference over the reals. -/
theorem frame_kernel4 : letI := Cert.Kernel4.Gen.facts; Cert.quiescent_Kernel4 := fun m ρ _ => Cert.Kernel4.Gen.frame m ρ
theorem frame_kernel4Ideal : letI := Cert.Kernel4Ideal.Gen.facts; Cert.quiescent_Kernel4Ideal := fun m ρ _ =>
  Cert.Kernel4Ideal.Gen.frame m ρ
theorem frame_reference4Ideal : letI := Cert.Reference4Ideal.Gen.facts; Cert.quiescent_Reference4Ideal := fun m ρ _ =>
  θ_run_and
    ((θ_run Cert.Reference4Ideal.defs _ _).mono (fun _ h c => (h c).2) (Cert.Reference4Ideal.Value.run (F := Ideal) m ρ))
    ((θ_run Cert.Reference4Ideal.defs _ _).mono (fun r _ => sem_eq_zero_of_no_sems rfl r.2) (Cert.Reference4Ideal.Value.run (F := Ideal) m ρ))

/-- From equal arguments the product with 512 rows and its reference run and end with equal results, the arguments
unchanged. -/
theorem algebraic4 :
    letI := Cert.Kernel4Ideal.Gen.facts; letI := Cert.Reference4Ideal.Gen.facts;
    Cert.algebraic_Kernel4Ideal_Reference4Ideal := by
  intro m ρ m' ρ' _ hm
  refine ⟨fun e => Cert.Kernel4Ideal.Value.G2 m e, Cert.Kernel4Ideal.Value.run m ρ, ?_⟩
  refine (θ_run Cert.Reference4Ideal.defs _ _).mono (fun r h e => ⟨(h e).1.trans ?_, (h e).2⟩) (Cert.Reference4Ideal.Value.run (F := Ideal) m' ρ')
  rw [Cert.Reference4Ideal.Read.val_main_v4_eq, (hm e).1, (hm e).2]
  exact (Cert.Dw4.value_eq m e).symm

end Cert.Products

end
-- ==== Proof.FwdIn.lean ====
/- Hand-written. The run of the input projection: at the first block of outputs of each block of positions the normalised
   inputs are stored, every later block of outputs finds them there, and each block multiplies them with its weights. -/
module

public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.Claim

@[expose] public section

set_option maxRecDepth 16384

noncomputable section

namespace Cert.FwdIn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the call finds them, and the block a window shows at a grid point. -/
abbrev arrays (c : Dev nD) (b : Ref sig .tc) : Buf (Elt F) ((c : Thread nD τ).loc b) := m ((c : Thread nD τ).loc b)
def block (c : Dev nD) (w : Fin cfg0.W) (t : Fin cfg0.N) : ((cfg0.win w).xblock (cfg0.grid.coords t)).Idx → Elt F (cfg0.win w).elt :=
  ((cfg0.win w).blk t).view.read (Elt F) (arrays m c (Pipeline.arrRef spec0 w))

/-- The block of outputs is the first one. -/
abbrev isFirst (i : grid0.Coords) : Prop := k0_cond1 i = 1#1
theorem isFirst_iff : ∀ t : Fin cfg0.N, isFirst (grid0.coords t) ↔ t.val % 3 = 0 :=
  (by decide +kernel : ∀ t : Fin grid0.N, isFirst (grid0.coords t) ↔ t.val % 3 = 0)

/-- The normalised inputs a point leaves, of what it finds. -/
def hAfter (i : grid0.Coords) (x : Vec F S1024x1024 .f32) (g : Vec F S1x1024 .f32) (d : Vec F S1024x1024 .bf16) : Vec F S1024x1024 .bf16 :=
  if isFirst i then k0_pay1 x g else d

set_option maxHeartbeats 1000000 in
/-- The body leaves its operands, the normalised inputs, and their product with the weights. -/
theorem wp_body (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2560x1024 .bf16) (harg4 : arg4.IsWhole) (arg5 : Memref sig .tc .vmem S1024x2560 .f32) (harg5 : arg5.IsWhole) (arg6 : Memref sig .tc .vmem S1024x1024 .bf16) (harg6 : arg6.IsWhole)
    (x : Vec F S1024x1024 .f32) (g : Vec F S1x1024 .f32) (w : Vec F S2560x1024 .bf16) (z : Vec F S1024x2560 .f32) (d : Vec F S1024x1024 .bf16) (E : Set ℕ) :
    (iprop(owns (c : Thread nD τ) arg2 fullShare x ∗ owns (c : Thread nD τ) arg3 fullShare g ∗ owns (c : Thread nD τ) arg4 fullShare w
        ∗ owns (c : Thread nD τ) arg5 fullShare z ∗ owns (c : Thread nD τ) arg6 fullShare d) : sProp 𝕄)
      ⊢ wp frame (wpE (defs₀ (F := F)) Variants.none c none) E (cc0_fwd_in (F := F) i arg2 harg2 arg3 harg3 arg4 harg4 arg5 harg5 arg6 harg6)
        (fun _ => iprop(owns (c : Thread nD τ) arg2 fullShare x ∗ owns (c : Thread nD τ) arg3 fullShare g ∗ owns (c : Thread nD τ) arg4 fullShare w
          ∗ owns (c : Thread nD τ) arg5 fullShare (k0_pay2 (hAfter i x g d) w) ∗ owns (c : Thread nD τ) arg6 fullShare (hAfter i x g d))) := by
  rw [cc0_fwd_in_eq_skeleton]
  unfold cc0_fwd_in_skel hAfter owns
  by_cases h : isFirst i
  · simp only [if_pos h]
    iintro ⟨⟨%f2, %hf2, H2⟩, ⟨%f3, %hf3, H3⟩, ⟨%f4, %hf4, H4⟩, ⟨%f5, %hf5, H5⟩, ⟨%f6, %hf6, H6⟩⟩
    subst hf2 hf3 hf4
    sl_exec
    sl_step
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro
      exact (View.read_writes_full _ _ _ _ _).trans (congrArg₂ k0_pay2 ((View.readCov_full _ _ _ _ _).trans (congrArg₂ k0_pay1 (View.readAt_full _ _ _) (View.readAt_full _ _ _))) (View.readAt_full _ _ _))
    · iexists _; isplitr; swap; · iexact H6
      ipureintro
      exact (View.read_writes_full _ _ _ _ _).trans (congrArg₂ k0_pay1 (View.readAt_full _ _ _) (View.readAt_full _ _ _))
  · simp only [if_neg h]
    iintro ⟨⟨%f2, %hf2, H2⟩, ⟨%f3, %hf3, H3⟩, ⟨%f4, %hf4, H4⟩, ⟨%f5, %hf5, H5⟩, ⟨%f6, %hf6, H6⟩⟩
    subst hf2 hf3 hf4 hf6
    sl_exec
    sl_step
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro
      exact (View.read_writes_full _ _ _ _ _).trans (congrArg₂ k0_pay2 (View.readAt_full _ _ _) (View.readAt_full _ _ _))
    · iexists _; isplitr; swap; · iexact H6
      ipureintro; rfl

/-- The normalised inputs the grid point numbered `n` leaves. -/
def hAt (c : Dev nD) : (n : ℕ) → n < cfg0.N → Vec F S1024x1024 .bf16
  | 0, h => k0_pay1 (block m c 0 ⟨0, h⟩) (block m c 1 ⟨0, h⟩)
  | n + 1, h => hAfter (grid0.coords ⟨n + 1, h⟩) (block m c 0 ⟨n + 1, h⟩) (block m c 1 ⟨n + 1, h⟩) (hAt c n (Nat.lt_of_succ_lt h))

/-- At a first block of outputs they are those of the point's own inputs, -/
theorem hAt_first (c : Dev nD) (t : Fin cfg0.N) (ht : t.val % 3 = 0) : hAt m c t.val t.isLt = k0_pay1 (block m c 0 t) (block m c 1 t) := by
  obtain ⟨n, hn⟩ := t
  match n, hn with
  | 0, h => rfl
  | n + 1, h => exact if_pos ((isFirst_iff ⟨n + 1, h⟩).mpr ht)
/-- and at a later one those of the point before. -/
theorem hAt_next (c : Dev nD) (t : Fin cfg0.N) (ht : ¬ t.val % 3 = 0) :
    hAt m c t.val t.isLt = hAt m c (t.val - 1) (Nat.lt_of_le_of_lt (Nat.sub_le _ _) t.isLt) := by
  obtain ⟨n, hn⟩ := t
  match n, hn, ht with
  | 0, h, ht => exact absurd rfl ht
  | n + 1, h, ht => exact if_neg fun hf => ht ((isFirst_iff ⟨n + 1, h⟩).mp hf)

/-- The proof data: the operands' buffers keep their blocks, the outputs' hold the product and the normalised inputs. -/
def dats (_ : Fin 1) (c : Dev nD) : Dat τ (Elt F) Unit ℕ (UR sig nD τ) ℕ cfg0 c where
  A w := arrays m c (Pipeline.arrRef spec0 w)
  after w t := match w with
    | ⟨0, _⟩ => block m c 0 t
    | ⟨1, _⟩ => block m c 1 t
    | ⟨2, _⟩ => block m c 2 t
    | ⟨3, _⟩ => k0_pay2 (hAt m c t.val t.isLt) (block m c 2 t)
    | ⟨4, _⟩ => hAt m c t.val t.isLt
  Φ _ := Pipeline.ΦA spec0 c
  q _ := fullShare
  owed _ := 0

theorem A_eq (c : Dev nD) (w : Fin cfg0.W) : (dats m 0 c).A w = arrays m c (Pipeline.arrRef spec0 w) := by
  dsimp only [dats]
theorem after_0 (c : Dev nD) (t : Fin cfg0.N) : (dats m 0 c).after 0 t = block m c 0 t := by dsimp only [dats]
theorem after_1 (c : Dev nD) (t : Fin cfg0.N) : (dats m 0 c).after 1 t = block m c 1 t := by dsimp only [dats]
theorem after_2 (c : Dev nD) (t : Fin cfg0.N) : (dats m 0 c).after 2 t = block m c 2 t := by dsimp only [dats]
theorem after_3 (c : Dev nD) (t : Fin cfg0.N) : (dats m 0 c).after 3 t = k0_pay2 (hAt m c t.val t.isLt) (block m c 2 t) := by dsimp only [dats]
theorem after_4 (c : Dev nD) (t : Fin cfg0.N) : (dats m 0 c).after 4 t = hAt m c t.val t.isLt := by dsimp only [dats]

/-- Every operand's buffer holds its block when the body is called. -/
theorem before_0 (c : Dev nD) (t : Fin cfg0.N) (d) : (dats m 0 c).before 0 t d = block m c 0 t :=
  ((dats m 0 c).before_in_eq_fetched 0 rfl (fun _ => rfl) (fun _ _ _ => rfl) (fun t => by rw [after_0]; rfl) t d).trans rfl
theorem before_1 (c : Dev nD) (t : Fin cfg0.N) (d) : (dats m 0 c).before 1 t d = block m c 1 t :=
  ((dats m 0 c).before_in_eq_fetched 1 rfl (fun _ => rfl) (fun _ _ _ => rfl) (fun t => by rw [after_1]; rfl) t d).trans rfl
theorem before_2 (c : Dev nD) (t : Fin cfg0.N) (d) : (dats m 0 c).before 2 t d = block m c 2 t :=
  ((dats m 0 c).before_in_eq_fetched 2 rfl (fun _ => rfl) (fun _ _ _ => rfl) (fun t => by rw [after_2]; rfl) t d).trans rfl

/-- A later block of outputs finds the normalised inputs of the first one. -/
theorem before_4 (c : Dev nD) (t : Fin cfg0.N) (ht : ¬ t.val % 3 = 0) (d) : (dats m 0 c).before 4 t d = hAt m c t.val t.isLt := by
  suffices h : ∀ (n : ℕ) (hn : n < cfg0.N) (_ : ¬ n % 3 = 0) (d), (dats m 0 c).before 4 ⟨n, hn⟩ d = hAt m c n hn from h t.val t.isLt ht d
  intro n
  induction n with
  | zero => intro hn h; exact absurd rfl h
  | succ n ih =>
    intro hn h d
    have hn' : n < cfg0.N := Nat.lt_of_succ_lt hn
    have hf : (cfg0.win 4).flush ⟨n, hn'⟩ = false := Bool.eq_false_iff.mpr fun hh => by
      have := (flush0_4 ⟨n, hn'⟩).mp hh
      simp only at this
      omega
    refine ((dats m 0 c).before_of_pos 4 ⟨n + 1, hn⟩ (Nat.succ_ne_zero n) ((cfg0.win 4).fetch_out rfl _) d).trans ?_
    refine (if_neg (by rw [show (cfg0.win 4).flush ⟨n + 1 - 1, _⟩ = false from hf]; exact Bool.false_ne_true)).trans ?_
    refine Eq.trans ?_ (hAt_next m c ⟨n + 1, hn⟩ h).symm
    show (dats m 0 c).left 4 ⟨n, hn'⟩ d = hAt m c n hn'
    by_cases h3 : n % 3 = 0
    · have hi : cfg0.idle 4 (cfg0.grid.coords ⟨n, hn'⟩) = false := by
        show (!(k0_cond1 (grid0.coords ⟨n, hn'⟩) == 1#1)) = false
        rw [show k0_cond1 (grid0.coords ⟨n, hn'⟩) = 1#1 from (isFirst_iff ⟨n, hn'⟩).mpr h3]; rfl
      unfold Dat.left
      rw [hi]
      show (dats m 0 c).kept 4 ⟨n, hn'⟩ d = _
      unfold Dat.kept
      rw [after_4]
      exact (Idealize.ShloMosaic.Pipeline.fill_of_clip_none 4 _ (fun _ => rfl) d _ _).trans ((cfg0.win 4).fill_cut _ _)
    · have hi : cfg0.idle 4 (cfg0.grid.coords ⟨n, hn'⟩) = true := by
        show (!(k0_cond1 (grid0.coords ⟨n, hn'⟩) == 1#1)) = true
        rw [show (k0_cond1 (grid0.coords ⟨n, hn'⟩) == 1#1) = false from beq_eq_false_iff_ne.mpr fun hh => h3 ((isFirst_iff ⟨n, hn'⟩).mp hh)]; rfl
      unfold Dat.left
      rw [hi]
      exact ih hn' h3 d

/-- What a point leaves of the normalised inputs it finds is what `hAt` says. -/
theorem hAfter_before (c : Dev nD) (t : Fin cfg0.N) (d) :
    hAfter (grid0.coords t) (block m c 0 t) (block m c 1 t) ((dats m 0 c).before 4 t d) = hAt m c t.val t.isLt := by
  by_cases ht : t.val % 3 = 0
  · rw [hAt_first m c t ht]
    exact if_pos ((isFirst_iff t).mpr ht)
  · exact (if_neg fun hf => ht ((isFirst_iff t).mp hf)).trans (before_4 m c t ht d)

/-- A buffer at those is left as the call wants it: stored, as found, or to be written back. -/
theorem leaves_4 (c : Dev nD) (t : Fin cfg0.N) :
    (owns (c : Thread nD τ) (st0_4 t) fullShare (hAt m c t.val t.isLt) : sProp 𝕄) ⊢ (dats m 0 c).leavesExact 4 t := by
  unfold Dat.leavesExact
  cases hi : cfg0.idle 4 (cfg0.grid.coords t) with
  | false => exact .rfl
  | true =>
    cases hf : (cfg0.win 4).flush t with
    | true => exact .rfl
    | false =>
      have ht : ¬ t.val % 3 = 0 := fun h => by
        have : (!(k0_cond1 (grid0.coords t) == 1#1)) = true := hi
        rw [show k0_cond1 (grid0.coords t) = 1#1 from (isFirst_iff t).mpr h] at this
        exact absurd this (by decide)
      iintro H
      iexists (hAt m c t.val t.isLt)
      rw [before_4 m c t ht]
      iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

set_option maxHeartbeats 1600000 in
/-- The body at any point, by its one run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2]
  iapply (exec_cut_last _ _ _ (wp_body c (grid0.coords t) _ _ _ _ _ _ _ _ _ _ (block m c 0 t) (block m c 1 t) (block m c 2 t)
    ((dats m 0 c).before 3 t d3) ((dats m 0 c).before 4 t d4) Set.univ)) $$ [H0 H1 H2 H3 H4]
  · isplitl [H0]; · iexact H0
    isplitl [H1]; · iexact H1
    isplitl [H2]; · iexact H2
    isplitl [H3]; · iexact H3
    iexact H4
  rw [hAfter_before m c t d4]
  iintro %r ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (leaves_4 m c t)
  iexact H4

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution ends with the call's arrays at the contents named and every semaphore at zero. -/
theorem run_main : θ_run defs (onTc (τ := τ) (main (F := F))) (s₀ m ρ)
    (fun r => Pipeline.FramePost cfgs (dats m) 0 (arrays m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := arrays m)
    (hmain := Pipeline.hmain_region cfgs 0 defs₀ Variants.none m main fun c => (main_chain c).trans rfl)
    (hA := A_eq m) (hΦ := fun _ _ => rfl)

/-- The argument arrays end unchanged and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩, h.2⟩) (run_main m ρ)

end Cert.FwdIn

end
-- ==== Proof.FwdValue.lean ====
/- Hand-written. The normalised inputs and their projection: what the call leaves in its two arrays is the reference's. -/
module

public import proofs.«01_k».proof.Proof.FwdIn
public import proofs.«01_k».proof.Proof.Gen.Reference5Ideal.Run
public import proofs.«01_k».proof.Proof.Gen.Reference5Ideal.Read
public import Idealize.ShloMosaic.Lib.Pointwise

@[expose] public section

noncomputable section

namespace Cert.FwdIn

open Cert.Kernel5Ideal Cert.Kernel5Ideal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (e : Dev nD)

/-- The inputs, the scales and the weights. -/
abbrev xx : FVec Ideal S4096x1024 .f32 := m ((e.tc : Thread nD τ).loc main_arg0)
abbrev gg : FVec Ideal S1x1024 .f32 := m ((e.tc : Thread nD τ).loc main_arg1)
abbrev ww : FVec Ideal S7680x1024 .bf16 := m ((e.tc : Thread nD τ).loc main_arg2)

/-- A row over its root mean square, times the scales. -/
abbrev normed (x g : Fin 1024 → EReal) (d : Fin 1024) : EReal :=
  x d * Ideal.rsqrt (Ideal.div (∑ k, x k * x k) (Ideal.ofBits FTy.f32 1149239296#32) + Ideal.ofBits FTy.f32 897988541#32) * g d

/-- The kernel's block of normalised inputs, entry by entry, -/
theorem pay1_at (b0 : Vec Ideal S1024x1024 .f32) (b1 : Vec Ideal S1x1024 .f32) (i d : Fin 1024) :
    (k0_pay1 b0 b1 (ix2 i d) : EReal) = normed (fun k => b0 (ix2 i k)) (fun k => b1 (ix2 0 k)) d := by
  pointwise [k0_pay1]
/-- the reference's array of them, -/
theorem refh_at (x : FVec Ideal S4096x1024 .f32) (g : FVec Ideal S1x1024 .f32) (t : Fin 4096) (d : Fin 1024) :
    (Cert.Reference5Ideal.Read.val_main_v14 (F := Ideal) x g (ix2 t d) : EReal) = normed (fun k => x (ix2 t k)) (fun k => g (ix2 0 k)) d := by
  pointwise [Cert.Reference5Ideal.Read.val_main_v14, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0, Cert.Reference5Ideal.Read.val_main_cst, Cert.Reference5Ideal.Read.val_main_cst_0, Cert.Reference5Ideal.Read.val_main_cst_1]
/-- the kernel's block of outputs, -/
theorem pay2_at (h : Vec Ideal S1024x1024 .bf16) (w : Vec Ideal S2560x1024 .bf16) (i : Fin 1024) (o : Fin 2560) :
    (k0_pay2 h w (ix2 i o) : EReal) = ∑ k : Fin 1024, (h (ix2 i k) : EReal) * (w (ix2 o k) : EReal) := by
  pointwise [k0_pay2]
/-- and the reference's array of those. -/
theorem refz_at (x : FVec Ideal S4096x1024 .f32) (g : FVec Ideal S1x1024 .f32) (w : FVec Ideal S7680x1024 .bf16) (t : Fin 4096) (o : Fin 7680) :
    (Cert.Reference5Ideal.Read.val_main_v13 (F := Ideal) x g w (ix2 t o) : EReal)
      = ∑ k : Fin 1024, (Cert.Reference5Ideal.Read.val_main_v14 (F := Ideal) x g (ix2 t k) : EReal) * (w (ix2 o k) : EReal) := by
  pointwise [Cert.Reference5Ideal.Read.val_main_v13, Cert.Reference5Ideal.Read.val_main_v14, Cert.Reference5Ideal.Read.val_main_v12]

/-- The reference's two arrays. -/
abbrev HH : S4096x1024.Idx → EReal := Cert.Reference5Ideal.Read.val_main_v14 (F := Ideal) (xx m e) (gg m e)
abbrev ZZ : S4096x7680.Idx → EReal := Cert.Reference5Ideal.Read.val_main_v13 (F := Ideal) (xx m e) (gg m e) (ww m e)

/-- The blocks' places along the grid. -/
theorem place0 : ∀ t : Fin cfg0.N, win0_0.index t (0 : Fin 2) = t.val / 3 ∧ win0_0.index t (1 : Fin 2) = 0 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = t.val % 3 ∧ win0_2.index t (1 : Fin 2) = 0 :=
  (by decide +kernel : ∀ t : Fin grid0.N, _)
theorem place3 : ∀ t : Fin cfg0.N, win0_3.index t (0 : Fin 2) = t.val / 3 ∧ win0_3.index t (1 : Fin 2) = t.val % 3 :=
  (by decide +kernel : ∀ t : Fin grid0.N, _)
theorem place4 : ∀ t : Fin cfg0.N, win0_4.index t (0 : Fin 2) = t.val / 3 ∧ win0_4.index t (1 : Fin 2) = 0 :=
  (by decide +kernel : ∀ t : Fin grid0.N, _)

/-- A number as a position, and as an output. -/
abbrev pos (n : ℕ) : Fin 4096 := ⟨n % 4096, Nat.mod_lt _ (by decide)⟩
abbrev out (n : ℕ) : Fin 7680 := ⟨n % 7680, Nat.mod_lt _ (by decide)⟩

/-- The blocks a point reads. -/
theorem blk0 (n : ℕ) (hn : n < cfg0.N) (i k : Fin 1024) :
    (block m e 0 ⟨n, hn⟩ : S1024x1024.Idx → EReal) (ix2 i k) = xx m e (ix2 (pos (1024 * (n / 3) + i.val)) k) := by
  have hN : cfg0.N = 12 := N_0
  have e0 : _ = n / 3 := (place0 ⟨n, hn⟩).1
  have e1 : _ = 0 := (place0 ⟨n, hn⟩).2
  have hi := i.isLt
  refine congrArg (xx m e) (funext fun a => Fin.ext ?_)
  match a with
  | ⟨0, _⟩ =>
    change win0_0.index ⟨n, hn⟩ (0 : Fin 2) * 1024 + 1 * i.val = (1024 * (n / 3) + i.val) % 4096
    rw [e0]; clear e0 e1; omega
  | ⟨1, _⟩ =>
    change win0_0.index ⟨n, hn⟩ (1 : Fin 2) * 1024 + 1 * k.val = k.val
    rw [e1]; clear e0 e1; omega
theorem blk1 (n : ℕ) (hn : n < cfg0.N) (k : Fin 1024) :
    (block m e 1 ⟨n, hn⟩ : S1x1024.Idx → EReal) (ix2 0 k) = gg m e (ix2 0 k) := by
  have e0 : _ = 0 := (place1 ⟨n, hn⟩).1
  have e1 : _ = 0 := (place1 ⟨n, hn⟩).2
  refine congrArg (gg m e) (funext fun a => Fin.ext ?_)
  match a with
  | ⟨0, _⟩ =>
    change win0_1.index ⟨n, hn⟩ (0 : Fin 2) * 1 + 1 * 0 = 0
    rw [e0]
  | ⟨1, _⟩ =>
    change win0_1.index ⟨n, hn⟩ (1 : Fin 2) * 1024 + 1 * k.val = k.val
    rw [e1]; clear e0 e1; omega
theorem blk2 (n : ℕ) (hn : n < cfg0.N) (o : Fin 2560) (k : Fin 1024) :
    (block m e 2 ⟨n, hn⟩ : S2560x1024.Idx → EReal) (ix2 o k) = ww m e (ix2 (out (2560 * (n % 3) + o.val)) k) := by
  have hN : cfg0.N = 12 := N_0
  have e0 : _ = n % 3 := (place2 ⟨n, hn⟩).1
  have e1 : _ = 0 := (place2 ⟨n, hn⟩).2
  have ho := o.isLt
  refine congrArg (ww m e) (funext fun a => Fin.ext ?_)
  match a with
  | ⟨0, _⟩ =>
    change win0_2.index ⟨n, hn⟩ (0 : Fin 2) * 2560 + 1 * o.val = (2560 * (n % 3) + o.val) % 7680
    rw [e0]; clear e0 e1; omega
  | ⟨1, _⟩ =>
    change win0_2.index ⟨n, hn⟩ (1 : Fin 2) * 1024 + 1 * k.val = k.val
    rw [e1]; clear e0 e1; omega

/-- The normalised inputs a point leaves are its rows of the reference's. -/
theorem first_at (n : ℕ) (hn : n < cfg0.N) (i d : Fin 1024) :
    (k0_pay1 (block m e 0 ⟨n, hn⟩) (block m e 1 ⟨n, hn⟩) (ix2 i d) : EReal) = HH m e (ix2 (pos (1024 * (n / 3) + i.val)) d) := by
  refine (pay1_at _ _ _ _).trans (Eq.trans ?_ (refh_at _ _ _ _).symm)
  exact congrArg₂ (fun x g => normed x g d) (funext fun k => blk0 m e n hn i k) (funext fun k => blk1 m e n hn k)
theorem hAt_at : ∀ (n : ℕ) (hn : n < cfg0.N) (i d : Fin 1024),
    (hAt m e n hn (ix2 i d) : EReal) = HH m e (ix2 (pos (1024 * (n / 3) + i.val)) d) := by
  intro n
  induction n with
  | zero => intro hn i d; exact first_at m e 0 hn i d
  | succ n ih =>
    intro hn i d
    by_cases h : (n + 1) % 3 = 0
    · exact (congrFun (hAt_first m e ⟨n + 1, hn⟩ h) _).trans (first_at m e (n + 1) hn i d)
    · refine (congrFun (hAt_next m e ⟨n + 1, hn⟩ h) _).trans ((ih (Nat.lt_of_succ_lt hn) i d).trans ?_)
      rw [show n / 3 = (n + 1) / 3 by omega]

/-- The outputs a point leaves are its block of the reference's. -/
theorem outs_at (n : ℕ) (hn : n < cfg0.N) (i : Fin 1024) (o : Fin 2560) :
    (k0_pay2 (hAt m e n hn) (block m e 2 ⟨n, hn⟩) (ix2 i o) : EReal)
      = ZZ m e (ix2 (pos (1024 * (n / 3) + i.val)) (out (2560 * (n % 3) + o.val))) := by
  refine (pay2_at _ _ _ _).trans (Eq.trans ?_ (refz_at _ _ _ _ _).symm)
  exact Finset.sum_congr rfl fun k _ => congrArg₂ (· * ·) (hAt_at m e n hn i k) (blk2 m e n hn o k)

theorem ix2_eta {p q : ℕ} (y : (⟨2, ![p, q]⟩ : Shape).Idx) : ix2 (y 0) (y 1) = y := by
  funext a
  match a with
  | ⟨0, _⟩ => rfl
  | ⟨1, _⟩ => rfl

/-- What a point writes back is its block of the reference's array. -/
theorem flushed_3 (t : Fin cfg0.N) : (dats m 0 e).flushed 3 t = ((cfg0.win 3).blk t).view.read (Elt Ideal) (ZZ m e) := by
  have hN : cfg0.N = 12 := N_0
  obtain ⟨n, hn⟩ := t
  show (cfg0.win 3).cut (grid0.coords ⟨n, hn⟩) ((dats m 0 e).after 3 ⟨n, hn⟩) = _
  rw [after_3]
  funext y
  refine (congrArg (k0_pay2 (F := Ideal) _ _) (ix2_eta (p := 1024) (q := 2560) y).symm).trans ((outs_at m e n hn (y 0) (y 1)).trans ?_)
  have e0 : _ = n / 3 := (place3 ⟨n, hn⟩).1
  have e1 : _ = n % 3 := (place3 ⟨n, hn⟩).2
  have h0 : (y 0).val < 1024 := (y 0).isLt
  have h1 : (y 1).val < 2560 := (y 1).isLt
  refine congrArg (ZZ m e) (funext fun a => Fin.ext ?_)
  match a with
  | ⟨0, _⟩ =>
    change (1024 * (n / 3) + (y 0).val) % 4096 = win0_3.index ⟨n, hn⟩ (0 : Fin 2) * 1024 + 1 * (y 0).val
    rw [e0]; clear e0 e1; omega
  | ⟨1, _⟩ =>
    change (2560 * (n % 3) + (y 1).val) % 7680 = win0_3.index ⟨n, hn⟩ (1 : Fin 2) * 2560 + 1 * (y 1).val
    rw [e1]; clear e0 e1; omega
theorem flushed_4 (t : Fin cfg0.N) : (dats m 0 e).flushed 4 t = ((cfg0.win 4).blk t).view.read (Elt Ideal) (HH m e) := by
  have hN : cfg0.N = 12 := N_0
  obtain ⟨n, hn⟩ := t
  show (cfg0.win 4).cut (grid0.coords ⟨n, hn⟩) ((dats m 0 e).after 4 ⟨n, hn⟩) = _
  rw [after_4]
  funext y
  refine (congrArg (hAt m e n hn) (ix2_eta (p := 1024) (q := 1024) y).symm).trans ((hAt_at m e n hn (y 0) (y 1)).trans ?_)
  have e0 : _ = n / 3 := (place4 ⟨n, hn⟩).1
  have e1 : _ = 0 := (place4 ⟨n, hn⟩).2
  have h0 : (y 0).val < 1024 := (y 0).isLt
  refine congrArg (HH m e) (funext fun a => Fin.ext ?_)
  match a with
  | ⟨0, _⟩ =>
    change (1024 * (n / 3) + (y 0).val) % 4096 = win0_4.index ⟨n, hn⟩ (0 : Fin 2) * 1024 + 1 * (y 0).val
    rw [e0]; clear e0 e1; omega
  | ⟨1, _⟩ =>
    change (y 1).val = win0_4.index ⟨n, hn⟩ (1 : Fin 2) * 1024 + 1 * (y 1).val
    rw [e1]; clear e0 e1; omega

/-- A point's block is the indices in its ranges. -/
theorem mem_blk3 (t : Fin cfg0.N) (i : S4096x7680.Idx) :
    i ∈ ((cfg0.win 3).blk t).view.set ↔ ∀ a : Fin 2, win0_3.index t a * S1024x2560.size a ≤ (i a).val ∧ (i a).val < win0_3.index t a * S1024x2560.size a + S1024x2560.size a := by
  show i ∈ ((View.whole main_v0_0).slice (win0_3.rect t)).set ↔ _
  rw [View.set_slice_whole, Rect.mem_set_unit]
  exact Iff.rfl
theorem mem_blk4 (t : Fin cfg0.N) (i : S4096x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v0_1).slice (win0_4.rect t)).set ↔ _
  rw [View.set_slice_whole, Rect.mem_set_unit]
  exact Iff.rfl

/-- The blocks written back cover the arrays, so the arrays end at the reference's. -/
theorem final_3 : (dats m 0 e).arrAt 3 cfg0.N = ZZ m e :=
  (dats m 0 e).arrAt_eq_of_cover 3 _ (fun t _ => flushed_3 m e t) fun i => by
    have hN : cfg0.N = 12 := N_0
    have h0 : (i 0).val < 4096 := (i 0).isLt
    have h1 : (i 1).val < 7680 := (i 1).isLt
    have hn : 3 * ((i 0).val / 1024) + (i 1).val / 2560 < cfg0.N := by omega
    refine ⟨⟨3 * ((i 0).val / 1024) + (i 1).val / 2560, hn⟩, flush0_3 _, ?_⟩
    have e0 : _ = (3 * ((i 0).val / 1024) + (i 1).val / 2560) / 3 := (place3 ⟨_, hn⟩).1
    have e1 : _ = (3 * ((i 0).val / 1024) + (i 1).val / 2560) % 3 := (place3 ⟨_, hn⟩).2
    rw [mem_blk3]
    intro a
    match a with
    | ⟨0, _⟩ =>
      change win0_3.index ⟨_, hn⟩ (0 : Fin 2) * 1024 ≤ (i 0).val ∧ (i 0).val < win0_3.index ⟨_, hn⟩ (0 : Fin 2) * 1024 + 1024
      rw [e0]; clear e0 e1; omega
    | ⟨1, _⟩ =>
      change win0_3.index ⟨_, hn⟩ (1 : Fin 2) * 2560 ≤ (i 1).val ∧ (i 1).val < win0_3.index ⟨_, hn⟩ (1 : Fin 2) * 2560 + 2560
      rw [e1]; clear e0 e1; omega
theorem final_4 : (dats m 0 e).arrAt 4 cfg0.N = HH m e :=
  (dats m 0 e).arrAt_eq_of_cover 4 _ (fun t _ => flushed_4 m e t) fun i => by
    have hN : cfg0.N = 12 := N_0
    have h0 : (i 0).val < 4096 := (i 0).isLt
    have h1 : (i 1).val < 1024 := (i 1).isLt
    have hn : 3 * ((i 0).val / 1024) + 2 < cfg0.N := by omega
    refine ⟨⟨3 * ((i 0).val / 1024) + 2, hn⟩, (flush0_4 _).mpr (by show (3 * ((i 0).val / 1024) + 2) % 3 = 2; omega), ?_⟩
    have e0 : _ = (3 * ((i 0).val / 1024) + 2) / 3 := (place4 ⟨_, hn⟩).1
    have e1 : _ = 0 := (place4 ⟨_, hn⟩).2
    rw [mem_blk4]
    intro a
    match a with
    | ⟨0, _⟩ =>
      change win0_4.index ⟨_, hn⟩ (0 : Fin 2) * 1024 ≤ (i 0).val ∧ (i 0).val < win0_4.index ⟨_, hn⟩ (0 : Fin 2) * 1024 + 1024
      rw [e0]; clear e0 e1; omega
    | ⟨1, _⟩ =>
      change win0_4.index ⟨_, hn⟩ (1 : Fin 2) * 1024 ≤ (i 1).val ∧ (i 1).val < win0_4.index ⟨_, hn⟩ (1 : Fin 2) * 1024 + 1024
      rw [e1]; clear e0 e1; omega

end Cert.FwdIn

end
-- ==== Proof.Fwd.lean ====
/- Hand-written. The claims for the normalised inputs and their projection. -/
module

public import proofs.«01_k».proof.Defs
public import proofs.«01_k».proof.Proof.FwdValue
public import proofs.«01_k».proof.Proof.Gen.Kernel5
public import Idealize.ShloMosaic.Lib.Quiescent

@[expose] public section

set_option maxRecDepth 65536

noncomputable section

namespace Cert.FwdIn

open Idealize.ShloMosaic Idealize.SL.Sem

section
variable {F : FTy → Type} [FloatOps F]

/-- The kernel's program and its idealization's are the same text: the body, -/
theorem body_same :
    letI := Cert.Kernel5.Gen.facts;
    @Cert.Kernel5.cc0_fwd_in F _ _ = @Cert.Kernel5Ideal.cc0_fwd_in F _ Cert.Kernel5Ideal.Gen.facts := rfl

set_option backward.isDefEq.respectTransparency.types false in
set_option maxHeartbeats 2000000 in
/-- the tables of bodies, -/
theorem defs0_same :
    letI := Cert.Kernel5.Gen.facts;
    @Cert.Kernel5.defs₀ F _ _ = @Cert.Kernel5Ideal.defs₀ F _ Cert.Kernel5Ideal.Gen.facts := by
  unfold Cert.Kernel5.defs₀ Cert.Kernel5Ideal.defs₀
  refine congrArg Defs.onTc ?_
  funext l x
  match l, x with
  | 0, (t, s) => exact congrFun (congrFun (congrFun (congrFun (congrFun (congrFun (congrFun (congrFun (congrFun (congrFun (congrFun body_same _) _) _) _) _) _) _) _) _) _) _

set_option backward.isDefEq.respectTransparency.types false in
set_option maxHeartbeats 2000000 in
/-- the tables with their pipelines -/
theorem defs_same :
    letI := Cert.Kernel5.Gen.facts;
    @Cert.Kernel5.defs F _ _ = @Cert.Kernel5Ideal.defs F _ Cert.Kernel5Ideal.Gen.facts := by
  unfold Cert.Kernel5.defs Cert.Kernel5Ideal.defs
  exact congrArg (Pipeline.defs (@Cert.Kernel5Ideal.pcfgs F Cert.Kernel5Ideal.Gen.facts)) defs0_same

set_option backward.isDefEq.respectTransparency.types false in
set_option maxHeartbeats 4000000 in
/-- and the call. -/
theorem main_same :
    letI := Cert.Kernel5.Gen.facts;
    @Cert.Kernel5.main F _ = @Cert.Kernel5Ideal.main F _ := rfl

end

set_option backward.isDefEq.respectTransparency.types false in
set_option maxHeartbeats 4000000 in
/-- The projection leaves its arguments unchanged and ends with every semaphore at zero: on machine words, over the
reals, and its reference over the reals. -/
theorem frame_kernel5 : letI := Cert.Kernel5.Gen.facts; Cert.quiescent_Kernel5 := by
  intro m ρ _
  rw [defs_same, main_same]
  exact frame_any (F := Bits) m ρ
theorem frame_kernel5Ideal : letI := Cert.Kernel5Ideal.Gen.facts; Cert.quiescent_Kernel5Ideal := fun m ρ _ =>
  frame_any (F := Ideal) m ρ
theorem frame_reference5Ideal : letI := Cert.Reference5Ideal.Gen.facts; Cert.quiescent_Reference5Ideal := fun m ρ _ =>
  θ_run_and
    ((θ_run Cert.Reference5Ideal.defs _ _).mono (fun _ h c => (h c).2.2) (Cert.Reference5Ideal.Value.run (F := Ideal) m ρ))
    ((θ_run Cert.Reference5Ideal.defs _ _).mono (fun r _ => sem_eq_zero_of_no_sems rfl r.2) (Cert.Reference5Ideal.Value.run (F := Ideal) m ρ))

/-- From equal arguments the projection and its reference run and end with equal results, the arguments unchanged. -/
theorem algebraic5 :
    letI := Cert.Kernel5Ideal.Gen.facts; letI := Cert.Reference5Ideal.Gen.facts;
    Cert.algebraic_Kernel5Ideal_Reference5Ideal := by
  intro m ρ m' ρ' _ hm
  refine ⟨fun e => ZZ m e, fun e => HH m e, ?_, ?_⟩
  · exact (θ_run Cert.Kernel5Ideal.defs _ _).mono (fun _ h c => ⟨
      ((h.1 c).1 3).trans (final_3 m c),
      ((h.1 c).1 4).trans (final_4 m c),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩) (run_main m ρ)
  · refine (θ_run Cert.Reference5Ideal.defs _ _).mono (fun r h e => ⟨(h e).1.trans ?_, (h e).2.1.trans ?_, (h e).2.2⟩)
      (Cert.Reference5Ideal.Value.run (F := Ideal) m' ρ')
    · rw [Cert.Reference5Ideal.Read.val_main_v13_eq, (hm e).1, (hm e).2.1, (hm e).2.2]
    · rw [Cert.Reference5Ideal.Read.val_main_v14_eq, (hm e).1, (hm e).2.1]

end Cert.FwdIn

end
-- ==== Proof.Adam.lean ====
/- Hand-written. One step of AdamW on the convolution's weights: the kernel's three arrays are the reference's. -/
module

public import proofs.«01_k».proof.Defs
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Reference6Ideal.Read
public import Idealize.ShloMosaic.Lib.Pointwise
public import Idealize.ShloMosaic.Lib.Quiescent

@[expose] public section

noncomputable section

namespace Cert.Adam

open Idealize.ShloMosaic Idealize.ShloMosaic.Tactic Idealize.SL.Sem Cert.Kernel6Ideal

variable (w g m v : FVec Ideal S31x256 .f32)

/-- The new averages and the step, entry by entry. -/
theorem first_eq : Cert.Kernel6Ideal.Value.G5 (F := Ideal) g m = Cert.Reference6Ideal.Read.val_main_v4 (F := Ideal) g m := by
  funext i
  rfl
theorem second_eq : Cert.Kernel6Ideal.Value.G6 (F := Ideal) g v = Cert.Reference6Ideal.Read.val_main_v10 (F := Ideal) g v := by
  funext i
  rfl
theorem delta_eq : Cert.Kernel6Ideal.Value.G4 (F := Ideal) w g m v = Cert.Reference6Ideal.Read.val_main_v23 (F := Ideal) w g m v := by
  funext i
  rfl

/-- The step leaves its arguments unchanged and ends with every semaphore at zero: on machine words, over the reals,
and its reference over the reals. -/
theorem frame_kernel6 : letI := Cert.Kernel6.Gen.facts; Cert.quiescent_Kernel6 := fun m ρ _ => Cert.Kernel6.Gen.frame m ρ
theorem frame_kernel6Ideal : letI := Cert.Kernel6Ideal.Gen.facts; Cert.quiescent_Kernel6Ideal := fun m ρ _ =>
  Cert.Kernel6Ideal.Gen.frame m ρ
theorem frame_reference6Ideal : letI := Cert.Reference6Ideal.Gen.facts; Cert.quiescent_Reference6Ideal := fun m ρ _ =>
  θ_run_and
    ((θ_run Cert.Reference6Ideal.defs _ _).mono (fun _ h c => (h c).2.2.2) (Cert.Reference6Ideal.Value.run (F := Ideal) m ρ))
    ((θ_run Cert.Reference6Ideal.defs _ _).mono (fun r _ => sem_eq_zero_of_no_sems rfl r.2) (Cert.Reference6Ideal.Value.run (F := Ideal) m ρ))

/-- From equal arguments the kernel's step and the reference's run and end with equal results, the arguments unchanged. -/
theorem algebraic6 :
    letI := Cert.Kernel6Ideal.Gen.facts; letI := Cert.Reference6Ideal.Gen.facts;
    Cert.algebraic_Kernel6Ideal_Reference6Ideal := by
  intro m ρ m' ρ' _ hm
  refine ⟨fun e => _, fun e => _, fun e => _, Cert.Kernel6Ideal.Value.run m ρ, ?_⟩
  refine (θ_run Cert.Reference6Ideal.defs _ _).mono (fun r h e => ⟨(h e).1.trans ?_, (h e).2.1.trans ?_, (h e).2.2.1.trans ?_, (h e).2.2.2⟩)
    (Cert.Reference6Ideal.Value.run (F := Ideal) m' ρ')
  · rw [Cert.Reference6Ideal.Read.val_main_v23_eq, (hm e).1, (hm e).2.1, (hm e).2.2.1, (hm e).2.2.2]
    exact (delta_eq _ _ _ _).symm
  · rw [Cert.Reference6Ideal.Read.val_main_v4_eq, (hm e).2.1, (hm e).2.2.1]
    exact (first_eq _ _).symm
  · rw [Cert.Reference6Ideal.Read.val_main_v10_eq, (hm e).2.1, (hm e).2.2.2]
    exact (second_eq _ _).symm

end Cert.Adam

end
-- ==== Proof.AdamSmall.lean ====
/- Hand-written. One step of AdamW on the small parameters, packed in seven rows: the kernel's three arrays are the reference's. -/
module

public import proofs.«01_k».proof.Defs
public import proofs.«01_k».proof.Proof.Gen.Kernel7Ideal.Value
public import proofs.«01_k».proof.Proof.Gen.Kernel7.Frame
public import proofs.«01_k».proof.Proof.Gen.Reference7Ideal.Run
public import proofs.«01_k».proof.Proof.Gen.Reference7Ideal.Read
public import Idealize.ShloMosaic.Lib.Pointwise
public import Idealize.ShloMosaic.Lib.Quiescent

@[expose] public section

noncomputable section

namespace Cert.AdamSmall

open Idealize.ShloMosaic Idealize.ShloMosaic.Tactic Idealize.SL.Sem Cert.Kernel7Ideal

variable (w g m v : FVec Ideal S7x1024 .f32)

/-- The new averages and the step, entry by entry. -/
theorem first_eq : Cert.Kernel7Ideal.Value.G5 (F := Ideal) g m = Cert.Reference7Ideal.Read.val_main_v4 (F := Ideal) g m := by
  funext i
  rfl
theorem second_eq : Cert.Kernel7Ideal.Value.G6 (F := Ideal) g v = Cert.Reference7Ideal.Read.val_main_v10 (F := Ideal) g v := by
  funext i
  rfl
theorem delta_eq : Cert.Kernel7Ideal.Value.G4 (F := Ideal) w g m v = Cert.Reference7Ideal.Read.val_main_v23 (F := Ideal) w g m v := by
  funext i
  rfl

/-- The step leaves its arguments unchanged and ends with every semaphore at zero: on machine words, over the reals,
and its reference over the reals. -/
theorem frame_kernel7 : letI := Cert.Kernel7.Gen.facts; Cert.quiescent_Kernel7 := fun m ρ _ => Cert.Kernel7.Gen.frame m ρ
theorem frame_kernel7Ideal : letI := Cert.Kernel7Ideal.Gen.facts; Cert.quiescent_Kernel7Ideal := fun m ρ _ =>
  Cert.Kernel7Ideal.Gen.frame m ρ
theorem frame_reference7Ideal : letI := Cert.Reference7Ideal.Gen.facts; Cert.quiescent_Reference7Ideal := fun m ρ _ =>
  θ_run_and
    ((θ_run Cert.Reference7Ideal.defs _ _).mono (fun _ h c => (h c).2.2.2) (Cert.Reference7Ideal.Value.run (F := Ideal) m ρ))
    ((θ_run Cert.Reference7Ideal.defs _ _).mono (fun r _ => sem_eq_zero_of_no_sems rfl r.2) (Cert.Reference7Ideal.Value.run (F := Ideal) m ρ))

/-- From equal arguments the kernel's step and the reference's run and end with equal results, the arguments unchanged. -/
theorem algebraic7 :
    letI := Cert.Kernel7Ideal.Gen.facts; letI := Cert.Reference7Ideal.Gen.facts;
    Cert.algebraic_Kernel7Ideal_Reference7Ideal := by
  intro m ρ m' ρ' _ hm
  refine ⟨fun e => _, fun e => _, fun e => _, Cert.Kernel7Ideal.Value.run m ρ, ?_⟩
  refine (θ_run Cert.Reference7Ideal.defs _ _).mono (fun r h e => ⟨(h e).1.trans ?_, (h e).2.1.trans ?_, (h e).2.2.1.trans ?_, (h e).2.2.2⟩)
    (Cert.Reference7Ideal.Value.run (F := Ideal) m' ρ')
  · rw [Cert.Reference7Ideal.Read.val_main_v23_eq, (hm e).1, (hm e).2.1, (hm e).2.2.1, (hm e).2.2.2]
    exact (delta_eq _ _ _ _).symm
  · rw [Cert.Reference7Ideal.Read.val_main_v4_eq, (hm e).2.1, (hm e).2.2.1]
    exact (first_eq _ _).symm
  · rw [Cert.Reference7Ideal.Read.val_main_v10_eq, (hm e).2.1, (hm e).2.2.2]
    exact (second_eq _ _).symm

end Cert.AdamSmall

end
-- ==== Proof.Halves8.lean ====
/- Hand-written. One step of AdamW on the weights of the input projection, from the gradient's two halves: the kernel's four arrays are
the reference's. -/
module

public import proofs.«01_k».proof.Defs
public import proofs.«01_k».proof.Proof.Gen.Kernel8Ideal.Value
public import proofs.«01_k».proof.Proof.Gen.Kernel8.Frame
public import proofs.«01_k».proof.Proof.Gen.Reference8Ideal.Run
public import proofs.«01_k».proof.Proof.Gen.Reference8Ideal.Read
public import Idealize.ShloMosaic.Lib.Pointwise
public import Idealize.ShloMosaic.Lib.Quiescent

@[expose] public section

noncomputable section

namespace Cert.Halves8

open Cert.Kernel8Ideal Cert.Kernel8Ideal.Gen Cert.Kernel8Ideal.Value
open Idealize.ShloMosaic Idealize.ShloMosaic.TcCoe Idealize.ShloMosaic.Tactic Idealize.SL.Sem

variable (m : (ℓ : Loc nD τ sig) → Buf (Elt Ideal) ℓ) (e : Dev nD)

/-- The weights, the gradient's left and right halves, and the two averages. -/
abbrev ww : FVec Ideal S1796x1024 .f32 := m ((e.tc : Thread nD τ).loc main_arg0)
abbrev gl : FVec Ideal S1796x512 .f32 := m ((e.tc : Thread nD τ).loc main_arg1)
abbrev gr : FVec Ideal S1796x512 .f32 := m ((e.tc : Thread nD τ).loc main_arg2)
abbrev mm : FVec Ideal S1796x1024 .f32 := m ((e.tc : Thread nD τ).loc main_arg3)
abbrev vv : FVec Ideal S1796x1024 .f32 := m ((e.tc : Thread nD τ).loc main_arg4)

/-- The reference's four arrays: the gradient, the step and the two new averages. -/
abbrev RG : S1796x1024.Idx → Ideal .f32 := Cert.Reference8Ideal.Read.val_main_v0 (F := Ideal) (gl m e) (gr m e)
abbrev RD : S1796x1024.Idx → Ideal .f32 := Cert.Reference8Ideal.Read.val_main_v24 (F := Ideal) (ww m e) (gl m e) (gr m e) (mm m e) (vv m e)
abbrev RM : S1796x1024.Idx → Ideal .f32 := Cert.Reference8Ideal.Read.val_main_v5 (F := Ideal) (gl m e) (gr m e) (mm m e)
abbrev RV : S1796x1024.Idx → Ideal .f32 := Cert.Reference8Ideal.Read.val_main_v11 (F := Ideal) (gl m e) (gr m e) (vv m e)

/-- One weight's new averages and its step. -/
abbrev newM (g u : Ideal .f32) : Ideal .f32 :=
  FloatOps.addf (FloatOps.mulf (Scalar.ofBits .f32 0x3F666666#32) u) (FloatOps.mulf (Scalar.ofBits .f32 0x3DCCCCCD#32) g)
abbrev newV (g u : Ideal .f32) : Ideal .f32 :=
  FloatOps.addf (FloatOps.mulf (Scalar.ofBits .f32 0x3F7FBE77#32) u) (FloatOps.mulf (Scalar.ofBits .f32 0x3A83126F#32) (FloatOps.mulf g g))
abbrev stepOf (w nm nv : Ideal .f32) : Ideal .f32 :=
  FloatOps.mulf (Scalar.ofBits .f32 0xBA83126F#32)
    (FloatOps.addf (FloatOps.divf (FloatOps.divf nm (Scalar.ofBits .f32 0x3F26BD02#32))
        (FloatOps.addf (FloatOps.sqrt (FloatOps.divf nv (Scalar.ofBits .f32 0x3C231ACC#32))) (Scalar.ofBits .f32 0x322BCC77#32)))
      (FloatOps.mulf (Scalar.ofBits .f32 0x3C23D70A#32) w))

/-- The reference's arrays are those of its gradient, entry by entry. -/
theorem ref_m (i : S1796x1024.Idx) : RM m e i = newM (RG m e i) (mm m e i) := rfl
theorem ref_v (i : S1796x1024.Idx) : RV m e i = newV (RG m e i) (vv m e i) := rfl
theorem ref_d (i : S1796x1024.Idx) : RD m e i = stepOf (ww m e i) (RM m e i) (RV m e i) := rfl

/-- The reference's gradient is the left half in the first 512 columns and the right half after them. -/
theorem ref_left (r : Fin 1796) (c : Fin 1024) (d : Fin 512) (h : c.val = d.val) : RG m e (ix2 r c) = gl m e (ix2 r d) := by
  refine concatenate_pair_apply_left (t := S1796x1024) (s₁ := S1796x512) (s₂ := S1796x512) 1 (gl m e) (gr m e)
    Cert.Reference8Ideal.Facts₀.concatenates_S1796x512_S1796x512_S1796x1024_d1 (ix2 r c) rfl (ix2 r d) fun b => ?_
  match b with
  | ⟨0, _⟩ => rfl
  | ⟨1, _⟩ => exact h.symm
theorem ref_right (r : Fin 1796) (c : Fin 1024) (d : Fin 512) (h : c.val = 512 + d.val) : RG m e (ix2 r c) = gr m e (ix2 r d) := by
  refine concatenate_pair_apply_right (t := S1796x1024) (s₁ := S1796x512) (s₂ := S1796x512) 1 (gl m e) (gr m e)
    Cert.Reference8Ideal.Facts₀.concatenates_S1796x512_S1796x512_S1796x1024_d1 (ix2 r c) rfl rfl (ix2 r d) (fun b hb => ?_) ?_
  · match b, hb with
    | ⟨0, _⟩, _ => rfl
    | ⟨1, _⟩, hb => exact absurd rfl hb
  · change d.val + 512 = c.val
    omega

/-- Whether a point takes the left half: half its number, rounded down, is zero. -/
abbrev isLeft (i : grid0.Coords) : BitVec 1 :=
  let n : BitVec 32 := BitVec.ofNat 32 (i 0).val
  Scalar.cmpi .eq (Scalar.select
    (Scalar.andi
      (Scalar.cmpi .ne (Scalar.subi (Scalar.extui (Scalar.cmpi .sgt n 0#32)) (Scalar.extui (Scalar.cmpi .slt n 0#32)))
        (Scalar.subi (Scalar.extui (Scalar.cmpi .sgt 2#32 0#32)) (Scalar.extui (Scalar.cmpi .slt 2#32 0#32))))
      (Scalar.cmpi .ne (Scalar.remsi n 2#32) 0#32))
    (Scalar.subi (Scalar.divsi n 2#32) 1#32) (Scalar.divsi n 2#32)) 0#32
theorem isLeft_iff : ∀ t : Fin cfg0.N, isLeft (grid0.coords t) = 1#1 ↔ t.val < 2 :=
  (by decide +kernel : ∀ t : Fin grid0.N, isLeft (grid0.coords t) = 1#1 ↔ t.val < 2)

/-- The gradient a point stores: the left half's block in the first two points, the right half's after them. -/
theorem pick_left (t : Fin cfg0.N) (h : t.val < 2) (a b : Vec Ideal S1796x256 .f32) : k0_pay3 (grid0.coords t) a b = a :=
  (show k0_pay3 (grid0.coords t) a b = Scalar.select (isLeft (grid0.coords t)) a b from rfl).trans (if_pos ((isLeft_iff t).mpr h))
theorem pick_right (t : Fin cfg0.N) (h : ¬ t.val < 2) (a b : Vec Ideal S1796x256 .f32) : k0_pay3 (grid0.coords t) a b = b :=
  (show k0_pay3 (grid0.coords t) a b = Scalar.select (isLeft (grid0.coords t)) a b from rfl).trans (if_neg fun hh => h ((isLeft_iff t).mp hh))

/-- The blocks' places along the grid. -/
theorem place0 : ∀ t : Fin cfg0.N, win0_0.index t (0 : Fin 2) = 0 ∧ win0_0.index t (1 : Fin 2) = t.val :=
  (by decide +kernel : ∀ t : Fin grid0.N, _)
theorem place1 : ∀ t : Fin cfg0.N, win0_1.index t (0 : Fin 2) = 0 ∧ win0_1.index t (1 : Fin 2) = t.val % 2 :=
  (by decide +kernel : ∀ t : Fin grid0.N, _)
theorem place2 : ∀ t : Fin cfg0.N, win0_2.index t (0 : Fin 2) = 0 ∧ win0_2.index t (1 : Fin 2) = t.val % 2 :=
  (by decide +kernel : ∀ t : Fin grid0.N, _)
theorem place3 : ∀ t : Fin cfg0.N, win0_3.index t (0 : Fin 2) = 0 ∧ win0_3.index t (1 : Fin 2) = t.val :=
  (by decide +kernel : ∀ t : Fin grid0.N, _)
theorem place4 : ∀ t : Fin cfg0.N, win0_4.index t (0 : Fin 2) = 0 ∧ win0_4.index t (1 : Fin 2) = t.val :=
  (by decide +kernel : ∀ t : Fin grid0.N, _)
theorem place5 : ∀ t : Fin cfg0.N, win0_5.index t (0 : Fin 2) = 0 ∧ win0_5.index t (1 : Fin 2) = t.val :=
  (by decide +kernel : ∀ t : Fin grid0.N, _)
theorem place6 : ∀ t : Fin cfg0.N, win0_6.index t (0 : Fin 2) = 0 ∧ win0_6.index t (1 : Fin 2) = t.val :=
  (by decide +kernel : ∀ t : Fin grid0.N, _)
theorem place7 : ∀ t : Fin cfg0.N, win0_7.index t (0 : Fin 2) = 0 ∧ win0_7.index t (1 : Fin 2) = t.val :=
  (by decide +kernel : ∀ t : Fin grid0.N, _)
theorem place8 : ∀ t : Fin cfg0.N, win0_8.index t (0 : Fin 2) = 0 ∧ win0_8.index t (1 : Fin 2) = t.val :=
  (by decide +kernel : ∀ t : Fin grid0.N, _)

/-- A number as a column of the whole, and of a half. -/
abbrev col (n : ℕ) : Fin 1024 := ⟨n % 1024, Nat.mod_lt _ (by decide)⟩
abbrev half (n : ℕ) : Fin 512 := ⟨n % 512, Nat.mod_lt _ (by decide)⟩

/-- The blocks a point reads. -/
theorem blk0 (n : ℕ) (hn : n < cfg0.N) (r : Fin 1796) (c : Fin 256) :
    (iblk m e 0 ⟨n, hn⟩ : S1796x256.Idx → Ideal .f32) (ix2 r c) = ww m e (ix2 r (col (256 * n + c.val))) := by
  have hN : cfg0.N = 4 := N_0
  have e0 : _ = 0 := (place0 ⟨n, hn⟩).1
  have e1 : _ = n := (place0 ⟨n, hn⟩).2
  have hc := c.isLt
  refine congrArg (ww m e) (funext fun a => Fin.ext ?_)
  match a with
  | ⟨0, _⟩ =>
    change win0_0.index ⟨n, hn⟩ (0 : Fin 2) * 1796 + 1 * r.val = r.val
    rw [e0]; clear e0 e1; omega
  | ⟨1, _⟩ =>
    change win0_0.index ⟨n, hn⟩ (1 : Fin 2) * 256 + 1 * c.val = (256 * n + c.val) % 1024
    rw [e1]; clear e0 e1; omega
theorem blk1 (n : ℕ) (hn : n < cfg0.N) (r : Fin 1796) (c : Fin 256) :
    (iblk m e 1 ⟨n, hn⟩ : S1796x256.Idx → Ideal .f32) (ix2 r c) = gl m e (ix2 r (half (256 * (n % 2) + c.val))) := by
  have hN : cfg0.N = 4 := N_0
  have e0 : _ = 0 := (place1 ⟨n, hn⟩).1
  have e1 : _ = n % 2 := (place1 ⟨n, hn⟩).2
  have hc := c.isLt
  refine congrArg (gl m e) (funext fun a => Fin.ext ?_)
  match a with
  | ⟨0, _⟩ =>
    change win0_1.index ⟨n, hn⟩ (0 : Fin 2) * 1796 + 1 * r.val = r.val
    rw [e0]; clear e0 e1; omega
  | ⟨1, _⟩ =>
    change win0_1.index ⟨n, hn⟩ (1 : Fin 2) * 256 + 1 * c.val = (256 * (n % 2) + c.val) % 512
    rw [e1]; clear e0 e1; omega
theorem blk2 (n : ℕ) (hn : n < cfg0.N) (r : Fin 1796) (c : Fin 256) :
    (iblk m e 2 ⟨n, hn⟩ : S1796x256.Idx → Ideal .f32) (ix2 r c) = gr m e (ix2 r (half (256 * (n % 2) + c.val))) := by
  have hN : cfg0.N = 4 := N_0
  have e0 : _ = 0 := (place2 ⟨n, hn⟩).1
  have e1 : _ = n % 2 := (place2 ⟨n, hn⟩).2
  have hc := c.isLt
  refine congrArg (gr m e) (funext fun a => Fin.ext ?_)
  match a with
  | ⟨0, _⟩ =>
    change win0_2.index ⟨n, hn⟩ (0 : Fin 2) * 1796 + 1 * r.val = r.val
    rw [e0]; clear e0 e1; omega
  | ⟨1, _⟩ =>
    change win0_2.index ⟨n, hn⟩ (1 : Fin 2) * 256 + 1 * c.val = (256 * (n % 2) + c.val) % 512
    rw [e1]; clear e0 e1; omega
theorem blk3 (n : ℕ) (hn : n < cfg0.N) (r : Fin 1796) (c : Fin 256) :
    (iblk m e 3 ⟨n, hn⟩ : S1796x256.Idx → Ideal .f32) (ix2 r c) = mm m e (ix2 r (col (256 * n + c.val))) := by
  have hN : cfg0.N = 4 := N_0
  have e0 : _ = 0 := (place3 ⟨n, hn⟩).1
  have e1 : _ = n := (place3 ⟨n, hn⟩).2
  have hc := c.isLt
  refine congrArg (mm m e) (funext fun a => Fin.ext ?_)
  match a with
  | ⟨0, _⟩ =>
    change win0_3.index ⟨n, hn⟩ (0 : Fin 2) * 1796 + 1 * r.val = r.val
    rw [e0]; clear e0 e1; omega
  | ⟨1, _⟩ =>
    change win0_3.index ⟨n, hn⟩ (1 : Fin 2) * 256 + 1 * c.val = (256 * n + c.val) % 1024
    rw [e1]; clear e0 e1; omega
theorem blk4 (n : ℕ) (hn : n < cfg0.N) (r : Fin 1796) (c : Fin 256) :
    (iblk m e 4 ⟨n, hn⟩ : S1796x256.Idx → Ideal .f32) (ix2 r c) = vv m e (ix2 r (col (256 * n + c.val))) := by
  have hN : cfg0.N = 4 := N_0
  have e0 : _ = 0 := (place4 ⟨n, hn⟩).1
  have e1 : _ = n := (place4 ⟨n, hn⟩).2
  have hc := c.isLt
  refine congrArg (vv m e) (funext fun a => Fin.ext ?_)
  match a with
  | ⟨0, _⟩ =>
    change win0_4.index ⟨n, hn⟩ (0 : Fin 2) * 1796 + 1 * r.val = r.val
    rw [e0]; clear e0 e1; omega
  | ⟨1, _⟩ =>
    change win0_4.index ⟨n, hn⟩ (1 : Fin 2) * 256 + 1 * c.val = (256 * n + c.val) % 1024
    rw [e1]; clear e0 e1; omega

/-- The gradient a point stores is its block of the reference's. -/
theorem grad_at (n : ℕ) (hn : n < cfg0.N) (r : Fin 1796) (c : Fin 256) :
    k0_pay3 (grid0.coords ⟨n, hn⟩) (iblk m e 1 ⟨n, hn⟩ : Vec Ideal S1796x256 .f32) (iblk m e 2 ⟨n, hn⟩ : Vec Ideal S1796x256 .f32) (ix2 r c)
      = RG m e (ix2 r (col (256 * n + c.val))) := by
  have hN : cfg0.N = 4 := N_0
  have hc := c.isLt
  by_cases h : n < 2
  · refine (congrFun (pick_left ⟨n, hn⟩ h _ _) _).trans ((blk1 m e n hn r c).trans (ref_left m e r _ _ ?_).symm)
    change (256 * n + c.val) % 1024 = (256 * (n % 2) + c.val) % 512
    omega
  · refine (congrFun (pick_right ⟨n, hn⟩ h _ _) _).trans ((blk2 m e n hn r c).trans (ref_right m e r _ _ ?_).symm)
    change (256 * n + c.val) % 1024 = 512 + (256 * (n % 2) + c.val) % 512
    omega

theorem ix2_eta {p q : ℕ} (y : (⟨2, ![p, q]⟩ : Shape).Idx) : ix2 (y 0) (y 1) = y := by
  funext a
  match a with
  | ⟨0, _⟩ => rfl
  | ⟨1, _⟩ => rfl

theorem zero_off : (![0, 0] : Fin 2 → Nat) = fun _ => 0 := funext fun a => by fin_cases a <;> rfl

/-- What a point leaves in its four blocks: the gradient, the step and the new averages, of the blocks it reads. -/
theorem left5 (i : grid0.Coords) (x0 x1 x2 x3 x4 : Vec Ideal S1796x256 .f32) : out0_5 i x0 x1 x2 x3 x4 = k0_pay3 i x1 x2 := by
  unfold out0_5
  rw [View.canon_unit_zero zero_off]
  simp only [View.ld_unit_zero (S := S1796x256) zero_off]
theorem left7 (i : grid0.Coords) (x0 x1 x2 x3 x4 : Vec Ideal S1796x256 .f32) (y : S1796x256.Idx) :
    out0_7 i x0 x1 x2 x3 x4 y = newM (k0_pay3 i x1 x2 y) (x3 y) := by
  unfold out0_7
  rw [View.canon_unit_zero zero_off]
  unfold k0_pay8
  simp only [View.ld_unit_zero (S := S1796x256) zero_off]
  rfl
theorem left8 (i : grid0.Coords) (x0 x1 x2 x3 x4 : Vec Ideal S1796x256 .f32) (y : S1796x256.Idx) :
    out0_8 i x0 x1 x2 x3 x4 y = newV (k0_pay3 i x1 x2 y) (x4 y) := by
  unfold out0_8
  rw [View.canon_unit_zero zero_off]
  unfold k0_pay9 k0_pay10 k0_pay11
  simp only [View.ld_unit_zero (S := S1796x256) zero_off]
  rfl
theorem left6 (i : grid0.Coords) (x0 x1 x2 x3 x4 : Vec Ideal S1796x256 .f32) (y : S1796x256.Idx) :
    out0_6 i x0 x1 x2 x3 x4 y = stepOf (x0 y) (newM (k0_pay3 i x1 x2 y) (x3 y)) (newV (k0_pay3 i x1 x2 y) (x4 y)) := by
  unfold out0_6
  rw [View.canon_unit_zero zero_off]
  unfold k0_pay8 k0_pay9 k0_pay10 k0_pay11
  simp only [View.ld_unit_zero (S := S1796x256) zero_off]
  rfl

/-- Each is the point's block of the reference's array. -/
theorem at5 (n : ℕ) (hn : n < cfg0.N) (r : Fin 1796) (c : Fin 256) :
    out0_5 (grid0.coords ⟨n, hn⟩) (iblk m e 0 ⟨n, hn⟩) (iblk m e 1 ⟨n, hn⟩) (iblk m e 2 ⟨n, hn⟩) (iblk m e 3 ⟨n, hn⟩) (iblk m e 4 ⟨n, hn⟩) (ix2 r c)
      = RG m e (ix2 r (col (256 * n + c.val))) :=
  (congrFun (left5 _ _ _ _ _ _) _).trans (grad_at m e n hn r c)
theorem at7 (n : ℕ) (hn : n < cfg0.N) (r : Fin 1796) (c : Fin 256) :
    out0_7 (grid0.coords ⟨n, hn⟩) (iblk m e 0 ⟨n, hn⟩) (iblk m e 1 ⟨n, hn⟩) (iblk m e 2 ⟨n, hn⟩) (iblk m e 3 ⟨n, hn⟩) (iblk m e 4 ⟨n, hn⟩) (ix2 r c)
      = RM m e (ix2 r (col (256 * n + c.val))) :=
  (left7 _ _ _ _ _ _ _).trans ((congrArg₂ newM (grad_at m e n hn r c) (blk3 m e n hn r c)).trans (ref_m m e _).symm)
theorem at8 (n : ℕ) (hn : n < cfg0.N) (r : Fin 1796) (c : Fin 256) :
    out0_8 (grid0.coords ⟨n, hn⟩) (iblk m e 0 ⟨n, hn⟩) (iblk m e 1 ⟨n, hn⟩) (iblk m e 2 ⟨n, hn⟩) (iblk m e 3 ⟨n, hn⟩) (iblk m e 4 ⟨n, hn⟩) (ix2 r c)
      = RV m e (ix2 r (col (256 * n + c.val))) :=
  (left8 _ _ _ _ _ _ _).trans ((congrArg₂ newV (grad_at m e n hn r c) (blk4 m e n hn r c)).trans (ref_v m e _).symm)
theorem at6 (n : ℕ) (hn : n < cfg0.N) (r : Fin 1796) (c : Fin 256) :
    out0_6 (grid0.coords ⟨n, hn⟩) (iblk m e 0 ⟨n, hn⟩) (iblk m e 1 ⟨n, hn⟩) (iblk m e 2 ⟨n, hn⟩) (iblk m e 3 ⟨n, hn⟩) (iblk m e 4 ⟨n, hn⟩) (ix2 r c)
      = RD m e (ix2 r (col (256 * n + c.val))) := by
  refine (left6 _ _ _ _ _ _ _).trans (Eq.trans ?_ (ref_d m e _).symm)
  refine (congrArg₂ (fun w x => stepOf w x _) (blk0 m e n hn r c) ((congrArg₂ newM (grad_at m e n hn r c) (blk3 m e n hn r c)).trans (ref_m m e _).symm)).trans ?_
  exact congrArg (stepOf _ _) ((congrArg₂ newV (grad_at m e n hn r c) (blk4 m e n hn r c)).trans (ref_v m e _).symm)

/-- What a point writes back is its block of the reference's array, -/
theorem back5 (t : Fin cfg0.N) : (dats m 0 e).flushed 5 t = ((cfg0.win 5).blk t).view.read (Elt Ideal) (RG m e) := by
  have hN : cfg0.N = 4 := N_0
  obtain ⟨n, hn⟩ := t
  rw [flushed5]
  funext y
  refine (congrArg (out0_5 (F := Ideal) _ _ _ _ _ _) (ix2_eta (p := 1796) (q := 256) y).symm).trans ((at5 m e n hn (y 0) (y 1)).trans ?_)
  have e0 : _ = 0 := (place5 ⟨n, hn⟩).1
  have e1 : _ = n := (place5 ⟨n, hn⟩).2
  have h1 : (y 1).val < 256 := (y 1).isLt
  refine congrArg (RG m e) (funext fun a => Fin.ext ?_)
  match a with
  | ⟨0, _⟩ =>
    change (y 0).val = win0_5.index ⟨n, hn⟩ (0 : Fin 2) * 1796 + 1 * (y 0).val
    rw [e0]; clear e0 e1; omega
  | ⟨1, _⟩ =>
    change (256 * n + (y 1).val) % 1024 = win0_5.index ⟨n, hn⟩ (1 : Fin 2) * 256 + 1 * (y 1).val
    rw [e1]; clear e0 e1; omega
theorem back6 (t : Fin cfg0.N) : (dats m 0 e).flushed 6 t = ((cfg0.win 6).blk t).view.read (Elt Ideal) (RD m e) := by
  have hN : cfg0.N = 4 := N_0
  obtain ⟨n, hn⟩ := t
  rw [flushed6]
  funext y
  refine (congrArg (out0_6 (F := Ideal) _ _ _ _ _ _) (ix2_eta (p := 1796) (q := 256) y).symm).trans ((at6 m e n hn (y 0) (y 1)).trans ?_)
  have e0 : _ = 0 := (place6 ⟨n, hn⟩).1
  have e1 : _ = n := (place6 ⟨n, hn⟩).2
  have h1 : (y 1).val < 256 := (y 1).isLt
  refine congrArg (RD m e) (funext fun a => Fin.ext ?_)
  match a with
  | ⟨0, _⟩ =>
    change (y 0).val = win0_6.index ⟨n, hn⟩ (0 : Fin 2) * 1796 + 1 * (y 0).val
    rw [e0]; clear e0 e1; omega
  | ⟨1, _⟩ =>
    change (256 * n + (y 1).val) % 1024 = win0_6.index ⟨n, hn⟩ (1 : Fin 2) * 256 + 1 * (y 1).val
    rw [e1]; clear e0 e1; omega
theorem back7 (t : Fin cfg0.N) : (dats m 0 e).flushed 7 t = ((cfg0.win 7).blk t).view.read (Elt Ideal) (RM m e) := by
  have hN : cfg0.N = 4 := N_0
  obtain ⟨n, hn⟩ := t
  rw [flushed7]
  funext y
  refine (congrArg (out0_7 (F := Ideal) _ _ _ _ _ _) (ix2_eta (p := 1796) (q := 256) y).symm).trans ((at7 m e n hn (y 0) (y 1)).trans ?_)
  have e0 : _ = 0 := (place7 ⟨n, hn⟩).1
  have e1 : _ = n := (place7 ⟨n, hn⟩).2
  have h1 : (y 1).val < 256 := (y 1).isLt
  refine congrArg (RM m e) (funext fun a => Fin.ext ?_)
  match a with
  | ⟨0, _⟩ =>
    change (y 0).val = win0_7.index ⟨n, hn⟩ (0 : Fin 2) * 1796 + 1 * (y 0).val
    rw [e0]; clear e0 e1; omega
  | ⟨1, _⟩ =>
    change (256 * n + (y 1).val) % 1024 = win0_7.index ⟨n, hn⟩ (1 : Fin 2) * 256 + 1 * (y 1).val
    rw [e1]; clear e0 e1; omega
theorem back8 (t : Fin cfg0.N) : (dats m 0 e).flushed 8 t = ((cfg0.win 8).blk t).view.read (Elt Ideal) (RV m e) := by
  have hN : cfg0.N = 4 := N_0
  obtain ⟨n, hn⟩ := t
  rw [flushed8]
  funext y
  refine (congrArg (out0_8 (F := Ideal) _ _ _ _ _ _) (ix2_eta (p := 1796) (q := 256) y).symm).trans ((at8 m e n hn (y 0) (y 1)).trans ?_)
  have e0 : _ = 0 := (place8 ⟨n, hn⟩).1
  have e1 : _ = n := (place8 ⟨n, hn⟩).2
  have h1 : (y 1).val < 256 := (y 1).isLt
  refine congrArg (RV m e) (funext fun a => Fin.ext ?_)
  match a with
  | ⟨0, _⟩ =>
    change (y 0).val = win0_8.index ⟨n, hn⟩ (0 : Fin 2) * 1796 + 1 * (y 0).val
    rw [e0]; clear e0 e1; omega
  | ⟨1, _⟩ =>
    change (256 * n + (y 1).val) % 1024 = win0_8.index ⟨n, hn⟩ (1 : Fin 2) * 256 + 1 * (y 1).val
    rw [e1]; clear e0 e1; omega
/-- a point's block is the indices in its ranges, -/
theorem mem5 (t : Fin cfg0.N) (i : S1796x1024.Idx) :
    i ∈ ((cfg0.win 5).blk t).view.set ↔ ∀ a : Fin 2, win0_5.index t a * S1796x256.size a ≤ (i a).val ∧ (i a).val < win0_5.index t a * S1796x256.size a + S1796x256.size a := by
  show i ∈ ((View.whole main_v0_0).slice (win0_5.rect t)).set ↔ _
  rw [View.set_slice_whole, Rect.mem_set_unit]
  exact Iff.rfl
theorem mem6 (t : Fin cfg0.N) (i : S1796x1024.Idx) :
    i ∈ ((cfg0.win 6).blk t).view.set ↔ ∀ a : Fin 2, win0_6.index t a * S1796x256.size a ≤ (i a).val ∧ (i a).val < win0_6.index t a * S1796x256.size a + S1796x256.size a := by
  show i ∈ ((View.whole main_v0_1).slice (win0_6.rect t)).set ↔ _
  rw [View.set_slice_whole, Rect.mem_set_unit]
  exact Iff.rfl
theorem mem7 (t : Fin cfg0.N) (i : S1796x1024.Idx) :
    i ∈ ((cfg0.win 7).blk t).view.set ↔ ∀ a : Fin 2, win0_7.index t a * S1796x256.size a ≤ (i a).val ∧ (i a).val < win0_7.index t a * S1796x256.size a + S1796x256.size a := by
  show i ∈ ((View.whole main_v0_2).slice (win0_7.rect t)).set ↔ _
  rw [View.set_slice_whole, Rect.mem_set_unit]
  exact Iff.rfl
theorem mem8 (t : Fin cfg0.N) (i : S1796x1024.Idx) :
    i ∈ ((cfg0.win 8).blk t).view.set ↔ ∀ a : Fin 2, win0_8.index t a * S1796x256.size a ≤ (i a).val ∧ (i a).val < win0_8.index t a * S1796x256.size a + S1796x256.size a := by
  show i ∈ ((View.whole main_v0_3).slice (win0_8.rect t)).set ↔ _
  rw [View.set_slice_whole, Rect.mem_set_unit]
  exact Iff.rfl
/-- and the blocks cover the arrays, so the arrays end at the reference's. -/
theorem final5 : (dats m 0 e).arrAt 5 cfg0.N = RG m e :=
  (dats m 0 e).arrAt_eq_of_cover 5 _ (fun t _ => back5 m e t) fun i => by
    have hN : cfg0.N = 4 := N_0
    have h0 : (i 0).val < 1796 := (i 0).isLt
    have h1 : (i 1).val < 1024 := (i 1).isLt
    have hn : (i 1).val / 256 < cfg0.N := by omega
    refine ⟨⟨(i 1).val / 256, hn⟩, flush0_5 _, ?_⟩
    have e0 : _ = 0 := (place5 ⟨_, hn⟩).1
    have e1 : _ = (i 1).val / 256 := (place5 ⟨_, hn⟩).2
    rw [mem5]
    intro a
    match a with
    | ⟨0, _⟩ =>
      change win0_5.index ⟨_, hn⟩ (0 : Fin 2) * 1796 ≤ (i 0).val ∧ (i 0).val < win0_5.index ⟨_, hn⟩ (0 : Fin 2) * 1796 + 1796
      rw [e0]; clear e0 e1; omega
    | ⟨1, _⟩ =>
      change win0_5.index ⟨_, hn⟩ (1 : Fin 2) * 256 ≤ (i 1).val ∧ (i 1).val < win0_5.index ⟨_, hn⟩ (1 : Fin 2) * 256 + 256
      rw [e1]; clear e0 e1; omega
theorem final6 : (dats m 0 e).arrAt 6 cfg0.N = RD m e :=
  (dats m 0 e).arrAt_eq_of_cover 6 _ (fun t _ => back6 m e t) fun i => by
    have hN : cfg0.N = 4 := N_0
    have h0 : (i 0).val < 1796 := (i 0).isLt
    have h1 : (i 1).val < 1024 := (i 1).isLt
    have hn : (i 1).val / 256 < cfg0.N := by omega
    refine ⟨⟨(i 1).val / 256, hn⟩, flush0_6 _, ?_⟩
    have e0 : _ = 0 := (place6 ⟨_, hn⟩).1
    have e1 : _ = (i 1).val / 256 := (place6 ⟨_, hn⟩).2
    rw [mem6]
    intro a
    match a with
    | ⟨0, _⟩ =>
      change win0_6.index ⟨_, hn⟩ (0 : Fin 2) * 1796 ≤ (i 0).val ∧ (i 0).val < win0_6.index ⟨_, hn⟩ (0 : Fin 2) * 1796 + 1796
      rw [e0]; clear e0 e1; omega
    | ⟨1, _⟩ =>
      change win0_6.index ⟨_, hn⟩ (1 : Fin 2) * 256 ≤ (i 1).val ∧ (i 1).val < win0_6.index ⟨_, hn⟩ (1 : Fin 2) * 256 + 256
      rw [e1]; clear e0 e1; omega
theorem final7 : (dats m 0 e).arrAt 7 cfg0.N = RM m e :=
  (dats m 0 e).arrAt_eq_of_cover 7 _ (fun t _ => back7 m e t) fun i => by
    have hN : cfg0.N = 4 := N_0
    have h0 : (i 0).val < 1796 := (i 0).isLt
    have h1 : (i 1).val < 1024 := (i 1).isLt
    have hn : (i 1).val / 256 < cfg0.N := by omega
    refine ⟨⟨(i 1).val / 256, hn⟩, flush0_7 _, ?_⟩
    have e0 : _ = 0 := (place7 ⟨_, hn⟩).1
    have e1 : _ = (i 1).val / 256 := (place7 ⟨_, hn⟩).2
    rw [mem7]
    intro a
    match a with
    | ⟨0, _⟩ =>
      change win0_7.index ⟨_, hn⟩ (0 : Fin 2) * 1796 ≤ (i 0).val ∧ (i 0).val < win0_7.index ⟨_, hn⟩ (0 : Fin 2) * 1796 + 1796
      rw [e0]; clear e0 e1; omega
    | ⟨1, _⟩ =>
      change win0_7.index ⟨_, hn⟩ (1 : Fin 2) * 256 ≤ (i 1).val ∧ (i 1).val < win0_7.index ⟨_, hn⟩ (1 : Fin 2) * 256 + 256
      rw [e1]; clear e0 e1; omega
theorem final8 : (dats m 0 e).arrAt 8 cfg0.N = RV m e :=
  (dats m 0 e).arrAt_eq_of_cover 8 _ (fun t _ => back8 m e t) fun i => by
    have hN : cfg0.N = 4 := N_0
    have h0 : (i 0).val < 1796 := (i 0).isLt
    have h1 : (i 1).val < 1024 := (i 1).isLt
    have hn : (i 1).val / 256 < cfg0.N := by omega
    refine ⟨⟨(i 1).val / 256, hn⟩, flush0_8 _, ?_⟩
    have e0 : _ = 0 := (place8 ⟨_, hn⟩).1
    have e1 : _ = (i 1).val / 256 := (place8 ⟨_, hn⟩).2
    rw [mem8]
    intro a
    match a with
    | ⟨0, _⟩ =>
      change win0_8.index ⟨_, hn⟩ (0 : Fin 2) * 1796 ≤ (i 0).val ∧ (i 0).val < win0_8.index ⟨_, hn⟩ (0 : Fin 2) * 1796 + 1796
      rw [e0]; clear e0 e1; omega
    | ⟨1, _⟩ =>
      change win0_8.index ⟨_, hn⟩ (1 : Fin 2) * 256 ≤ (i 1).val ∧ (i 1).val < win0_8.index ⟨_, hn⟩ (1 : Fin 2) * 256 + 256
      rw [e1]; clear e0 e1; omega

/-- The step leaves its arguments unchanged and ends with every semaphore at zero: on machine words, over the reals,
and its reference over the reals. -/
theorem frame_kernel8 : letI := Cert.Kernel8.Gen.facts; Cert.quiescent_Kernel8 := fun m ρ _ => Cert.Kernel8.Gen.frame m ρ
theorem frame_kernel8Ideal : letI := Cert.Kernel8Ideal.Gen.facts; Cert.quiescent_Kernel8Ideal := fun m ρ _ =>
  Cert.Kernel8Ideal.Gen.frame m ρ
theorem frame_reference8Ideal : letI := Cert.Reference8Ideal.Gen.facts; Cert.quiescent_Reference8Ideal := fun m ρ _ =>
  θ_run_and
    ((θ_run Cert.Reference8Ideal.defs _ _).mono (fun _ h c => (h c).2.2.2.2) (Cert.Reference8Ideal.Value.run (F := Ideal) m ρ))
    ((θ_run Cert.Reference8Ideal.defs _ _).mono (fun r _ => sem_eq_zero_of_no_sems rfl r.2) (Cert.Reference8Ideal.Value.run (F := Ideal) m ρ))

/-- From equal arguments the kernel's step and the reference's run and end with equal results, the arguments unchanged. -/
theorem algebraic8 :
    letI := Cert.Kernel8Ideal.Gen.facts; letI := Cert.Reference8Ideal.Gen.facts;
    Cert.algebraic_Kernel8Ideal_Reference8Ideal := by
  intro m ρ m' ρ' _ hm
  refine ⟨fun e => RG m e, fun e => RD m e, fun e => RM m e, fun e => RV m e, ?_, ?_⟩
  · exact (θ_run Cert.Kernel8Ideal.defs _ _).mono (fun _ h e => ⟨(h e).1.trans (final5 m e), (h e).2.1.trans (final6 m e),
      (h e).2.2.1.trans (final7 m e), (h e).2.2.2.1.trans (final8 m e), (h e).2.2.2.2⟩) (run_blocks m ρ)
  · refine (θ_run Cert.Reference8Ideal.defs _ _).mono (fun r h e => ⟨(h e).1.trans ?_, (h e).2.1.trans ?_, (h e).2.2.1.trans ?_,
      (h e).2.2.2.1.trans ?_, (h e).2.2.2.2⟩) (Cert.Reference8Ideal.Value.run (F := Ideal) m' ρ')
    · rw [Cert.Reference8Ideal.Read.val_main_v0_eq, (hm e).2.1, (hm e).2.2.1]
    · rw [Cert.Reference8Ideal.Read.val_main_v24_eq, (hm e).1, (hm e).2.1, (hm e).2.2.1, (hm e).2.2.2.1, (hm e).2.2.2.2]
    · rw [Cert.Reference8Ideal.Read.val_main_v5_eq, (hm e).2.1, (hm e).2.2.1, (hm e).2.2.2.1]
    · rw [Cert.Reference8Ideal.Read.val_main_v11_eq, (hm e).2.1, (hm e).2.2.1, (hm e).2.2.2.2]
end Cert.Halves8

end
-- ==== Proof.Halves9.lean ====
/- Hand-written. One step of AdamW on the weights of the output projection, from the gradient's two halves: the kernel's four arrays are
the reference's. -/
module

public import proofs.«01_k».proof.Defs
public import proofs.«01_k».proof.Proof.Gen.Kernel9Ideal.Value
public import proofs.«01_k».proof.Proof.Gen.Kernel9.Frame
public import proofs.«01_k».proof.Proof.Gen.Reference9Ideal.Run
public import proofs.«01_k».proof.Proof.Gen.Reference9Ideal.Read
public import Idealize.ShloMosaic.Lib.Pointwise
public import Idealize.ShloMosaic.Lib.Quiescent

@[expose] public section

noncomputable section

namespace Cert.Halves9

open Cert.Kernel9Ideal Cert.Kernel9Ideal.Gen Cert.Kernel9Ideal.Value
open Idealize.ShloMosaic Idealize.ShloMosaic.TcCoe Idealize.ShloMosaic.Tactic Idealize.SL.Sem

variable (m : (ℓ : Loc nD τ sig) → Buf (Elt Ideal) ℓ) (e : Dev nD)

/-- The weights, the gradient's left and right halves, and the two averages. -/
abbrev ww : FVec Ideal S512x1024 .f32 := m ((e.tc : Thread nD τ).loc main_arg0)
abbrev gl : FVec Ideal S512x512 .f32 := m ((e.tc : Thread nD τ).loc main_arg1)
abbrev gr : FVec Ideal S512x512 .f32 := m ((e.tc : Thread nD τ).loc main_arg2)
abbrev mm : FVec Ideal S512x1024 .f32 := m ((e.tc : Thread nD τ).loc main_arg3)
abbrev vv : FVec Ideal S512x1024 .f32 := m ((e.tc : Thread nD τ).loc main_arg4)

/-- The reference's four arrays: the gradient, the step and the two new averages. -/
abbrev RG : S512x1024.Idx → Ideal .f32 := Cert.Reference9Ideal.Read.val_main_v0 (F := Ideal) (gl m e) (gr m e)
abbrev RD : S512x1024.Idx → Ideal .f32 := Cert.Reference9Ideal.Read.val_main_v24 (F := Ideal) (ww m e) (gl m e) (gr m e) (mm m e) (vv m e)
abbrev RM : S512x1024.Idx → Ideal .f32 := Cert.Reference9Ideal.Read.val_main_v5 (F := Ideal) (gl m e) (gr m e) (mm m e)
abbrev RV : S512x1024.Idx → Ideal .f32 := Cert.Reference9Ideal.Read.val_main_v11 (F := Ideal) (gl m e) (gr m e) (vv m e)

/-- One weight's new averages and its step. -/
abbrev newM (g u : Ideal .f32) : Ideal .f32 :=
  FloatOps.addf (FloatOps.mulf (Scalar.ofBits .f32 0x3F666666#32) u) (FloatOps.mulf (Scalar.ofBits .f32 0x3DCCCCCD#32) g)
abbrev newV (g u : Ideal .f32) : Ideal .f32 :=
  FloatOps.addf (FloatOps.mulf (Scalar.ofBits .f32 0x3F7FBE77#32) u) (FloatOps.mulf (Scalar.ofBits .f32 0x3A83126F#32) (FloatOps.mulf g g))
abbrev stepOf (w nm nv : Ideal .f32) : Ideal .f32 :=
  FloatOps.mulf (Scalar.ofBits .f32 0xBA83126F#32)
    (FloatOps.addf (FloatOps.divf (FloatOps.divf nm (Scalar.ofBits .f32 0x3F26BD02#32))
        (FloatOps.addf (FloatOps.sqrt (FloatOps.divf nv (Scalar.ofBits .f32 0x3C231ACC#32))) (Scalar.ofBits .f32 0x322BCC77#32)))
      (FloatOps.mulf (Scalar.ofBits .f32 0x3C23D70A#32) w))

/-- The reference's arrays are those of its gradient, entry by entry. -/
theorem ref_m (i : S512x1024.Idx) : RM m e i = newM (RG m e i) (mm m e i) := rfl
theorem ref_v (i : S512x1024.Idx) : RV m e i = newV (RG m e i) (vv m e i) := rfl
theorem ref_d (i : S512x1024.Idx) : RD m e i = stepOf (ww m e i) (RM m e i) (RV m e i) := rfl

/-- The reference's gradient is the left half in the first 512 columns and the right half after them. -/
theorem ref_left (r : Fin 512) (c : Fin 1024) (d : Fin 512) (h : c.val = d.val) : RG m e (ix2 r c) = gl m e (ix2 r d) := by
  refine concatenate_pair_apply_left (t := S512x1024) (s₁ := S512x512) (s₂ := S512x512) 1 (gl m e) (gr m e)
    Cert.Reference9Ideal.Facts₀.concatenates_S512x512_S512x512_S512x1024_d1 (ix2 r c) rfl (ix2 r d) fun b => ?_
  match b with
  | ⟨0, _⟩ => rfl
  | ⟨1, _⟩ => exact h.symm
theorem ref_right (r : Fin 512) (c : Fin 1024) (d : Fin 512) (h : c.val = 512 + d.val) : RG m e (ix2 r c) = gr m e (ix2 r d) := by
  refine concatenate_pair_apply_right (t := S512x1024) (s₁ := S512x512) (s₂ := S512x512) 1 (gl m e) (gr m e)
    Cert.Reference9Ideal.Facts₀.concatenates_S512x512_S512x512_S512x1024_d1 (ix2 r c) rfl rfl (ix2 r d) (fun b hb => ?_) ?_
  · match b, hb with
    | ⟨0, _⟩, _ => rfl
    | ⟨1, _⟩, hb => exact absurd rfl hb
  · change d.val + 512 = c.val
    omega

/-- Whether a point takes the left half: half its number, rounded down, is zero. -/
abbrev isLeft (i : grid0.Coords) : BitVec 1 :=
  let n : BitVec 32 := BitVec.ofNat 32 (i 0).val
  Scalar.cmpi .eq (Scalar.select
    (Scalar.andi
      (Scalar.cmpi .ne (Scalar.subi (Scalar.extui (Scalar.cmpi .sgt n 0#32)) (Scalar.extui (Scalar.cmpi .slt n 0#32)))
        (Scalar.subi (Scalar.extui (Scalar.cmpi .sgt 2#32 0#32)) (Scalar.extui (Scalar.cmpi .slt 2#32 0#32))))
      (Scalar.cmpi .ne (Scalar.remsi n 2#32) 0#32))
    (Scalar.subi (Scalar.divsi n 2#32) 1#32) (Scalar.divsi n 2#32)) 0#32
theorem isLeft_iff : ∀ t : Fin cfg0.N, isLeft (grid0.coords t) = 1#1 ↔ t.val < 2 :=
  (by decide +kernel : ∀ t : Fin grid0.N, isLeft (grid0.coords t) = 1#1 ↔ t.val < 2)

/-- The gradient a point stores: the left half's block in the first two points, the right half's after them. -/
theorem pick_left (t : Fin cfg0.N) (h : t.val < 2) (a b : Vec Ideal S512x256 .f32) : k0_pay3 (grid0.coords t) a b = a :=
  (show k0_pay3 (grid0.coords t) a b = Scalar.select (isLeft (grid0.coords t)) a b from rfl).trans (if_pos ((isLeft_iff t).mpr h))
theorem pick_right (t : Fin cfg0.N) (h : ¬ t.val < 2) (a b : Vec Ideal S512x256 .f32) : k0_pay3 (grid0.coords t) a b = b :=
  (show k0_pay3 (grid0.coords t) a b = Scalar.select (isLeft (grid0.coords t)) a b from rfl).trans (if_neg fun hh => h ((isLeft_iff t).mp hh))

/-- The blocks' places along the grid. -/
theorem place0 : ∀ t : Fin cfg0.N, win0_0.index t (0 : Fin 2) = 0 ∧ win0_0.index t (1 : Fin 2) = t.val :=
  (by decide +kernel : ∀ t : Fin grid0.N, _)
theorem place1 : ∀ t : Fin cfg0.N, win0_1.index t (0 : Fin 2) = 0 ∧ win0_1.index t (1 : Fin 2) = t.val % 2 :=
  (by decide +kernel : ∀ t : Fin grid0.N, _)
theorem place2 : ∀ t : Fin cfg0.N, win0_2.index t (0 : Fin 2) = 0 ∧ win0_2.index t (1 : Fin 2) = t.val % 2 :=
  (by decide +kernel : ∀ t : Fin grid0.N, _)
theorem place3 : ∀ t : Fin cfg0.N, win0_3.index t (0 : Fin 2) = 0 ∧ win0_3.index t (1 : Fin 2) = t.val :=
  (by decide +kernel : ∀ t : Fin grid0.N, _)
theorem place4 : ∀ t : Fin cfg0.N, win0_4.index t (0 : Fin 2) = 0 ∧ win0_4.index t (1 : Fin 2) = t.val :=
  (by decide +kernel : ∀ t : Fin grid0.N, _)
theorem place5 : ∀ t : Fin cfg0.N, win0_5.index t (0 : Fin 2) = 0 ∧ win0_5.index t (1 : Fin 2) = t.val :=
  (by decide +kernel : ∀ t : Fin grid0.N, _)
theorem place6 : ∀ t : Fin cfg0.N, win0_6.index t (0 : Fin 2) = 0 ∧ win0_6.index t (1 : Fin 2) = t.val :=
  (by decide +kernel : ∀ t : Fin grid0.N, _)
theorem place7 : ∀ t : Fin cfg0.N, win0_7.index t (0 : Fin 2) = 0 ∧ win0_7.index t (1 : Fin 2) = t.val :=
  (by decide +kernel : ∀ t : Fin grid0.N, _)
theorem place8 : ∀ t : Fin cfg0.N, win0_8.index t (0 : Fin 2) = 0 ∧ win0_8.index t (1 : Fin 2) = t.val :=
  (by decide +kernel : ∀ t : Fin grid0.N, _)

/-- A number as a column of the whole, and of a half. -/
abbrev col (n : ℕ) : Fin 1024 := ⟨n % 1024, Nat.mod_lt _ (by decide)⟩
abbrev half (n : ℕ) : Fin 512 := ⟨n % 512, Nat.mod_lt _ (by decide)⟩

/-- The blocks a point reads. -/
theorem blk0 (n : ℕ) (hn : n < cfg0.N) (r : Fin 512) (c : Fin 256) :
    (iblk m e 0 ⟨n, hn⟩ : S512x256.Idx → Ideal .f32) (ix2 r c) = ww m e (ix2 r (col (256 * n + c.val))) := by
  have hN : cfg0.N = 4 := N_0
  have e0 : _ = 0 := (place0 ⟨n, hn⟩).1
  have e1 : _ = n := (place0 ⟨n, hn⟩).2
  have hc := c.isLt
  refine congrArg (ww m e) (funext fun a => Fin.ext ?_)
  match a with
  | ⟨0, _⟩ =>
    change win0_0.index ⟨n, hn⟩ (0 : Fin 2) * 512 + 1 * r.val = r.val
    rw [e0]; clear e0 e1; omega
  | ⟨1, _⟩ =>
    change win0_0.index ⟨n, hn⟩ (1 : Fin 2) * 256 + 1 * c.val = (256 * n + c.val) % 1024
    rw [e1]; clear e0 e1; omega
theorem blk1 (n : ℕ) (hn : n < cfg0.N) (r : Fin 512) (c : Fin 256) :
    (iblk m e 1 ⟨n, hn⟩ : S512x256.Idx → Ideal .f32) (ix2 r c) = gl m e (ix2 r (half (256 * (n % 2) + c.val))) := by
  have hN : cfg0.N = 4 := N_0
  have e0 : _ = 0 := (place1 ⟨n, hn⟩).1
  have e1 : _ = n % 2 := (place1 ⟨n, hn⟩).2
  have hc := c.isLt
  refine congrArg (gl m e) (funext fun a => Fin.ext ?_)
  match a with
  | ⟨0, _⟩ =>
    change win0_1.index ⟨n, hn⟩ (0 : Fin 2) * 512 + 1 * r.val = r.val
    rw [e0]; clear e0 e1; omega
  | ⟨1, _⟩ =>
    change win0_1.index ⟨n, hn⟩ (1 : Fin 2) * 256 + 1 * c.val = (256 * (n % 2) + c.val) % 512
    rw [e1]; clear e0 e1; omega
theorem blk2 (n : ℕ) (hn : n < cfg0.N) (r : Fin 512) (c : Fin 256) :
    (iblk m e 2 ⟨n, hn⟩ : S512x256.Idx → Ideal .f32) (ix2 r c) = gr m e (ix2 r (half (256 * (n % 2) + c.val))) := by
  have hN : cfg0.N = 4 := N_0
  have e0 : _ = 0 := (place2 ⟨n, hn⟩).1
  have e1 : _ = n % 2 := (place2 ⟨n, hn⟩).2
  have hc := c.isLt
  refine congrArg (gr m e) (funext fun a => Fin.ext ?_)
  match a with
  | ⟨0, _⟩ =>
    change win0_2.index ⟨n, hn⟩ (0 : Fin 2) * 512 + 1 * r.val = r.val
    rw [e0]; clear e0 e1; omega
  | ⟨1, _⟩ =>
    change win0_2.index ⟨n, hn⟩ (1 : Fin 2) * 256 + 1 * c.val = (256 * (n % 2) + c.val) % 512
    rw [e1]; clear e0 e1; omega
theorem blk3 (n : ℕ) (hn : n < cfg0.N) (r : Fin 512) (c : Fin 256) :
    (iblk m e 3 ⟨n, hn⟩ : S512x256.Idx → Ideal .f32) (ix2 r c) = mm m e (ix2 r (col (256 * n + c.val))) := by
  have hN : cfg0.N = 4 := N_0
  have e0 : _ = 0 := (place3 ⟨n, hn⟩).1
  have e1 : _ = n := (place3 ⟨n, hn⟩).2
  have hc := c.isLt
  refine congrArg (mm m e) (funext fun a => Fin.ext ?_)
  match a with
  | ⟨0, _⟩ =>
    change win0_3.index ⟨n, hn⟩ (0 : Fin 2) * 512 + 1 * r.val = r.val
    rw [e0]; clear e0 e1; omega
  | ⟨1, _⟩ =>
    change win0_3.index ⟨n, hn⟩ (1 : Fin 2) * 256 + 1 * c.val = (256 * n + c.val) % 1024
    rw [e1]; clear e0 e1; omega
theorem blk4 (n : ℕ) (hn : n < cfg0.N) (r : Fin 512) (c : Fin 256) :
    (iblk m e 4 ⟨n, hn⟩ : S512x256.Idx → Ideal .f32) (ix2 r c) = vv m e (ix2 r (col (256 * n + c.val))) := by
  have hN : cfg0.N = 4 := N_0
  have e0 : _ = 0 := (place4 ⟨n, hn⟩).1
  have e1 : _ = n := (place4 ⟨n, hn⟩).2
  have hc := c.isLt
  refine congrArg (vv m e) (funext fun a => Fin.ext ?_)
  match a with
  | ⟨0, _⟩ =>
    change win0_4.index ⟨n, hn⟩ (0 : Fin 2) * 512 + 1 * r.val = r.val
    rw [e0]; clear e0 e1; omega
  | ⟨1, _⟩ =>
    change win0_4.index ⟨n, hn⟩ (1 : Fin 2) * 256 + 1 * c.val = (256 * n + c.val) % 1024
    rw [e1]; clear e0 e1; omega

/-- The gradient a point stores is its block of the reference's. -/
theorem grad_at (n : ℕ) (hn : n < cfg0.N) (r : Fin 512) (c : Fin 256) :
    k0_pay3 (grid0.coords ⟨n, hn⟩) (iblk m e 1 ⟨n, hn⟩ : Vec Ideal S512x256 .f32) (iblk m e 2 ⟨n, hn⟩ : Vec Ideal S512x256 .f32) (ix2 r c)
      = RG m e (ix2 r (col (256 * n + c.val))) := by
  have hN : cfg0.N = 4 := N_0
  have hc := c.isLt
  by_cases h : n < 2
  · refine (congrFun (pick_left ⟨n, hn⟩ h _ _) _).trans ((blk1 m e n hn r c).trans (ref_left m e r _ _ ?_).symm)
    change (256 * n + c.val) % 1024 = (256 * (n % 2) + c.val) % 512
    omega
  · refine (congrFun (pick_right ⟨n, hn⟩ h _ _) _).trans ((blk2 m e n hn r c).trans (ref_right m e r _ _ ?_).symm)
    change (256 * n + c.val) % 1024 = 512 + (256 * (n % 2) + c.val) % 512
    omega

theorem ix2_eta {p q : ℕ} (y : (⟨2, ![p, q]⟩ : Shape).Idx) : ix2 (y 0) (y 1) = y := by
  funext a
  match a with
  | ⟨0, _⟩ => rfl
  | ⟨1, _⟩ => rfl

theorem zero_off : (![0, 0] : Fin 2 → Nat) = fun _ => 0 := funext fun a => by fin_cases a <;> rfl

/-- What a point leaves in its four blocks: the gradient, the step and the new averages, of the blocks it reads. -/
theorem left5 (i : grid0.Coords) (x0 x1 x2 x3 x4 : Vec Ideal S512x256 .f32) : out0_5 i x0 x1 x2 x3 x4 = k0_pay3 i x1 x2 := by
  unfold out0_5
  rw [View.canon_unit_zero zero_off]
  simp only [View.ld_unit_zero (S := S512x256) zero_off]
theorem left7 (i : grid0.Coords) (x0 x1 x2 x3 x4 : Vec Ideal S512x256 .f32) (y : S512x256.Idx) :
    out0_7 i x0 x1 x2 x3 x4 y = newM (k0_pay3 i x1 x2 y) (x3 y) := by
  unfold out0_7
  rw [View.canon_unit_zero zero_off]
  unfold k0_pay8
  simp only [View.ld_unit_zero (S := S512x256) zero_off]
  rfl
theorem left8 (i : grid0.Coords) (x0 x1 x2 x3 x4 : Vec Ideal S512x256 .f32) (y : S512x256.Idx) :
    out0_8 i x0 x1 x2 x3 x4 y = newV (k0_pay3 i x1 x2 y) (x4 y) := by
  unfold out0_8
  rw [View.canon_unit_zero zero_off]
  unfold k0_pay9 k0_pay10 k0_pay11
  simp only [View.ld_unit_zero (S := S512x256) zero_off]
  rfl
theorem left6 (i : grid0.Coords) (x0 x1 x2 x3 x4 : Vec Ideal S512x256 .f32) (y : S512x256.Idx) :
    out0_6 i x0 x1 x2 x3 x4 y = stepOf (x0 y) (newM (k0_pay3 i x1 x2 y) (x3 y)) (newV (k0_pay3 i x1 x2 y) (x4 y)) := by
  unfold out0_6
  rw [View.canon_unit_zero zero_off]
  unfold k0_pay8 k0_pay9 k0_pay10 k0_pay11
  simp only [View.ld_unit_zero (S := S512x256) zero_off]
  rfl

/-- Each is the point's block of the reference's array. -/
theorem at5 (n : ℕ) (hn : n < cfg0.N) (r : Fin 512) (c : Fin 256) :
    out0_5 (grid0.coords ⟨n, hn⟩) (iblk m e 0 ⟨n, hn⟩) (iblk m e 1 ⟨n, hn⟩) (iblk m e 2 ⟨n, hn⟩) (iblk m e 3 ⟨n, hn⟩) (iblk m e 4 ⟨n, hn⟩) (ix2 r c)
      = RG m e (ix2 r (col (256 * n + c.val))) :=
  (congrFun (left5 _ _ _ _ _ _) _).trans (grad_at m e n hn r c)
theorem at7 (n : ℕ) (hn : n < cfg0.N) (r : Fin 512) (c : Fin 256) :
    out0_7 (grid0.coords ⟨n, hn⟩) (iblk m e 0 ⟨n, hn⟩) (iblk m e 1 ⟨n, hn⟩) (iblk m e 2 ⟨n, hn⟩) (iblk m e 3 ⟨n, hn⟩) (iblk m e 4 ⟨n, hn⟩) (ix2 r c)
      = RM m e (ix2 r (col (256 * n + c.val))) :=
  (left7 _ _ _ _ _ _ _).trans ((congrArg₂ newM (grad_at m e n hn r c) (blk3 m e n hn r c)).trans (ref_m m e _).symm)
theorem at8 (n : ℕ) (hn : n < cfg0.N) (r : Fin 512) (c : Fin 256) :
    out0_8 (grid0.coords ⟨n, hn⟩) (iblk m e 0 ⟨n, hn⟩) (iblk m e 1 ⟨n, hn⟩) (iblk m e 2 ⟨n, hn⟩) (iblk m e 3 ⟨n, hn⟩) (iblk m e 4 ⟨n, hn⟩) (ix2 r c)
      = RV m e (ix2 r (col (256 * n + c.val))) :=
  (left8 _ _ _ _ _ _ _).trans ((congrArg₂ newV (grad_at m e n hn r c) (blk4 m e n hn r c)).trans (ref_v m e _).symm)
theorem at6 (n : ℕ) (hn : n < cfg0.N) (r : Fin 512) (c : Fin 256) :
    out0_6 (grid0.coords ⟨n, hn⟩) (iblk m e 0 ⟨n, hn⟩) (iblk m e 1 ⟨n, hn⟩) (iblk m e 2 ⟨n, hn⟩) (iblk m e 3 ⟨n, hn⟩) (iblk m e 4 ⟨n, hn⟩) (ix2 r c)
      = RD m e (ix2 r (col (256 * n + c.val))) := by
  refine (left6 _ _ _ _ _ _ _).trans (Eq.trans ?_ (ref_d m e _).symm)
  refine (congrArg₂ (fun w x => stepOf w x _) (blk0 m e n hn r c) ((congrArg₂ newM (grad_at m e n hn r c) (blk3 m e n hn r c)).trans (ref_m m e _).symm)).trans ?_
  exact congrArg (stepOf _ _) ((congrArg₂ newV (grad_at m e n hn r c) (blk4 m e n hn r c)).trans (ref_v m e _).symm)

/-- What a point writes back is its block of the reference's array, -/
theorem back5 (t : Fin cfg0.N) : (dats m 0 e).flushed 5 t = ((cfg0.win 5).blk t).view.read (Elt Ideal) (RG m e) := by
  have hN : cfg0.N = 4 := N_0
  obtain ⟨n, hn⟩ := t
  rw [flushed5]
  funext y
  refine (congrArg (out0_5 (F := Ideal) _ _ _ _ _ _) (ix2_eta (p := 512) (q := 256) y).symm).trans ((at5 m e n hn (y 0) (y 1)).trans ?_)
  have e0 : _ = 0 := (place5 ⟨n, hn⟩).1
  have e1 : _ = n := (place5 ⟨n, hn⟩).2
  have h1 : (y 1).val < 256 := (y 1).isLt
  refine congrArg (RG m e) (funext fun a => Fin.ext ?_)
  match a with
  | ⟨0, _⟩ =>
    change (y 0).val = win0_5.index ⟨n, hn⟩ (0 : Fin 2) * 512 + 1 * (y 0).val
    rw [e0]; clear e0 e1; omega
  | ⟨1, _⟩ =>
    change (256 * n + (y 1).val) % 1024 = win0_5.index ⟨n, hn⟩ (1 : Fin 2) * 256 + 1 * (y 1).val
    rw [e1]; clear e0 e1; omega
theorem back6 (t : Fin cfg0.N) : (dats m 0 e).flushed 6 t = ((cfg0.win 6).blk t).view.read (Elt Ideal) (RD m e) := by
  have hN : cfg0.N = 4 := N_0
  obtain ⟨n, hn⟩ := t
  rw [flushed6]
  funext y
  refine (congrArg (out0_6 (F := Ideal) _ _ _ _ _ _) (ix2_eta (p := 512) (q := 256) y).symm).trans ((at6 m e n hn (y 0) (y 1)).trans ?_)
  have e0 : _ = 0 := (place6 ⟨n, hn⟩).1
  have e1 : _ = n := (place6 ⟨n, hn⟩).2
  have h1 : (y 1).val < 256 := (y 1).isLt
  refine congrArg (RD m e) (funext fun a => Fin.ext ?_)
  match a with
  | ⟨0, _⟩ =>
    change (y 0).val = win0_6.index ⟨n, hn⟩ (0 : Fin 2) * 512 + 1 * (y 0).val
    rw [e0]; clear e0 e1; omega
  | ⟨1, _⟩ =>
    change (256 * n + (y 1).val) % 1024 = win0_6.index ⟨n, hn⟩ (1 : Fin 2) * 256 + 1 * (y 1).val
    rw [e1]; clear e0 e1; omega
theorem back7 (t : Fin cfg0.N) : (dats m 0 e).flushed 7 t = ((cfg0.win 7).blk t).view.read (Elt Ideal) (RM m e) := by
  have hN : cfg0.N = 4 := N_0
  obtain ⟨n, hn⟩ := t
  rw [flushed7]
  funext y
  refine (congrArg (out0_7 (F := Ideal) _ _ _ _ _ _) (ix2_eta (p := 512) (q := 256) y).symm).trans ((at7 m e n hn (y 0) (y 1)).trans ?_)
  have e0 : _ = 0 := (place7 ⟨n, hn⟩).1
  have e1 : _ = n := (place7 ⟨n, hn⟩).2
  have h1 : (y 1).val < 256 := (y 1).isLt
  refine congrArg (RM m e) (funext fun a => Fin.ext ?_)
  match a with
  | ⟨0, _⟩ =>
    change (y 0).val = win0_7.index ⟨n, hn⟩ (0 : Fin 2) * 512 + 1 * (y 0).val
    rw [e0]; clear e0 e1; omega
  | ⟨1, _⟩ =>
    change (256 * n + (y 1).val) % 1024 = win0_7.index ⟨n, hn⟩ (1 : Fin 2) * 256 + 1 * (y 1).val
    rw [e1]; clear e0 e1; omega
theorem back8 (t : Fin cfg0.N) : (dats m 0 e).flushed 8 t = ((cfg0.win 8).blk t).view.read (Elt Ideal) (RV m e) := by
  have hN : cfg0.N = 4 := N_0
  obtain ⟨n, hn⟩ := t
  rw [flushed8]
  funext y
  refine (congrArg (out0_8 (F := Ideal) _ _ _ _ _ _) (ix2_eta (p := 512) (q := 256) y).symm).trans ((at8 m e n hn (y 0) (y 1)).trans ?_)
  have e0 : _ = 0 := (place8 ⟨n, hn⟩).1
  have e1 : _ = n := (place8 ⟨n, hn⟩).2
  have h1 : (y 1).val < 256 := (y 1).isLt
  refine congrArg (RV m e) (funext fun a => Fin.ext ?_)
  match a with
  | ⟨0, _⟩ =>
    change (y 0).val = win0_8.index ⟨n, hn⟩ (0 : Fin 2) * 512 + 1 * (y 0).val
    rw [e0]; clear e0 e1; omega
  | ⟨1, _⟩ =>
    change (256 * n + (y 1).val) % 1024 = win0_8.index ⟨n, hn⟩ (1 : Fin 2) * 256 + 1 * (y 1).val
    rw [e1]; clear e0 e1; omega
/-- a point's block is the indices in its ranges, -/
theorem mem5 (t : Fin cfg0.N) (i : S512x1024.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v0_0).slice (win0_5.rect t)).set ↔ _
  rw [View.set_slice_whole, Rect.mem_set_unit]
  exact Iff.rfl
theorem mem6 (t : Fin cfg0.N) (i : S512x1024.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v0_1).slice (win0_6.rect t)).set ↔ _
  rw [View.set_slice_whole, Rect.mem_set_unit]
  exact Iff.rfl
theorem mem7 (t : Fin cfg0.N) (i : S512x1024.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v0_2).slice (win0_7.rect t)).set ↔ _
  rw [View.set_slice_whole, Rect.mem_set_unit]
  exact Iff.rfl
theorem mem8 (t : Fin cfg0.N) (i : S512x1024.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v0_3).slice (win0_8.rect t)).set ↔ _
  rw [View.set_slice_whole, Rect.mem_set_unit]
  exact Iff.rfl
/-- and the blocks cover the arrays, so the arrays end at the reference's. -/
theorem final5 : (dats m 0 e).arrAt 5 cfg0.N = RG m e :=
  (dats m 0 e).arrAt_eq_of_cover 5 _ (fun t _ => back5 m e t) fun i => by
    have hN : cfg0.N = 4 := N_0
    have h0 : (i 0).val < 512 := (i 0).isLt
    have h1 : (i 1).val < 1024 := (i 1).isLt
    have hn : (i 1).val / 256 < cfg0.N := by omega
    refine ⟨⟨(i 1).val / 256, hn⟩, flush0_5 _, ?_⟩
    have e0 : _ = 0 := (place5 ⟨_, hn⟩).1
    have e1 : _ = (i 1).val / 256 := (place5 ⟨_, hn⟩).2
    rw [mem5]
    intro a
    match a with
    | ⟨0, _⟩ =>
      change win0_5.index ⟨_, hn⟩ (0 : Fin 2) * 512 ≤ (i 0).val ∧ (i 0).val < win0_5.index ⟨_, hn⟩ (0 : Fin 2) * 512 + 512
      rw [e0]; clear e0 e1; omega
    | ⟨1, _⟩ =>
      change win0_5.index ⟨_, hn⟩ (1 : Fin 2) * 256 ≤ (i 1).val ∧ (i 1).val < win0_5.index ⟨_, hn⟩ (1 : Fin 2) * 256 + 256
      rw [e1]; clear e0 e1; omega
theorem final6 : (dats m 0 e).arrAt 6 cfg0.N = RD m e :=
  (dats m 0 e).arrAt_eq_of_cover 6 _ (fun t _ => back6 m e t) fun i => by
    have hN : cfg0.N = 4 := N_0
    have h0 : (i 0).val < 512 := (i 0).isLt
    have h1 : (i 1).val < 1024 := (i 1).isLt
    have hn : (i 1).val / 256 < cfg0.N := by omega
    refine ⟨⟨(i 1).val / 256, hn⟩, flush0_6 _, ?_⟩
    have e0 : _ = 0 := (place6 ⟨_, hn⟩).1
    have e1 : _ = (i 1).val / 256 := (place6 ⟨_, hn⟩).2
    rw [mem6]
    intro a
    match a with
    | ⟨0, _⟩ =>
      change win0_6.index ⟨_, hn⟩ (0 : Fin 2) * 512 ≤ (i 0).val ∧ (i 0).val < win0_6.index ⟨_, hn⟩ (0 : Fin 2) * 512 + 512
      rw [e0]; clear e0 e1; omega
    | ⟨1, _⟩ =>
      change win0_6.index ⟨_, hn⟩ (1 : Fin 2) * 256 ≤ (i 1).val ∧ (i 1).val < win0_6.index ⟨_, hn⟩ (1 : Fin 2) * 256 + 256
      rw [e1]; clear e0 e1; omega
theorem final7 : (dats m 0 e).arrAt 7 cfg0.N = RM m e :=
  (dats m 0 e).arrAt_eq_of_cover 7 _ (fun t _ => back7 m e t) fun i => by
    have hN : cfg0.N = 4 := N_0
    have h0 : (i 0).val < 512 := (i 0).isLt
    have h1 : (i 1).val < 1024 := (i 1).isLt
    have hn : (i 1).val / 256 < cfg0.N := by omega
    refine ⟨⟨(i 1).val / 256, hn⟩, flush0_7 _, ?_⟩
    have e0 : _ = 0 := (place7 ⟨_, hn⟩).1
    have e1 : _ = (i 1).val / 256 := (place7 ⟨_, hn⟩).2
    rw [mem7]
    intro a
    match a with
    | ⟨0, _⟩ =>
      change win0_7.index ⟨_, hn⟩ (0 : Fin 2) * 512 ≤ (i 0).val ∧ (i 0).val < win0_7.index ⟨_, hn⟩ (0 : Fin 2) * 512 + 512
      rw [e0]; clear e0 e1; omega
    | ⟨1, _⟩ =>
      change win0_7.index ⟨_, hn⟩ (1 : Fin 2) * 256 ≤ (i 1).val ∧ (i 1).val < win0_7.index ⟨_, hn⟩ (1 : Fin 2) * 256 + 256
      rw [e1]; clear e0 e1; omega
theorem final8 : (dats m 0 e).arrAt 8 cfg0.N = RV m e :=
  (dats m 0 e).arrAt_eq_of_cover 8 _ (fun t _ => back8 m e t) fun i => by
    have hN : cfg0.N = 4 := N_0
    have h0 : (i 0).val < 512 := (i 0).isLt
    have h1 : (i 1).val < 1024 := (i 1).isLt
    have hn : (i 1).val / 256 < cfg0.N := by omega
    refine ⟨⟨(i 1).val / 256, hn⟩, flush0_8 _, ?_⟩
    have e0 : _ = 0 := (place8 ⟨_, hn⟩).1
    have e1 : _ = (i 1).val / 256 := (place8 ⟨_, hn⟩).2
    rw [mem8]
    intro a
    match a with
    | ⟨0, _⟩ =>
      change win0_8.index ⟨_, hn⟩ (0 : Fin 2) * 512 ≤ (i 0).val ∧ (i 0).val < win0_8.index ⟨_, hn⟩ (0 : Fin 2) * 512 + 512
      rw [e0]; clear e0 e1; omega
    | ⟨1, _⟩ =>
      change win0_8.index ⟨_, hn⟩ (1 : Fin 2) * 256 ≤ (i 1).val ∧ (i 1).val < win0_8.index ⟨_, hn⟩ (1 : Fin 2) * 256 + 256
      rw [e1]; clear e0 e1; omega

/-- The step leaves its arguments unchanged and ends with every semaphore at zero: on machine words, over the reals,
and its reference over the reals. -/
theorem frame_kernel9 : letI := Cert.Kernel9.Gen.facts; Cert.quiescent_Kernel9 := fun m ρ _ => Cert.Kernel9.Gen.frame m ρ
theorem frame_kernel9Ideal : letI := Cert.Kernel9Ideal.Gen.facts; Cert.quiescent_Kernel9Ideal := fun m ρ _ =>
  Cert.Kernel9Ideal.Gen.frame m ρ
theorem frame_reference9Ideal : letI := Cert.Reference9Ideal.Gen.facts; Cert.quiescent_Reference9Ideal := fun m ρ _ =>
  θ_run_and
    ((θ_run Cert.Reference9Ideal.defs _ _).mono (fun _ h c => (h c).2.2.2.2) (Cert.Reference9Ideal.Value.run (F := Ideal) m ρ))
    ((θ_run Cert.Reference9Ideal.defs _ _).mono (fun r _ => sem_eq_zero_of_no_sems rfl r.2) (Cert.Reference9Ideal.Value.run (F := Ideal) m ρ))

/-- From equal arguments the kernel's step and the reference's run and end with equal results, the arguments unchanged. -/
theorem algebraic9 :
    letI := Cert.Kernel9Ideal.Gen.facts; letI := Cert.Reference9Ideal.Gen.facts;
    Cert.algebraic_Kernel9Ideal_Reference9Ideal := by
  intro m ρ m' ρ' _ hm
  refine ⟨fun e => RG m e, fun e => RD m e, fun e => RM m e, fun e => RV m e, ?_, ?_⟩
  · exact (θ_run Cert.Kernel9Ideal.defs _ _).mono (fun _ h e => ⟨(h e).1.trans (final5 m e), (h e).2.1.trans (final6 m e),
      (h e).2.2.1.trans (final7 m e), (h e).2.2.2.1.trans (final8 m e), (h e).2.2.2.2⟩) (run_blocks m ρ)
  · refine (θ_run Cert.Reference9Ideal.defs _ _).mono (fun r h e => ⟨(h e).1.trans ?_, (h e).2.1.trans ?_, (h e).2.2.1.trans ?_,
      (h e).2.2.2.1.trans ?_, (h e).2.2.2.2⟩) (Cert.Reference9Ideal.Value.run (F := Ideal) m' ρ')
    · rw [Cert.Reference9Ideal.Read.val_main_v0_eq, (hm e).2.1, (hm e).2.2.1]
    · rw [Cert.Reference9Ideal.Read.val_main_v24_eq, (hm e).1, (hm e).2.1, (hm e).2.2.1, (hm e).2.2.2.1, (hm e).2.2.2.2]
    · rw [Cert.Reference9Ideal.Read.val_main_v5_eq, (hm e).2.1, (hm e).2.2.1, (hm e).2.2.2.1]
    · rw [Cert.Reference9Ideal.Read.val_main_v11_eq, (hm e).2.1, (hm e).2.2.1, (hm e).2.2.2.2]
end Cert.Halves9

end
-- ==== Proof.GateRun.lean ====
/- Hand-written. The gates' backward pass: what one step of the grid leaves in its two output blocks and in the carried row. -/
module

public import proofs.«01_k».proof.Proof.Gen.Kernel10Ideal.Value
public import Idealize.ShloMosaic.Lib.Pipeline.Value
public import Idealize.ShloMosaic.Lib.Pipeline.ReadBack
public import Idealize.ShloMosaic.Lib.VecWindow
public import Idealize.ShloMosaic.Lib.WritesUnit
public import Idealize.ShloMosaic.Lib.Pointwise

@[expose] public section

noncomputable section

namespace Cert.Gate

open Cert.Kernel10Ideal Cert.Kernel10Ideal.Gen Idealize.ShloMosaic Idealize.ShloMosaic.Tactic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The first seven pairs' gradients, added in order, of a block that holds eight. -/
abbrev seven (x : Vec F S8x512x128 .f32) : FVec F S512x128 .f32 :=
  k0_pay7 (View.ld x (Rect.unit ![0, 0, 0] S1x512x128.size inb_S8x512x128_S1x512x128_0_0_0))
    (View.ld x (Rect.unit ![1, 0, 0] S1x512x128.size inb_S8x512x128_S1x512x128_1_0_0))
    (View.ld x (Rect.unit ![2, 0, 0] S1x512x128.size inb_S8x512x128_S1x512x128_2_0_0))
    (View.ld x (Rect.unit ![3, 0, 0] S1x512x128.size inb_S8x512x128_S1x512x128_3_0_0))
    (View.ld x (Rect.unit ![4, 0, 0] S1x512x128.size inb_S8x512x128_S1x512x128_4_0_0))
    (View.ld x (Rect.unit ![5, 0, 0] S1x512x128.size inb_S8x512x128_S1x512x128_5_0_0))
    (View.ld x (Rect.unit ![6, 0, 0] S1x512x128.size inb_S8x512x128_S1x512x128_6_0_0))
/-- The eighth pair's gradients. -/
abbrev eighth (x : Vec F S8x512x128 .f32) : Vec F S1x512x128 .f32 :=
  View.ld x (Rect.unit ![7, 0, 0] S1x512x128.size inb_S8x512x128_S1x512x128_7_0_0)

/-- The gradients of a block's logits, from the block `x` of incoming gradients, the block `z` of logits, the bias row `b` and
the carried row `s`. -/
abbrev logits (x : Vec F S8x512x128 .f32) (z : Vec F S512x128 .f32) (b s : Vec F S1x128 .f32) : FVec F S512x128 .f32 :=
  k0_pay1 (k0_pay9 (seven x) (eighth x) s) (k0_pay11 z b) (k0_pay12 (F := F))

/-- The carried row after the block. -/
abbrev carried (x : Vec F S8x512x128 .f32) (s : Vec F S1x128 .f32) : FVec F S1x128 .f32 := k0_pay10 (seven x) (eighth x) s

variable (c : Dev nD) (i : grid0.Coords) (a2 : Memref sig .tc .vmem S8x512x128 .f32) (h2 : a2.IsWhole)
  (a3 : Memref sig .tc .vmem S512x128 .f32) (h3 : a3.IsWhole) (a4 : Memref sig .tc .vmem S1x128 .f32) (h4 : a4.IsWhole)
  (a5 : Memref sig .tc .vmem S512x512 .bf16) (h5 : a5.IsWhole) (a6 : Memref sig .tc .vmem S8x128 .f32) (h6 : a6.IsWhole)
  (a7 : Memref sig .tc .vmem S1x128 .f32) (h7 : a7.IsWhole)
  (x : Vec F S8x512x128 .f32) (z : Vec F S512x128 .f32) (b : Vec F S1x128 .f32) (o : Vec F S8x128 .f32) (s : Vec F S1x128 .f32)

theorem sout_B (hc0 : ¬cond0_0 i) (hc1 : ¬cond0_1 i) :
    sout0_B_0 c i a2 h2 a3 h3 a4 h4 a5 h5 a6 h6 a7 h7 hc0 hc1 x z b o s = carried x s := by
  unfold sout0_B_0
  rw [View.read_writes_eq_canon _ _ _ (scover0_B_0 c i a2 h2 a3 h3 a4 h4 a5 h5 a6 h6 a7 h7 hc0 hc1 x z b o s)]
  unfold kernelRun0_B
  dsimp only
  sl_unfold_words
  rw [View.canon_unit_zero hz]
  simp only [View.readAt_eq_ld, h2.read_unread, h7.read_unread, View.ld_unit_zero (S := S1x128) hz]

/-- What the step leaves in the block of logits' gradients: they on the first 128 columns, zeros on the others. -/
def wide (L : FVec F S512x128 .f32) : Vec F S512x512 .bf16 := fun y =>
  if h : (y 1).val < 128 then FloatOps.truncf .bf16 bitsLt_bf16_f32 (L (ix2 (⟨(y 0).val, (y 0).isLt⟩ : Fin 512) (⟨(y 1).val, h⟩ : Fin 128)))
  else FloatOps.ofBits .bf16 0x0000#16

/-- What it leaves in the block of the bias' gradients: the columns' sums added to the first row `o` had. -/
def rowed (L : FVec F S512x128 .f32) (o : Vec F S8x128 .f32) : Vec F S8x128 .f32 := fun y =>
  if (y 0).val = 0 then FloatOps.addf (o y) (multiReduction .add [0] S128 L 0x00000000#32 reduces_S512x128_S128 (.inl rfl) rfl (ix1 (⟨(y 1).val, (y 1).isLt⟩ : Fin 128)))
  else o y

/-- Gradients stored over zeros read back so. -/
theorem canon_wide (x1 x2 x3 : FVec F S512x128 .f32) :
    View.canon (Val := Elt F) [⟨Rect.unit ![0, 0] ![512, 128] inb_S512x512_S512x128_0_0, k0_pay4 x1 x2 x3⟩,
      ⟨Rect.unit ![0, 0] ![512, 512] inb_S512x512_S512x512_0_0, k0_pay3 (F := F)⟩] = wide (k0_pay1 x1 x2 x3) := by
  funext y
  unfold wide
  split
  · next h =>
    have hy : (Rect.unit (s := S512x512) ![0, 0] ![512, 128] inb_S512x512_S512x128_0_0).emb
        (ix2 (⟨(y 0).val, (y 0).isLt⟩ : Fin 512) (⟨(y 1).val, h⟩ : Fin 128)) = y := by
      funext a
      match a with
      | ⟨0, _⟩ => exact Fin.ext (by show 0 + 1 * (y 0).val = (y 0).val; omega)
      | ⟨1, _⟩ => exact Fin.ext (by show 0 + 1 * (y 1).val = (y 1).val; omega)
    exact (congrArg (View.canon (Val := Elt F) _) hy.symm).trans (View.canon_cons_emb _ _ _ _)
  · next h =>
    rw [View.canon_cons_of_not_mem _ _ (fun hm => by
      rw [Rect.mem_set_unit] at hm
      exact h (by have := (hm 1).2; simpa using this))]
    rw [View.canon_unit_zero hz]
    rfl

/-- A first row stored over the block reads back so. -/
theorem read_rowed (v : View sig .tc .vmem S8x128 .f32) (f : v.ty.Contents (Elt F)) (Ls : List (View.Piece (Elt F) S8x128 .f32))
    (x1 x2 x3 : FVec F S512x128 .f32) (hf : View.read (Elt F) v (v.writes (Elt F) f Ls) = o) :
    View.read (Elt F) v (v.writes (Elt F) f (⟨Rect.unit ![0, 0] ![1, 128] inb_S8x128_S1x128_0_0,
      k0_pay2 x1 x2 x3 (View.ld o (Rect.unit ![0, 0] ![1, 128] inb_S8x128_S1x128_0_0))⟩ :: Ls)) = rowed (k0_pay1 x1 x2 x3) o := by
  funext y
  unfold rowed
  split
  · next h =>
    refine (View.read_writes_cons_unit_of_mem v f inb_S8x128_S1x128_0_0 _ Ls y (ix2 (0 : Fin 1) (⟨(y 1).val, (y 1).isLt⟩ : Fin 128)) rfl (fun a => ?_)).trans ?_
    · match a with
      | ⟨0, _⟩ => exact h
      | ⟨1, _⟩ => exact (Nat.zero_add _).symm
    · unfold k0_pay2
      dsimp only
      rw [shapeCast_self]
      show FloatOps.addf _ _ = FloatOps.addf _ _
      refine congrArg₂ FloatOps.addf ?_ ?_
      · refine congrArg o (funext fun a => Fin.ext ?_)
        match a with
        | ⟨0, _⟩ => exact h.symm
        | ⟨1, _⟩ => show 0 + 1 * (y 1).val = (y 1).val; omega
      · refine shapeCast_apply _ shapeCasts_S128_S1x128 _ _ ?_
        rw [Shape.rowMajor_val_one, Shape.rowMajor_val_two]
        show (y 1).val = 0 * 128 + (y 1).val
        omega
  · next h =>
    refine (View.read_writes_cons_unit_of_not_mem v f inb_S8x128_S1x128_0_0 _ Ls y rfl (0 : Fin 2) (.inr ?_)).trans (congrFun hf y)
    show 0 + 1 ≤ (y 0).val
    omega

theorem out3_B (hc0 : ¬cond0_0 i) (hc1 : ¬cond0_1 i) :
    out0_B_3 c i a2 h2 a3 h3 a4 h4 a5 h5 a6 h6 a7 h7 hc0 hc1 x z b o s = wide (logits x z b s) := by
  unfold out0_B_3
  rw [View.read_writes_eq_canon _ _ _ (cover0_B_3 c i a2 h2 a3 h3 a4 h4 a5 h5 a6 h6 a7 h7 hc0 hc1 x z b o s)]
  unfold kernelRun0_B
  dsimp only
  sl_unfold_words
  simp only [View.readAt_eq_ld, h2.read_unread, h3.read_unread, h4.read_unread, h7.read_unread, View.ld_unit_zero (S := S1x128) hz, View.ld_unit_zero (S := S512x128) hz]
  exact canon_wide _ _ _

theorem out4_B (hc0 : ¬cond0_0 i) (hc1 : ¬cond0_1 i) :
    out0_B_4 c i a2 h2 a3 h3 a4 h4 a5 h5 a6 h6 a7 h7 hc0 hc1 x z b o s = rowed (logits x z b s) o := by
  unfold out0_B_4
  unfold kernelRun0_B
  dsimp only
  sl_unfold_words
  simp only [View.readAt_eq_ld, h2.read_unread, h3.read_unread, h4.read_unread, h6.read_unread, h7.read_unread, View.ld_unit_zero (S := S1x128) hz, View.ld_unit_zero (S := S512x128) hz]
  exact read_rowed o _ _ [] _ _ _ (h6.read_unread o)

theorem sout_C (hc0 : ¬cond0_0 i) (hc1 : cond0_1 i) :
    sout0_C_0 c i a2 h2 a3 h3 a4 h4 a5 h5 a6 h6 a7 h7 hc0 hc1 x z b o = carried x (k0_pay6 (F := F)) := by
  unfold sout0_C_0
  rw [View.read_writes_eq_canon _ _ _ (scover0_C_0 c i a2 h2 a3 h3 a4 h4 a5 h5 a6 h6 a7 h7 hc0 hc1 x z b o)]
  unfold kernelRun0_C
  dsimp only
  sl_unfold_words
  rw [View.canon_cons_unit_zero hz]
  simp only [View.readAt_eq_ld, h2.read_unread, h7.read_unread, View.ld_unit_zero (S := S1x128) hz, View.readCov_unit_zero (S := S1x128) _ hz]

theorem out3_C (hc0 : ¬cond0_0 i) (hc1 : cond0_1 i) :
    out0_C_3 c i a2 h2 a3 h3 a4 h4 a5 h5 a6 h6 a7 h7 hc0 hc1 x z b o = wide (logits x z b (k0_pay6 (F := F))) := by
  unfold out0_C_3
  rw [View.read_writes_eq_canon _ _ _ (cover0_C_3 c i a2 h2 a3 h3 a4 h4 a5 h5 a6 h6 a7 h7 hc0 hc1 x z b o)]
  unfold kernelRun0_C
  dsimp only
  sl_unfold_words
  simp only [View.readAt_eq_ld, h2.read_unread, h3.read_unread, h4.read_unread, View.ld_unit_zero (S := S1x128) hz, View.ld_unit_zero (S := S512x128) hz, View.readCov_unit_zero (S := S1x128) _ hz]
  exact canon_wide _ _ _

theorem out4_C (hc0 : ¬cond0_0 i) (hc1 : cond0_1 i) :
    out0_C_4 c i a2 h2 a3 h3 a4 h4 a5 h5 a6 h6 a7 h7 hc0 hc1 x z b o = rowed (logits x z b (k0_pay6 (F := F))) o := by
  unfold out0_C_4
  unfold kernelRun0_C
  dsimp only
  sl_unfold_words
  simp only [View.readAt_eq_ld, h2.read_unread, h3.read_unread, h4.read_unread, h6.read_unread, View.ld_unit_zero (S := S1x128) hz, View.ld_unit_zero (S := S512x128) hz, View.readCov_unit_zero (S := S1x128) _ hz]
  exact read_rowed o _ _ [] _ _ _ (h6.read_unread o)

theorem sout_A (hc0 : cond0_0 i) (hc1 : cond0_1 i) :
    sout0_A_0 c i a2 h2 a3 h3 a4 h4 a5 h5 a6 h6 a7 h7 hc0 hc1 x z b = carried x (k0_pay6 (F := F)) := by
  unfold sout0_A_0
  rw [View.read_writes_eq_canon _ _ _ (scover0_A_0 c i a2 h2 a3 h3 a4 h4 a5 h5 a6 h6 a7 h7 hc0 hc1 x z b)]
  unfold kernelRun0_A
  dsimp only
  sl_unfold_words
  rw [View.canon_cons_unit_zero hz]
  simp only [View.readAt_eq_ld, h2.read_unread, View.ld_unit_zero (S := S1x128) hz, View.readCov_unit_zero (S := S1x128) _ hz]

theorem out3_A (hc0 : cond0_0 i) (hc1 : cond0_1 i) :
    out0_A_3 c i a2 h2 a3 h3 a4 h4 a5 h5 a6 h6 a7 h7 hc0 hc1 x z b = wide (logits x z b (k0_pay6 (F := F))) := by
  unfold out0_A_3
  rw [View.read_writes_eq_canon _ _ _ (cover0_A_3 c i a2 h2 a3 h3 a4 h4 a5 h5 a6 h6 a7 h7 hc0 hc1 x z b)]
  unfold kernelRun0_A
  dsimp only
  sl_unfold_words
  simp only [View.readAt_eq_ld, h2.read_unread, h3.read_unread, h4.read_unread, View.ld_unit_zero (S := S1x128) hz, View.ld_unit_zero (S := S512x128) hz, View.readCov_unit_zero (S := S1x128) _ hz]
  exact canon_wide _ _ _

theorem out4_A (hc0 : cond0_0 i) (hc1 : cond0_1 i) :
    out0_A_4 c i a2 h2 a3 h3 a4 h4 a5 h5 a6 h6 a7 h7 hc0 hc1 x z b = rowed (logits x z b (k0_pay6 (F := F))) (k0_pay5 (F := F)) := by
  unfold out0_A_4
  unfold kernelRun0_A
  dsimp only
  sl_unfold_words
  have hr : a6.view.readCov (Val := Elt F) [⟨Rect.unit ![0, 0] ![8, 128] inb_S8x128_S8x128_0_0, k0_pay5 (F := F)⟩]
      (Rect.unit ![0, 0] ![1, 128] inb_S8x128_S1x128_0_0).toLoadRect
      = View.ld (Val := Elt F) (S := S8x128) (e' := .f32) (k0_pay5 (F := F)) (Rect.unit ![0, 0] ![1, 128] inb_S8x128_S1x128_0_0) := by
    exact View.readCov_fill (Val := Elt F) (s := S8x128) (e := .f32) a6.view (off := ![0, 0]) inb_S8x128_S8x128_0_0 (k0_pay5 (F := F)) [] (Rect.unit ![0, 0] ![1, 128] inb_S8x128_S1x128_0_0) (fun a => by fin_cases a <;> rfl)
  simp only [View.readAt_eq_ld, h2.read_unread, h3.read_unread, h4.read_unread, View.ld_unit_zero (S := S1x128) hz, View.ld_unit_zero (S := S512x128) hz, View.readCov_unit_zero (S := S1x128) _ hz]
  refine (congrArg _ ?_).trans (read_rowed (k0_pay5 (F := F)) VO0_4 VO0_4.junk [⟨Rect.unit ![0, 0] ![8, 128] inb_S8x128_S8x128_0_0, k0_pay5 (F := F)⟩] _ _ _ ?_)
  · rw [hr]
  · exact View.read_writes_full _ _ _ _ _

end Cert.Gate

end
-- ==== Proof.GateReference.lean ====
/- Hand-written. The gates' backward pass: the reference's two arrays entry by entry. -/
module

public import proofs.«01_k».proof.Proof.Gen.Reference10Ideal.Run
public import proofs.«01_k».proof.Proof.Gen.Reference10Ideal.Read
public import proofs.«01_k».proof.Proof.Reals
public import Idealize.ShloMosaic.Lib.Pointwise

@[expose] public section

noncomputable section

namespace Cert.Gate

open Cert.Reference10Ideal Cert.Reference10Ideal.Read
open Idealize.ShloMosaic Idealize.ShloMosaic.TcCoe Idealize.ShloMosaic.Tactic Idealize.SL.Sem

/-- The derivative of the logarithm of the sigmoid, as a quotient. -/
abbrev gate (x : EReal) : EReal := Ideal.div 1 (1 + Ideal.exp (0 - (0 - x)))

/-- The logarithm of the sum of the exponentials of `y` and of zero. -/
abbrev soft (y : EReal) : EReal := max y 0 + Ideal.log1p (Ideal.exp (-max y (-y)))

/-- Over the reals, the quotient and the exponential of the difference are the same number. -/
theorem slope_real (r : ℝ) :
    Real.exp (-r - (max (-r) 0 + Real.log (1 + Real.exp (-max (-r) (- -r))))) = (1 + Real.exp r)⁻¹ := by
  have h1 : ∀ u : ℝ, 0 < 1 + Real.exp u := fun u => by positivity
  rw [neg_neg, ← sub_sub, Real.exp_sub, Real.exp_log (h1 _)]
  rcases le_total 0 r with h | h
  · rw [max_eq_right (by linarith : -r ≤ 0), max_eq_right (by linarith : -r ≤ r), sub_zero, Real.exp_neg]
    have hr := Real.exp_pos r
    field_simp
    ring
  · rw [max_eq_left (by linarith : (0 : ℝ) ≤ -r), max_eq_left (by linarith : r ≤ -r), neg_neg, sub_self, Real.exp_zero, one_div]

/-- The same derivative as an exponential, each infinite term left out. -/
theorem slope_eq (x : EReal) :
    Ideal.exp ((if -x = ⊤ then 0 else -x) - (if soft (-x) = ⊤ then 0 else soft (-x))) = gate x := by
  have l1 : Ideal.log1p 0 = 0 := by
    show Ideal.log (1 + 0) = 0
    rw [add_zero, ← EReal.coe_one, Ideal.log_coe, if_neg (by norm_num), Real.log_one, EReal.coe_zero]
  have e0 : Ideal.exp 0 = 1 := by rw [← EReal.coe_zero, Ideal.exp_coe, Real.exp_zero, EReal.coe_one]
  induction x with
  | bot =>
    have hs : soft (-⊥) = ⊤ := by
      show max (-⊥) 0 + Ideal.log1p (Ideal.exp (-max (-⊥) (- -⊥))) = ⊤
      rw [EReal.neg_bot, max_eq_left le_top, max_eq_left le_top, EReal.neg_top, Ideal.exp_bot, l1, add_zero]
    have hg : gate ⊥ = 1 := by
      show Ideal.div 1 (1 + Ideal.exp (0 - (0 - ⊥))) = 1
      rw [show (0 : EReal) - (0 - ⊥) = ⊥ by simp, Ideal.exp_bot, add_zero, ← EReal.coe_one, Ideal.div_coe one_ne_zero]
      norm_num
    rw [hs, hg, EReal.neg_bot, if_pos rfl, sub_zero, e0]
  | top =>
    have hs : soft (-⊤) = 0 := by
      show max (-⊤) 0 + Ideal.log1p (Ideal.exp (-max (-⊤) (- -⊤))) = 0
      rw [EReal.neg_top, EReal.neg_bot, max_eq_right bot_le, max_eq_right bot_le, EReal.neg_top, Ideal.exp_bot, l1, add_zero]
    have hg : gate ⊤ = 0 := by
      show Ideal.div 1 (1 + Ideal.exp (0 - (0 - ⊤))) = 0
      rw [show (0 : EReal) - (0 - ⊤) = ⊤ by simp, Ideal.exp_top, EReal.add_top_of_ne_bot (by exact EReal.coe_ne_bot 1)]
      unfold Ideal.div
      rw [if_neg EReal.top_ne_zero, EReal.inv_top, mul_zero]
    rw [hs, hg, EReal.neg_top, if_neg bot_ne_top, if_neg EReal.zero_ne_top, sub_zero, Ideal.exp_bot]
  | coe r =>
    have hp : ∀ u : ℝ, 0 < 1 + Real.exp u := fun u => by positivity
    have hm : ∀ u w : ℝ, ((max u w : ℝ) : EReal) = max (u : EReal) (w : EReal) := fun u w => EReal.coe_strictMono.monotone.map_max
    have hL : soft (-(r : EReal)) = ((max (-r) 0 + Real.log (1 + Real.exp (-max (-r) (- -r))) : ℝ) : EReal) := by
      show max (-(r : EReal)) 0 + Ideal.log (1 + Ideal.exp (-max (-(r : EReal)) (- -(r : EReal)))) = _
      rw [← EReal.coe_neg, ← EReal.coe_neg, ← hm, ← EReal.coe_neg, Ideal.exp_coe, ← EReal.coe_one, ← EReal.coe_add, Ideal.log_coe,
        if_neg (not_le.2 (hp _)), ← EReal.coe_zero, ← hm, ← EReal.coe_add]
    have hG : gate (r : EReal) = (((1 + Real.exp r)⁻¹ : ℝ) : EReal) := by
      show Ideal.div 1 (1 + Ideal.exp (0 - (0 - (r : EReal)))) = _
      rw [← EReal.coe_zero, ← EReal.coe_sub, ← EReal.coe_sub, Ideal.exp_coe, ← EReal.coe_one, ← EReal.coe_add, Ideal.div_coe (hp _).ne', ← EReal.coe_mul]
      refine congrArg _ ?_
      rw [zero_sub, zero_sub, neg_neg, one_mul, one_div]
    rw [hL, hG, ← EReal.coe_neg, if_neg (EReal.coe_ne_top _), if_neg (EReal.coe_ne_top _), ← EReal.coe_sub, Ideal.exp_coe, slope_real]

/-- The word of zero. -/
theorem zero_word : Ideal.ofBits .f32 0x00000000#32 = 0 := by
  simp [Ideal.ofBits, Ideal.ieee]

/-- A left fold that adds is the sum. -/
theorem foldl_add {N : ℕ} (f : Fin N → EReal) (v : EReal) :
    (List.finRange N).foldl (fun r n => r + f n) v = v + ∑ n, f n := by
  have h : ∀ (l : List (Fin N)) (w : EReal), l.foldl (fun r n => r + f n) w = w + (l.map f).sum := by
    intro l
    induction l with
    | nil => intro w; simp
    | cons a l ih => intro w; rw [List.foldl_cons, ih, List.map_cons, List.sum_cons, add_assoc]
  rw [h, Fin.sum_univ_def]

/-- A window as long as the axis, padded behind, sums the entries from its place on. -/
theorem window_at (x : S2x2048x128.Idx → EReal) (h : S2x2048x128.ReduceWindows ![1, 2048, 1] ![1, 1, 1] ![0, 0, 0] ![0, 2047, 0] S2x2048x128)
    (b : Fin 2) (n : Fin 2048) (j : Fin 128) :
    Ideal.hostReduceWindowAdd ![1, 2048, 1] ![1, 1, 1] ![0, 0, 0] ![0, 2047, 0] h x 0 (ix3 b n j)
      = ∑ l : Fin 2048, if hl : n.val + l.val < 2048 then x (ix3 b ⟨n.val + l.val, hl⟩ j) else 0 := by
  unfold Ideal.hostReduceWindowAdd Host.reduceWindow
  refine (foldl_add _ _).trans ?_
  dsimp only
  rw [zero_add]
  let e : (⟨3, ![1, 2048, 1]⟩ : Shape).Idx ≃ Fin 2048 :=
    { toFun := fun w => w 1
      invFun := fun l => ix3 (0 : Fin 1) l (0 : Fin 1)
      left_inv := fun w => by
        funext a
        match a with
        | ⟨0, _⟩ => exact (Subsingleton.elim (α := Fin 1) _ _)
        | ⟨1, _⟩ => rfl
        | ⟨2, _⟩ => exact (Subsingleton.elim (α := Fin 1) _ _)
      right_inv := fun _ => rfl }
  refine Fintype.sum_equiv ((Shape.rowMajor ⟨3, ![1, 2048, 1]⟩).symm.trans e) _ _ fun k => ?_
  show _ = if hl : n.val + (((Shape.rowMajor ⟨3, ![1, 2048, 1]⟩).symm k) 1).val < 2048 then
    x (ix3 b ⟨n.val + (((Shape.rowMajor ⟨3, ![1, 2048, 1]⟩).symm k) 1).val, hl⟩ j) else 0
  have w0 : (((Shape.rowMajor ⟨3, ![1, 2048, 1]⟩).symm k) 0).val = 0 := Nat.lt_one_iff.1 (((Shape.rowMajor ⟨3, ![1, 2048, 1]⟩).symm k) 0).isLt
  have w2 : (((Shape.rowMajor ⟨3, ![1, 2048, 1]⟩).symm k) 2).val = 0 := Nat.lt_one_iff.1 (((Shape.rowMajor ⟨3, ![1, 2048, 1]⟩).symm k) 2).isLt
  have hb := b.isLt
  have hj := j.isLt
  by_cases hl : n.val + (((Shape.rowMajor ⟨3, ![1, 2048, 1]⟩).symm k) 1).val < 2048
  · rw [dif_pos hl, dif_pos fun a => by
      match a with
      | ⟨0, _⟩ =>
        show 0 ≤ b.val * 1 + (((Shape.rowMajor ⟨3, ![1, 2048, 1]⟩).symm k) 0).val ∧ b.val * 1 + (((Shape.rowMajor ⟨3, ![1, 2048, 1]⟩).symm k) 0).val - 0 < 2
        omega
      | ⟨1, _⟩ =>
        show 0 ≤ n.val * 1 + (((Shape.rowMajor ⟨3, ![1, 2048, 1]⟩).symm k) 1).val ∧ n.val * 1 + (((Shape.rowMajor ⟨3, ![1, 2048, 1]⟩).symm k) 1).val - 0 < 2048
        omega
      | ⟨2, _⟩ =>
        show 0 ≤ j.val * 1 + (((Shape.rowMajor ⟨3, ![1, 2048, 1]⟩).symm k) 2).val ∧ j.val * 1 + (((Shape.rowMajor ⟨3, ![1, 2048, 1]⟩).symm k) 2).val - 0 < 128
        omega]
    refine congrArg x (funext fun a => Fin.ext ?_)
    match a with
    | ⟨0, _⟩ =>
      show b.val * 1 + (((Shape.rowMajor ⟨3, ![1, 2048, 1]⟩).symm k) 0).val - 0 = b.val
      omega
    | ⟨1, _⟩ =>
      show n.val * 1 + (((Shape.rowMajor ⟨3, ![1, 2048, 1]⟩).symm k) 1).val - 0 = n.val + (((Shape.rowMajor ⟨3, ![1, 2048, 1]⟩).symm k) 1).val
      omega
    | ⟨2, _⟩ =>
      show j.val * 1 + (((Shape.rowMajor ⟨3, ![1, 2048, 1]⟩).symm k) 2).val - 0 = j.val
      omega
  · rw [dif_neg hl, dif_neg fun hin => hl (by
      have h1 : 0 ≤ n.val * 1 + (((Shape.rowMajor ⟨3, ![1, 2048, 1]⟩).symm k) 1).val ∧ n.val * 1 + (((Shape.rowMajor ⟨3, ![1, 2048, 1]⟩).symm k) 1).val - 0 < 2048 := hin 1
      omega)]

/-- The entries from a place on, as a sum over the numbers from it to the end. -/
theorem sum_from (g : ℕ → EReal) (n : ℕ) (hn : n < 2048) :
    (∑ l : Fin 2048, if n + l.val < 2048 then g (n + l.val) else 0) = ∑ i ∈ Finset.Ico n 2048, g i := by
  rw [Fin.sum_univ_eq_sum_range (fun l => if n + l < 2048 then g (n + l) else 0) 2048, ← Finset.sum_filter, Finset.sum_Ico_eq_sum_range]
  refine Finset.sum_congr (Finset.ext fun l => ?_) fun _ _ => rfl
  rw [Finset.mem_filter, Finset.mem_range, Finset.mem_range]
  omega

/-- A sum over the first two axes of three. -/
theorem columns_at {n0 n1 n2 : ℕ} (h : (⟨3, ![n0, n1, n2]⟩ : Shape).ReducesTo [0, 1] ⟨1, ![n2]⟩) (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ?_
  rw [← Finset.sum_product' Finset.univ Finset.univ (fun a b => v (ix3 a b j))]
  have hd : ∀ (i : (⟨3, ![n0, n1, n2]⟩ : Shape).Idx), h.drop i = ix1 j → ix3 (i 0) (i 1) j = i := fun i e => by
    funext a
    apply Fin.ext
    match a with
    | ⟨0, _⟩ => rfl
    | ⟨1, _⟩ => rfl
    | ⟨2, _⟩ => exact (congrArg Fin.val (congrFun e 0)).symm
  refine Finset.sum_nbij' (fun i => (i 0, i 1)) (fun k => ix3 k.1 k.2 j) (fun i _ => by simp) (fun k _ => ?_) (fun i hi => hd i (Finset.mem_filter.1 hi).2) (fun _ _ => rfl)
    (fun i hi => congrArg v (hd i (Finset.mem_filter.1 hi).2).symm)
  refine Finset.mem_filter.2 ⟨Finset.mem_univ _, ?_⟩
  funext a
  apply Fin.ext
  match a with
  | ⟨0, _⟩ => rfl

variable (x0 : FVec Ideal S8x4096x128 .f32) (x1 : FVec Ideal S4096x7680 .f32) (x2 : FVec Ideal S1x128 .f32)

/-- A number as a position. -/
abbrev pos (n : ℕ) : Fin 4096 := ⟨n % 4096, Nat.mod_lt _ (by decide)⟩
/-- The gradients a position receives, summed over the pairs of heads, -/
def total (n : ℕ) (j : Fin 128) : EReal := ∑ k : Fin 8, x0 (ix3 k (pos n) j)
/-- those of the position and the ones behind it in its example, -/
def tail (n : ℕ) (j : Fin 128) : EReal := ∑ i ∈ Finset.Ico n (2048 * (n / 2048) + 2048), total x0 i j
/-- the position's gate before the sigmoid, -/
def logit (n : ℕ) (j : Fin 128) : EReal := x1 (ix2 (pos n) ⟨7168 + j.val, by omega⟩) + x2 (ix2 0 j)
/-- and the gradient of that. -/
def grad (n : ℕ) (j : Fin 128) : EReal := tail x0 n j * gate (logit x1 x2 n j)

theorem logit_at (b : Fin 2) (n : Fin 2048) (j : Fin 128) :
    (val_main_v7 (F := Ideal) x1 x2 (ix3 b n j) : EReal) = logit x1 x2 (b.val * 2048 + n.val) j := by
  have h : (val_main_v7 (F := Ideal) x1 x2 (ix3 b n j) : EReal) = x1 (ix2 ⟨b.val * 2048 + n.val, by omega⟩ ⟨7168 + j.val, by omega⟩) + x2 (ix2 0 j) := by
    pointwise [val_main_v7, val_main_v6, val_main_v5, val_main_v4, val_main_v1, val_main_v0]
  rw [h, logit]
  refine congrArg (fun r => (x1 (ix2 r ⟨7168 + j.val, by omega⟩) + x2 (ix2 0 j) : EReal)) (Fin.ext ?_)
  exact (Nat.mod_eq_of_lt (by omega)).symm

theorem total_at (b : Fin 2) (n : Fin 2048) (j : Fin 128) :
    (val_main_v3 (F := Ideal) x0 (ix3 b n j) : EReal) = total x0 (b.val * 2048 + n.val) j := by
  have h : (val_main_v3 (F := Ideal) x0 (ix3 b n j) : EReal) = ∑ k : Fin 8, (x0 (ix3 k ⟨b.val * 2048 + n.val, by omega⟩ j) : EReal) := by
    pointwise [val_main_v3, val_main_v2, val_main_cst]
  rw [h, total]
  refine Finset.sum_congr rfl fun k _ => congrArg (fun r => (x0 (ix3 k r j) : EReal)) (Fin.ext ?_)
  exact (Nat.mod_eq_of_lt (by omega)).symm

theorem tail_at (b : Fin 2) (n : Fin 2048) (j : Fin 128) :
    (val_main_v10 (F := Ideal) x0 (ix3 b n j) : EReal) = tail x0 (b.val * 2048 + n.val) j := by
  have hi : (val_main_call2_call0_v0 (F := Ideal) (Shape.Idx.first Gen.h_S_) : EReal) = 0 := by
    rw [val_main_call2_call0_v0_apply, val_main_call2_call0_cst_apply]
    exact zero_word
  have h : (val_main_v10 (F := Ideal) x0 (ix3 b n j) : EReal) = ∑ l : Fin 2048, if hl : n.val + l.val < 2048 then (val_main_v3 (F := Ideal) x0 (ix3 b ⟨n.val + l.val, hl⟩ j) : EReal) else 0 := by
    unfold val_main_v10 Host.reduceWindowAdd
    rw [hi]
    exact window_at _ _ b n j
  have hb := b.isLt
  have hn := n.isLt
  rw [h, tail, show 2048 * ((b.val * 2048 + n.val) / 2048) + 2048 = 2048 + b.val * 2048 by omega, show b.val * 2048 + n.val = n.val + b.val * 2048 by omega,
    ← Finset.sum_Ico_add (fun i => total x0 i j) n.val 2048 (b.val * 2048), ← sum_from (fun i => total x0 (b.val * 2048 + i) j) n.val hn]
  refine Finset.sum_congr rfl fun l _ => ?_
  split
  · exact total_at x0 b _ j
  · rfl

theorem slope_at (b : Fin 2) (n : Fin 2048) (j : Fin 128) :
    (val_main_v8_1 (F := Ideal) x1 x2 (ix3 b n j) : EReal) = gate (val_main_v7 (F := Ideal) x1 x2 (ix3 b n j)) := by
  rw [← slope_eq, ← Cert.AttnBwd.ofBits_top]
  pointwise [val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21, val_main_v8_1]
  simp only [ne_eq, not_true_eq_false, if_false]
  rfl

/-- The reference's gradients before the two results are laid out, -/
theorem grad_at (b : Fin 2) (n : Fin 2048) (j : Fin 128) :
    (val_main_v11 (F := Ideal) x0 x1 x2 (ix3 b n j) : EReal) = grad x0 x1 x2 (b.val * 2048 + n.val) j := by
  have h : (val_main_v11 (F := Ideal) x0 x1 x2 (ix3 b n j) : EReal) = -(-(val_main_v10 (F := Ideal) x0 (ix3 b n j) : EReal) * val_main_v8_1 (F := Ideal) x1 x2 (ix3 b n j)) := by
    pointwise [val_main_v11, val_main_call3_v1, val_main_call3_v0]
  rw [h, EReal.neg_mul, neg_neg, tail_at, slope_at, logit_at, grad]

/-- the first result, -/
theorem ref3_at (r : Fin 4096) (c : Fin 512) :
    (val_main_v17 (F := Ideal) x0 x1 x2 (ix2 r c) : EReal) = if h : c.val < 128 then grad x0 x1 x2 r.val ⟨c.val, h⟩ else 0 := by
  have h : (val_main_v17 (F := Ideal) x0 x1 x2 (ix2 r c) : EReal)
      = if h : c.val < 128 then (val_main_v11 (F := Ideal) x0 x1 x2 (ix3 ⟨r.val / 2048, by omega⟩ ⟨r.val % 2048, by omega⟩ ⟨c.val, h⟩) : EReal)
        else FloatOps.sitofp (F := Ideal) FTy.f32 0#32 := by
    pointwise [val_main_v17, val_main_v16, val_main_call4_v0, val_main_c, val_main_v15]
  rw [h]
  split
  · rw [grad_at]
    exact congrArg (fun n => grad x0 x1 x2 n _) (by show r.val / 2048 * 2048 + r.val % 2048 = r.val; omega)
  · show ((((0#32 : BitVec 32).toInt : ℝ)) : EReal) = 0
    norm_num

/-- and the second. -/
theorem ref4_at (r : Fin 8) (j : Fin 128) :
    (val_main_v19 (F := Ideal) x0 x1 x2 (ix2 r j) : EReal) = if r.val < 1 then ∑ n ∈ Finset.range 4096, grad x0 x1 x2 n j else 0 := by
  have h : (val_main_v19 (F := Ideal) x0 x1 x2 (ix2 r j) : EReal)
      = if h : r.val < 1 then (Ideal.hostReduceAdd Gen.reducesTo_S1x1x128_S128_d0_1 (val_main_v13 (F := Ideal) x0 x1 x2) 0 (ix1 j) : EReal)
        else FloatOps.sitofp (F := Ideal) FTy.f32 0#32 := by
    pointwise [val_main_v19, val_main_call5_v0, val_main_c_2, val_main_v18, val_main_v14, val_main_cst_1]
  rw [h]
  split
  · rw [columns_at]
    have h2 : (val_main_v13 (F := Ideal) x0 x1 x2 (ix3 0 0 j) : EReal) = val_main_v12 (F := Ideal) x0 x1 x2 (ix1 j) := by
      pointwise [val_main_v13]
    have h3 : (val_main_v12 (F := Ideal) x0 x1 x2 (ix1 j) : EReal) = 0 + ∑ b : Fin 2, ∑ n : Fin 2048, (val_main_v11 (F := Ideal) x0 x1 x2 (ix3 b n j) : EReal) := by
      unfold val_main_v12 Host.reduceAdd
      refine Eq.trans ?_ (columns_at Gen.reducesTo_S2x2048x128_S128_d0_1 _ 0 j)
      exact congrArg (fun z => Ideal.hostReduceAdd Gen.reducesTo_S2x2048x128_S128_d0_1 (val_main_v11 (F := Ideal) x0 x1 x2) z (ix1 j)) zero_word
    rw [Finset.univ_unique, Finset.sum_singleton, Finset.sum_singleton]
    show 0 + (val_main_v13 (F := Ideal) x0 x1 x2 (ix3 0 0 j) : EReal) = _
    rw [h2, h3, zero_add, zero_add, Fin.sum_univ_two]
    simp only [grad_at]
    rw [show (4096 : ℕ) = 2048 + 2048 from rfl, Finset.sum_range_add, ← Fin.sum_univ_eq_sum_range, ← Fin.sum_univ_eq_sum_range]
    refine congrArg₂ (· + ·) (Finset.sum_congr rfl fun n _ => congrArg (fun u => grad x0 x1 x2 u j) ?_) (Finset.sum_congr rfl fun n _ => congrArg (fun u => grad x0 x1 x2 u j) ?_)
    · show 0 * 2048 + n.val = n.val
      omega
    · show 1 * 2048 + n.val = 2048 + n.val
      omega
  · show ((((0#32 : BitVec 32).toInt : ℝ)) : EReal) = 0
    norm_num

end Cert.Gate

end
-- ==== Proof.GateValue.lean ====
/- Hand-written. The gates' backward pass: what the call leaves in its two arrays is the reference's. -/
module

public import proofs.«01_k».proof.Proof.GateRun
public import proofs.«01_k».proof.Proof.GateReference
public import Idealize.ShloMosaic.Lib.Pointwise
public import Idealize.ShloMosaic.Lib.WordCmp

@[expose] public section

noncomputable section

namespace Cert.Gate

open Cert.Kernel10Ideal Cert.Kernel10Ideal.Gen
open Idealize.ShloMosaic Idealize.ShloMosaic.TcCoe Idealize.ShloMosaic.Tactic Idealize.SL.Sem
open Idealize.ShloMosaic.Pipeline (Dat Cfg Window)

theorem pay1_at (d x : FVec Ideal S512x128 .f32) (i : Fin 512) (j : Fin 128) :
    (k0_pay1 d x (k0_pay12 (F := Ideal)) (ix2 i j) : EReal) = d (ix2 i j) * gate (x (ix2 i j)) := by
  pointwise [k0_pay1, k0_pay12]

theorem pay11_at (z : Vec Ideal S512x128 .f32) (b : Vec Ideal S1x128 .f32) (i : Fin 512) (j : Fin 128) :
    (k0_pay11 z b (ix2 i j) : EReal) = z (ix2 i j) + b (ix2 0 j) := by
  pointwise [k0_pay11]

theorem pay8_at (v0 v1 v2 v3 v4 v5 v6 v7 : Vec Ideal S1x512x128 .f32) (i : Fin 512) (j : Fin 128) :
    (k0_pay8 (k0_pay7 v0 v1 v2 v3 v4 v5 v6) v7 (ix2 i j) : EReal)
      = v0 (ix3 0 i j) + v1 (ix3 0 i j) + v2 (ix3 0 i j) + v3 (ix3 0 i j) + v4 (ix3 0 i j) + v5 (ix3 0 i j) + v6 (ix3 0 i j) + v7 (ix3 0 i j) := by
  pointwise [k0_pay8, k0_pay7]

theorem pay10_at (v : FVec Ideal S512x128 .f32) (w : Vec Ideal S1x512x128 .f32) (s : Vec Ideal S1x128 .f32) (j : Fin 128) :
    (k0_pay10 v w s (ix2 0 j) : EReal) = s (ix2 0 j) + ∑ i : Fin 512, (k0_pay8 v w (ix2 i j) : EReal) := by
  pointwise [k0_pay10]

/-- The signed comparison of two small words chooses as the numbers compare. -/
theorem select_le (i n : ℕ) (hi : i < 512) (hn : n < 512) (u w : EReal) :
    Scalar.select (IntOp.cmpi .sle (BitVec.ofNat 32 i) (BitVec.ofNat 32 n)) u w = if i ≤ n then u else w := by
  rw [WordCmp.cmpi_sle_ofNat (by omega) (by omega)]
  unfold Scalar.select
  by_cases h : i ≤ n
  · rw [if_pos h, decide_eq_true h]; rfl
  · rw [if_neg h, decide_eq_false h]; rfl

/-- The three triangular products: of finite gradients the remainders are zero, so they add the rows from each one on. -/
theorem pay9_at (v : FVec Ideal S512x128 .f32) (w : Vec Ideal S1x512x128 .f32) (s : Vec Ideal S1x128 .f32) (j : Fin 128)
    (hf : ∀ i : Fin 512, ∃ r : ℝ, (k0_pay8 v w (ix2 i j) : EReal) = (r : EReal)) (i : Fin 512) :
    (k0_pay9 v w s (ix2 i j) : EReal) = (∑ n : Fin 512, if i.val ≤ n.val then (k0_pay8 v w (ix2 n j) : EReal) else 0) + s (ix2 0 j) := by
  have hz : ∀ n : Fin 512, (k0_pay8 v w (ix2 n j) : EReal) - k0_pay8 v w (ix2 n j) = 0 := fun n => by
    obtain ⟨r, hr⟩ := hf n
    rw [hr, ← EReal.coe_sub, sub_self, EReal.coe_zero]
  have h : (k0_pay9 v w s (ix2 i j) : EReal)
      = (∑ n : Fin 512, Scalar.select (IntOp.cmpi .sle (BitVec.ofNat 32 i.val) (BitVec.ofNat 32 n.val)) (k0_pay8 v w (ix2 n j) : EReal) 0)
        + (∑ n : Fin 512, Scalar.select (IntOp.cmpi .sle (BitVec.ofNat 32 i.val) (BitVec.ofNat 32 n.val)) ((k0_pay8 v w (ix2 n j) : EReal) - k0_pay8 v w (ix2 n j)) 0)
        + (∑ n : Fin 512, Scalar.select (IntOp.cmpi .sle (BitVec.ofNat 32 i.val) (BitVec.ofNat 32 n.val))
            ((k0_pay8 v w (ix2 n j) : EReal) - k0_pay8 v w (ix2 n j) - (k0_pay8 v w (ix2 n j) - k0_pay8 v w (ix2 n j))) 0)
        + s (ix2 0 j) := by
    pointwise [k0_pay9]
  have hs : ∀ n : Fin 512, ∀ u w : EReal, Scalar.select (IntOp.cmpi .sle (BitVec.ofNat 32 i.val) (BitVec.ofNat 32 n.val)) u w = if i.val ≤ n.val then u else w :=
    fun n u w => select_le i.val n.val i.isLt n.isLt u w
  rw [h]
  simp only [hz, hs, sub_zero, ite_self, Finset.sum_const_zero, add_zero]

theorem red_at (L : FVec Ideal S512x128 .f32) (j : Fin 128) :
    (multiReduction .add [0] S128 L 0x00000000#32 reduces_S512x128_S128 (.inl rfl) rfl (ix1 j) : EReal) = ∑ i : Fin 512, (L (ix2 i j) : EReal) := by
  pointwise

/-- The step's sum over the pairs of heads. -/
theorem pairs_at (x : Vec Ideal S8x512x128 .f32) (i : Fin 512) (j : Fin 128) :
    (k0_pay8 (seven x) (eighth x) (ix2 i j) : EReal) = ∑ k : Fin 8, (x (ix3 k i j) : EReal) := by
  have hx : ∀ (k : Fin 8) (off : Fin 3 → ℕ) (inb : ∀ a, off a + S1x512x128.size a ≤ S8x512x128.size a), off 0 = k.val → off 1 = 0 → off 2 = 0 →
      (View.ld x (Rect.unit off S1x512x128.size inb) (ix3 0 i j) : EReal) = x (ix3 k i j) := fun k off inb h0 h1 h2 => by
    refine congrArg x (funext fun a => Fin.ext ?_)
    match a with
    | ⟨0, _⟩ =>
      show off 0 + 1 * 0 = k.val
      omega
    | ⟨1, _⟩ =>
      show off 1 + 1 * i.val = i.val
      omega
    | ⟨2, _⟩ =>
      show off 2 + 1 * j.val = j.val
      omega
  refine (pay8_at _ _ _ _ _ _ _ _ i j).trans ?_
  rw [Fin.sum_univ_eight, hx 0 _ _ rfl rfl rfl, hx 1 _ _ rfl rfl rfl, hx 2 _ _ rfl rfl rfl, hx 3 _ _ rfl rfl rfl, hx 4 _ _ rfl rfl rfl, hx 5 _ _ rfl rfl rfl,
    hx 6 _ _ rfl rfl rfl]
  exact congrArg (_ + ·) (hx 7 _ _ rfl rfl rfl)

/-- Rows of a block from one on, as a sum over the numbers. -/
theorem sum_rows (g : ℕ → EReal) (b i : ℕ) (hi : i < 512) :
    (∑ n : Fin 512, if i ≤ n.val then g (b + n.val) else 0) = ∑ r ∈ Finset.Ico (b + i) (b + 512), g r := by
  rw [Fin.sum_univ_eq_sum_range (fun n => if i ≤ n then g (b + n) else 0) 512, ← Finset.sum_filter, add_comm b i, add_comm b 512,
    ← Finset.sum_Ico_add (fun r => g r) i 512 b]
  refine Finset.sum_congr (Finset.ext fun l => ?_) fun _ _ => rfl
  rw [Finset.mem_filter, Finset.mem_range, Finset.mem_Ico]
  omega

/-- Where the block of step `n` starts: each example's blocks are taken from the last to the first. -/
abbrev base (n : ℕ) : ℕ := 2048 * (n / 4) + 512 * (3 - n % 4)
/-- The end of its example. -/
abbrev ending (n : ℕ) : ℕ := 2048 * (n / 4) + 2048

section step
variable (x0 : FVec Ideal S8x4096x128 .f32) (x1 : FVec Ideal S4096x7680 .f32) (x2 : FVec Ideal S1x128 .f32)
  (n : ℕ) (x : Vec Ideal S8x512x128 .f32) (z : Vec Ideal S512x128 .f32) (b s : Vec Ideal S1x128 .f32)
  (hx : ∀ (k : Fin 8) (i : Fin 512) (j : Fin 128), (x (ix3 k i j) : EReal) = x0 (ix3 k (pos (base n + i.val)) j))
  (hzz : ∀ (i : Fin 512) (j : Fin 128), (z (ix2 i j) : EReal) = x1 (ix2 (pos (base n + i.val)) ⟨7168 + j.val, by omega⟩))
  (hb : ∀ j : Fin 128, (b (ix2 0 j) : EReal) = x2 (ix2 0 j))
  (hf : ∀ i : S8x4096x128.Idx, ∃ r : ℝ, (x0 i : EReal) = (r : EReal))
  (hs : ∀ j : Fin 128, (s (ix2 0 j) : EReal) = ∑ r ∈ Finset.Ico (base n + 512) (ending n), total x0 r j)

include hx in
theorem pairs_total (i : Fin 512) (j : Fin 128) : (k0_pay8 (seven x) (eighth x) (ix2 i j) : EReal) = total x0 (base n + i.val) j := by
  rw [pairs_at, total]
  exact Finset.sum_congr rfl fun k _ => hx k i j

include hf in
theorem total_real (r : ℕ) (j : Fin 128) : ∃ u : ℝ, total x0 r j = (u : EReal) := by
  choose f h using hf
  refine ⟨∑ k : Fin 8, f (ix3 k (pos r) j), ?_⟩
  rw [total, ← Cert.AttnBwd.coe_sum]
  exact Finset.sum_congr rfl fun k _ => h _

include hx hs in
/-- The carried row after the step. -/
theorem carried_at (j : Fin 128) : (carried x s (ix2 0 j) : EReal) = ∑ r ∈ Finset.Ico (base n) (ending n), total x0 r j := by
  refine (pay10_at _ _ _ j).trans ?_
  simp only [pairs_total x0 n x hx]
  have h := sum_rows (fun r => total x0 r j) (base n) 0 (by decide)
  simp only [Nat.zero_le, if_true, Nat.add_zero] at h
  rw [h, hs, add_comm, Finset.sum_Ico_consecutive _ (by dsimp only [base]; omega) (by dsimp only [base, ending]; omega)]

include hx hzz hb hf hs in
/-- The gradients of the step's block. -/
theorem logits_at (i : Fin 512) (j : Fin 128) : (logits x z b s (ix2 i j) : EReal) = grad x0 x1 x2 (base n + i.val) j := by
  have hi := i.isLt
  have hp := pairs_total x0 n x hx
  have h9 := pay9_at (seven x) (eighth x) s j (fun i => (hp i j).symm ▸ total_real x0 hf _ j) i
  simp only [hp] at h9
  rw [sum_rows (fun r => total x0 r j) (base n) i.val hi, hs, Finset.sum_Ico_consecutive _ (by dsimp only [base]; omega) (by dsimp only [base, ending]; omega)] at h9
  refine (pay1_at _ _ i j).trans ?_
  rw [h9, pay11_at, hzz, hb, grad, tail, logit, show 2048 * ((base n + i.val) / 2048) + 2048 = ending n by dsimp only [base, ending]; omega]

end step

variable (m : (ℓ : Loc nD τ sig) → Buf (Elt Ideal) ℓ) (e : Dev nD)

/-- The incoming gradients, the projections and the bias. -/
abbrev aa : FVec Ideal S8x4096x128 .f32 := m ((e.tc : Thread nD τ).loc main_arg0)
abbrev zs : FVec Ideal S4096x7680 .f32 := m ((e.tc : Thread nD τ).loc main_arg1)
abbrev bs : FVec Ideal S1x128 .f32 := m ((e.tc : Thread nD τ).loc main_arg2)

/-- The blocks' places along the grid. -/
theorem place0 : ∀ t : Fin cfg0.N, win0_0.index t (0 : Fin 3) = 0 ∧ win0_0.index t (1 : Fin 3) = 4 * (t.val / 4) + (3 - t.val % 4) ∧ win0_0.index t (2 : Fin 3) = 0 :=
  (by decide +kernel : ∀ t : Fin grid0.N, _)
theorem place1 : ∀ t : Fin cfg0.N, win0_1.index t (0 : Fin 2) = 4 * (t.val / 4) + (3 - t.val % 4) ∧ win0_1.index t (1 : Fin 2) = 56 :=
  (by decide +kernel : ∀ t : Fin grid0.N, _)
theorem place2 : ∀ t : Fin cfg0.N, win0_2.index t (0 : Fin 2) = 0 ∧ win0_2.index t (1 : Fin 2) = 0 :=
  (by decide +kernel : ∀ t : Fin grid0.N, _)
theorem place3 : ∀ t : Fin cfg0.N, win0_3.index t (0 : Fin 2) = 4 * (t.val / 4) + (3 - t.val % 4) ∧ win0_3.index t (1 : Fin 2) = 0 :=
  (by decide +kernel : ∀ t : Fin grid0.N, _)
theorem place4 : ∀ t : Fin cfg0.N, win0_4.index t (0 : Fin 2) = 0 ∧ win0_4.index t (1 : Fin 2) = 0 :=
  (by decide +kernel : ∀ t : Fin grid0.N, _)

/-- The blocks a step reads. -/
theorem blk0 (n : ℕ) (hn : n < cfg0.N) (k : Fin 8) (i : Fin 512) (j : Fin 128) :
    (iblk m e 0 ⟨n, hn⟩ : S8x512x128.Idx → EReal) (ix3 k i j) = aa m e (ix3 k (pos (base n + i.val)) j) := by
  have hN : cfg0.N = 8 := N_0
  have e0 : _ = 0 := (place0 ⟨n, hn⟩).1
  have e1 : _ = 4 * (n / 4) + (3 - n % 4) := (place0 ⟨n, hn⟩).2.1
  have e2 : _ = 0 := (place0 ⟨n, hn⟩).2.2
  have hi := i.isLt
  refine congrArg (aa m e) (funext fun a => Fin.ext ?_)
  match a with
  | ⟨0, _⟩ =>
    change win0_0.index ⟨n, hn⟩ (0 : Fin 3) * 8 + 1 * k.val = k.val
    rw [e0]; clear e0 e1 e2; omega
  | ⟨1, _⟩ =>
    change win0_0.index ⟨n, hn⟩ (1 : Fin 3) * 512 + 1 * i.val = (2048 * (n / 4) + 512 * (3 - n % 4) + i.val) % 4096
    rw [e1]; clear e0 e1 e2; omega
  | ⟨2, _⟩ =>
    change win0_0.index ⟨n, hn⟩ (2 : Fin 3) * 128 + 1 * j.val = j.val
    rw [e2]; clear e0 e1 e2; omega
theorem blk1 (n : ℕ) (hn : n < cfg0.N) (i : Fin 512) (j : Fin 128) :
    (iblk m e 1 ⟨n, hn⟩ : S512x128.Idx → EReal) (ix2 i j) = zs m e (ix2 (pos (base n + i.val)) ⟨7168 + j.val, by omega⟩) := by
  have hN : cfg0.N = 8 := N_0
  have e0 : _ = 4 * (n / 4) + (3 - n % 4) := (place1 ⟨n, hn⟩).1
  have e1 : _ = 56 := (place1 ⟨n, hn⟩).2
  have hi := i.isLt
  refine congrArg (zs m e) (funext fun a => Fin.ext ?_)
  match a with
  | ⟨0, _⟩ =>
    change win0_1.index ⟨n, hn⟩ (0 : Fin 2) * 512 + 1 * i.val = (2048 * (n / 4) + 512 * (3 - n % 4) + i.val) % 4096
    rw [e0]; clear e0 e1; omega
  | ⟨1, _⟩ =>
    change win0_1.index ⟨n, hn⟩ (1 : Fin 2) * 128 + 1 * j.val = 7168 + j.val
    rw [e1]; clear e0 e1; omega
theorem blk2 (n : ℕ) (hn : n < cfg0.N) (j : Fin 128) :
    (iblk m e 2 ⟨n, hn⟩ : S1x128.Idx → EReal) (ix2 0 j) = bs m e (ix2 0 j) := by
  have e0 : _ = 0 := (place2 ⟨n, hn⟩).1
  have e1 : _ = 0 := (place2 ⟨n, hn⟩).2
  refine congrArg (bs m e) (funext fun a => Fin.ext ?_)
  match a with
  | ⟨0, _⟩ =>
    change win0_2.index ⟨n, hn⟩ (0 : Fin 2) * 1 + 1 * 0 = 0
    rw [e0]
  | ⟨1, _⟩ =>
    change win0_2.index ⟨n, hn⟩ (1 : Fin 2) * 128 + 1 * j.val = j.val
    rw [e1]; clear e0 e1; omega

/-- The row a step finds carried: zeros at an example's first step. -/
def found (n : ℕ) (hn : n < cfg0.N) : Vec Ideal S1x128 .f32 :=
  if n % 4 = 0 then k0_pay6 (F := Ideal) else (outsAt0 m e (n - 1) (by omega)).2.2
/-- The sums it finds in the second array's block: zeros at the first step. -/
def summed (n : ℕ) (hn : n < cfg0.N) : Vec Ideal S8x128 .f32 :=
  if n % 8 = 0 then k0_pay5 (F := Ideal) else (outsAt0 m e (n - 1) (by omega)).2.1
/-- The gradients a step computes. -/
abbrev stepLogits (n : ℕ) (hn : n < cfg0.N) : FVec Ideal S512x128 .f32 :=
  logits (iblk m e 0 ⟨n, hn⟩) (iblk m e 1 ⟨n, hn⟩) (iblk m e 2 ⟨n, hn⟩) (found m e n hn)

/-- What a step leaves, from what it finds. -/
theorem step_eq (n : ℕ) (hn : n < cfg0.N) :
    outsAt0 m e n hn = (wide (stepLogits m e n hn), rowed (stepLogits m e n hn) (summed m e n hn), carried (iblk m e 0 ⟨n, hn⟩) (found m e n hn)) := by
  by_cases h0 : n % 8 = 0
  · have h1 : n % 4 = 0 := by omega
    refine (outsAt0_A m e ⟨n, hn⟩ h0 h1).trans ?_
    unfold stepLogits found summed
    rw [if_pos h0, if_pos h1, out3_A, out4_A, sout_A]
  · by_cases h1 : n % 4 = 0
    · refine (outsAt0_C m e ⟨n, hn⟩ h0 h1).trans ?_
      unfold stepLogits found summed
      rw [if_neg h0, if_pos h1, out3_C, out4_C, sout_C]
    · refine (outsAt0_B m e ⟨n, hn⟩ h0 h1).trans ?_
      unfold stepLogits found summed
      rw [if_neg h0, if_neg h1, out3_B, out4_B, sout_B]

section finite
variable (hf : ∀ i : S8x4096x128.Idx, ∃ r : ℝ, (aa m e i : EReal) = (r : EReal))

theorem pay6_at (j : Fin 128) : (k0_pay6 (F := Ideal) (ix2 0 j) : EReal) = 0 := by
  pointwise [k0_pay6]
theorem pay5_at (r : Fin 8) (j : Fin 128) : (k0_pay5 (F := Ideal) (ix2 r j) : EReal) = 0 := by
  pointwise [k0_pay5]

/-- The row a step finds carried is the sum over the rest of its example, and so is what it leaves, its own block included. -/
theorem found_at (n : ℕ) : ∀ (hn : n < cfg0.N) (j : Fin 128),
    (found m e n hn (ix2 0 j) : EReal) = ∑ r ∈ Finset.Ico (base n + 512) (ending n), total (aa m e) r j := by
  induction n with
  | zero =>
    intro hn j
    unfold found
    rw [if_pos rfl, pay6_at]
    rfl
  | succ n ih =>
    intro hn j
    unfold found
    by_cases h : (n + 1) % 4 = 0
    · rw [if_pos h, pay6_at, show base (n + 1) + 512 = ending (n + 1) by dsimp only [base, ending]; omega, Finset.Ico_self, Finset.sum_empty]
    · rw [if_neg h]
      show ((outsAt0 m e n (Nat.lt_of_succ_lt hn)).2.2 (ix2 0 j) : EReal) = _
      rw [step_eq, show base (n + 1) + 512 = base n by dsimp only [base]; omega, show ending (n + 1) = ending n by dsimp only [ending]; omega]
      exact carried_at (aa m e) n _ _ (blk0 m e n _) (ih _) j

include hf in
/-- The gradients a step computes are its rows of the reference's. -/
theorem stepLogits_at (n : ℕ) (hn : n < cfg0.N) (i : Fin 512) (j : Fin 128) :
    (stepLogits m e n hn (ix2 i j) : EReal) = grad (aa m e) (zs m e) (bs m e) (base n + i.val) j :=
  logits_at (aa m e) (zs m e) (bs m e) n _ _ _ _ (blk0 m e n hn) (blk1 m e n hn) (blk2 m e n hn) hf (found_at m e n hn) i j

/-- A block's sum of gradients. -/
abbrev blockSum (n : ℕ) (j : Fin 128) : EReal := ∑ i : Fin 512, grad (aa m e) (zs m e) (bs m e) (base n + i.val) j

include hf in
/-- The second array's block after a step: the sums of the blocks so far in the first row, zeros below. -/
theorem sums_at (n : ℕ) : ∀ (hn : n < cfg0.N) (r : Fin 8) (j : Fin 128),
    ((outsAt0 m e n hn).2.1 (ix2 r j) : EReal) = if r.val < 1 then ∑ t ∈ Finset.range (n + 1), blockSum m e t j else 0 := by
  have hw : ∀ (n : ℕ) (hn : n < cfg0.N) (r : Fin 8) (j : Fin 128), ((outsAt0 m e n hn).2.1 (ix2 r j) : EReal)
      = if r.val < 1 then (summed m e n hn (ix2 r j) : EReal) + blockSum m e n j else summed m e n hn (ix2 r j) := by
    intro n hn r j
    rw [step_eq]
    show (rowed (stepLogits m e n hn) (summed m e n hn) (ix2 r j) : EReal) = _
    unfold rowed
    by_cases h : r.val < 1
    · have hr : (multiReduction .add [0] S128 (stepLogits m e n hn) 0x00000000#32 reduces_S512x128_S128 (.inl rfl) rfl (ix1 j) : EReal) = blockSum m e n j := by
        rw [red_at]
        exact Finset.sum_congr rfl fun i _ => stepLogits_at m e hf n hn i j
      have hr0 : ((ix2 r j : S8x128.Idx) 0).val = 0 := Nat.lt_one_iff.1 h
      rw [if_pos h, if_pos hr0]
      exact congrArg (fun u => (summed m e n hn (ix2 r j) : EReal) + u) hr
    · have hr0 : ¬((ix2 r j : S8x128.Idx) 0).val = 0 := fun h' => h (Nat.lt_one_iff.2 h')
      rw [if_neg h, if_neg hr0]
  have hN : cfg0.N = 8 := N_0
  induction n with
  | zero =>
    intro hn r j
    rw [hw]
    unfold summed
    rw [if_pos rfl, pay5_at, zero_add, Finset.sum_range_one]
  | succ n ih =>
    intro hn r j
    rw [hw]
    have h0 : summed m e (n + 1) hn = (outsAt0 m e n (Nat.lt_of_succ_lt hn)).2.1 := if_neg (by omega)
    rw [h0, ih, Finset.sum_range_succ _ (n + 1)]
    by_cases h : r.val < 1
    · rw [if_pos h, if_pos h, if_pos h]
    · rw [if_neg h, if_neg h, if_neg h]

/-- The eight blocks are all the positions. -/
theorem blocks_all (j : Fin 128) :
    ∑ t ∈ Finset.range 8, blockSum m e t j = ∑ n ∈ Finset.range 4096, grad (aa m e) (zs m e) (bs m e) n j := by
  have hb : ∀ t : ℕ, blockSum m e t j = ∑ r ∈ Finset.Ico (base t) (base t + 512), grad (aa m e) (zs m e) (bs m e) r j := fun t => by
    have h := sum_rows (fun r => grad (aa m e) (zs m e) (bs m e) r j) (base t) 0 (by decide)
    simp only [Nat.zero_le, if_true, Nat.add_zero] at h
    exact h
  have hc : ∀ a b c : ℕ, a ≤ b → b ≤ c → ∑ r ∈ Finset.Ico a c, grad (aa m e) (zs m e) (bs m e) r j
      = (∑ r ∈ Finset.Ico a b, grad (aa m e) (zs m e) (bs m e) r j) + ∑ r ∈ Finset.Ico b c, grad (aa m e) (zs m e) (bs m e) r j :=
    fun a b c h1 h2 => (Finset.sum_Ico_consecutive _ h1 h2).symm
  rw [← Nat.Ico_zero_eq_range 4096, hc 0 512 4096 (by decide) (by decide), hc 512 1024 4096 (by decide) (by decide), hc 1024 1536 4096 (by decide) (by decide),
    hc 1536 2048 4096 (by decide) (by decide), hc 2048 2560 4096 (by decide) (by decide), hc 2560 3072 4096 (by decide) (by decide), hc 3072 3584 4096 (by decide) (by decide)]
  simp only [Finset.sum_range_succ, Finset.sum_range_zero, hb]
  show 0 + (∑ r ∈ Finset.Ico 1536 2048, _) + (∑ r ∈ Finset.Ico 1024 1536, _) + (∑ r ∈ Finset.Ico 512 1024, _) + (∑ r ∈ Finset.Ico 0 512, _)
    + (∑ r ∈ Finset.Ico 3584 4096, _) + (∑ r ∈ Finset.Ico 3072 3584, _) + (∑ r ∈ Finset.Ico 2560 3072, _) + (∑ r ∈ Finset.Ico 2048 2560, _) = _
  rw [zero_add]
  ac_rfl

/-- The reference's two arrays. -/
abbrev first : S4096x512.Idx → EReal := Cert.Reference10Ideal.Read.val_main_v17 (F := Ideal) (aa m e) (zs m e) (bs m e)
abbrev second : S8x128.Idx → EReal := Cert.Reference10Ideal.Read.val_main_v19 (F := Ideal) (aa m e) (zs m e) (bs m e)

theorem ix2_eta {p q : ℕ} (y : (⟨2, ![p, q]⟩ : Shape).Idx) : ix2 (y 0) (y 1) = y := by
  funext a
  match a with
  | ⟨0, _⟩ => rfl
  | ⟨1, _⟩ => rfl

include hf in
/-- What a step leaves for the first array is its block of the reference's, -/
theorem wide_at (n : ℕ) (hn : n < cfg0.N) (i : Fin 512) (c : Fin 512) :
    ((outsAt0 m e n hn).1 (ix2 i c) : EReal) = first m e (ix2 (pos (base n + i.val)) c) := by
  have hN : cfg0.N = 8 := N_0
  have hi := i.isLt
  refine Eq.trans ?_ (ref3_at _ _ _ _ _).symm
  rw [step_eq]
  show (wide (stepLogits m e n hn) (ix2 i c) : EReal) = _
  unfold wide
  by_cases h : c.val < 128
  · rw [dif_pos h, dif_pos (show ((ix2 i c : S512x512.Idx) 1).val < 128 from h)]
    refine (stepLogits_at m e hf n hn i ⟨c.val, h⟩).trans (congrArg (fun u => grad (aa m e) (zs m e) (bs m e) u ⟨c.val, h⟩) ?_)
    exact (Nat.mod_eq_of_lt (by dsimp only [base]; omega)).symm
  · rw [dif_neg h, dif_neg (show ¬((ix2 i c : S512x512.Idx) 1).val < 128 from h)]
    exact Ideal.ofBits_zero_bf16

include hf in
/-- which it writes back. -/
theorem flushed_3 (t : Fin cfg0.N) : (dats m 0 e).flushed 3 t = ((cfg0.win 3).blk t).view.read (Elt Ideal) (first m e) := by
  have hN : cfg0.N = 8 := N_0
  obtain ⟨n, hn⟩ := t
  rw [Cert.Kernel10Ideal.Value.flushed3]
  funext y
  refine (congrArg (outsAt0 m e n hn).1 (ix2_eta (p := 512) (q := 512) y).symm).trans ((wide_at m e hf n hn (y 0) (y 1)).trans ?_)
  have e0 : _ = 4 * (n / 4) + (3 - n % 4) := (place3 ⟨n, hn⟩).1
  have e1 : _ = 0 := (place3 ⟨n, hn⟩).2
  have h0 : (y 0).val < 512 := (y 0).isLt
  refine congrArg (first m e) (funext fun a => Fin.ext ?_)
  match a with
  | ⟨0, _⟩ =>
    change (2048 * (n / 4) + 512 * (3 - n % 4) + (y 0).val) % 4096 = win0_3.index ⟨n, hn⟩ (0 : Fin 2) * 512 + 1 * (y 0).val
    rw [e0]; clear e0 e1; omega
  | ⟨1, _⟩ =>
    change (y 1).val = win0_3.index ⟨n, hn⟩ (1 : Fin 2) * 512 + 1 * (y 1).val
    rw [e1]; clear e0 e1; omega

include hf in
/-- What the last step leaves for the second array is the reference's, -/
theorem last_at (n : ℕ) (hn : n < cfg0.N) (h7 : n = 7) (r : Fin 8) (j : Fin 128) : ((outsAt0 m e n hn).2.1 (ix2 r j) : EReal) = second m e (ix2 r j) := by
  refine (sums_at m e hf n hn r j).trans (Eq.trans ?_ (ref4_at _ _ _ r j).symm)
  rw [show n + 1 = 8 by omega, blocks_all]

include hf in
/-- and it writes that back. -/
theorem flushed_4 (t : Fin cfg0.N) (hl : (cfg0.win 4).flush t = true) :
    (dats m 0 e).flushed 4 t = ((cfg0.win 4).blk t).view.read (Elt Ideal) (second m e) := by
  have hN : cfg0.N = 8 := N_0
  have hm : t.val % 8 = 7 := (flush0_4 t).mp hl
  obtain ⟨n, hn⟩ := t
  have h7 : n = 7 := by dsimp only at hm; omega
  rw [Cert.Kernel10Ideal.Value.flushed4]
  funext y
  refine (congrArg (outsAt0 m e n hn).2.1 (ix2_eta (p := 8) (q := 128) y).symm).trans ((last_at m e hf n hn h7 (y 0) (y 1)).trans ?_)
  have e0 : _ = 0 := (place4 ⟨n, hn⟩).1
  have e1 : _ = 0 := (place4 ⟨n, hn⟩).2
  refine congrArg (second m e) (funext fun a => Fin.ext ?_)
  match a with
  | ⟨0, _⟩ =>
    change (y 0).val = win0_4.index ⟨n, hn⟩ (0 : Fin 2) * 8 + 1 * (y 0).val
    rw [e0]; clear e0 e1; omega
  | ⟨1, _⟩ =>
    change (y 1).val = win0_4.index ⟨n, hn⟩ (1 : Fin 2) * 128 + 1 * (y 1).val
    rw [e1]; clear e0 e1; omega

/-- A step's block is the indices in its ranges. -/
theorem mem_blk3 (t : Fin cfg0.N) (i : S4096x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0_0).slice (win0_3.rect t)).set ↔ _
  rw [View.set_slice_whole, Rect.mem_set_unit]
  exact Iff.rfl
theorem mem_blk4 (t : Fin cfg0.N) (i : S8x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0_1).slice (win0_4.rect t)).set ↔ _
  rw [View.set_slice_whole, Rect.mem_set_unit]
  exact Iff.rfl

include hf in
/-- The blocks written back cover the arrays, so the arrays end at the reference's. -/
theorem final_3 : (dats m 0 e).arrAt 3 cfg0.N = first m e :=
  (dats m 0 e).arrAt_eq_of_cover 3 _ (fun t _ => flushed_3 m e hf t) fun i => by
    have hN : cfg0.N = 8 := N_0
    have h0 : (i 0).val < 4096 := (i 0).isLt
    have h1 : (i 1).val < 512 := (i 1).isLt
    have hn : 4 * ((i 0).val / 2048) + (3 - (i 0).val / 512 % 4) < cfg0.N := by omega
    refine ⟨⟨4 * ((i 0).val / 2048) + (3 - (i 0).val / 512 % 4), hn⟩, flush0_3 _, ?_⟩
    have e0 : _ = 4 * ((4 * ((i 0).val / 2048) + (3 - (i 0).val / 512 % 4)) / 4) + (3 - (4 * ((i 0).val / 2048) + (3 - (i 0).val / 512 % 4)) % 4) := (place3 ⟨_, hn⟩).1
    have e1 : _ = 0 := (place3 ⟨_, hn⟩).2
    rw [mem_blk3]
    intro a
    match a with
    | ⟨0, _⟩ =>
      change win0_3.index ⟨_, hn⟩ (0 : Fin 2) * 512 ≤ (i 0).val ∧ (i 0).val < win0_3.index ⟨_, hn⟩ (0 : Fin 2) * 512 + 512
      rw [e0]; clear e0 e1; omega
    | ⟨1, _⟩ =>
      change win0_3.index ⟨_, hn⟩ (1 : Fin 2) * 512 ≤ (i 1).val ∧ (i 1).val < win0_3.index ⟨_, hn⟩ (1 : Fin 2) * 512 + 512
      rw [e1]; clear e0 e1; omega
include hf in
theorem final_4 : (dats m 0 e).arrAt 4 cfg0.N = second m e :=
  (dats m 0 e).arrAt_eq_of_cover 4 _ (fun t hl => flushed_4 m e hf t hl) fun i => by
    have hN : cfg0.N = 8 := N_0
    have h0 : (i 0).val < 8 := (i 0).isLt
    have h1 : (i 1).val < 128 := (i 1).isLt
    have hn : 7 < cfg0.N := by omega
    refine ⟨⟨7, hn⟩, (flush0_4 _).mpr rfl, ?_⟩
    have e0 : _ = 0 := (place4 ⟨7, hn⟩).1
    have e1 : _ = 0 := (place4 ⟨7, hn⟩).2
    rw [mem_blk4]
    intro a
    match a with
    | ⟨0, _⟩ =>
      change win0_4.index ⟨7, hn⟩ (0 : Fin 2) * 8 ≤ (i 0).val ∧ (i 0).val < win0_4.index ⟨7, hn⟩ (0 : Fin 2) * 8 + 8
      rw [e0]; clear e0 e1; omega
    | ⟨1, _⟩ =>
      change win0_4.index ⟨7, hn⟩ (1 : Fin 2) * 128 ≤ (i 1).val ∧ (i 1).val < win0_4.index ⟨7, hn⟩ (1 : Fin 2) * 128 + 128
      rw [e1]; clear e0 e1; omega

end finite

end Cert.Gate

end
-- ==== Proof.Gate.lean ====
/- Hand-written. The gates' backward pass: the call and its reference leave their arguments unchanged, and over the reals they
end with equal results at finite incoming gradients. -/
module

public import proofs.«01_k».proof.Defs
public import proofs.«01_k».proof.Proof.Gen.Kernel10.Frame
public import proofs.«01_k».proof.Proof.GateValue
public import proofs.«01_k».proof.Proof.Algebraic
public import Idealize.ShloMosaic.Lib.Quiescent

@[expose] public section

noncomputable section

namespace Cert.Gate

open Cert.Kernel10Ideal Cert.Kernel10Ideal.Gen
open Idealize.ShloMosaic Idealize.ShloMosaic.TcCoe Idealize.ShloMosaic.Tactic Idealize.SL.Sem

/-- The precondition's one broadcast is of a scalar. -/
theorem finite_facts : Cert.Pre_finite10.Facts := ⟨by decide⟩

/-- The call leaves its arguments unchanged and ends with every semaphore at zero: on machine words and over the reals, there
also where the incoming gradients are finite. -/
theorem frame_kernel10 : letI := Cert.Kernel10.Gen.facts; Cert.quiescent_Kernel10 := fun m ρ _ => Cert.Kernel10.Gen.frame m ρ
theorem frame_kernel10Ideal : letI := Cert.Kernel10Ideal.Gen.facts; Cert.quiescent_Kernel10Ideal := fun m ρ _ =>
  Cert.Kernel10Ideal.Gen.frame m ρ
theorem frame_kernel10Ideal_finite : letI := Cert.Kernel10Ideal.Gen.facts; letI := finite_facts; Cert.quiescent_Kernel10Ideal_pre_finite10 :=
  fun m ρ _ => Cert.Kernel10Ideal.Gen.frame m ρ

/-- So does its reference over the reals. -/
theorem frame_reference10Ideal : letI := Cert.Reference10Ideal.Gen.facts; Cert.quiescent_Reference10Ideal := fun m ρ _ =>
  θ_run_and
    ((θ_run Cert.Reference10Ideal.defs _ _).mono (fun _ h c => (h c).2.2) (Cert.Reference10Ideal.Value.run (F := Ideal) m ρ))
    ((θ_run Cert.Reference10Ideal.defs _ _).mono (fun r _ => sem_eq_zero_of_no_sems rfl r.2) (Cert.Reference10Ideal.Value.run (F := Ideal) m ρ))
theorem frame_reference10Ideal_finite : letI := Cert.Reference10Ideal.Gen.facts; letI := finite_facts;
    Cert.quiescent_Reference10Ideal_pre_finite10 := fun m ρ _ => frame_reference10Ideal m ρ trivial

/-- Finite incoming gradients are real numbers. -/
theorem real_args (x : FVec Ideal S8x4096x128 .f32)
    (hx : (cmpf .olt (Host.absf x) (broadcastInDim S8x4096x128 ![] finite_facts.bcast_S_S8x4096x128 (constant (F := Ideal) Cert.Pre_finite10.S_ .f32 0x7F800000#32)) : IVec S8x4096x128 1)
      = fun _ => 1#1) (i : S8x4096x128.Idx) : ∃ r : ℝ, (x i : EReal) = (r : EReal) :=
  Cert.AttnBwd.real_of_abs _ (congrFun hx i)

/-- From equal arguments with finite incoming gradients the call and its reference run and end with equal results, the
arguments unchanged. -/
theorem algebraic10 :
    letI := Cert.Kernel10Ideal.Gen.facts; letI := Cert.Reference10Ideal.Gen.facts; letI := finite_facts;
    Cert.algebraic_Kernel10Ideal_Reference10Ideal_pre_finite10 := by
  intro m ρ m' ρ' hP hm
  have hf : ∀ (e : Dev nD) (i : S8x4096x128.Idx), ∃ r : ℝ, (aa m e i : EReal) = (r : EReal) := fun e => real_args (aa m e) (hP e)
  refine ⟨fun e => first m e, fun e => second m e, ?_, ?_⟩
  · exact (θ_run Cert.Kernel10Ideal.defs _ _).mono (fun _ h c => ⟨(h c).1.trans (final_3 m c (hf c)), (h c).2.1.trans (final_4 m c (hf c)), (h c).2.2⟩)
      (Cert.Kernel10Ideal.Value.run_blocks m ρ)
  · refine (θ_run Cert.Reference10Ideal.defs _ _).mono (fun r h e => ⟨(h e).1.trans ?_, (h e).2.1.trans ?_, (h e).2.2⟩)
      (Cert.Reference10Ideal.Value.run (F := Ideal) m' ρ')
    · rw [Cert.Reference10Ideal.Read.val_main_v17_eq, (hm e).1, (hm e).2.1, (hm e).2.2]
    · rw [Cert.Reference10Ideal.Read.val_main_v19_eq, (hm e).1, (hm e).2.1, (hm e).2.2]

end Cert.Gate

end
-- ==== Proof.Slots11.lean ====
/- Hand-written. The sum of the four chips' parts of the gradient of the input projection's weights: the kernel's array is the reference's. -/
module

public import proofs.«01_k».proof.Defs
public import proofs.«01_k».proof.Proof.Gen.Kernel11Ideal.Value
public import proofs.«01_k».proof.Proof.Gen.Kernel11.Frame
public import proofs.«01_k».proof.Proof.Gen.Reference11Ideal.Run
public import proofs.«01_k».proof.Proof.Gen.Reference11Ideal.Read
public import Idealize.ShloMosaic.Lib.Pointwise
public import Idealize.ShloMosaic.Lib.Quiescent

@[expose] public section

noncomputable section

namespace Cert.Slots11

open Cert.Kernel11Ideal Cert.Kernel11Ideal.Gen Cert.Kernel11Ideal.Value
open Idealize.ShloMosaic Idealize.ShloMosaic.TcCoe Idealize.ShloMosaic.Tactic Idealize.SL.Sem

variable (m : (ℓ : Loc nD τ sig) → Buf (Elt Ideal) ℓ) (e : Dev nD)

/-- The device's own part and the three received ones. -/
abbrev own : FVec Ideal S1796x512 .bf16 := m ((e.tc : Thread nD τ).loc main_arg0)
abbrev got : FVec Ideal S3x1796x512 .bf16 := m ((e.tc : Thread nD τ).loc main_arg1)
/-- The reference's sum. -/
abbrev sum : S1796x512.Idx → EReal := Cert.Reference11Ideal.Read.val_main_v3 (F := Ideal) (own m e) (got m e)

/-- The reference's sum, entry by entry, -/
theorem sum_at (r : Fin 1796) (c : Fin 512) :
    sum m e (ix2 r c) = (own m e (ix2 r c) : EReal) + got m e (ix3 0 r c) + got m e (ix3 1 r c) + got m e (ix3 2 r c) := by
  have h : sum m e (ix2 r c) = (own m e (ix2 r c) : EReal) + ∑ k : Fin 3, (got m e (ix3 k r c) : EReal) := by
    unfold sum
    pointwise [Cert.Reference11Ideal.Read.val_main_v3, Cert.Reference11Ideal.Read.val_main_v2, Cert.Reference11Ideal.Read.val_main_v1, Cert.Reference11Ideal.Read.val_main_v0, Cert.Reference11Ideal.Read.val_main_cst]
  rw [h, Fin.sum_univ_three, ← add_assoc, ← add_assoc]

/-- and what a point leaves of the blocks it reads. -/
theorem left_at (x : Vec Ideal S1796x256 .bf16) (z : Vec Ideal S3x1796x256 .bf16) (r : Fin 1796) (c : Fin 256) :
    (out0_2 x z (ix2 r c) : EReal) = (x (ix2 r c) : EReal) + z (ix3 0 r c) + z (ix3 1 r c) + z (ix3 2 r c) := by
  have hr := r.isLt
  have hc := c.isLt
  unfold out0_2
  refine (canon2_eq (F := Ideal) _ _ _ _ (ix2 r c)).trans ?_
  refine congrArg₂ (α := EReal) (β := EReal) (· + ·) (congrArg₂ (α := EReal) (β := EReal) (· + ·) (congrArg₂ (α := EReal) (β := EReal) (· + ·) ?_ ?_) ?_) ?_
  · refine congrArg x (funext fun a => Fin.ext ?_)
    match a with
    | ⟨0, _⟩ => show 0 + 1 * r.val = r.val; omega
    | ⟨1, _⟩ => show 0 + 1 * c.val = c.val; omega
  · refine congrArg z (funext fun a => Fin.ext ?_)
    match a with
    | ⟨0, _⟩ => rfl
    | ⟨1, _⟩ => show 0 + 1 * r.val = r.val; omega
    | ⟨2, _⟩ => show 0 + 1 * c.val = c.val; omega
  · refine congrArg z (funext fun a => Fin.ext ?_)
    match a with
    | ⟨0, _⟩ => rfl
    | ⟨1, _⟩ => show 0 + 1 * r.val = r.val; omega
    | ⟨2, _⟩ => show 0 + 1 * c.val = c.val; omega
  · refine congrArg z (funext fun a => Fin.ext ?_)
    match a with
    | ⟨0, _⟩ => rfl
    | ⟨1, _⟩ => show 0 + 1 * r.val = r.val; omega
    | ⟨2, _⟩ => show 0 + 1 * c.val = c.val; omega

/-- The blocks' places along the grid. -/
theorem place0 : ∀ t : Fin cfg0.N, win0_0.index t (0 : Fin 2) = 0 ∧ win0_0.index t (1 : Fin 2) = t.val :=
  (by decide +kernel : ∀ t : Fin grid0.N, _)
theorem place1 : ∀ t : Fin cfg0.N, win0_1.index t (0 : Fin 3) = 0 ∧ win0_1.index t (1 : Fin 3) = 0 ∧ win0_1.index t (2 : Fin 3) = t.val :=
  (by decide +kernel : ∀ t : Fin grid0.N, _)
theorem place2 : ∀ t : Fin cfg0.N, win0_2.index t (0 : Fin 2) = 0 ∧ win0_2.index t (1 : Fin 2) = t.val :=
  (by decide +kernel : ∀ t : Fin grid0.N, _)

/-- A number as a column. -/
abbrev pos (n : ℕ) : Fin 512 := ⟨n % 512, Nat.mod_lt _ (by decide)⟩

/-- The blocks a point reads. -/
theorem blk0 (n : ℕ) (hn : n < cfg0.N) (r : Fin 1796) (c : Fin 256) :
    (iblk m e 0 ⟨n, hn⟩ : S1796x256.Idx → Ideal .bf16) (ix2 r c) = own m e (ix2 (r) (pos (256 * n + c.val))) := by
  have hN : cfg0.N = 2 := N_0
  have e0 : _ = 0 := (place0 ⟨n, hn⟩).1
  have e1 : _ = n := (place0 ⟨n, hn⟩).2
  have hr := r.isLt
  have hc := c.isLt
  refine congrArg (own m e) (funext fun a => Fin.ext ?_)
  match a with
  | ⟨0, _⟩ =>
    change win0_0.index ⟨n, hn⟩ (0 : Fin 2) * 1796 + 1 * r.val = r.val
    rw [e0]; clear e0 e1; omega
  | ⟨1, _⟩ =>
    change win0_0.index ⟨n, hn⟩ (1 : Fin 2) * 256 + 1 * c.val = (256 * n + c.val) % 512
    rw [e1]; clear e0 e1; omega
theorem blk1 (n : ℕ) (hn : n < cfg0.N) (k : Fin 3) (r : Fin 1796) (c : Fin 256) :
    (iblk m e 1 ⟨n, hn⟩ : S3x1796x256.Idx → Ideal .bf16) (ix3 k r c) = got m e (ix3 k (r) (pos (256 * n + c.val))) := by
  have hN : cfg0.N = 2 := N_0
  have e0 : _ = 0 := (place1 ⟨n, hn⟩).1
  have e1 : _ = 0 := (place1 ⟨n, hn⟩).2.1
  have e2 : _ = n := (place1 ⟨n, hn⟩).2.2
  have hr := r.isLt
  have hc := c.isLt
  refine congrArg (got m e) (funext fun a => Fin.ext ?_)
  match a with
  | ⟨0, _⟩ =>
    change win0_1.index ⟨n, hn⟩ (0 : Fin 3) * 3 + 1 * k.val = k.val
    rw [e0]; clear e0 e1 e2; omega
  | ⟨1, _⟩ =>
    change win0_1.index ⟨n, hn⟩ (1 : Fin 3) * 1796 + 1 * r.val = r.val
    rw [e1]; clear e0 e1 e2; omega
  | ⟨2, _⟩ =>
    change win0_1.index ⟨n, hn⟩ (2 : Fin 3) * 256 + 1 * c.val = (256 * n + c.val) % 512
    rw [e2]; clear e0 e1 e2; omega

/-- What a point leaves is its block of the reference's sum, -/
theorem block_at (n : ℕ) (hn : n < cfg0.N) (r : Fin 1796) (c : Fin 256) :
    (out0_2 (iblk m e 0 ⟨n, hn⟩) (iblk m e 1 ⟨n, hn⟩) (ix2 r c) : EReal) = sum m e (ix2 (r) (pos (256 * n + c.val))) := by
  refine (left_at _ _ r c).trans (Eq.trans ?_ (sum_at m e _ _).symm)
  refine congrArg₂ (α := EReal) (β := EReal) (· + ·) (congrArg₂ (α := EReal) (β := EReal) (· + ·) (congrArg₂ (α := EReal) (β := EReal) (· + ·) ?_ ?_) ?_) ?_
  · exact blk0 m e n hn r c
  · exact blk1 m e n hn 0 r c
  · exact blk1 m e n hn 1 r c
  · exact blk1 m e n hn 2 r c

theorem ix2_eta {p q : ℕ} (y : (⟨2, ![p, q]⟩ : Shape).Idx) : ix2 (y 0) (y 1) = y := by
  funext a
  match a with
  | ⟨0, _⟩ => rfl
  | ⟨1, _⟩ => rfl

/-- which it writes back; -/
theorem back (t : Fin cfg0.N) : (dats m 0 e).flushed 2 t = ((cfg0.win 2).blk t).view.read (Elt Ideal) (sum m e) := by
  have hN : cfg0.N = 2 := N_0
  obtain ⟨n, hn⟩ := t
  rw [flushed2]
  funext y
  refine (congrArg (out0_2 (F := Ideal) _ _) (ix2_eta (p := 1796) (q := 256) y).symm).trans ((block_at m e n hn (y 0) (y 1)).trans ?_)
  have e0 : _ = 0 := (place2 ⟨n, hn⟩).1
  have e1 : _ = n := (place2 ⟨n, hn⟩).2
  have h0 : (y 0).val < 1796 := (y 0).isLt
  have h1 : (y 1).val < 256 := (y 1).isLt
  refine congrArg (sum m e) (funext fun a => Fin.ext ?_)
  match a with
  | ⟨0, _⟩ =>
    change (y 0).val = win0_2.index ⟨n, hn⟩ (0 : Fin 2) * 1796 + 1 * (y 0).val
    rw [e0]; clear e0 e1; omega
  | ⟨1, _⟩ =>
    change (256 * n + (y 1).val) % 512 = win0_2.index ⟨n, hn⟩ (1 : Fin 2) * 256 + 1 * (y 1).val
    rw [e1]; clear e0 e1; omega

/-- a point's block is the indices in its ranges, -/
theorem mem (t : Fin cfg0.N) (i : S1796x512.Idx) :
    i ∈ ((cfg0.win 2).blk t).view.set ↔ ∀ a : Fin 2, win0_2.index t a * S1796x256.size a ≤ (i a).val ∧ (i a).val < win0_2.index t a * S1796x256.size a + S1796x256.size a := by
  show i ∈ ((View.whole main_v0).slice (win0_2.rect t)).set ↔ _
  rw [View.set_slice_whole, Rect.mem_set_unit]
  exact Iff.rfl

/-- and the blocks cover the array, so it ends at the reference's. -/
theorem final : (dats m 0 e).arrAt 2 cfg0.N = sum m e :=
  (dats m 0 e).arrAt_eq_of_cover 2 _ (fun t _ => back m e t) fun i => by
    have hN : cfg0.N = 2 := N_0
    have h0 : (i 0).val < 1796 := (i 0).isLt
    have h1 : (i 1).val < 512 := (i 1).isLt
    have hn : (i 1).val / 256 < cfg0.N := by omega
    refine ⟨⟨(i 1).val / 256, hn⟩, flush0_2 _, ?_⟩
    have e0 : _ = 0 := (place2 ⟨_, hn⟩).1
    have e1 : _ = (i 1).val / 256 := (place2 ⟨_, hn⟩).2
    rw [mem]
    intro a
    match a with
    | ⟨0, _⟩ =>
      change win0_2.index ⟨_, hn⟩ (0 : Fin 2) * 1796 ≤ (i 0).val ∧ (i 0).val < win0_2.index ⟨_, hn⟩ (0 : Fin 2) * 1796 + 1796
      rw [e0]; clear e0 e1; omega
    | ⟨1, _⟩ =>
      change win0_2.index ⟨_, hn⟩ (1 : Fin 2) * 256 ≤ (i 1).val ∧ (i 1).val < win0_2.index ⟨_, hn⟩ (1 : Fin 2) * 256 + 256
      rw [e1]; clear e0 e1; omega

/-- The call leaves its arguments unchanged and ends with every semaphore at zero: on machine words, over the reals, and its
reference over the reals. -/
theorem frame_kernel11 : letI := Cert.Kernel11.Gen.facts; Cert.quiescent_Kernel11 := fun m ρ _ => Cert.Kernel11.Gen.frame m ρ
theorem frame_kernel11Ideal : letI := Cert.Kernel11Ideal.Gen.facts; Cert.quiescent_Kernel11Ideal := fun m ρ _ =>
  Cert.Kernel11Ideal.Gen.frame m ρ
theorem frame_reference11Ideal : letI := Cert.Reference11Ideal.Gen.facts; Cert.quiescent_Reference11Ideal := fun m ρ _ =>
  θ_run_and
    ((θ_run Cert.Reference11Ideal.defs _ _).mono (fun _ h c => (h c).2) (Cert.Reference11Ideal.Value.run (F := Ideal) m ρ))
    ((θ_run Cert.Reference11Ideal.defs _ _).mono (fun r _ => sem_eq_zero_of_no_sems rfl r.2) (Cert.Reference11Ideal.Value.run (F := Ideal) m ρ))

/-- From equal arguments the call and its reference run and end with equal results, the arguments unchanged. -/
theorem algebraic11 :
    letI := Cert.Kernel11Ideal.Gen.facts; letI := Cert.Reference11Ideal.Gen.facts;
    Cert.algebraic_Kernel11Ideal_Reference11Ideal := by
  intro m ρ m' ρ' _ hm
  refine ⟨fun e => sum m e, ?_, ?_⟩
  · exact (θ_run Cert.Kernel11Ideal.defs _ _).mono (fun _ h c => ⟨(h c).1.trans (final m c), (h c).2⟩) (run_blocks m ρ)
  · refine (θ_run Cert.Reference11Ideal.defs _ _).mono (fun r h e => ⟨(h e).1.trans ?_, (h e).2⟩) (Cert.Reference11Ideal.Value.run (F := Ideal) m' ρ')
    rw [Cert.Reference11Ideal.Read.val_main_v3_eq, (hm e).1, (hm e).2]

end Cert.Slots11

end
-- ==== Proof.Slots12.lean ====
/- Hand-written. The sum of the four chips' parts of the gradient of the output projection's weights: the kernel's array is the reference's. -/
module

public import proofs.«01_k».proof.Defs
public import proofs.«01_k».proof.Proof.Gen.Kernel12Ideal.Value
public import proofs.«01_k».proof.Proof.Gen.Kernel12.Frame
public import proofs.«01_k».proof.Proof.Gen.Reference12Ideal.Run
public import proofs.«01_k».proof.Proof.Gen.Reference12Ideal.Read
public import Idealize.ShloMosaic.Lib.Pointwise
public import Idealize.ShloMosaic.Lib.Quiescent

@[expose] public section

noncomputable section

namespace Cert.Slots12

open Cert.Kernel12Ideal Cert.Kernel12Ideal.Gen Cert.Kernel12Ideal.Value
open Idealize.ShloMosaic Idealize.ShloMosaic.TcCoe Idealize.ShloMosaic.Tactic Idealize.SL.Sem

variable (m : (ℓ : Loc nD τ sig) → Buf (Elt Ideal) ℓ) (e : Dev nD)

/-- The device's own part and the three received ones. -/
abbrev own : FVec Ideal S512x512 .bf16 := m ((e.tc : Thread nD τ).loc main_arg0)
abbrev got : FVec Ideal S3x512x512 .bf16 := m ((e.tc : Thread nD τ).loc main_arg1)
/-- The reference's sum. -/
abbrev sum : S512x512.Idx → EReal := Cert.Reference12Ideal.Read.val_main_v3 (F := Ideal) (own m e) (got m e)

/-- The reference's sum, entry by entry, -/
theorem sum_at (r : Fin 512) (c : Fin 512) :
    sum m e (ix2 r c) = (own m e (ix2 r c) : EReal) + got m e (ix3 0 r c) + got m e (ix3 1 r c) + got m e (ix3 2 r c) := by
  have h : sum m e (ix2 r c) = (own m e (ix2 r c) : EReal) + ∑ k : Fin 3, (got m e (ix3 k r c) : EReal) := by
    unfold sum
    pointwise [Cert.Reference12Ideal.Read.val_main_v3, Cert.Reference12Ideal.Read.val_main_v2, Cert.Reference12Ideal.Read.val_main_v1, Cert.Reference12Ideal.Read.val_main_v0, Cert.Reference12Ideal.Read.val_main_cst]
  rw [h, Fin.sum_univ_three, ← add_assoc, ← add_assoc]

/-- and what a point leaves of the blocks it reads. -/
theorem left_at (x : Vec Ideal S256x512 .bf16) (z : Vec Ideal S3x256x512 .bf16) (r : Fin 256) (c : Fin 512) :
    (out0_2 x z (ix2 r c) : EReal) = (x (ix2 r c) : EReal) + z (ix3 0 r c) + z (ix3 1 r c) + z (ix3 2 r c) := by
  have hr := r.isLt
  have hc := c.isLt
  unfold out0_2
  refine (canon2_eq (F := Ideal) _ _ _ _ (ix2 r c)).trans ?_
  refine congrArg₂ (α := EReal) (β := EReal) (· + ·) (congrArg₂ (α := EReal) (β := EReal) (· + ·) (congrArg₂ (α := EReal) (β := EReal) (· + ·) ?_ ?_) ?_) ?_
  · refine congrArg x (funext fun a => Fin.ext ?_)
    match a with
    | ⟨0, _⟩ => show 0 + 1 * r.val = r.val; omega
    | ⟨1, _⟩ => show 0 + 1 * c.val = c.val; omega
  · refine congrArg z (funext fun a => Fin.ext ?_)
    match a with
    | ⟨0, _⟩ => rfl
    | ⟨1, _⟩ => show 0 + 1 * r.val = r.val; omega
    | ⟨2, _⟩ => show 0 + 1 * c.val = c.val; omega
  · refine congrArg z (funext fun a => Fin.ext ?_)
    match a with
    | ⟨0, _⟩ => rfl
    | ⟨1, _⟩ => show 0 + 1 * r.val = r.val; omega
    | ⟨2, _⟩ => show 0 + 1 * c.val = c.val; omega
  · refine congrArg z (funext fun a => Fin.ext ?_)
    match a with
    | ⟨0, _⟩ => rfl
    | ⟨1, _⟩ => show 0 + 1 * r.val = r.val; omega
    | ⟨2, _⟩ => show 0 + 1 * c.val = c.val; omega

/-- The blocks' places along the grid. -/
theorem place0 : ∀ t : Fin cfg0.N, win0_0.index t (0 : Fin 2) = t.val ∧ win0_0.index t (1 : Fin 2) = 0 :=
  (by decide +kernel : ∀ t : Fin grid0.N, _)
theorem place1 : ∀ t : Fin cfg0.N, win0_1.index t (0 : Fin 3) = 0 ∧ win0_1.index t (1 : Fin 3) = t.val ∧ win0_1.index t (2 : Fin 3) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)

/-- A number as a row. -/
abbrev pos (n : ℕ) : Fin 512 := ⟨n % 512, Nat.mod_lt _ (by decide)⟩

/-- The blocks a point reads. -/
theorem blk0 (n : ℕ) (hn : n < cfg0.N) (r : Fin 256) (c : Fin 512) :
    (iblk m e 0 ⟨n, hn⟩ : S256x512.Idx → Ideal .bf16) (ix2 r c) = own m e (ix2 (pos (256 * n + r.val)) (c)) := by
  have hN : cfg0.N = 2 := N_0
  have e0 : _ = n := (place0 ⟨n, hn⟩).1
  have e1 : _ = 0 := (place0 ⟨n, hn⟩).2
  have hr := r.isLt
  have hc := c.isLt
  refine congrArg (own m e) (funext fun a => Fin.ext ?_)
  match a with
  | ⟨0, _⟩ =>
    change win0_0.index ⟨n, hn⟩ (0 : Fin 2) * 256 + 1 * r.val = (256 * n + r.val) % 512
    rw [e0]; clear e0 e1; omega
  | ⟨1, _⟩ =>
    change win0_0.index ⟨n, hn⟩ (1 : Fin 2) * 512 + 1 * c.val = c.val
    rw [e1]; clear e0 e1; omega
theorem blk1 (n : ℕ) (hn : n < cfg0.N) (k : Fin 3) (r : Fin 256) (c : Fin 512) :
    (iblk m e 1 ⟨n, hn⟩ : S3x256x512.Idx → Ideal .bf16) (ix3 k r c) = got m e (ix3 k (pos (256 * n + r.val)) (c)) := by
  have hN : cfg0.N = 2 := N_0
  have e0 : _ = 0 := (place1 ⟨n, hn⟩).1
  have e1 : _ = n := (place1 ⟨n, hn⟩).2.1
  have e2 : _ = 0 := (place1 ⟨n, hn⟩).2.2
  have hr := r.isLt
  have hc := c.isLt
  refine congrArg (got m e) (funext fun a => Fin.ext ?_)
  match a with
  | ⟨0, _⟩ =>
    change win0_1.index ⟨n, hn⟩ (0 : Fin 3) * 3 + 1 * k.val = k.val
    rw [e0]; clear e0 e1 e2; omega
  | ⟨1, _⟩ =>
    change win0_1.index ⟨n, hn⟩ (1 : Fin 3) * 256 + 1 * r.val = (256 * n + r.val) % 512
    rw [e1]; clear e0 e1 e2; omega
  | ⟨2, _⟩ =>
    change win0_1.index ⟨n, hn⟩ (2 : Fin 3) * 512 + 1 * c.val = c.val
    rw [e2]; clear e0 e1 e2; omega

/-- What a point leaves is its block of the reference's sum, -/
theorem block_at (n : ℕ) (hn : n < cfg0.N) (r : Fin 256) (c : Fin 512) :
    (out0_2 (iblk m e 0 ⟨n, hn⟩) (iblk m e 1 ⟨n, hn⟩) (ix2 r c) : EReal) = sum m e (ix2 (pos (256 * n + r.val)) (c)) := by
  refine (left_at _ _ r c).trans (Eq.trans ?_ (sum_at m e _ _).symm)
  refine congrArg₂ (α := EReal) (β := EReal) (· + ·) (congrArg₂ (α := EReal) (β := EReal) (· + ·) (congrArg₂ (α := EReal) (β := EReal) (· + ·) ?_ ?_) ?_) ?_
  · exact blk0 m e n hn r c
  · exact blk1 m e n hn 0 r c
  · exact blk1 m e n hn 1 r c
  · exact blk1 m e n hn 2 r c

theorem ix2_eta {p q : ℕ} (y : (⟨2, ![p, q]⟩ : Shape).Idx) : ix2 (y 0) (y 1) = y := by
  funext a
  match a with
  | ⟨0, _⟩ => rfl
  | ⟨1, _⟩ => rfl

/-- which it writes back; -/
theorem back (t : Fin cfg0.N) : (dats m 0 e).flushed 2 t = ((cfg0.win 2).blk t).view.read (Elt Ideal) (sum m e) := by
  have hN : cfg0.N = 2 := N_0
  obtain ⟨n, hn⟩ := t
  rw [flushed2]
  funext y
  refine (congrArg (out0_2 (F := Ideal) _ _) (ix2_eta (p := 256) (q := 512) y).symm).trans ((block_at m e n hn (y 0) (y 1)).trans ?_)
  have e0 : _ = n := (place2 ⟨n, hn⟩).1
  have e1 : _ = 0 := (place2 ⟨n, hn⟩).2
  have h0 : (y 0).val < 256 := (y 0).isLt
  have h1 : (y 1).val < 512 := (y 1).isLt
  refine congrArg (sum m e) (funext fun a => Fin.ext ?_)
  match a with
  | ⟨0, _⟩ =>
    change (256 * n + (y 0).val) % 512 = win0_2.index ⟨n, hn⟩ (0 : Fin 2) * 256 + 1 * (y 0).val
    rw [e0]; clear e0 e1; omega
  | ⟨1, _⟩ =>
    change (y 1).val = win0_2.index ⟨n, hn⟩ (1 : Fin 2) * 512 + 1 * (y 1).val
    rw [e1]; clear e0 e1; omega

/-- a point's block is the indices in its ranges, -/
theorem mem (t : Fin cfg0.N) (i : S512x512.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v0).slice (win0_2.rect t)).set ↔ _
  rw [View.set_slice_whole, Rect.mem_set_unit]
  exact Iff.rfl

/-- and the blocks cover the array, so it ends at the reference's. -/
theorem final : (dats m 0 e).arrAt 2 cfg0.N = sum m e :=
  (dats m 0 e).arrAt_eq_of_cover 2 _ (fun t _ => back m e t) fun i => by
    have hN : cfg0.N = 2 := N_0
    have h0 : (i 0).val < 512 := (i 0).isLt
    have h1 : (i 1).val < 512 := (i 1).isLt
    have hn : (i 0).val / 256 < cfg0.N := by omega
    refine ⟨⟨(i 0).val / 256, hn⟩, flush0_2 _, ?_⟩
    have e0 : _ = (i 0).val / 256 := (place2 ⟨_, hn⟩).1
    have e1 : _ = 0 := (place2 ⟨_, hn⟩).2
    rw [mem]
    intro a
    match a with
    | ⟨0, _⟩ =>
      change win0_2.index ⟨_, hn⟩ (0 : Fin 2) * 256 ≤ (i 0).val ∧ (i 0).val < win0_2.index ⟨_, hn⟩ (0 : Fin 2) * 256 + 256
      rw [e0]; clear e0 e1; omega
    | ⟨1, _⟩ =>
      change win0_2.index ⟨_, hn⟩ (1 : Fin 2) * 512 ≤ (i 1).val ∧ (i 1).val < win0_2.index ⟨_, hn⟩ (1 : Fin 2) * 512 + 512
      rw [e1]; clear e0 e1; omega

/-- The call leaves its arguments unchanged and ends with every semaphore at zero: on machine words, over the reals, and its
reference over the reals. -/
theorem frame_kernel12 : letI := Cert.Kernel12.Gen.facts; Cert.quiescent_Kernel12 := fun m ρ _ => Cert.Kernel12.Gen.frame m ρ
theorem frame_kernel12Ideal : letI := Cert.Kernel12Ideal.Gen.facts; Cert.quiescent_Kernel12Ideal := fun m ρ _ =>
  Cert.Kernel12Ideal.Gen.frame m ρ
theorem frame_reference12Ideal : letI := Cert.Reference12Ideal.Gen.facts; Cert.quiescent_Reference12Ideal := fun m ρ _ =>
  θ_run_and
    ((θ_run Cert.Reference12Ideal.defs _ _).mono (fun _ h c => (h c).2) (Cert.Reference12Ideal.Value.run (F := Ideal) m ρ))
    ((θ_run Cert.Reference12Ideal.defs _ _).mono (fun r _ => sem_eq_zero_of_no_sems rfl r.2) (Cert.Reference12Ideal.Value.run (F := Ideal) m ρ))

/-- From equal arguments the call and its reference run and end with equal results, the arguments unchanged. -/
theorem algebraic12 :
    letI := Cert.Kernel12Ideal.Gen.facts; letI := Cert.Reference12Ideal.Gen.facts;
    Cert.algebraic_Kernel12Ideal_Reference12Ideal := by
  intro m ρ m' ρ' _ hm
  refine ⟨fun e => sum m e, ?_, ?_⟩
  · exact (θ_run Cert.Kernel12Ideal.defs _ _).mono (fun _ h c => ⟨(h c).1.trans (final m c), (h c).2⟩) (run_blocks m ρ)
  · refine (θ_run Cert.Reference12Ideal.defs _ _).mono (fun r h e => ⟨(h e).1.trans ?_, (h e).2⟩) (Cert.Reference12Ideal.Value.run (F := Ideal) m' ρ')
    rw [Cert.Reference12Ideal.Read.val_main_v3_eq, (hm e).1, (hm e).2]

end Cert.Slots12

end
-- ==== Proof.Slots13.lean ====
/- Hand-written. The sum over the eight devices of the small gradients' rows: the kernel's array is the reference's. -/
module

public import proofs.«01_k».proof.Defs
public import proofs.«01_k».proof.Proof.Gen.Kernel13Ideal.Value
public import proofs.«01_k».proof.Proof.Gen.Kernel13.Frame
public import proofs.«01_k».proof.Proof.Gen.Reference13Ideal.Run
public import proofs.«01_k».proof.Proof.Gen.Reference13Ideal.Read
public import Idealize.ShloMosaic.Lib.Pointwise
public import Idealize.ShloMosaic.Lib.Quiescent

@[expose] public section

noncomputable section

namespace Cert.Slots13

open Cert.Kernel13Ideal Cert.Kernel13Ideal.Gen Cert.Kernel13Ideal.Value
open Idealize.ShloMosaic Idealize.ShloMosaic.TcCoe Idealize.ShloMosaic.Tactic Idealize.SL.Sem

/-- The eight devices' rows, added in order, are the sum over the devices. -/
theorem sum_eq (x : Vec Ideal S8x40x1024 .f32) : G1 (F := Ideal) x = Cert.Reference13Ideal.Read.val_main_v0 (F := Ideal) x := by
  have hx : ∀ (k : Fin 8) (off : Fin 3 → ℕ) (inb : ∀ a, off a + S1x40x1024.size a ≤ S8x40x1024.size a), off 0 = k.val → off 1 = 0 → off 2 = 0 →
      ∀ (i : Fin 40) (j : Fin 1024), (View.ld x (Rect.unit off S1x40x1024.size inb) (ix3 0 i j) : EReal) = x (ix3 k i j) := fun k off inb h0 h1 h2 i j => by
    refine congrArg x (funext fun a => Fin.ext ?_)
    match a with
    | ⟨0, _⟩ =>
      show off 0 + 1 * 0 = k.val
      omega
    | ⟨1, _⟩ =>
      show off 1 + 1 * i.val = i.val
      omega
    | ⟨2, _⟩ =>
      show off 2 + 1 * j.val = j.val
      omega
  have hp : ∀ (v0 v1 v2 v3 v4 v5 v6 v7 : Vec Ideal S1x40x1024 .f32) (i : Fin 40) (j : Fin 1024), (k0_pay1 v0 v1 v2 v3 v4 v5 v6 v7 (ix2 i j) : EReal)
      = v0 (ix3 0 i j) + v1 (ix3 0 i j) + v2 (ix3 0 i j) + v3 (ix3 0 i j) + v4 (ix3 0 i j) + v5 (ix3 0 i j) + v6 (ix3 0 i j) + v7 (ix3 0 i j) := by
    intro v0 v1 v2 v3 v4 v5 v6 v7 i j
    pointwise [k0_pay1]
  have hr : ∀ (i : Fin 40) (j : Fin 1024), (Cert.Reference13Ideal.Read.val_main_v0 (F := Ideal) x (ix2 i j) : EReal) = ∑ k : Fin 8, (x (ix3 k i j) : EReal) := by
    intro i j
    pointwise [Cert.Reference13Ideal.Read.val_main_v0, Cert.Reference13Ideal.Read.val_main_cst]
  have he : ∀ y : S40x1024.Idx, ix2 (y 0) (y 1) = y := fun y => by
    funext a
    match a with
    | ⟨0, _⟩ => rfl
    | ⟨1, _⟩ => rfl
  have hg : ∀ (i : Fin 40) (j : Fin 1024), (G1 (F := Ideal) x (ix2 i j) : EReal) = Cert.Reference13Ideal.Read.val_main_v0 (F := Ideal) x (ix2 i j) := by
    intro i j
    refine (hp _ _ _ _ _ _ _ _ i j).trans (Eq.trans ?_ (hr i j).symm)
    rw [Fin.sum_univ_eight, hx 0 _ _ rfl rfl rfl, hx 1 _ _ rfl rfl rfl, hx 2 _ _ rfl rfl rfl, hx 3 _ _ rfl rfl rfl, hx 4 _ _ rfl rfl rfl, hx 5 _ _ rfl rfl rfl,
      hx 6 _ _ rfl rfl rfl]
    exact congrArg (_ + ·) (hx 7 _ _ rfl rfl rfl _ _)
  funext y
  rw [← he y]
  exact hg (y 0) (y 1)

/-- The call leaves its argument unchanged and ends with every semaphore at zero: on machine words, over the reals, and its
reference over the reals. -/
theorem frame_kernel13 : letI := Cert.Kernel13.Gen.facts; Cert.quiescent_Kernel13 := fun m ρ _ => Cert.Kernel13.Gen.frame m ρ
theorem frame_kernel13Ideal : letI := Cert.Kernel13Ideal.Gen.facts; Cert.quiescent_Kernel13Ideal := fun m ρ _ =>
  Cert.Kernel13Ideal.Gen.frame m ρ
theorem frame_reference13Ideal : letI := Cert.Reference13Ideal.Gen.facts; Cert.quiescent_Reference13Ideal := fun m ρ _ =>
  θ_run_and
    ((θ_run Cert.Reference13Ideal.defs _ _).mono (fun _ h c => (h c).2) (Cert.Reference13Ideal.Value.run (F := Ideal) m ρ))
    ((θ_run Cert.Reference13Ideal.defs _ _).mono (fun r _ => sem_eq_zero_of_no_sems rfl r.2) (Cert.Reference13Ideal.Value.run (F := Ideal) m ρ))

/-- From equal arguments the call and its reference run and end with equal results, the argument unchanged. -/
theorem algebraic13 :
    letI := Cert.Kernel13Ideal.Gen.facts; letI := Cert.Reference13Ideal.Gen.facts;
    Cert.algebraic_Kernel13Ideal_Reference13Ideal := by
  intro m ρ m' ρ' _ hm
  refine ⟨fun e => _, run m ρ, ?_⟩
  refine (θ_run Cert.Reference13Ideal.defs _ _).mono (fun r h e => ⟨(h e).1.trans ?_, (h e).2⟩) (Cert.Reference13Ideal.Value.run (F := Ideal) m' ρ')
  rw [Cert.Reference13Ideal.Read.val_main_v0_eq, hm e]
  exact (sum_eq _).symm

end Cert.Slots13

end
-- ==== Proof.GateFwdRun.lean ====
/- Hand-written. The gates' forward pass: what one step of the grid leaves in its output block and in the carried row. -/
module

public import proofs.«01_k».proof.Proof.Gen.Kernel14Ideal.Value
public import Idealize.ShloMosaic.Lib.Pipeline.Value
public import Idealize.ShloMosaic.Lib.Pipeline.ReadBack
public import Idealize.ShloMosaic.Lib.WritesUnit
public import Idealize.ShloMosaic.Lib.Pointwise

@[expose] public section

noncomputable section

namespace Cert.GateFwd

open Cert.Kernel14Ideal Cert.Kernel14Ideal.Gen Idealize.ShloMosaic Idealize.ShloMosaic.Tactic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The cumulated gates of a block, from the block `z` of logits, the bias row `b` and the carried row `s`. -/
abbrev cumulated (z : Vec F S512x128 .f32) (b s : Vec F S1x128 .f32) : FVec F S512x128 .f32 :=
  k0_pay1 (k0_pay5 (F := F)) (k0_pay9 z b) (k0_pay10 z b) s

/-- The carried row after the block. -/
abbrev carried (z : Vec F S512x128 .f32) (b s : Vec F S1x128 .f32) : FVec F S1x128 .f32 := k0_pay2 (k0_pay4 z b) s

variable (c : Dev nD) (i : grid0.Coords) (a2 : Memref sig .tc .vmem S512x128 .f32) (h2 : a2.IsWhole)
  (a3 : Memref sig .tc .vmem S1x128 .f32) (h3 : a3.IsWhole) (a4 : Memref sig .tc .vmem S512x128 .f32) (h4 : a4.IsWhole)
  (a5 : Memref sig .tc .vmem S1x128 .f32) (h5 : a5.IsWhole)
  (z : Vec F S512x128 .f32) (b s : Vec F S1x128 .f32)

theorem out_B (hc : ¬cond0_0 i) : out0_B_2 c i a2 h2 a3 h3 a4 h4 a5 h5 hc z b s = cumulated z b s := by
  unfold out0_B_2
  rw [View.read_writes_eq_canon _ _ _ (cover0_B_2 c i a2 h2 a3 h3 a4 h4 a5 h5 hc z b s)]
  unfold kernelRun0_B
  dsimp only
  sl_unfold_words
  rw [View.canon_unit_zero hz]
  simp only [View.readAt_eq_ld, h2.read_unread, h3.read_unread, h5.read_unread, View.ld_unit_zero (S := S1x128) hz, View.ld_unit_zero (S := S512x128) hz]

theorem sout_B (hc : ¬cond0_0 i) : sout0_B_0 c i a2 h2 a3 h3 a4 h4 a5 h5 hc z b s = carried z b s := by
  unfold sout0_B_0
  rw [View.read_writes_eq_canon _ _ _ (scover0_B_0 c i a2 h2 a3 h3 a4 h4 a5 h5 hc z b s)]
  unfold kernelRun0_B
  dsimp only
  sl_unfold_words
  rw [View.canon_unit_zero hz]
  simp only [View.readAt_eq_ld, h2.read_unread, h3.read_unread, h5.read_unread, View.ld_unit_zero (S := S1x128) hz, View.ld_unit_zero (S := S512x128) hz]

theorem out_A (hc : cond0_0 i) : out0_A_2 c i a2 h2 a3 h3 a4 h4 a5 h5 hc z b = cumulated z b (k0_pay3 (F := F)) := by
  unfold out0_A_2
  rw [View.read_writes_eq_canon _ _ _ (cover0_A_2 c i a2 h2 a3 h3 a4 h4 a5 h5 hc z b)]
  unfold kernelRun0_A
  dsimp only
  sl_unfold_words
  rw [View.canon_unit_zero hz]
  simp only [View.readAt_eq_ld, h2.read_unread, h3.read_unread, View.ld_unit_zero (S := S1x128) hz, View.ld_unit_zero (S := S512x128) hz, View.readCov_unit_zero (S := S1x128) _ hz]

theorem sout_A (hc : cond0_0 i) : sout0_A_0 c i a2 h2 a3 h3 a4 h4 a5 h5 hc z b = carried z b (k0_pay3 (F := F)) := by
  unfold sout0_A_0
  rw [View.read_writes_eq_canon _ _ _ (scover0_A_0 c i a2 h2 a3 h3 a4 h4 a5 h5 hc z b)]
  unfold kernelRun0_A
  dsimp only
  sl_unfold_words
  rw [View.canon_cons_unit_zero hz]
  simp only [View.readAt_eq_ld, h2.read_unread, h3.read_unread, View.ld_unit_zero (S := S1x128) hz, View.ld_unit_zero (S := S512x128) hz, View.readCov_unit_zero (S := S1x128) _ hz]

end Cert.GateFwd

end
-- ==== Proof.GateFwdReference.lean ====
/- Hand-written. The gates' forward pass: the reference's array entry by entry. -/
module

public import proofs.«01_k».proof.Proof.Gen.Reference14Ideal.Run
public import proofs.«01_k».proof.Proof.Gen.Reference14Ideal.Read
public import proofs.«01_k».proof.Proof.GateReference
public import Idealize.ShloMosaic.Lib.Pointwise

@[expose] public section

noncomputable section

namespace Cert.GateFwd

open Cert.Reference14Ideal Cert.Reference14Ideal.Read
open Idealize.ShloMosaic Idealize.ShloMosaic.TcCoe Idealize.ShloMosaic.Tactic Idealize.SL.Sem
open Cert.Gate (soft pos foldl_add)

/-- The logarithm of the sigmoid, as the reference has it. -/
abbrev logsig (x : EReal) : EReal := -soft (-x)

/-- It is the smaller of the argument and zero, less the logarithm of one and the exponential of the negated size. -/
theorem logsig_eq (x : EReal) : min x 0 - Ideal.log (1 + Ideal.exp (0 - max x (-x))) = logsig x := by
  have hm : -max (-x) 0 = min x 0 := by
    rcases le_total x 0 with h | h
    · rw [min_eq_left h, max_eq_left (by simpa using EReal.neg_le_neg_iff.2 h), neg_neg]
    · rw [min_eq_right h, max_eq_right (by simpa using EReal.neg_le_neg_iff.2 h), neg_zero]
  have h0 : max (-x) 0 ≠ ⊥ := fun h => by
    have := le_max_right (-x) (0 : EReal)
    rw [h] at this
    exact absurd this (by simp)
  have h1 : max (-x) 0 ≠ ⊤ ∨ Ideal.log1p (Ideal.exp (-max (-x) (- -x))) ≠ ⊥ := by
    induction x using EReal.rec with
    | bot =>
      right
      rw [EReal.neg_bot, EReal.neg_top, max_eq_left bot_le, EReal.neg_top, Ideal.exp_bot]
      show Ideal.log (1 + 0) ≠ ⊥
      rw [add_zero, ← EReal.coe_one, Ideal.log_coe, if_neg (by norm_num), Real.log_one, EReal.coe_zero]
      exact EReal.zero_ne_bot
    | top =>
      left
      rw [EReal.neg_top, max_eq_right bot_le]
      exact EReal.zero_ne_top
    | coe r =>
      left
      rw [← EReal.coe_neg, ← EReal.coe_zero, ← EReal.coe_strictMono.monotone.map_max]
      exact EReal.coe_ne_top _
  show _ = -(max (-x) 0 + Ideal.log1p (Ideal.exp (-max (-x) (- -x))))
  rw [EReal.neg_add (.inl h0) h1, hm, neg_neg, max_comm (-x) x, zero_sub]
  rfl

/-- It is never plus infinity. -/
theorem logsig_ne_top (x : EReal) : logsig x ≠ ⊤ := by
  rw [← logsig_eq]
  have h : ∀ y : EReal, 0 ≤ Ideal.exp y := fun y => by
    induction y using EReal.rec with
    | bot => rw [Ideal.exp_bot]
    | top => rw [Ideal.exp_top]; exact le_top
    | coe r => rw [Ideal.exp_coe]; exact_mod_cast (Real.exp_pos r).le
  have hl : ∀ y : EReal, 0 ≤ y → Ideal.log (1 + y) ≠ ⊥ := fun y hy => by
    induction y using EReal.rec with
    | bot => exact absurd hy (by simp)
    | top => rw [EReal.add_top_of_ne_bot (by exact EReal.coe_ne_bot 1), Ideal.log_top]; exact top_ne_bot
    | coe r =>
      have hr : (0 : ℝ) ≤ r := by exact_mod_cast hy
      rw [← EReal.coe_one, ← EReal.coe_add, Ideal.log_coe, if_neg (by linarith)]
      exact EReal.coe_ne_bot _
  intro ht
  rw [sub_eq_add_neg] at ht
  refine EReal.add_ne_top (fun h' => ?_) (fun h' => hl _ (h (0 - max x (-x))) ?_) ht
  · have := min_le_right x (0 : EReal)
    rw [h'] at this
    exact absurd this (by simp)
  · rwa [EReal.neg_eq_top_iff] at h'

/-- A window as long as the axis, padded in front, sums the entries up to its place. -/
theorem window_at (x : S2x2048x16.Idx → EReal) (h : S2x2048x16.ReduceWindows ![1, 2048, 1] ![1, 1, 1] ![0, 2047, 0] ![0, 0, 0] S2x2048x16)
    (b : Fin 2) (n : Fin 2048) (j : Fin 16) :
    Ideal.hostReduceWindowAdd ![1, 2048, 1] ![1, 1, 1] ![0, 2047, 0] ![0, 0, 0] h x 0 (ix3 b n j)
      = ∑ l : Fin 2048, if hl : 2047 ≤ n.val + l.val then x (ix3 b ⟨n.val + l.val - 2047, by omega⟩ j) else 0 := by
  unfold Ideal.hostReduceWindowAdd Host.reduceWindow
  refine (foldl_add _ _).trans ?_
  dsimp only
  rw [zero_add]
  let e : (⟨3, ![1, 2048, 1]⟩ : Shape).Idx ≃ Fin 2048 :=
    { toFun := fun w => w 1
      invFun := fun l => ix3 (0 : Fin 1) l (0 : Fin 1)
      left_inv := fun w => by
        funext a
        match a with
        | ⟨0, _⟩ => exact (Subsingleton.elim (α := Fin 1) _ _)
        | ⟨1, _⟩ => rfl
        | ⟨2, _⟩ => exact (Subsingleton.elim (α := Fin 1) _ _)
      right_inv := fun _ => rfl }
  refine Fintype.sum_equiv ((Shape.rowMajor ⟨3, ![1, 2048, 1]⟩).symm.trans e) _ _ fun k => ?_
  have w1 : (((Shape.rowMajor ⟨3, ![1, 2048, 1]⟩).symm k) 1).val < 2048 := (((Shape.rowMajor ⟨3, ![1, 2048, 1]⟩).symm k) 1).isLt
  show _ = if hl : 2047 ≤ n.val + (((Shape.rowMajor ⟨3, ![1, 2048, 1]⟩).symm k) 1).val then
    x (ix3 b ⟨n.val + (((Shape.rowMajor ⟨3, ![1, 2048, 1]⟩).symm k) 1).val - 2047, by omega⟩ j) else 0
  have w0 : (((Shape.rowMajor ⟨3, ![1, 2048, 1]⟩).symm k) 0).val = 0 := Nat.lt_one_iff.1 (((Shape.rowMajor ⟨3, ![1, 2048, 1]⟩).symm k) 0).isLt
  have w2 : (((Shape.rowMajor ⟨3, ![1, 2048, 1]⟩).symm k) 2).val = 0 := Nat.lt_one_iff.1 (((Shape.rowMajor ⟨3, ![1, 2048, 1]⟩).symm k) 2).isLt
  have hb := b.isLt
  have hn := n.isLt
  have hj := j.isLt
  by_cases hl : 2047 ≤ n.val + (((Shape.rowMajor ⟨3, ![1, 2048, 1]⟩).symm k) 1).val
  · rw [dif_pos hl, dif_pos fun a => by
      match a with
      | ⟨0, _⟩ =>
        show 0 ≤ b.val * 1 + (((Shape.rowMajor ⟨3, ![1, 2048, 1]⟩).symm k) 0).val ∧ b.val * 1 + (((Shape.rowMajor ⟨3, ![1, 2048, 1]⟩).symm k) 0).val - 0 < 2
        omega
      | ⟨1, _⟩ =>
        show 2047 ≤ n.val * 1 + (((Shape.rowMajor ⟨3, ![1, 2048, 1]⟩).symm k) 1).val ∧ n.val * 1 + (((Shape.rowMajor ⟨3, ![1, 2048, 1]⟩).symm k) 1).val - 2047 < 2048
        omega
      | ⟨2, _⟩ =>
        show 0 ≤ j.val * 1 + (((Shape.rowMajor ⟨3, ![1, 2048, 1]⟩).symm k) 2).val ∧ j.val * 1 + (((Shape.rowMajor ⟨3, ![1, 2048, 1]⟩).symm k) 2).val - 0 < 16
        omega]
    refine congrArg x (funext fun a => Fin.ext ?_)
    match a with
    | ⟨0, _⟩ =>
      show b.val * 1 + (((Shape.rowMajor ⟨3, ![1, 2048, 1]⟩).symm k) 0).val - 0 = b.val
      omega
    | ⟨1, _⟩ =>
      show n.val * 1 + (((Shape.rowMajor ⟨3, ![1, 2048, 1]⟩).symm k) 1).val - 2047 = n.val + (((Shape.rowMajor ⟨3, ![1, 2048, 1]⟩).symm k) 1).val - 2047
      omega
    | ⟨2, _⟩ =>
      show j.val * 1 + (((Shape.rowMajor ⟨3, ![1, 2048, 1]⟩).symm k) 2).val - 0 = j.val
      omega
  · rw [dif_neg hl, dif_neg fun hin => hl (by
      have h1 : 2047 ≤ n.val * 1 + (((Shape.rowMajor ⟨3, ![1, 2048, 1]⟩).symm k) 1).val ∧ n.val * 1 + (((Shape.rowMajor ⟨3, ![1, 2048, 1]⟩).symm k) 1).val - 2047 < 2048 := hin 1
      omega)]

/-- The entries up to a place, as a sum over the numbers up to it. -/
theorem sum_to (g : ℕ → EReal) (n : ℕ) (hn : n < 2048) :
    (∑ l : Fin 2048, if 2047 ≤ n + l.val then g (n + l.val - 2047) else 0) = ∑ i ∈ Finset.range (n + 1), g i := by
  rw [Fin.sum_univ_eq_sum_range (fun l => if 2047 ≤ n + l then g (n + l - 2047) else 0) 2048, ← Finset.sum_filter]
  refine Finset.sum_nbij' (fun l => n + l - 2047) (fun i => i + 2047 - n) (fun l hl => ?_) (fun i hi => ?_) (fun l hl => ?_) (fun i hi => ?_) (fun _ _ => rfl)
  · rw [Finset.mem_filter, Finset.mem_range] at hl
    rw [Finset.mem_range]
    omega
  · rw [Finset.mem_range] at hi
    rw [Finset.mem_filter, Finset.mem_range]
    omega
  · rw [Finset.mem_filter, Finset.mem_range] at hl
    omega
  · rw [Finset.mem_range] at hi
    omega

variable (x0 : FVec Ideal S4096x7680 .f32) (x1 : FVec Ideal S1x128 .f32)

/-- The logarithm of a position's gate, of a gate among the sixteen; zero on the other lanes; -/
def logGate (n : ℕ) (j : Fin 128) : EReal :=
  if j.val < 16 then logsig (x0 (ix2 (pos n) ⟨7168 + j.val, by omega⟩) + x1 (ix2 0 j)) else 0
/-- and its sum over the positions of the example up to this one. -/
def cum (n : ℕ) (j : Fin 128) : EReal := ∑ i ∈ Finset.Ico (2048 * (n / 2048)) (n + 1), logGate x0 x1 i j

theorem logit_at (b : Fin 2) (n : Fin 2048) (j : Fin 16) :
    (val_main_v6 (F := Ideal) x0 x1 (ix3 b n j) : EReal) = x0 (ix2 (pos (b.val * 2048 + n.val)) ⟨7168 + j.val, by omega⟩) + x1 (ix2 0 ⟨j.val, by omega⟩) := by
  have h : (val_main_v6 (F := Ideal) x0 x1 (ix3 b n j) : EReal) = x0 (ix2 ⟨b.val * 2048 + n.val, by omega⟩ ⟨7168 + j.val, by omega⟩) + x1 (ix2 0 ⟨j.val, by omega⟩) := by
    pointwise [val_main_v6, val_main_v5, val_main_v4, val_main_v3, val_main_v2, val_main_v1, val_main_v0]
  rw [h]
  refine congrArg (fun r => (x0 (ix2 r ⟨7168 + j.val, by omega⟩) + x1 (ix2 0 ⟨j.val, by omega⟩) : EReal)) (Fin.ext ?_)
  exact (Nat.mod_eq_of_lt (by omega)).symm

theorem log_at (b : Fin 2) (n : Fin 2048) (j : Fin 16) :
    (val_main_v7 (F := Ideal) x0 x1 (ix3 b n j) : EReal) = logGate x0 x1 (b.val * 2048 + n.val) ⟨j.val, by omega⟩ := by
  have h : (val_main_v7 (F := Ideal) x0 x1 (ix3 b n j) : EReal) = logsig (val_main_v6 (F := Ideal) x0 x1 (ix3 b n j)) := by
    pointwise [val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v7]
    simp only [ne_eq, not_true_eq_false, if_false]
    rfl
  rw [h, logit_at, logGate, if_pos (show (⟨j.val, by omega⟩ : Fin 128).val < 16 from j.isLt)]

theorem cum_at (b : Fin 2) (n : Fin 2048) (j : Fin 16) :
    (val_main_v8 (F := Ideal) x0 x1 (ix3 b n j) : EReal) = cum x0 x1 (b.val * 2048 + n.val) ⟨j.val, by omega⟩ := by
  have hi : (val_main_call1_call0_v0 (F := Ideal) (Shape.Idx.first Gen.h_S_) : EReal) = 0 := by
    rw [val_main_call1_call0_v0_apply, val_main_call1_call0_cst_apply]
    exact Cert.Gate.zero_word
  have h : (val_main_v8 (F := Ideal) x0 x1 (ix3 b n j) : EReal)
      = ∑ l : Fin 2048, if hl : 2047 ≤ n.val + l.val then (val_main_v7 (F := Ideal) x0 x1 (ix3 b ⟨n.val + l.val - 2047, by omega⟩ j) : EReal) else 0 := by
    unfold val_main_v8 Host.reduceWindowAdd
    rw [hi]
    exact window_at _ _ b n j
  have hb := b.isLt
  have hn := n.isLt
  rw [h, cum, show 2048 * ((b.val * 2048 + n.val) / 2048) = 0 + b.val * 2048 by omega, show b.val * 2048 + n.val + 1 = (n.val + 1) + b.val * 2048 by omega,
    ← Finset.sum_Ico_add (fun i => logGate x0 x1 i ⟨j.val, by omega⟩) 0 (n.val + 1) (b.val * 2048), Nat.Ico_zero_eq_range,
    ← sum_to (fun i => logGate x0 x1 (b.val * 2048 + i) ⟨j.val, by omega⟩) n.val hn]
  refine Finset.sum_congr rfl fun l _ => ?_
  split
  · exact log_at x0 x1 b _ j
  · rfl

/-- The reference's array: the cumulated gates on the first sixteen lanes, zeros on the others. -/
theorem ref_at (r : Fin 4096) (c : Fin 128) : (val_main_v10 (F := Ideal) x0 x1 (ix2 r c) : EReal) = cum x0 x1 r.val c := by
  have h : (val_main_v10 (F := Ideal) x0 x1 (ix2 r c) : EReal)
      = if h : c.val < 16 then (val_main_v8 (F := Ideal) x0 x1 (ix3 ⟨r.val / 2048, by omega⟩ ⟨r.val % 2048, by omega⟩ ⟨c.val, h⟩) : EReal)
        else FloatOps.sitofp (F := Ideal) FTy.f32 0#32 := by
    pointwise [val_main_v10, val_main_call2_v0, val_main_c, val_main_v9]
  rw [h]
  split
  · rw [cum_at]
    exact congrArg (fun n => cum x0 x1 n _) (by show r.val / 2048 * 2048 + r.val % 2048 = r.val; omega)
  · next hc =>
    have h0 : ∀ i, logGate x0 x1 i c = 0 := fun i => if_neg hc
    rw [cum]
    simp only [h0, Finset.sum_const_zero]
    show ((((0#32 : BitVec 32).toInt : ℝ)) : EReal) = 0
    norm_num

end Cert.GateFwd

end
-- ==== Proof.GateFwd.lean ====
/- Hand-written. The gates' forward pass: what the call leaves in its array is the reference's; the call and its reference leave
their arguments unchanged. -/
module

public import proofs.«01_k».proof.Defs
public import proofs.«01_k».proof.Proof.Gen.Kernel14.Frame
public import proofs.«01_k».proof.Proof.GateFwdRun
public import proofs.«01_k».proof.Proof.GateFwdReference
public import Idealize.ShloMosaic.Lib.Pointwise
public import Idealize.ShloMosaic.Lib.WordCmp
public import Idealize.ShloMosaic.Lib.Quiescent

@[expose] public section

noncomputable section

namespace Cert.GateFwd

open Cert.Kernel14Ideal Cert.Kernel14Ideal.Gen
open Idealize.ShloMosaic Idealize.ShloMosaic.TcCoe Idealize.ShloMosaic.Tactic Idealize.SL.Sem
open Idealize.ShloMosaic.Pipeline (Dat Cfg Window)
open Cert.Gate (pos)

/-- The signed comparisons of two small words choose as the numbers compare. -/
theorem select_ge (i n : ℕ) (hi : i < 512) (hn : n < 512) (u w : EReal) :
    Scalar.select (IntOp.cmpi .sge (BitVec.ofNat 32 i) (BitVec.ofNat 32 n)) u w = if n ≤ i then u else w := by
  rw [WordCmp.cmpi_sge_ofNat (by omega) (by omega)]
  unfold Scalar.select
  by_cases h : n ≤ i
  · rw [if_pos h, decide_eq_true h]; rfl
  · rw [if_neg h, decide_eq_false h]; rfl
theorem select_lt (j : ℕ) (hj : j < 128) (u w : EReal) :
    Scalar.select (IntOp.cmpi .slt (BitVec.ofNat 32 j) 16#32) u w = if j < 16 then u else w := by
  rw [show (16#32 : BitVec 32) = BitVec.ofNat 32 16 from rfl, WordCmp.cmpi_slt_ofNat (by omega) (by omega)]
  unfold Scalar.select
  by_cases h : j < 16
  · rw [if_pos h, decide_eq_true h]; rfl
  · rw [if_neg h, decide_eq_false h]; rfl

/-- The logarithms of a block's gates. -/
theorem pay4_at (z : Vec Ideal S512x128 .f32) (b : Vec Ideal S1x128 .f32) (i : Fin 512) (j : Fin 128) :
    (k0_pay4 z b (ix2 i j) : EReal) = if j.val < 16 then logsig (z (ix2 i j) + b (ix2 0 j)) else 0 := by
  have h : (k0_pay4 z b (ix2 i j) : EReal) = Scalar.select (IntOp.cmpi .slt (BitVec.ofNat 32 j.val) 16#32)
      (min ((z (ix2 i j) : EReal) + b (ix2 0 j)) 0 - Ideal.log (1 + Ideal.exp (0 - max ((z (ix2 i j) : EReal) + b (ix2 0 j)) (-((z (ix2 i j) : EReal) + b (ix2 0 j)))))) 0 := by
    pointwise [k0_pay4]
    rfl
  rw [h, select_lt _ j.isLt, logsig_eq]

/-- They are never plus infinity, -/
theorem pay4_ne_top (z : Vec Ideal S512x128 .f32) (b : Vec Ideal S1x128 .f32) (i : Fin 512) (j : Fin 128) : (k0_pay4 z b (ix2 i j) : EReal) ≠ ⊤ := by
  rw [pay4_at]
  split
  · exact logsig_ne_top _
  · exact EReal.zero_ne_top

/-- and of such a number the three pieces add up to it: of a real one the remainders are zero, of minus infinity it again. -/
theorem pieces (u : EReal) (h : u ≠ ⊤) : u + (u - u) + (u - u - (u - u)) = u := by
  induction u using EReal.rec with
  | bot => simp
  | top => exact absurd rfl h
  | coe r => rw [← EReal.coe_sub, sub_self, EReal.coe_zero, sub_zero, add_zero, add_zero]

/-- The three triangular products add the rows up to each one. -/
theorem cumulated_at (z : Vec Ideal S512x128 .f32) (b s : Vec Ideal S1x128 .f32) (i : Fin 512) (j : Fin 128) :
    (cumulated z b s (ix2 i j) : EReal) = (∑ n : Fin 512, if n.val ≤ i.val then (k0_pay4 z b (ix2 n j) : EReal) else 0) + s (ix2 0 j) := by
  have h : (cumulated z b s (ix2 i j) : EReal)
      = (∑ n : Fin 512, Scalar.select (IntOp.cmpi .sge (BitVec.ofNat 32 i.val) (BitVec.ofNat 32 n.val)) (k0_pay4 z b (ix2 n j) : EReal) 0)
        + (∑ n : Fin 512, Scalar.select (IntOp.cmpi .sge (BitVec.ofNat 32 i.val) (BitVec.ofNat 32 n.val)) ((k0_pay4 z b (ix2 n j) : EReal) - k0_pay4 z b (ix2 n j)) 0)
        + (∑ n : Fin 512, Scalar.select (IntOp.cmpi .sge (BitVec.ofNat 32 i.val) (BitVec.ofNat 32 n.val))
            ((k0_pay4 z b (ix2 n j) : EReal) - k0_pay4 z b (ix2 n j) - (k0_pay4 z b (ix2 n j) - k0_pay4 z b (ix2 n j))) 0)
        + s (ix2 0 j) := by
    pointwise [k0_pay1, k0_pay10, k0_pay9, k0_pay8, k0_pay7, k0_pay6, k0_pay5]
  have hs : ∀ n : Fin 512, ∀ u w : EReal, Scalar.select (IntOp.cmpi .sge (BitVec.ofNat 32 i.val) (BitVec.ofNat 32 n.val)) u w = if n.val ≤ i.val then u else w :=
    fun n u w => select_ge i.val n.val i.isLt n.isLt u w
  rw [h]
  simp only [hs]
  rw [← Finset.sum_add_distrib, ← Finset.sum_add_distrib]
  refine congrArg (fun u : EReal => u + s (ix2 0 j)) (Finset.sum_congr rfl fun n _ => ?_)
  by_cases hn : n.val ≤ i.val
  · simp only [if_pos hn]
    exact pieces _ (pay4_ne_top z b n j)
  · simp only [if_neg hn, add_zero]

theorem carried_at (z : Vec Ideal S512x128 .f32) (b s : Vec Ideal S1x128 .f32) (j : Fin 128) :
    (carried z b s (ix2 0 j) : EReal) = s (ix2 0 j) + ∑ i : Fin 512, (k0_pay4 z b (ix2 i j) : EReal) := by
  pointwise [k0_pay2]

theorem pay3_at (j : Fin 128) : (k0_pay3 (F := Ideal) (ix2 0 j) : EReal) = 0 := by
  pointwise [k0_pay3]

/-- Rows of a block up to one, as a sum over the numbers. -/
theorem sum_rows (g : ℕ → EReal) (b i : ℕ) (hi : i < 512) :
    (∑ n : Fin 512, if n.val ≤ i then g (b + n.val) else 0) = ∑ r ∈ Finset.Ico b (b + i + 1), g r := by
  rw [Fin.sum_univ_eq_sum_range (fun n => if n ≤ i then g (b + n) else 0) 512, ← Finset.sum_filter, Finset.sum_Ico_eq_sum_range]
  refine Finset.sum_congr (Finset.ext fun l => ?_) fun _ _ => rfl
  rw [Finset.mem_filter, Finset.mem_range, Finset.mem_range]
  omega

variable (m : (ℓ : Loc nD τ sig) → Buf (Elt Ideal) ℓ) (e : Dev nD)

/-- The projections and the bias. -/
abbrev zs : FVec Ideal S4096x7680 .f32 := m ((e.tc : Thread nD τ).loc main_arg0)
abbrev bs : FVec Ideal S1x128 .f32 := m ((e.tc : Thread nD τ).loc main_arg1)

/-- The blocks' places along the grid. -/
theorem place0 : ∀ t : Fin cfg0.N, win0_0.index t (0 : Fin 2) = t.val ∧ win0_0.index t (1 : Fin 2) = 56 :=
  (by decide +kernel : ∀ t : Fin grid0.N, _)
theorem place1 : ∀ t : Fin cfg0.N, win0_1.index t (0 : Fin 2) = 0 ∧ win0_1.index t (1 : Fin 2) = 0 :=
  (by decide +kernel : ∀ t : Fin grid0.N, _)
theorem place2 : ∀ t : Fin cfg0.N, win0_2.index t (0 : Fin 2) = t.val ∧ win0_2.index t (1 : Fin 2) = 0 :=
  (by decide +kernel : ∀ t : Fin grid0.N, _)

/-- The blocks a step reads. -/
theorem blk0 (n : ℕ) (hn : n < cfg0.N) (i : Fin 512) (j : Fin 128) :
    (iblk m e 0 ⟨n, hn⟩ : S512x128.Idx → EReal) (ix2 i j) = zs m e (ix2 (pos (512 * n + i.val)) ⟨7168 + j.val, by omega⟩) := by
  have hN : cfg0.N = 8 := N_0
  have e0 : _ = n := (place0 ⟨n, hn⟩).1
  have e1 : _ = 56 := (place0 ⟨n, hn⟩).2
  have hi := i.isLt
  refine congrArg (zs m e) (funext fun a => Fin.ext ?_)
  match a with
  | ⟨0, _⟩ =>
    change win0_0.index ⟨n, hn⟩ (0 : Fin 2) * 512 + 1 * i.val = (512 * n + i.val) % 4096
    rw [e0]; clear e0 e1; omega
  | ⟨1, _⟩ =>
    change win0_0.index ⟨n, hn⟩ (1 : Fin 2) * 128 + 1 * j.val = 7168 + j.val
    rw [e1]; clear e0 e1; omega
theorem blk1 (n : ℕ) (hn : n < cfg0.N) (j : Fin 128) :
    (iblk m e 1 ⟨n, hn⟩ : S1x128.Idx → EReal) (ix2 0 j) = bs m e (ix2 0 j) := by
  have e0 : _ = 0 := (place1 ⟨n, hn⟩).1
  have e1 : _ = 0 := (place1 ⟨n, hn⟩).2
  refine congrArg (bs m e) (funext fun a => Fin.ext ?_)
  match a with
  | ⟨0, _⟩ =>
    change win0_1.index ⟨n, hn⟩ (0 : Fin 2) * 1 + 1 * 0 = 0
    rw [e0]
  | ⟨1, _⟩ =>
    change win0_1.index ⟨n, hn⟩ (1 : Fin 2) * 128 + 1 * j.val = j.val
    rw [e1]; clear e0 e1; omega

/-- The row a step finds carried: zeros at an example's first step. -/
def found (n : ℕ) (hn : n < cfg0.N) : Vec Ideal S1x128 .f32 :=
  if n % 4 = 0 then k0_pay3 (F := Ideal) else (outsAt0 m e (n - 1) (by omega)).2

/-- What a step leaves, from what it finds. -/
theorem step_eq (n : ℕ) (hn : n < cfg0.N) :
    outsAt0 m e n hn = (cumulated (iblk m e 0 ⟨n, hn⟩) (iblk m e 1 ⟨n, hn⟩) (found m e n hn), carried (iblk m e 0 ⟨n, hn⟩) (iblk m e 1 ⟨n, hn⟩) (found m e n hn)) := by
  by_cases h0 : n % 4 = 0
  · refine (outsAt0_A m e ⟨n, hn⟩ h0).trans ?_
    unfold found
    rw [if_pos h0, out_A, sout_A]
  · refine (outsAt0_B m e ⟨n, hn⟩ h0).trans ?_
    unfold found
    rw [if_neg h0, out_B, sout_B]

/-- The logarithms of the gates of a step's block. -/
theorem block_at (n : ℕ) (hn : n < cfg0.N) (i : Fin 512) (j : Fin 128) :
    (k0_pay4 (iblk m e 0 ⟨n, hn⟩) (iblk m e 1 ⟨n, hn⟩) (ix2 i j) : EReal) = logGate (zs m e) (bs m e) (512 * n + i.val) j := by
  refine (pay4_at _ _ i j).trans ?_
  rw [logGate]
  exact congrArg (fun u : EReal => if j.val < 16 then logsig u else 0) (congrArg₂ (α := EReal) (β := EReal) (· + ·) (blk0 m e n hn i j) (blk1 m e n hn j))

/-- The row a step finds carried is the sum over its example's earlier blocks. -/
theorem found_at (n : ℕ) : ∀ (hn : n < cfg0.N) (j : Fin 128),
    (found m e n hn (ix2 0 j) : EReal) = ∑ r ∈ Finset.Ico (2048 * (n / 4)) (512 * n), logGate (zs m e) (bs m e) r j := by
  induction n with
  | zero =>
    intro hn j
    unfold found
    rw [if_pos rfl, pay3_at]
    rfl
  | succ n ih =>
    intro hn j
    unfold found
    by_cases h : (n + 1) % 4 = 0
    · rw [if_pos h, pay3_at, show 2048 * ((n + 1) / 4) = 512 * (n + 1) by omega, Finset.Ico_self, Finset.sum_empty]
    · rw [if_neg h]
      show ((outsAt0 m e n (Nat.lt_of_succ_lt hn)).2 (ix2 0 j) : EReal) = _
      rw [step_eq]
      refine (carried_at _ _ _ j).trans ?_
      simp only [block_at]
      have hr := sum_rows (fun r => logGate (zs m e) (bs m e) r j) (512 * n) 511 (by decide)
      have hl : ∀ k : Fin 512, k.val ≤ 511 := fun k => by omega
      simp only [hl, if_true] at hr
      rw [hr, ih, show 512 * n + 511 + 1 = 512 * (n + 1) by omega, show (n + 1) / 4 = n / 4 by omega, Finset.sum_Ico_consecutive _ (by omega) (by omega)]

/-- The reference's array. -/
abbrev result : S4096x128.Idx → EReal := Cert.Reference14Ideal.Read.val_main_v10 (F := Ideal) (zs m e) (bs m e)

/-- What a step leaves is its block of the reference's array, -/
theorem left_at (n : ℕ) (hn : n < cfg0.N) (i : Fin 512) (j : Fin 128) :
    ((outsAt0 m e n hn).1 (ix2 i j) : EReal) = result m e (ix2 (pos (512 * n + i.val)) j) := by
  have hN : cfg0.N = 8 := N_0
  have hi := i.isLt
  refine Eq.trans ?_ (ref_at _ _ _ _).symm
  rw [step_eq]
  refine (cumulated_at _ _ _ i j).trans ?_
  simp only [block_at]
  rw [sum_rows (fun r => logGate (zs m e) (bs m e) r j) (512 * n) i.val hi, found_at, add_comm, Finset.sum_Ico_consecutive _ (by omega) (by omega), cum]
  have hp : (512 * n + i.val) % 4096 = 512 * n + i.val := Nat.mod_eq_of_lt (by omega)
  rw [hp, show 2048 * ((512 * n + i.val) / 2048) = 2048 * (n / 4) by omega]

theorem ix2_eta {p q : ℕ} (y : (⟨2, ![p, q]⟩ : Shape).Idx) : ix2 (y 0) (y 1) = y := by
  funext a
  match a with
  | ⟨0, _⟩ => rfl
  | ⟨1, _⟩ => rfl

/-- which it writes back; -/
theorem back (t : Fin cfg0.N) : (dats m 0 e).flushed 2 t = ((cfg0.win 2).blk t).view.read (Elt Ideal) (result m e) := by
  have hN : cfg0.N = 8 := N_0
  obtain ⟨n, hn⟩ := t
  rw [Cert.Kernel14Ideal.Value.flushed2]
  funext y
  refine (congrArg (outsAt0 m e n hn).1 (ix2_eta (p := 512) (q := 128) y).symm).trans ((left_at m e n hn (y 0) (y 1)).trans ?_)
  have e0 : _ = n := (place2 ⟨n, hn⟩).1
  have e1 : _ = 0 := (place2 ⟨n, hn⟩).2
  have h0 : (y 0).val < 512 := (y 0).isLt
  refine congrArg (result m e) (funext fun a => Fin.ext ?_)
  match a with
  | ⟨0, _⟩ =>
    change (512 * n + (y 0).val) % 4096 = win0_2.index ⟨n, hn⟩ (0 : Fin 2) * 512 + 1 * (y 0).val
    rw [e0]; clear e0 e1; omega
  | ⟨1, _⟩ =>
    change (y 1).val = win0_2.index ⟨n, hn⟩ (1 : Fin 2) * 128 + 1 * (y 1).val
    rw [e1]; clear e0 e1; omega

/-- a step's block is the indices in its ranges, -/
theorem mem (t : Fin cfg0.N) (i : S4096x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v0).slice (win0_2.rect t)).set ↔ _
  rw [View.set_slice_whole, Rect.mem_set_unit]
  exact Iff.rfl

/-- and the blocks cover the array, so it ends at the reference's. -/
theorem final : (dats m 0 e).arrAt 2 cfg0.N = result m e :=
  (dats m 0 e).arrAt_eq_of_cover 2 _ (fun t _ => back m e t) fun i => by
    have hN : cfg0.N = 8 := N_0
    have h0 : (i 0).val < 4096 := (i 0).isLt
    have h1 : (i 1).val < 128 := (i 1).isLt
    have hn : (i 0).val / 512 < cfg0.N := by omega
    refine ⟨⟨(i 0).val / 512, hn⟩, flush0_2 _, ?_⟩
    have e0 : _ = (i 0).val / 512 := (place2 ⟨_, hn⟩).1
    have e1 : _ = 0 := (place2 ⟨_, hn⟩).2
    rw [mem]
    intro a
    match a with
    | ⟨0, _⟩ =>
      change win0_2.index ⟨_, hn⟩ (0 : Fin 2) * 512 ≤ (i 0).val ∧ (i 0).val < win0_2.index ⟨_, hn⟩ (0 : Fin 2) * 512 + 512
      rw [e0]; clear e0 e1; omega
    | ⟨1, _⟩ =>
      change win0_2.index ⟨_, hn⟩ (1 : Fin 2) * 128 ≤ (i 1).val ∧ (i 1).val < win0_2.index ⟨_, hn⟩ (1 : Fin 2) * 128 + 128
      rw [e1]; clear e0 e1; omega

/-- The call leaves its arguments unchanged and ends with every semaphore at zero: on machine words, over the reals, and its
reference over the reals. -/
theorem frame_kernel14 : letI := Cert.Kernel14.Gen.facts; Cert.quiescent_Kernel14 := fun m ρ _ => Cert.Kernel14.Gen.frame m ρ
theorem frame_kernel14Ideal : letI := Cert.Kernel14Ideal.Gen.facts; Cert.quiescent_Kernel14Ideal := fun m ρ _ =>
  Cert.Kernel14Ideal.Gen.frame m ρ
theorem frame_reference14Ideal : letI := Cert.Reference14Ideal.Gen.facts; Cert.quiescent_Reference14Ideal := fun m ρ _ =>
  θ_run_and
    ((θ_run Cert.Reference14Ideal.defs _ _).mono (fun _ h c => (h c).2) (Cert.Reference14Ideal.Value.run (F := Ideal) m ρ))
    ((θ_run Cert.Reference14Ideal.defs _ _).mono (fun r _ => sem_eq_zero_of_no_sems rfl r.2) (Cert.Reference14Ideal.Value.run (F := Ideal) m ρ))

/-- From equal arguments the call and its reference run and end with equal results, the arguments unchanged. -/
theorem algebraic14 :
    letI := Cert.Kernel14Ideal.Gen.facts; letI := Cert.Reference14Ideal.Gen.facts;
    Cert.algebraic_Kernel14Ideal_Reference14Ideal := by
  intro m ρ m' ρ' _ hm
  refine ⟨fun e => result m e, ?_, ?_⟩
  · exact (θ_run Cert.Kernel14Ideal.defs _ _).mono (fun _ h c => ⟨(h c).1.trans (final m c), (h c).2⟩) (Cert.Kernel14Ideal.Value.run_blocks m ρ)
  · refine (θ_run Cert.Reference14Ideal.defs _ _).mono (fun r h e => ⟨(h e).1.trans ?_, (h e).2⟩) (Cert.Reference14Ideal.Value.run (F := Ideal) m' ρ')
    rw [Cert.Reference14Ideal.Read.val_main_v10_eq, (hm e).1, (hm e).2]

end Cert.GateFwd

end
-- ==== Proof.lean ====
module

public import proofs.«01_k».proof.Defs
public import proofs.«01_k».proof.Proof.Algebraic
public import proofs.«01_k».proof.Proof.Products
public import proofs.«01_k».proof.Proof.Fwd
public import proofs.«01_k».proof.Proof.Adam
public import proofs.«01_k».proof.Proof.AdamSmall
public import proofs.«01_k».proof.Proof.Halves8
public import proofs.«01_k».proof.Proof.Halves9
public import proofs.«01_k».proof.Proof.Gate
public import proofs.«01_k».proof.Proof.Slots11
public import proofs.«01_k».proof.Proof.Slots12
public import proofs.«01_k».proof.Proof.Slots13
public import proofs.«01_k».proof.Proof.GateFwd

@[expose] public section

noncomputable section

namespace Cert.Proof

open Idealize.ShloMosaic Idealize.SL.Sem

/-- For each kernel call: it, its idealization and its reference run and leave their arguments unchanged; its idealization
is its own text; and over the reals it computes what the reference does. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.AttnBwd.finite_facts, Cert.Gate.finite_facts,
  Cert.AttnBwd.frame_kernel, Cert.AttnBwd.frame_kernelIdeal, Cert.AttnBwd.frame_referenceIdeal,
  Cert.Products.frame_kernel2, Cert.Products.frame_kernel2Ideal, Cert.Products.frame_reference2Ideal,
  Cert.Products.frame_kernel3, Cert.Products.frame_kernel3Ideal, Cert.Products.frame_reference3Ideal,
  Cert.Products.frame_kernel4, Cert.Products.frame_kernel4Ideal, Cert.Products.frame_reference4Ideal,
  Cert.FwdIn.frame_kernel5, Cert.FwdIn.frame_kernel5Ideal, Cert.FwdIn.frame_reference5Ideal,
  Cert.Adam.frame_kernel6, Cert.Adam.frame_kernel6Ideal, Cert.Adam.frame_reference6Ideal,
  Cert.AdamSmall.frame_kernel7, Cert.AdamSmall.frame_kernel7Ideal, Cert.AdamSmall.frame_reference7Ideal,
  Cert.Halves8.frame_kernel8, Cert.Halves8.frame_kernel8Ideal, Cert.Halves8.frame_reference8Ideal,
  Cert.Halves9.frame_kernel9, Cert.Halves9.frame_kernel9Ideal, Cert.Halves9.frame_reference9Ideal,
  Cert.Gate.frame_kernel10, Cert.Gate.frame_kernel10Ideal, Cert.Gate.frame_kernel10Ideal_finite,
  Cert.Gate.frame_reference10Ideal, Cert.Gate.frame_reference10Ideal_finite,
  Cert.Slots11.frame_kernel11, Cert.Slots11.frame_kernel11Ideal, Cert.Slots11.frame_reference11Ideal,
  Cert.Slots12.frame_kernel12, Cert.Slots12.frame_kernel12Ideal, Cert.Slots12.frame_reference12Ideal,
  Cert.Slots13.frame_kernel13, Cert.Slots13.frame_kernel13Ideal, Cert.Slots13.frame_reference13Ideal,
  Cert.GateFwd.frame_kernel14, Cert.GateFwd.frame_kernel14Ideal, Cert.GateFwd.frame_reference14Ideal,
  trivial, Cert.AttnBwd.algebraic,
  trivial, Cert.Products.algebraic2,
  trivial, Cert.Products.algebraic3,
  trivial, Cert.Products.algebraic4,
  trivial, Cert.FwdIn.algebraic5,
  trivial, Cert.Adam.algebraic6,
  trivial, Cert.AdamSmall.algebraic7,
  trivial, Cert.Halves8.algebraic8,
  trivial, Cert.Halves9.algebraic9,
  trivial, Cert.Gate.algebraic10,
  trivial, Cert.Slots11.algebraic11,
  trivial, Cert.Slots12.algebraic12,
  trivial, Cert.Slots13.algebraic13,
  trivial, Cert.GateFwd.algebraic14⟩

end Cert.Proof

end
